-- ==== Defs.lean ====
def Pre_Kernel [hPre_eid_names_experts : Cert.Pre_eid_names_experts.Facts] (m : (ℓ : Loc Cert.Kernel.nD Cert.Kernel.τ Cert.Kernel.sig) → Buf (Elt Bits) ℓ) : Prop :=
  ∀ c : Dev Cert.Kernel.nD,
    (Cert.Pre_eid_names_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_eid_names_experts : Cert.Pre_eid_names_experts.Facts] (m : (ℓ : Loc Cert.KernelIdeal.nD Cert.KernelIdeal.τ Cert.KernelIdeal.sig) → Buf (Elt Ideal) ℓ) : Prop :=
  ∀ c : Dev Cert.KernelIdeal.nD,
    (Cert.Pre_eid_names_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eid_names_experts [hPre_eid_names_experts : Cert.Pre_eid_names_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eid_names_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_RouteKernel (m : (ℓ : Loc Cert.RouteKernel.nD Cert.RouteKernel.τ Cert.RouteKernel.sig) → Buf (Elt Bits) ℓ) : Prop :=
  True

def Pre_RouteKernelIdeal (m : (ℓ : Loc Cert.RouteKernelIdeal.nD Cert.RouteKernelIdeal.τ Cert.RouteKernelIdeal.sig) → Buf (Elt Ideal) ℓ) : Prop :=
  True

def Pre_RouteKernelIdeal_bias_not_minus_infinity [hPre_bias_not_minus_infinity : Cert.Pre_bias_not_minus_infinity.Facts] (m : (ℓ : Loc Cert.RouteKernelIdeal.nD Cert.RouteKernelIdeal.τ Cert.RouteKernelIdeal.sig) → Buf (Elt Ideal) ℓ) : Prop :=
  ∀ c : Dev Cert.RouteKernelIdeal.nD,
    (Cert.Pre_bias_not_minus_infinity.fn (F := Ideal) (m ((c.tc : Thread Cert.RouteKernelIdeal.nD Cert.RouteKernelIdeal.τ).loc Cert.RouteKernelIdeal.main_arg0)) (m ((c.tc : Thread Cert.RouteKernelIdeal.nD Cert.RouteKernelIdeal.τ).loc Cert.RouteKernelIdeal.main_arg1)) (m ((c.tc : Thread Cert.RouteKernelIdeal.nD Cert.RouteKernelIdeal.τ).loc Cert.RouteKernelIdeal.main_arg2)) (m ((c.tc : Thread Cert.RouteKernelIdeal.nD Cert.RouteKernelIdeal.τ).loc Cert.RouteKernelIdeal.main_arg3)) (m ((c.tc : Thread Cert.RouteKernelIdeal.nD Cert.RouteKernelIdeal.τ).loc Cert.RouteKernelIdeal.main_arg4)) (m ((c.tc : Thread Cert.RouteKernelIdeal.nD Cert.RouteKernelIdeal.τ).loc Cert.RouteKernelIdeal.main_arg5)) (m ((c.tc : Thread Cert.RouteKernelIdeal.nD Cert.RouteKernelIdeal.τ).loc Cert.RouteKernelIdeal.main_arg6))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_bias_not_minus_infinity [hPre_bias_not_minus_infinity : Cert.Pre_bias_not_minus_infinity.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_bias_not_minus_infinity.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2)) (m ((c.tc : Thread Cert.RouteReferenceIdeal.nD Cert.RouteReferenceIdeal.τ).loc Cert.RouteReferenceIdeal.main_arg3)) (m ((c.tc : Thread Cert.RouteReferenceIdeal.nD Cert.RouteReferenceIdeal.τ).loc Cert.RouteReferenceIdeal.main_arg4)) (m ((c.tc : Thread Cert.RouteReferenceIdeal.nD Cert.RouteReferenceIdeal.τ).loc Cert.RouteReferenceIdeal.main_arg5)) (m ((c.tc : Thread Cert.RouteReferenceIdeal.nD Cert.RouteReferenceIdeal.τ).loc Cert.RouteReferenceIdeal.main_arg6))) = (fun _ => 1#1)

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] [hPre_eid_names_experts : Cert.Pre_eid_names_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_eid_names_experts : Cert.Pre_eid_names_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_eid_names_experts [hReferenceIdeal : Cert.ReferenceIdeal.Facts] [hPre_eid_names_experts : Cert.Pre_eid_names_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eid_names_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2)
      ∧ r.2.mem ((c.tc : Thread Cert.FinalKernel.nD Cert.FinalKernel.τ).loc Cert.FinalKernel.main_arg3) = m ((c.tc : Thread Cert.FinalKernel.nD Cert.FinalKernel.τ).loc Cert.FinalKernel.main_arg3)
      ∧ r.2.mem ((c.tc : Thread Cert.FinalKernel.nD Cert.FinalKernel.τ).loc Cert.FinalKernel.main_arg4) = m ((c.tc : Thread Cert.FinalKernel.nD Cert.FinalKernel.τ).loc Cert.FinalKernel.main_arg4)
      ∧ r.2.mem ((c.tc : Thread Cert.FinalKernel.nD Cert.FinalKernel.τ).loc Cert.FinalKernel.main_arg5) = m ((c.tc : Thread Cert.FinalKernel.nD Cert.FinalKernel.τ).loc Cert.FinalKernel.main_arg5))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
      ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4)
      ∧ r.2.mem ((c.tc : Thread Cert.FinalKernelIdeal.nD Cert.FinalKernelIdeal.τ).loc Cert.FinalKernelIdeal.main_arg5) = m ((c.tc : Thread Cert.FinalKernelIdeal.nD Cert.FinalKernelIdeal.τ).loc Cert.FinalKernelIdeal.main_arg5))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2)
      ∧ r.2.mem ((c.tc : Thread Cert.OddKernel.nD Cert.OddKernel.τ).loc Cert.OddKernel.main_arg3) = m ((c.tc : Thread Cert.OddKernel.nD Cert.OddKernel.τ).loc Cert.OddKernel.main_arg3)
      ∧ r.2.mem ((c.tc : Thread Cert.OddKernel.nD Cert.OddKernel.τ).loc Cert.OddKernel.main_arg4) = m ((c.tc : Thread Cert.OddKernel.nD Cert.OddKernel.τ).loc Cert.OddKernel.main_arg4)
      ∧ r.2.mem ((c.tc : Thread Cert.OddKernel.nD Cert.OddKernel.τ).loc Cert.OddKernel.main_arg5) = m ((c.tc : Thread Cert.OddKernel.nD Cert.OddKernel.τ).loc Cert.OddKernel.main_arg5)
      ∧ r.2.mem ((c.tc : Thread Cert.OddKernel.nD Cert.OddKernel.τ).loc Cert.OddKernel.main_arg6) = m ((c.tc : Thread Cert.OddKernel.nD Cert.OddKernel.τ).loc Cert.OddKernel.main_arg6)
      ∧ r.2.mem ((c.tc : Thread Cert.OddKernel.nD Cert.OddKernel.τ).loc Cert.OddKernel.main_arg7) = m ((c.tc : Thread Cert.OddKernel.nD Cert.OddKernel.τ).loc Cert.OddKernel.main_arg7)
      ∧ r.2.mem ((c.tc : Thread Cert.OddKernel.nD Cert.OddKernel.τ).loc Cert.OddKernel.main_arg8) = m ((c.tc : Thread Cert.OddKernel.nD Cert.OddKernel.τ).loc Cert.OddKernel.main_arg8))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
      ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
      ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
      ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6)
      ∧ r.2.mem ((c.tc : Thread Cert.OddKernelIdeal.nD Cert.OddKernelIdeal.τ).loc Cert.OddKernelIdeal.main_arg7) = m ((c.tc : Thread Cert.OddKernelIdeal.nD Cert.OddKernelIdeal.τ).loc Cert.OddKernelIdeal.main_arg7)
      ∧ r.2.mem ((c.tc : Thread Cert.OddKernelIdeal.nD Cert.OddKernelIdeal.τ).loc Cert.OddKernelIdeal.main_arg8) = m ((c.tc : Thread Cert.OddKernelIdeal.nD Cert.OddKernelIdeal.τ).loc Cert.OddKernelIdeal.main_arg8))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6)
      ∧ r.2.mem ((c.tc : Thread Cert.OddReferenceIdeal.nD Cert.OddReferenceIdeal.τ).loc Cert.OddReferenceIdeal.main_arg7) = m ((c.tc : Thread Cert.OddReferenceIdeal.nD Cert.OddReferenceIdeal.τ).loc Cert.OddReferenceIdeal.main_arg7)
      ∧ r.2.mem ((c.tc : Thread Cert.OddReferenceIdeal.nD Cert.OddReferenceIdeal.τ).loc Cert.OddReferenceIdeal.main_arg8) = m ((c.tc : Thread Cert.OddReferenceIdeal.nD Cert.OddReferenceIdeal.τ).loc Cert.OddReferenceIdeal.main_arg8))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_RouteKernel [hRouteKernel : Cert.RouteKernel.Facts] : Prop :=
  ∀ (m : (ℓ : Loc Cert.RouteKernel.nD Cert.RouteKernel.τ Cert.RouteKernel.sig) → Buf (Elt Bits) ℓ) (g : Dev Cert.RouteKernel.nD → PrngReg), Pre_RouteKernel m →
    θ_run (Cert.RouteKernel.defs (F := Bits)) (onTc (τ := Cert.RouteKernel.τ) (Cert.RouteKernel.main (F := Bits))) ⟨m, fun _ => 0, g⟩ (fun r => (∀ c : Dev Cert.RouteKernel.nD,
      r.2.mem ((c.tc : Thread Cert.RouteKernel.nD Cert.RouteKernel.τ).loc Cert.RouteKernel.main_arg0) = m ((c.tc : Thread Cert.RouteKernel.nD Cert.RouteKernel.τ).loc Cert.RouteKernel.main_arg0)
      ∧ r.2.mem ((c.tc : Thread Cert.RouteKernel.nD Cert.RouteKernel.τ).loc Cert.RouteKernel.main_arg1) = m ((c.tc : Thread Cert.RouteKernel.nD Cert.RouteKernel.τ).loc Cert.RouteKernel.main_arg1)
      ∧ r.2.mem ((c.tc : Thread Cert.RouteKernel.nD Cert.RouteKernel.τ).loc Cert.RouteKernel.main_arg2) = m ((c.tc : Thread Cert.RouteKernel.nD Cert.RouteKernel.τ).loc Cert.RouteKernel.main_arg2)
      ∧ r.2.mem ((c.tc : Thread Cert.RouteKernel.nD Cert.RouteKernel.τ).loc Cert.RouteKernel.main_arg3) = m ((c.tc : Thread Cert.RouteKernel.nD Cert.RouteKernel.τ).loc Cert.RouteKernel.main_arg3)
      ∧ r.2.mem ((c.tc : Thread Cert.RouteKernel.nD Cert.RouteKernel.τ).loc Cert.RouteKernel.main_arg4) = m ((c.tc : Thread Cert.RouteKernel.nD Cert.RouteKernel.τ).loc Cert.RouteKernel.main_arg4)
      ∧ r.2.mem ((c.tc : Thread Cert.RouteKernel.nD Cert.RouteKernel.τ).loc Cert.RouteKernel.main_arg5) = m ((c.tc : Thread Cert.RouteKernel.nD Cert.RouteKernel.τ).loc Cert.RouteKernel.main_arg5)
      ∧ r.2.mem ((c.tc : Thread Cert.RouteKernel.nD Cert.RouteKernel.τ).loc Cert.RouteKernel.main_arg6) = m ((c.tc : Thread Cert.RouteKernel.nD Cert.RouteKernel.τ).loc Cert.RouteKernel.main_arg6))
      ∧ r.2.sem = fun _ => 0)

def quiescent_RouteKernelIdeal [hRouteKernelIdeal : Cert.RouteKernelIdeal.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg), Pre_RouteKernelIdeal m →
    θ_run (Cert.RouteKernelIdeal.defs (F := Ideal)) (onTc (τ := Cert.RouteKernelIdeal.τ) (Cert.RouteKernelIdeal.main (F := Ideal))) ⟨m, fun _ => 0, g⟩ (fun r => (∀ c : Dev Cert.RouteKernelIdeal.nD,
      r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0)
      ∧ r.2.mem ((c.tc : Thread Cert.RouteKernelIdeal.nD Cert.RouteKernelIdeal.τ).loc Cert.RouteKernelIdeal.main_arg1) = m ((c.tc : Thread Cert.RouteKernelIdeal.nD Cert.RouteKernelIdeal.τ).loc Cert.RouteKernelIdeal.main_arg1)
      ∧ r.2.mem ((c.tc : Thread Cert.RouteKernelIdeal.nD Cert.RouteKernelIdeal.τ).loc Cert.RouteKernelIdeal.main_arg2) = m ((c.tc : Thread Cert.RouteKernelIdeal.nD Cert.RouteKernelIdeal.τ).loc Cert.RouteKernelIdeal.main_arg2)
      ∧ r.2.mem ((c.tc : Thread Cert.RouteKernelIdeal.nD Cert.RouteKernelIdeal.τ).loc Cert.RouteKernelIdeal.main_arg3) = m ((c.tc : Thread Cert.RouteKernelIdeal.nD Cert.RouteKernelIdeal.τ).loc Cert.RouteKernelIdeal.main_arg3)
      ∧ r.2.mem ((c.tc : Thread Cert.RouteKernelIdeal.nD Cert.RouteKernelIdeal.τ).loc Cert.RouteKernelIdeal.main_arg4) = m ((c.tc : Thread Cert.RouteKernelIdeal.nD Cert.RouteKernelIdeal.τ).loc Cert.RouteKernelIdeal.main_arg4)
      ∧ r.2.mem ((c.tc : Thread Cert.RouteKernelIdeal.nD Cert.RouteKernelIdeal.τ).loc Cert.RouteKernelIdeal.main_arg5) = m ((c.tc : Thread Cert.RouteKernelIdeal.nD Cert.RouteKernelIdeal.τ).loc Cert.RouteKernelIdeal.main_arg5)
      ∧ r.2.mem ((c.tc : Thread Cert.RouteKernelIdeal.nD Cert.RouteKernelIdeal.τ).loc Cert.RouteKernelIdeal.main_arg6) = m ((c.tc : Thread Cert.RouteKernelIdeal.nD Cert.RouteKernelIdeal.τ).loc Cert.RouteKernelIdeal.main_arg6))
      ∧ r.2.sem = fun _ => 0)

def quiescent_RouteKernelIdeal_pre_bias_not_minus_infinity [hRouteKernelIdeal : Cert.RouteKernelIdeal.Facts] [hPre_bias_not_minus_infinity : Cert.Pre_bias_not_minus_infinity.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg), Pre_RouteKernelIdeal_bias_not_minus_infinity m →
    θ_run (Cert.RouteKernelIdeal.defs (F := Ideal)) (onTc (τ := Cert.RouteKernelIdeal.τ) (Cert.RouteKernelIdeal.main (F := Ideal))) ⟨m, fun _ => 0, g⟩ (fun r => (∀ c : Dev Cert.RouteKernelIdeal.nD,
      r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0)
      ∧ r.2.mem ((c.tc : Thread Cert.RouteKernelIdeal.nD Cert.RouteKernelIdeal.τ).loc Cert.RouteKernelIdeal.main_arg1) = m ((c.tc : Thread Cert.RouteKernelIdeal.nD Cert.RouteKernelIdeal.τ).loc Cert.RouteKernelIdeal.main_arg1)
      ∧ r.2.mem ((c.tc : Thread Cert.RouteKernelIdeal.nD Cert.RouteKernelIdeal.τ).loc Cert.RouteKernelIdeal.main_arg2) = m ((c.tc : Thread Cert.RouteKernelIdeal.nD Cert.RouteKernelIdeal.τ).loc Cert.RouteKernelIdeal.main_arg2)
      ∧ r.2.mem ((c.tc : Thread Cert.RouteKernelIdeal.nD Cert.RouteKernelIdeal.τ).loc Cert.RouteKernelIdeal.main_arg3) = m ((c.tc : Thread Cert.RouteKernelIdeal.nD Cert.RouteKernelIdeal.τ).loc Cert.RouteKernelIdeal.main_arg3)
      ∧ r.2.mem ((c.tc : Thread Cert.RouteKernelIdeal.nD Cert.RouteKernelIdeal.τ).loc Cert.RouteKernelIdeal.main_arg4) = m ((c.tc : Thread Cert.RouteKernelIdeal.nD Cert.RouteKernelIdeal.τ).loc Cert.RouteKernelIdeal.main_arg4)
      ∧ r.2.mem ((c.tc : Thread Cert.RouteKernelIdeal.nD Cert.RouteKernelIdeal.τ).loc Cert.RouteKernelIdeal.main_arg5) = m ((c.tc : Thread Cert.RouteKernelIdeal.nD Cert.RouteKernelIdeal.τ).loc Cert.RouteKernelIdeal.main_arg5)
      ∧ r.2.mem ((c.tc : Thread Cert.RouteKernelIdeal.nD Cert.RouteKernelIdeal.τ).loc Cert.RouteKernelIdeal.main_arg6) = m ((c.tc : Thread Cert.RouteKernelIdeal.nD Cert.RouteKernelIdeal.τ).loc Cert.RouteKernelIdeal.main_arg6))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6))
      ∧ r.2.sem = fun _ => 0)

def quiescent_RouteReferenceIdeal_pre_bias_not_minus_infinity [hRouteReferenceIdeal : Cert.RouteReferenceIdeal.Facts] [hPre_bias_not_minus_infinity : Cert.Pre_bias_not_minus_infinity.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_bias_not_minus_infinity m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_eid_names_experts : Cert.Pre_eid_names_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)
      ∧ m' ((c.tc : Thread Cert.FinalReferenceIdeal.nD Cert.FinalReferenceIdeal.τ).loc Cert.FinalReferenceIdeal.main_arg3) = m ((c.tc : Thread Cert.FinalKernelIdeal.nD Cert.FinalKernelIdeal.τ).loc Cert.FinalKernelIdeal.main_arg3)
      ∧ m' ((c.tc : Thread Cert.FinalReferenceIdeal.nD Cert.FinalReferenceIdeal.τ).loc Cert.FinalReferenceIdeal.main_arg4) = m ((c.tc : Thread Cert.FinalKernelIdeal.nD Cert.FinalKernelIdeal.τ).loc Cert.FinalKernelIdeal.main_arg4)
      ∧ m' ((c.tc : Thread Cert.FinalReferenceIdeal.nD Cert.FinalReferenceIdeal.τ).loc Cert.FinalReferenceIdeal.main_arg5) = m ((c.tc : Thread Cert.FinalKernelIdeal.nD Cert.FinalKernelIdeal.τ).loc Cert.FinalKernelIdeal.main_arg5)) →
    ∃ (v0 : (c : Dev Cert.FinalKernelIdeal.nD) → Buf (Elt Ideal) ((c.tc : Thread Cert.FinalKernelIdeal.nD Cert.FinalKernelIdeal.τ).loc Cert.FinalKernelIdeal.main_v1)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v1) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
          ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
          ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4)
          ∧ r.2.mem ((c.tc : Thread Cert.FinalKernelIdeal.nD Cert.FinalKernelIdeal.τ).loc Cert.FinalKernelIdeal.main_arg5) = m ((c.tc : Thread Cert.FinalKernelIdeal.nD Cert.FinalKernelIdeal.τ).loc Cert.FinalKernelIdeal.main_arg5))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v29) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5))

def preserves_EvenKernel_EvenKernelIdeal : Prop :=
  True

def algebraic_EvenKernelIdeal_EvenReferenceIdeal [hEvenKernelIdeal : Cert.EvenKernelIdeal.Facts] [hEvenReferenceIdeal : Cert.EvenReferenceIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)) →
    ∃ (v0 : (c : Dev Cert.EvenKernelIdeal.nD) → Buf (Elt Ideal) ((c.tc : Thread Cert.EvenKernelIdeal.nD Cert.EvenKernelIdeal.τ).loc Cert.EvenKernelIdeal.main_v2_0)) (v1 : (c : Dev Cert.EvenKernelIdeal.nD) → Buf (Elt Ideal) ((c.tc : Thread Cert.EvenKernelIdeal.nD Cert.EvenKernelIdeal.τ).loc Cert.EvenKernelIdeal.main_v2_1)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v2_0) = v0 c
          ∧ r.2.mem ((c.tc : Thread Cert.EvenKernelIdeal.nD Cert.EvenKernelIdeal.τ).loc Cert.EvenKernelIdeal.main_v2_1) = v1 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
          ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v77) = v0 c
          ∧ r.2.mem ((c.tc : Thread Cert.EvenReferenceIdeal.nD Cert.EvenReferenceIdeal.τ).loc Cert.EvenReferenceIdeal.main_v78) = v1 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7))

def preserves_OddKernel_OddKernelIdeal : Prop :=
  True

def algebraic_OddKernelIdeal_OddReferenceIdeal [hOddKernelIdeal : Cert.OddKernelIdeal.Facts] [hOddReferenceIdeal : Cert.OddReferenceIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)
      ∧ m' ((c.tc : Thread Cert.OddReferenceIdeal.nD Cert.OddReferenceIdeal.τ).loc Cert.OddReferenceIdeal.main_arg3) = m ((c.tc : Thread Cert.OddKernelIdeal.nD Cert.OddKernelIdeal.τ).loc Cert.OddKernelIdeal.main_arg3)
      ∧ m' ((c.tc : Thread Cert.OddReferenceIdeal.nD Cert.OddReferenceIdeal.τ).loc Cert.OddReferenceIdeal.main_arg4) = m ((c.tc : Thread Cert.OddKernelIdeal.nD Cert.OddKernelIdeal.τ).loc Cert.OddKernelIdeal.main_arg4)
      ∧ m' ((c.tc : Thread Cert.OddReferenceIdeal.nD Cert.OddReferenceIdeal.τ).loc Cert.OddReferenceIdeal.main_arg5) = m ((c.tc : Thread Cert.OddKernelIdeal.nD Cert.OddKernelIdeal.τ).loc Cert.OddKernelIdeal.main_arg5)
      ∧ m' ((c.tc : Thread Cert.OddReferenceIdeal.nD Cert.OddReferenceIdeal.τ).loc Cert.OddReferenceIdeal.main_arg6) = m ((c.tc : Thread Cert.OddKernelIdeal.nD Cert.OddKernelIdeal.τ).loc Cert.OddKernelIdeal.main_arg6)
      ∧ m' ((c.tc : Thread Cert.OddReferenceIdeal.nD Cert.OddReferenceIdeal.τ).loc Cert.OddReferenceIdeal.main_arg7) = m ((c.tc : Thread Cert.OddKernelIdeal.nD Cert.OddKernelIdeal.τ).loc Cert.OddKernelIdeal.main_arg7)
      ∧ m' ((c.tc : Thread Cert.OddReferenceIdeal.nD Cert.OddReferenceIdeal.τ).loc Cert.OddReferenceIdeal.main_arg8) = m ((c.tc : Thread Cert.OddKernelIdeal.nD Cert.OddKernelIdeal.τ).loc Cert.OddKernelIdeal.main_arg8)) →
    ∃ (v0 : (c : Dev Cert.OddKernelIdeal.nD) → Buf (Elt Ideal) ((c.tc : Thread Cert.OddKernelIdeal.nD Cert.OddKernelIdeal.τ).loc Cert.OddKernelIdeal.main_v2_0)) (v1 : (c : Dev Cert.OddKernelIdeal.nD) → Buf (Elt Ideal) ((c.tc : Thread Cert.OddKernelIdeal.nD Cert.OddKernelIdeal.τ).loc Cert.OddKernelIdeal.main_v2_1)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v2_0) = v0 c
          ∧ r.2.mem ((c.tc : Thread Cert.OddKernelIdeal.nD Cert.OddKernelIdeal.τ).loc Cert.OddKernelIdeal.main_v2_1) = v1 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
          ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
          ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
          ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
          ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6)
          ∧ r.2.mem ((c.tc : Thread Cert.OddKernelIdeal.nD Cert.OddKernelIdeal.τ).loc Cert.OddKernelIdeal.main_arg7) = m ((c.tc : Thread Cert.OddKernelIdeal.nD Cert.OddKernelIdeal.τ).loc Cert.OddKernelIdeal.main_arg7)
          ∧ r.2.mem ((c.tc : Thread Cert.OddKernelIdeal.nD Cert.OddKernelIdeal.τ).loc Cert.OddKernelIdeal.main_arg8) = m ((c.tc : Thread Cert.OddKernelIdeal.nD Cert.OddKernelIdeal.τ).loc Cert.OddKernelIdeal.main_arg8))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v137) = v0 c
          ∧ r.2.mem ((c.tc : Thread Cert.OddReferenceIdeal.nD Cert.OddReferenceIdeal.τ).loc Cert.OddReferenceIdeal.main_v138) = v1 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6)
          ∧ r.2.mem ((c.tc : Thread Cert.OddReferenceIdeal.nD Cert.OddReferenceIdeal.τ).loc Cert.OddReferenceIdeal.main_arg7) = m' ((c.tc : Thread Cert.OddReferenceIdeal.nD Cert.OddReferenceIdeal.τ).loc Cert.OddReferenceIdeal.main_arg7)
          ∧ r.2.mem ((c.tc : Thread Cert.OddReferenceIdeal.nD Cert.OddReferenceIdeal.τ).loc Cert.OddReferenceIdeal.main_arg8) = m' ((c.tc : Thread Cert.OddReferenceIdeal.nD Cert.OddReferenceIdeal.τ).loc Cert.OddReferenceIdeal.main_arg8))

def preserves_FirstKernel_FirstKernelIdeal : Prop :=
  True

def algebraic_FirstKernelIdeal_FirstReferenceIdeal [hFirstKernelIdeal : Cert.FirstKernelIdeal.Facts] [hFirstReferenceIdeal : Cert.FirstReferenceIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)) →
    ∃ (v0 : (c : Dev Cert.FirstKernelIdeal.nD) → Buf (Elt Ideal) ((c.tc : Thread Cert.FirstKernelIdeal.nD Cert.FirstKernelIdeal.τ).loc Cert.FirstKernelIdeal.main_v2_0)) (v1 : (c : Dev Cert.FirstKernelIdeal.nD) → Buf (Elt Ideal) ((c.tc : Thread Cert.FirstKernelIdeal.nD Cert.FirstKernelIdeal.τ).loc Cert.FirstKernelIdeal.main_v2_1)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v2_0) = v0 c
          ∧ r.2.mem ((c.tc : Thread Cert.FirstKernelIdeal.nD Cert.FirstKernelIdeal.τ).loc Cert.FirstKernelIdeal.main_v2_1) = v1 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v52) = v0 c
          ∧ r.2.mem ((c.tc : Thread Cert.FirstReferenceIdeal.nD Cert.FirstReferenceIdeal.τ).loc Cert.FirstReferenceIdeal.main_v53) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v5_0)) (v1 : (c : Dev Cert.OutKernelIdeal.nD) → Buf (Elt Ideal) ((c.tc : Thread Cert.OutKernelIdeal.nD Cert.OutKernelIdeal.τ).loc Cert.OutKernelIdeal.main_v5_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5_0) = v0 c
          ∧ r.2.mem ((c.tc : Thread Cert.OutKernelIdeal.nD Cert.OutKernelIdeal.τ).loc Cert.OutKernelIdeal.main_v5_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v68) = v0 c
          ∧ r.2.mem ((c.tc : Thread Cert.OutReferenceIdeal.nD Cert.OutReferenceIdeal.τ).loc Cert.OutReferenceIdeal.main_v70) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_RouteKernel_RouteKernelIdeal : Prop :=
  True

def algebraic_RouteKernelIdeal_RouteReferenceIdeal_pre_bias_not_minus_infinity [hRouteKernelIdeal : Cert.RouteKernelIdeal.Facts] [hRouteReferenceIdeal : Cert.RouteReferenceIdeal.Facts] [hPre_bias_not_minus_infinity : Cert.Pre_bias_not_minus_infinity.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteKernelIdeal_bias_not_minus_infinity m →
    (∀ c : Dev Cert.RouteKernelIdeal.nD,
      m' ((c.tc : Thread Cert.RouteReferenceIdeal.nD Cert.RouteReferenceIdeal.τ).loc Cert.RouteReferenceIdeal.main_arg0) = m ((c.tc : Thread Cert.RouteKernelIdeal.nD Cert.RouteKernelIdeal.τ).loc Cert.RouteKernelIdeal.main_arg0)
      ∧ m' ((c.tc : Thread Cert.RouteReferenceIdeal.nD Cert.RouteReferenceIdeal.τ).loc Cert.RouteReferenceIdeal.main_arg1) = m ((c.tc : Thread Cert.RouteKernelIdeal.nD Cert.RouteKernelIdeal.τ).loc Cert.RouteKernelIdeal.main_arg1)
      ∧ m' ((c.tc : Thread Cert.RouteReferenceIdeal.nD Cert.RouteReferenceIdeal.τ).loc Cert.RouteReferenceIdeal.main_arg2) = m ((c.tc : Thread Cert.RouteKernelIdeal.nD Cert.RouteKernelIdeal.τ).loc Cert.RouteKernelIdeal.main_arg2)
      ∧ m' ((c.tc : Thread Cert.RouteReferenceIdeal.nD Cert.RouteReferenceIdeal.τ).loc Cert.RouteReferenceIdeal.main_arg3) = m ((c.tc : Thread Cert.RouteKernelIdeal.nD Cert.RouteKernelIdeal.τ).loc Cert.RouteKernelIdeal.main_arg3)
      ∧ m' ((c.tc : Thread Cert.RouteReferenceIdeal.nD Cert.RouteReferenceIdeal.τ).loc Cert.RouteReferenceIdeal.main_arg4) = m ((c.tc : Thread Cert.RouteKernelIdeal.nD Cert.RouteKernelIdeal.τ).loc Cert.RouteKernelIdeal.main_arg4)
      ∧ m' ((c.tc : Thread Cert.RouteReferenceIdeal.nD Cert.RouteReferenceIdeal.τ).loc Cert.RouteReferenceIdeal.main_arg5) = m ((c.tc : Thread Cert.RouteKernelIdeal.nD Cert.RouteKernelIdeal.τ).loc Cert.RouteKernelIdeal.main_arg5)
      ∧ m' ((c.tc : Thread Cert.RouteReferenceIdeal.nD Cert.RouteReferenceIdeal.τ).loc Cert.RouteReferenceIdeal.main_arg6) = m ((c.tc : Thread Cert.RouteKernelIdeal.nD Cert.RouteKernelIdeal.τ).loc Cert.RouteKernelIdeal.main_arg6)) →
    ∃ (v0 : (c : Dev Cert.RouteKernelIdeal.nD) → Buf (Elt Ideal) ((c.tc : Thread Cert.RouteKernelIdeal.nD Cert.RouteKernelIdeal.τ).loc Cert.RouteKernelIdeal.main_v5_2)) (v1 : (c : Dev Cert.RouteKernelIdeal.nD) → Buf (Elt Ideal) ((c.tc : Thread Cert.RouteKernelIdeal.nD Cert.RouteKernelIdeal.τ).loc Cert.RouteKernelIdeal.main_v5_3)),
      θ_run (Cert.RouteKernelIdeal.defs (F := Ideal)) (onTc (τ := Cert.RouteKernelIdeal.τ) (Cert.RouteKernelIdeal.main (F := Ideal))) ⟨m, fun _ => 0, g⟩ (fun r => ∀ c : Dev Cert.RouteKernelIdeal.nD,
          r.2.mem ((c.tc : Thread Cert.RouteKernelIdeal.nD Cert.RouteKernelIdeal.τ).loc Cert.RouteKernelIdeal.main_v5_2) = v0 c
          ∧ r.2.mem ((c.tc : Thread Cert.RouteKernelIdeal.nD Cert.RouteKernelIdeal.τ).loc Cert.RouteKernelIdeal.main_v5_3) = v1 c
          ∧ r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0)
          ∧ r.2.mem ((c.tc : Thread Cert.RouteKernelIdeal.nD Cert.RouteKernelIdeal.τ).loc Cert.RouteKernelIdeal.main_arg1) = m ((c.tc : Thread Cert.RouteKernelIdeal.nD Cert.RouteKernelIdeal.τ).loc Cert.RouteKernelIdeal.main_arg1)
          ∧ r.2.mem ((c.tc : Thread Cert.RouteKernelIdeal.nD Cert.RouteKernelIdeal.τ).loc Cert.RouteKernelIdeal.main_arg2) = m ((c.tc : Thread Cert.RouteKernelIdeal.nD Cert.RouteKernelIdeal.τ).loc Cert.RouteKernelIdeal.main_arg2)
          ∧ r.2.mem ((c.tc : Thread Cert.RouteKernelIdeal.nD Cert.RouteKernelIdeal.τ).loc Cert.RouteKernelIdeal.main_arg3) = m ((c.tc : Thread Cert.RouteKernelIdeal.nD Cert.RouteKernelIdeal.τ).loc Cert.RouteKernelIdeal.main_arg3)
          ∧ r.2.mem ((c.tc : Thread Cert.RouteKernelIdeal.nD Cert.RouteKernelIdeal.τ).loc Cert.RouteKernelIdeal.main_arg4) = m ((c.tc : Thread Cert.RouteKernelIdeal.nD Cert.RouteKernelIdeal.τ).loc Cert.RouteKernelIdeal.main_arg4)
          ∧ r.2.mem ((c.tc : Thread Cert.RouteKernelIdeal.nD Cert.RouteKernelIdeal.τ).loc Cert.RouteKernelIdeal.main_arg5) = m ((c.tc : Thread Cert.RouteKernelIdeal.nD Cert.RouteKernelIdeal.τ).loc Cert.RouteKernelIdeal.main_arg5)
          ∧ r.2.mem ((c.tc : Thread Cert.RouteKernelIdeal.nD Cert.RouteKernelIdeal.τ).loc Cert.RouteKernelIdeal.main_arg6) = m ((c.tc : Thread Cert.RouteKernelIdeal.nD Cert.RouteKernelIdeal.τ).loc Cert.RouteKernelIdeal.main_arg6))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v102) = v0 c
          ∧ r.2.mem ((c.tc : Thread Cert.RouteReferenceIdeal.nD Cert.RouteReferenceIdeal.τ).loc Cert.RouteReferenceIdeal.main_v103) = v1 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3)
          ∧ r.2.mem ((c.tc : Thread Cert.RouteReferenceIdeal.nD Cert.RouteReferenceIdeal.τ).loc Cert.RouteReferenceIdeal.main_arg4) = m' ((c.tc : Thread Cert.RouteReferenceIdeal.nD Cert.RouteReferenceIdeal.τ).loc Cert.RouteReferenceIdeal.main_arg4)
          ∧ r.2.mem ((c.tc : Thread Cert.RouteReferenceIdeal.nD Cert.RouteReferenceIdeal.τ).loc Cert.RouteReferenceIdeal.main_arg5) = m' ((c.tc : Thread Cert.RouteReferenceIdeal.nD Cert.RouteReferenceIdeal.τ).loc Cert.RouteReferenceIdeal.main_arg5)
          ∧ r.2.mem ((c.tc : Thread Cert.RouteReferenceIdeal.nD Cert.RouteReferenceIdeal.τ).loc Cert.RouteReferenceIdeal.main_arg6) = m' ((c.tc : Thread Cert.RouteReferenceIdeal.nD Cert.RouteReferenceIdeal.τ).loc Cert.RouteReferenceIdeal.main_arg6))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def Claim : Prop :=
  ∃ (hKernel : Cert.Kernel.Facts) (hKernelIdeal : Cert.KernelIdeal.Facts) (hReferenceIdeal : Cert.ReferenceIdeal.Facts) (hFinalKernel : Cert.FinalKernel.Facts) (hFinalKernelIdeal : Cert.FinalKernelIdeal.Facts) (hFinalReferenceIdeal : Cert.FinalReferenceIdeal.Facts) (hEvenKernel : Cert.EvenKernel.Facts) (hEvenKernelIdeal : Cert.EvenKernelIdeal.Facts) (hEvenReferenceIdeal : Cert.EvenReferenceIdeal.Facts) (hOddKernel : Cert.OddKernel.Facts) (hOddKernelIdeal : Cert.OddKernelIdeal.Facts) (hOddReferenceIdeal : Cert.OddReferenceIdeal.Facts) (hFirstKernel : Cert.FirstKernel.Facts) (hFirstKernelIdeal : Cert.FirstKernelIdeal.Facts) (hFirstReferenceIdeal : Cert.FirstReferenceIdeal.Facts) (hOutKernel : Cert.OutKernel.Facts) (hOutKernelIdeal : Cert.OutKernelIdeal.Facts) (hOutReferenceIdeal : Cert.OutReferenceIdeal.Facts) (hRouteKernel : Cert.RouteKernel.Facts) (hRouteKernelIdeal : Cert.RouteKernelIdeal.Facts) (hRouteReferenceIdeal : Cert.RouteReferenceIdeal.Facts) (hModKernel : Cert.ModKernel.Facts) (hModKernelIdeal : Cert.ModKernelIdeal.Facts) (hModReferenceIdeal : Cert.ModReferenceIdeal.Facts) (hPre_eid_names_experts : Cert.Pre_eid_names_experts.Facts) (hPre_bias_not_minus_infinity : Cert.Pre_bias_not_minus_infinity.Facts),
    quiescent_Kernel (hKernel := hKernel) (hPre_eid_names_experts := hPre_eid_names_experts)
    ∧ quiescent_KernelIdeal (hKernelIdeal := hKernelIdeal) (hPre_eid_names_experts := hPre_eid_names_experts)
    ∧ quiescent_ReferenceIdeal (hReferenceIdeal := hReferenceIdeal)
    ∧ quiescent_ReferenceIdeal_pre_eid_names_experts (hReferenceIdeal := hReferenceIdeal) (hPre_eid_names_experts := hPre_eid_names_experts)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ quiescent_OddKernel (hOddKernel := hOddKernel)
    ∧ quiescent_OddKernelIdeal (hOddKernelIdeal := hOddKernelIdeal)
    ∧ quiescent_OddReferenceIdeal (hOddReferenceIdeal := hOddReferenceIdeal)
    ∧ quiescent_FirstKernel (hFirstKernel := hFirstKernel)
    ∧ quiescent_FirstKernelIdeal (hFirstKernelIdeal := hFirstKernelIdeal)
    ∧ quiescent_FirstReferenceIdeal (hFirstReferenceIdeal := hFirstReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_RouteKernel (hRouteKernel := hRouteKernel)
    ∧ quiescent_RouteKernelIdeal (hRouteKernelIdeal := hRouteKernelIdeal)
    ∧ quiescent_RouteKernelIdeal_pre_bias_not_minus_infinity (hRouteKernelIdeal := hRouteKernelIdeal) (hPre_bias_not_minus_infinity := hPre_bias_not_minus_infinity)
    ∧ quiescent_RouteReferenceIdeal (hRouteReferenceIdeal := hRouteReferenceIdeal)
    ∧ quiescent_RouteReferenceIdeal_pre_bias_not_minus_infinity (hRouteReferenceIdeal := hRouteReferenceIdeal) (hPre_bias_not_minus_infinity := hPre_bias_not_minus_infinity)
    ∧ quiescent_ModKernel (hModKernel := hModKernel)
    ∧ quiescent_ModKernelIdeal (hModKernelIdeal := hModKernelIdeal)
    ∧ quiescent_ModReferenceIdeal (hModReferenceIdeal := hModReferenceIdeal)
    ∧ preserves_Kernel_KernelIdeal
    ∧ algebraic_KernelIdeal_ReferenceIdeal (hKernelIdeal := hKernelIdeal) (hReferenceIdeal := hReferenceIdeal) (hPre_eid_names_experts := hPre_eid_names_experts)
    ∧ preserves_FinalKernel_FinalKernelIdeal
    ∧ algebraic_FinalKernelIdeal_FinalReferenceIdeal (hFinalKernelIdeal := hFinalKernelIdeal) (hFinalReferenceIdeal := hFinalReferenceIdeal)
    ∧ preserves_EvenKernel_EvenKernelIdeal
    ∧ algebraic_EvenKernelIdeal_EvenReferenceIdeal (hEvenKernelIdeal := hEvenKernelIdeal) (hEvenReferenceIdeal := hEvenReferenceIdeal)
    ∧ preserves_OddKernel_OddKernelIdeal
    ∧ algebraic_OddKernelIdeal_OddReferenceIdeal (hOddKernelIdeal := hOddKernelIdeal) (hOddReferenceIdeal := hOddReferenceIdeal)
    ∧ preserves_FirstKernel_FirstKernelIdeal
    ∧ algebraic_FirstKernelIdeal_FirstReferenceIdeal (hFirstKernelIdeal := hFirstKernelIdeal) (hFirstReferenceIdeal := hFirstReferenceIdeal)
    ∧ preserves_OutKernel_OutKernelIdeal
    ∧ algebraic_OutKernelIdeal_OutReferenceIdeal (hOutKernelIdeal := hOutKernelIdeal) (hOutReferenceIdeal := hOutReferenceIdeal)
    ∧ preserves_RouteKernel_RouteKernelIdeal
    ∧ algebraic_RouteKernelIdeal_RouteReferenceIdeal_pre_bias_not_minus_infinity (hRouteKernelIdeal := hRouteKernelIdeal) (hRouteReferenceIdeal := hRouteReferenceIdeal) (hPre_bias_not_minus_infinity := hPre_bias_not_minus_infinity)
    ∧ preserves_ModKernel_ModKernelIdeal
    ∧ algebraic_ModKernelIdeal_ModReferenceIdeal (hModKernelIdeal := hModKernelIdeal) (hModReferenceIdeal := hModReferenceIdeal)
-- ==== Pre_bias_not_minus_infinity.lean ====
abbrev S8x4352x2048 : Shape := ⟨3, ![8, 4352, 2048]⟩
abbrev S8x2x6x2048 : Shape := ⟨4, ![8, 2, 6, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S8x4352x2048 .bf16) (main_arg1 : FVec F S8x4352x2048 .f32) (main_arg2 : FVec F S8x2x6x2048 .f32) (main_arg3 : FVec F S2048 .f32) (main_arg4 : FVec F S2048x2048 .f32) (main_arg5 : FVec F S2048x16 .f32) (main_arg6 : FVec F S16 .f32) : IVec S16 1 :=
  let main_cst : FVec F S_ .f32 := constant S_ .f32 0xFF800000#32
  let main_v0 : FVec F S16 .f32 := broadcastInDim S16 ![] bcast_S_S16 main_cst
  let main_v1 : IVec S16 1 := cmpf .ogt main_arg6 main_v0
  main_v1
-- ==== Pre_eid_names_experts.lean ====
abbrev S8x4352x2048 : Shape := ⟨3, ![8, 4352, 2048]⟩
abbrev S8x2x4352 : Shape := ⟨3, ![8, 2, 4352]⟩
abbrev S4x16x2048x1024 : Shape := ⟨4, ![4, 16, 2048, 1024]⟩
abbrev S4x16x1024x2048 : Shape := ⟨4, ![4, 16, 1024, 2048]⟩
abbrev S_ : Shape := ⟨0, ![]⟩

class Facts : Prop where
  bcast_S_S8x2x4352 : S_.BroadcastsInDim S8x2x4352 (![] : Fin 0 → Fin S8x2x4352.rank)

variable [Facts]

def fn {F : FTy → Type} [FloatOps F] (main_arg0 : FVec F S8x4352x2048 .bf16) (main_arg1 : IVec S8x2x4352 32) (main_arg2 : FVec F S4x16x2048x1024 .f32) (main_arg3 : FVec F S4x16x2048x1024 .f32) (main_arg4 : FVec F S4x16x1024x2048 .f32) : IVec S8x2x4352 1 :=
  let main_c : IVec S_ 32 := constantI S_ 32 0#32
  let main_v0 : IVec S8x2x4352 32 := broadcastInDim S8x2x4352 ![] bcast_S_S8x2x4352 main_c
  let main_v1 : IVec S8x2x4352 1 := cmpi .sge main_arg1 main_v0
  let main_c_0 : IVec S_ 32 := constantI S_ 32 16#32
  let main_v2 : IVec S8x2x4352 32 := broadcastInDim S8x2x4352 ![] bcast_S_S8x2x4352 main_c_0
  let main_v3 : IVec S8x2x4352 1 := cmpi .slt main_arg1 main_v2
  let main_v4 : IVec S8x2x4352 1 := andi main_v1 main_v3
  main_v4
-- ==== Kernel.lean ====
abbrev S8x4352x2048 : Shape := ⟨3, ![8, 4352, 2048]⟩
abbrev S8x2x4352 : Shape := ⟨3, ![8, 2, 4352]⟩
abbrev S4x16x2048x1024 : Shape := ⟨4, ![4, 16, 2048, 1024]⟩
abbrev S4x16x1024x2048 : Shape := ⟨4, ![4, 16, 1024, 2048]⟩
abbrev S2x8x4352 : Shape := ⟨3, ![2, 8, 4352]⟩
abbrev S69632 : Shape := ⟨1, ![69632]⟩
abbrev S_ : Shape := ⟨0, ![]⟩
abbrev S1x69632 : Shape := ⟨2, ![1, 69632]⟩
abbrev S17 : Shape := ⟨1, ![17]⟩
abbrev S17x1 : Shape := ⟨2, ![17, 1]⟩
abbrev S17x69632 : Shape := ⟨2, ![17, 69632]⟩
abbrev S16 : Shape := ⟨1, ![16]⟩
abbrev S1 : Shape := ⟨1, ![1]⟩
abbrev S287 : Shape := ⟨1, ![287]⟩
abbrev S1x16 : Shape := ⟨2, ![1, 16]⟩
abbrev S287x1 : Shape := ⟨2, ![287, 1]⟩
abbrev S287x16 : Shape := ⟨2, ![287, 16]⟩
abbrev S286 : Shape := ⟨1, ![286]⟩
abbrev S34816x2048 : Shape := ⟨2, ![34816, 2048]⟩
abbrev S69632x1 : Shape := ⟨2, ![69632, 1]⟩
abbrev S69632x2048 : Shape := ⟨2, ![69632, 2048]⟩
abbrev S256x2048 : Shape := ⟨2, ![256, 2048]⟩
abbrev S1x1x2048x1024 : Shape := ⟨4, ![1, 1, 2048, 1024]⟩
abbrev S1x1x1024x2048 : Shape := ⟨4, ![1, 1, 1024, 2048]⟩
abbrev S2048x1024 : Shape := ⟨2, ![2048, 1024]⟩
abbrev S1024x2048 : Shape := ⟨2, ![1024, 2048]⟩
abbrev S256x1024 : Shape := ⟨2, ![256, 1024]⟩
abbrev S256x1 : Shape := ⟨2, ![256, 1]⟩
abbrev S34816 : Shape := ⟨1, ![34816]⟩
abbrev S34816x1 : Shape := ⟨2, ![34816, 1]⟩

abbrev nBuf : Space → Nat
  | .hbm => 180
  | .vmem => 10
  | .smem => 6
  | _ => 0

abbrev hbmTy0_0 (i : Nat) : BufTy := match i % 128 with
  | 0 => ⟨S8x4352x2048, .bf16⟩
  | 1 => ⟨S8x2x4352, .i32⟩
  | 2 => ⟨S4x16x2048x1024, .f32⟩
  | 3 => ⟨S4x16x2048x1024, .f32⟩
  | 4 => ⟨S4x16x1024x2048, .f32⟩
  | 5 => ⟨S2x8x4352, .i32⟩
  | 6 => ⟨S69632, .i32⟩
  | 7 => ⟨S69632, .i32⟩
  | 8 => ⟨S_, .i32⟩
  | 9 => ⟨S69632, .i32⟩
  | 10 => ⟨S69632, .i32⟩
  | 11 => ⟨S69632, .i32⟩
  | 12 => ⟨S69632, .i32⟩
  | 13 => ⟨S_, .i32⟩
  | 14 => ⟨S69632, .i32⟩
  | 15 => ⟨S69632, .i32⟩
  | 16 => ⟨S_, .i32⟩
  | 17 => ⟨S69632, .i32⟩
  | 18 => ⟨S69632, .i32⟩
  | 19 => ⟨S69632, .i32⟩
  | 20 => ⟨S69632, .i32⟩
  | 21 => ⟨S1x69632, .i32⟩
  | 22 => ⟨S17, .i32⟩
  | 23 => ⟨S17x1, .i32⟩
  | 24 => ⟨S17x69632, .i32⟩
  | 25 => ⟨S17x69632, .i32⟩
  | 26 => ⟨S17x69632, .i1⟩
  | 27 => ⟨S17x69632, .i32⟩
  | 28 => ⟨S_, .i32⟩
  | 29 => ⟨S17, .i32⟩
  | 30 => ⟨S16, .i32⟩
  | 31 => ⟨S_, .i32⟩
  | 32 => ⟨S_, .i32⟩
  | 33 => ⟨S16, .i32⟩
  | 34 => ⟨S16, .i32⟩
  | 35 => ⟨S16, .i32⟩
  | 36 => ⟨S_, .i32⟩
  | 37 => ⟨S16, .i32⟩
  | 38 => ⟨S16, .i1⟩
  | 39 => ⟨S16, .i32⟩
  | 40 => ⟨S16, .i32⟩
  | 41 => ⟨S_, .i32⟩
  | 42 => ⟨S16, .i32⟩
  | 43 => ⟨S16, .i1⟩
  | 44 => ⟨S16, .i1⟩
  | 45 => ⟨S_, .i32⟩
  | 46 => ⟨S16, .i32⟩
  | 47 => ⟨S16, .i32⟩
  | 48 => ⟨S16, .i32⟩
  | 49 => ⟨S16, .i32⟩
  | 50 => ⟨S16, .i32⟩
  | 51 => ⟨S16, .i1⟩
  | 52 => ⟨S16, .i32⟩
  | 53 => ⟨S_, .i32⟩
  | 54 => ⟨S16, .i32⟩
  | 55 => ⟨S16, .i32⟩
  | 56 => ⟨S_, .i32⟩
  | 57 => ⟨S_, .i32⟩
  | 58 => ⟨S16, .i32⟩
  | 59 => ⟨S16, .i32⟩
  | 60 => ⟨S16, .i32⟩
  | 61 => ⟨S_, .i32⟩
  | 62 => ⟨S16, .i32⟩
  | 63 => ⟨S16, .i1⟩
  | 64 => ⟨S16, .i32⟩
  | 65 => ⟨S16, .i32⟩
  | 66 => ⟨S_, .i32⟩
  | 67 => ⟨S16, .i32⟩
  | 68 => ⟨S16, .i1⟩
  | 69 => ⟨S16, .i1⟩
  | 70 => ⟨S_, .i32⟩
  | 71 => ⟨S16, .i32⟩
  | 72 => ⟨S16, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S_, .i32⟩
  | 80 => ⟨S16, .i32⟩
  | 81 => ⟨S16, .i32⟩
  | 82 => ⟨S_, .i32⟩
  | 83 => ⟨S_, .i32⟩
  | 84 => ⟨S16, .i32⟩
  | 85 => ⟨S16, .i32⟩
  | 86 => ⟨S1, .i32⟩
  | 87 => ⟨S_, .i32⟩
  | 88 => ⟨S287, .i32⟩
  | 89 => ⟨S_, .i32⟩
  | 90 => ⟨S_, .i32⟩
  | 91 => ⟨S287, .i32⟩
  | 92 => ⟨S287, .i32⟩
  | 93 => ⟨S1x16, .i32⟩
  | 94 => ⟨S287x1, .i32⟩
  | 95 => ⟨S287x16, .i32⟩
  | 96 => ⟨S287x16, .i32⟩
  | 97 => ⟨S287x16, .i1⟩
  | 98 => ⟨S287x16, .i32⟩
  | 99 => ⟨S_, .i32⟩
  | 100 => ⟨S287, .i32⟩
  | 101 => ⟨S_, .i32⟩
  | 102 => ⟨S287, .i32⟩
  | 103 => ⟨S287x1, .i32⟩
  | 104 => ⟨S16, .i32⟩
  | 105 => ⟨S1x16, .i32⟩
  | 106 => ⟨S287x16, .i32⟩
  | 107 => ⟨S287x16, .i32⟩
  | 108 => ⟨S287x16, .i1⟩
  | 109 => ⟨S1x16, .i32⟩
  | 110 => ⟨S_, .i32⟩
  | 111 => ⟨S_, .i32⟩
  | 112 => ⟨S287x16, .i32⟩
  | 113 => ⟨S287x16, .i32⟩
  | 114 => ⟨S287x16, .i32⟩
  | 115 => ⟨S_, .i32⟩
  | 116 => ⟨S287, .i32⟩
  | 117 => ⟨S287, .i32⟩
  | 118 => ⟨S1x16, .i32⟩
  | 119 => ⟨S_, .i32⟩
  | 120 => ⟨S_, .i32⟩
  | 121 => ⟨S287x16, .i32⟩
  | 122 => ⟨S287x16, .i32⟩
  | 123 => ⟨S287x16, .i32⟩
  | 124 => ⟨S_, .i32⟩
  | 125 => ⟨S287, .i32⟩
  | 126 => ⟨S287, .i32⟩
  | 127 => ⟨S_, .i32⟩
  | _ => ⟨S8x4352x2048, .bf16⟩

abbrev hbmTy0_1 (i : Nat) : BufTy := match i % 128 with
  | 0 => ⟨S287, .i32⟩
  | 1 => ⟨S287, .i1⟩
  | 2 => ⟨S1, .i32⟩
  | 3 => ⟨S286, .i32⟩
  | 4 => ⟨S287, .i32⟩
  | 5 => ⟨S287, .i1⟩
  | 6 => ⟨S287, .i1⟩
  | 7 => ⟨S1, .i32⟩
  | 8 => ⟨S286, .i32⟩
  | 9 => ⟨S287, .i32⟩
  | 10 => ⟨S287, .i1⟩
  | 11 => ⟨S287, .i1⟩
  | 12 => ⟨S287, .i32⟩
  | 13 => ⟨S287, .i32⟩
  | 14 => ⟨S_, .i32⟩
  | 15 => ⟨S287, .i32⟩
  | 16 => ⟨S287, .i32⟩
  | 17 => ⟨S16, .i32⟩
  | 18 => ⟨S1x16, .i32⟩
  | 19 => ⟨S_, .i32⟩
  | 20 => ⟨S_, .i32⟩
  | 21 => ⟨S287x16, .i32⟩
  | 22 => ⟨S287x16, .i32⟩
  | 23 => ⟨S287x16, .i32⟩
  | 24 => ⟨S_, .i32⟩
  | 25 => ⟨S16, .i32⟩
  | 26 => ⟨S1x16, .i32⟩
  | 27 => ⟨S_, .i32⟩
  | 28 => ⟨S_, .i32⟩
  | 29 => ⟨S287x16, .i32⟩
  | 30 => ⟨S287x16, .i32⟩
  | 31 => ⟨S287x16, .i32⟩
  | 32 => ⟨S_, .i32⟩
  | 33 => ⟨S34816x2048, .bf16⟩
  | 34 => ⟨S_, .i32⟩
  | 35 => ⟨S69632, .i32⟩
  | 36 => ⟨S69632, .i1⟩
  | 37 => ⟨S_, .i32⟩
  | 38 => ⟨S69632, .i32⟩
  | 39 => ⟨S69632, .i32⟩
  | 40 => ⟨S69632, .i32⟩
  | 41 => ⟨S69632x1, .i32⟩
  | 42 => ⟨S69632x2048, .bf16⟩
  | 43 => ⟨S69632x2048, .bf16⟩
  | 44 => ⟨S34816, .i32⟩
  | 45 => ⟨S34816x1, .i32⟩
  | 46 => ⟨S34816x2048, .bf16⟩
  | 47 => ⟨S8x4352x2048, .bf16⟩
  | 48 => ⟨S34816, .i32⟩
  | 49 => ⟨S34816x1, .i32⟩
  | 50 => ⟨S34816x2048, .bf16⟩
  | 51 => ⟨S8x4352x2048, .bf16⟩
  | _ => ⟨S8x4352x2048, .bf16⟩

abbrev hbmTy (i : Nat) : BufTy := match i / 128 with
  | 0 => hbmTy0_0 i
  | 1 => hbmTy0_1 i
  | _ => ⟨S8x4352x2048, .bf16⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1024x2048, .f32⟩
  | .local _ .vmem, ⟨5, _⟩ => ⟨S256x2048, .bf16⟩
  | .local _ .vmem, ⟨6, _⟩ => ⟨S256x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x2048, .bf16⟩
  | .local _ .smem, ⟨0, _⟩ => ⟨S287, .i32⟩
  | .local _ .smem, ⟨1, _⟩ => ⟨S287, .i32⟩
  | .local _ .smem, ⟨2, _⟩ => ⟨S287, .i32⟩
  | .local _ .smem, ⟨3, _⟩ => ⟨S287, .i32⟩
  | .local _ .smem, ⟨4, _⟩ => ⟨S287, .i32⟩
  | .local _ .smem, ⟨5, _⟩ => ⟨S1, .i32⟩
  | _, _ => ⟨S8x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v28 : Ref sig .tc := ⟨.hbm, 73, rfl⟩
abbrev main_v29 : Ref sig .tc := ⟨.hbm, 74, rfl⟩
abbrev main_c_6 : Ref sig .tc := ⟨.hbm, 75, rfl⟩
abbrev main_v30 : Ref sig .tc := ⟨.hbm, 76, rfl⟩
abbrev main_v31 : Ref sig .tc := ⟨.hbm, 77, rfl⟩
abbrev main_c_7 : Ref sig .tc := ⟨.hbm, 78, rfl⟩
abbrev main_call2_v0 : Ref sig .tc := ⟨.hbm, 79, rfl⟩
abbrev main_call2_v1 : Ref sig .tc := ⟨.hbm, 80, rfl⟩
abbrev main_v32 : Ref sig .tc := ⟨.hbm, 81, rfl⟩
abbrev main_call3_call0_c : Ref sig .tc := ⟨.hbm, 82, rfl⟩
abbrev main_call3_call0_v0 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_c_8 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_9 : Ref sig .tc := ⟨.hbm, 99, rfl⟩
abbrev main_v47 : Ref sig .tc := ⟨.hbm, 100, rfl⟩
abbrev main_c_10 : Ref sig .tc := ⟨.hbm, 101, rfl⟩
abbrev main_v48 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c_11 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v57 : Ref sig .tc := ⟨.hbm, 114, rfl⟩
abbrev main_c_12 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_c_13 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v61 : Ref sig .tc := ⟨.hbm, 123, rfl⟩
abbrev main_c_14 : Ref sig .tc := ⟨.hbm, 124, rfl⟩
abbrev main_v62 : Ref sig .tc := ⟨.hbm, 125, rfl⟩
abbrev main_v64 : Ref sig .tc := ⟨.hbm, 126, rfl⟩
abbrev main_c_15 : Ref sig .tc := ⟨.hbm, 127, rfl⟩
abbrev main_v65 : Ref sig .tc := ⟨.hbm, 128, rfl⟩
abbrev main_v66 : Ref sig .tc := ⟨.hbm, 129, rfl⟩
abbrev main_call6_v0 : Ref sig .tc := ⟨.hbm, 130, rfl⟩
abbrev main_call6_v1 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_call7_v0 : Ref sig .tc := ⟨.hbm, 135, rfl⟩
abbrev main_call7_v1 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_c_16 : Ref sig .tc := ⟨.hbm, 142, rfl⟩
abbrev main_v75 : Ref sig .tc := ⟨.hbm, 143, rfl⟩
abbrev main_v76 : Ref sig .tc := ⟨.hbm, 144, rfl⟩
abbrev main_v78 : Ref sig .tc := ⟨.hbm, 145, rfl⟩
abbrev main_v79 : Ref sig .tc := ⟨.hbm, 146, rfl⟩
abbrev main_c_17 : Ref sig .tc := ⟨.hbm, 147, rfl⟩
abbrev main_call8_v0 : Ref sig .tc := ⟨.hbm, 148, rfl⟩
abbrev main_call8_v1 : Ref sig .tc := ⟨.hbm, 149, rfl⟩
abbrev main_call8_v2 : Ref sig .tc := ⟨.hbm, 150, rfl⟩
abbrev main_v80 : Ref sig .tc := ⟨.hbm, 151, rfl⟩
abbrev main_c_18 : Ref sig .tc := ⟨.hbm, 152, rfl⟩
abbrev main_v82 : Ref sig .tc := ⟨.hbm, 153, rfl⟩
abbrev main_v83 : Ref sig .tc := ⟨.hbm, 154, rfl⟩
abbrev main_c_19 : Ref sig .tc := ⟨.hbm, 155, rfl⟩
abbrev main_call9_v0 : Ref sig .tc := ⟨.hbm, 156, rfl⟩
abbrev main_call9_v1 : Ref sig .tc := ⟨.hbm, 157, rfl⟩
abbrev main_call9_v2 : Ref sig .tc := ⟨.hbm, 158, rfl⟩
abbrev main_v84 : Ref sig .tc := ⟨.hbm, 159, rfl⟩
abbrev main_c_20 : Ref sig .tc := ⟨.hbm, 160, rfl⟩
abbrev main_v87 : Ref sig .tc := ⟨.hbm, 161, rfl⟩
abbrev main_c_21 : Ref sig .tc := ⟨.hbm, 162, rfl⟩
abbrev main_v88 : Ref sig .tc := ⟨.hbm, 163, rfl⟩
abbrev main_v89 : Ref sig .tc := ⟨.hbm, 164, rfl⟩
abbrev main_c_22 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_call11_v0 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_call12_v0 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_call13_v0 : Ref sig .tc := ⟨.hbm, 177, rfl⟩
abbrev main_v99 : Ref sig .tc := ⟨.hbm, 178, rfl⟩
abbrev main_v100 : Ref sig .tc := ⟨.hbm, 179, rfl⟩
abbrev main_v63 : Ref sig .tc := ⟨.smem, 0, rfl⟩
abbrev main_v49 : Ref sig .tc := ⟨.smem, 1, rfl⟩
abbrev main_v77 : Ref sig .tc := ⟨.smem, 2, rfl⟩
abbrev main_v81 : Ref sig .tc := ⟨.smem, 3, rfl⟩
abbrev main_v85 : Ref sig .tc := ⟨.smem, 4, rfl⟩
abbrev main_v86 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![287], ![false]⟩

abbrev pre0 : Pipeline.Prefetch sig := ⟨6, ![main_v63.idx, main_v49.idx, main_v77.idx, main_v81.idx, main_v85.idx, main_v86.idx], fun | 0 => main_v63.names | 1 => main_v49.names | 2 => main_v77.names | 3 => main_v81.names | 4 => main_v85.names | 5 => main_v86.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 1 → Nat :=
  let arg0 : BitVec 32 := BitVec.ofNat 32 (i 0).val
  let v29 : Index := Scalar.indexCast arg0
  ![v29.toNat]
def k0_off4 (i : grid0.Coords) : Fin 1 → Nat :=
  let arg0 : BitVec 32 := BitVec.ofNat 32 (i 0).val
  let v50 : Index := Scalar.indexCast arg0
  ![v50.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (v45 : BitVec 32) : BitVec 1 :=
  let c2_i32 : BitVec 32 := 2#32
  let v46 : BitVec 32 := Scalar.andi v45 c2_i32
  let c0_i32_15 : BitVec 32 := 0#32
  let v47 : BitVec 1 := Scalar.cmpi .ne v46 c0_i32_15
  let v48 : BitVec 32 := Scalar.extui v47
  let c0_i32_16 : BitVec 32 := 0#32
  let v49 : BitVec 1 := Scalar.cmpi .ne v48 c0_i32_16
  v49

def k0_cond4 (v51 : BitVec 32) : BitVec 1 :=
  let c2_i32_17 : BitVec 32 := 2#32
  let v52 : BitVec 32 := Scalar.andi v51 c2_i32_17
  let c0_i32_18 : BitVec 32 := 0#32
  let v53 : BitVec 1 := Scalar.cmpi .eq v52 c0_i32_18
  let v54 : BitVec 32 := Scalar.extui v53
  let c0_i32_19 : BitVec 32 := 0#32
  let v55 : BitVec 1 := Scalar.cmpi .ne v54 c0_i32_19
  v55

def cc0_transform_0 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S287.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x4352x2048 : Shape := ⟨3, ![8, 4352, 2048]⟩
abbrev S8x2x4352 : Shape := ⟨3, ![8, 2, 4352]⟩
abbrev S4x16x2048x1024 : Shape := ⟨4, ![4, 16, 2048, 1024]⟩
abbrev S4x16x1024x2048 : Shape := ⟨4, ![4, 16, 1024, 2048]⟩
abbrev S1x16x2048x1024 : Shape := ⟨4, ![1, 16, 2048, 1024]⟩
abbrev S16x2048x1024 : Shape := ⟨3, ![16, 2048, 1024]⟩
abbrev S8x4352x16x1024 : Shape := ⟨4, ![8, 4352, 16, 1024]⟩
abbrev S_ : Shape := ⟨0, ![]⟩
abbrev S1x16x1024x2048 : Shape := ⟨4, ![1, 16, 1024, 2048]⟩
abbrev S16x1024x2048 : Shape := ⟨3, ![16, 1024, 2048]⟩
abbrev S16x2048x8x4352 : Shape := ⟨4, ![16, 2048, 8, 4352]⟩
abbrev S8x4352x16x2048 : Shape := ⟨4, ![8, 4352, 16, 2048]⟩
abbrev S8x1x4352 : Shape := ⟨3, ![8, 1, 4352]⟩
abbrev S8x4352 : Shape := ⟨2, ![8, 4352]⟩
abbrev S8x4352x1 : Shape := ⟨3, ![8, 4352, 1]⟩
abbrev S1x1x16 : Shape := ⟨3, ![1, 1, 16]⟩
abbrev S8x4352x16 : Shape := ⟨3, ![8, 4352, 16]⟩
abbrev S8x4352x16x1 : Shape := ⟨4, ![8, 4352, 16, 1]⟩

abbrev nBuf : Space → Nat
  | .hbm => 54
  | .vmem => 0
  | .smem => 0
  | _ => 0

abbrev bufTy : (tb : Table) → Fin (tcTables nBuf tb) → BufTy
  | .hbm, ⟨0, _⟩ => ⟨S8x4352x2048, .bf16⟩
  | .hbm, ⟨1, _⟩ => ⟨S8x2x4352, .i32⟩
  | .hbm, ⟨2, _⟩ => ⟨S4x16x2048x1024, .f32⟩
  | .hbm, ⟨3, _⟩ => ⟨S4x16x2048x1024, .f32⟩
  | .hbm, ⟨4, _⟩ => ⟨S4x16x1024x2048, .f32⟩
  | .hbm, ⟨5, _⟩ => ⟨S8x4352x2048, .f32⟩
  | .hbm, ⟨6, _⟩ => ⟨S1x16x2048x1024, .f32⟩
  | .hbm, ⟨7, _⟩ => ⟨S16x2048x1024, .f32⟩
  | .hbm, ⟨8, _⟩ => ⟨S8x4352x16x1024, .f32⟩
  | .hbm, ⟨9, _⟩ => ⟨S1x16x2048x1024, .f32⟩
  | .hbm, ⟨10, _⟩ => ⟨S16x2048x1024, .f32⟩
  | .hbm, ⟨11, _⟩ => ⟨S8x4352x16x1024, .f32⟩
  | .hbm, ⟨12, _⟩ => ⟨S8x4352x16x1024, .f32⟩
  | .hbm, ⟨13, _⟩ => ⟨S8x4352x16x1024, .f32⟩
  | .hbm, ⟨14, _⟩ => ⟨S_, .f32⟩
  | .hbm, ⟨15, _⟩ => ⟨S8x4352x16x1024, .f32⟩
  | .hbm, ⟨16, _⟩ => ⟨S8x4352x16x1024, .f32⟩
  | .hbm, ⟨17, _⟩ => ⟨S_, .f32⟩
  | .hbm, ⟨18, _⟩ => ⟨S8x4352x16x1024, .f32⟩
  | .hbm, ⟨19, _⟩ => ⟨S8x4352x16x1024, .f32⟩
  | .hbm, ⟨20, _⟩ => ⟨S8x4352x16x1024, .f32⟩
  | .hbm, ⟨21, _⟩ => ⟨S8x4352x16x1024, .f32⟩
  | .hbm, ⟨22, _⟩ => ⟨S1x16x1024x2048, .f32⟩
  | .hbm, ⟨23, _⟩ => ⟨S16x1024x2048, .f32⟩
  | .hbm, ⟨24, _⟩ => ⟨S16x2048x8x4352, .f32⟩
  | .hbm, ⟨25, _⟩ => ⟨S8x4352x16x2048, .f32⟩
  | .hbm, ⟨26, _⟩ => ⟨S8x1x4352, .i32⟩
  | .hbm, ⟨27, _⟩ => ⟨S8x4352, .i32⟩
  | .hbm, ⟨28, _⟩ => ⟨S8x4352x1, .i32⟩
  | .hbm, ⟨29, _⟩ => ⟨S1x1x16, .i32⟩
  | .hbm, ⟨30, _⟩ => ⟨S8x4352x16, .i32⟩
  | .hbm, ⟨31, _⟩ => ⟨S8x4352x16, .i32⟩
  | .hbm, ⟨32, _⟩ => ⟨S8x4352x16, .i1⟩
  | .hbm, ⟨33, _⟩ => ⟨S8x4352x16, .f32⟩
  | .hbm, ⟨34, _⟩ => ⟨S8x4352x16x1, .f32⟩
  | .hbm, ⟨35, _⟩ => ⟨S8x4352x16x2048, .f32⟩
  | .hbm, ⟨36, _⟩ => ⟨S8x4352x16x2048, .f32⟩
  | .hbm, ⟨37, _⟩ => ⟨S_, .f32⟩
  | .hbm, ⟨38, _⟩ => ⟨S8x4352x2048, .f32⟩
  | .hbm, ⟨39, _⟩ => ⟨S8x4352x2048, .bf16⟩
  | .hbm, ⟨40, _⟩ => ⟨S8x1x4352, .i32⟩
  | .hbm, ⟨41, _⟩ => ⟨S8x4352, .i32⟩
  | .hbm, ⟨42, _⟩ => ⟨S8x4352x1, .i32⟩
  | .hbm, ⟨43, _⟩ => ⟨S1x1x16, .i32⟩
  | .hbm, ⟨44, _⟩ => ⟨S8x4352x16, .i32⟩
  | .hbm, ⟨45, _⟩ => ⟨S8x4352x16, .i32⟩
  | .hbm, ⟨46, _⟩ => ⟨S8x4352x16, .i1⟩
  | .hbm, ⟨47, _⟩ => ⟨S8x4352x16, .f32⟩
  | .hbm, ⟨48, _⟩ => ⟨S8x4352x16x1, .f32⟩
  | .hbm, ⟨49, _⟩ => ⟨S8x4352x16x2048, .f32⟩
  | .hbm, ⟨50, _⟩ => ⟨S8x4352x16x2048, .f32⟩
  | .hbm, ⟨51, _⟩ => ⟨S_, .f32⟩
  | .hbm, ⟨52, _⟩ => ⟨S8x4352x2048, .f32⟩
  | .hbm, ⟨53, _⟩ => ⟨S8x4352x2048, .bf16⟩
  | _, _ => ⟨S8x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]
-- ==== FinalKernel.lean ====
abbrev S8x4352x2048 : Shape := ⟨3, ![8, 4352, 2048]⟩
abbrev S8x4352x2 : Shape := ⟨3, ![8, 4352, 2]⟩
abbrev S8x2x6x2048 : Shape := ⟨4, ![8, 2, 6, 2048]⟩
abbrev S2048 : Shape := ⟨1, ![2048]⟩
abbrev S1x2048 : Shape := ⟨2, ![1, 2048]⟩
abbrev S8x4096x2048 : Shape := ⟨3, ![8, 4096, 2048]⟩
abbrev S1x256x2048 : Shape := ⟨3, ![1, 256, 2048]⟩
abbrev S1x256x2 : Shape := ⟨3, ![1, 256, 2]⟩
abbrev S1x1x6x2048 : Shape := ⟨4, ![1, 1, 6, 2048]⟩
abbrev S256x2048 : Shape := ⟨2, ![256, 2048]⟩
abbrev S256x2 : Shape := ⟨2, ![256, 2]⟩
abbrev S256x1 : Shape := ⟨2, ![256, 1]⟩
abbrev S6x2048 : Shape := ⟨2, ![6, 2048]⟩
abbrev S256 : Shape := ⟨1, ![256]⟩

abbrev nBuf : Space → Nat
  | .hbm => 8
  | .vmem => 13
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .bf16⟩
  | .hbm, ⟨2, _⟩ => ⟨S8x4352x2048, .bf16⟩
  | .hbm, ⟨3, _⟩ => ⟨S8x4352x2, .f32⟩
  | .hbm, ⟨4, _⟩ => ⟨S8x2x6x2048, .f32⟩
  | .hbm, ⟨5, _⟩ => ⟨S2048, .f32⟩
  | .hbm, ⟨6, _⟩ => ⟨S1x2048, .f32⟩
  | .hbm, ⟨7, _⟩ => ⟨S8x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2, .f32⟩
  | .local _ .vmem, ⟨7, _⟩ => ⟨S1x256x2, .f32⟩
  | .local _ .vmem, ⟨8, _⟩ => ⟨S1x1x6x2048, .f32⟩
  | .local _ .vmem, ⟨9, _⟩ => ⟨S1x1x6x2048, .f32⟩
  | .local _ .vmem, ⟨10, _⟩ => ⟨S1x2048, .f32⟩
  | .local _ .vmem, ⟨11, _⟩ => ⟨S1x256x2048, .f32⟩
  | .local _ .vmem, ⟨12, _⟩ => ⟨S1x256x2048, .f32⟩
  | _, _ => ⟨S8x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FinalReferenceIdeal.lean ====
abbrev S8x4352x2048 : Shape := ⟨3, ![8, 4352, 2048]⟩
abbrev S8x4352x2 : Shape := ⟨3, ![8, 4352, 2]⟩
abbrev S8x2x6x2048 : Shape := ⟨4, ![8, 2, 6, 2048]⟩
abbrev S2048 : Shape := ⟨1, ![2048]⟩
abbrev S8x4352x1 : Shape := ⟨3, ![8, 4352, 1]⟩
abbrev S8x1x1x2048 : Shape := ⟨4, ![8, 1, 1, 2048]⟩
abbrev S8x2048 : Shape := ⟨2, ![8, 2048]⟩
abbrev S8x1x2048 : Shape := ⟨3, ![8, 1, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .bf16⟩
  | .hbm, ⟨2, _⟩ => ⟨S8x4352x2048, .bf16⟩
  | .hbm, ⟨3, _⟩ => ⟨S8x4352x2, .f32⟩
  | .hbm, ⟨4, _⟩ => ⟨S8x2x6x2048, .f32⟩
  | .hbm, ⟨5, _⟩ => ⟨S2048, .f32⟩
  | .hbm, ⟨6, _⟩ => ⟨S8x4352x1, .f32⟩
  | .hbm, ⟨7, _⟩ => ⟨S8x4352x2048, .f32⟩
  | .hbm, ⟨8, _⟩ => ⟨S8x4352x2048, .f32⟩
  | .hbm, ⟨9, _⟩ => ⟨S8x4352x2048, .f32⟩
  | .hbm, ⟨10, _⟩ => ⟨S8x4352x1, .f32⟩
  | .hbm, ⟨11, _⟩ => ⟨S8x4352x2048, .f32⟩
  | .hbm, ⟨12, _⟩ => ⟨S8x4352x2048, .f32⟩
  | .hbm, ⟨13, _⟩ => ⟨S8x4352x2048, .f32⟩
  | .hbm, ⟨14, _⟩ => ⟨S8x4352x2048, .f32⟩
  | .hbm, ⟨15, _⟩ => ⟨S8x1x1x2048, .f32⟩
  | .hbm, ⟨16, _⟩ => ⟨S8x2048, .f32⟩
  | .hbm, ⟨17, _⟩ => ⟨S8x1x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x2048, .f32⟩
  | .hbm, ⟨35, _⟩ => ⟨S8x4096x2048, .f32⟩
  | .hbm, ⟨36, _⟩ => ⟨S1x1x2048, .f32⟩
  | .hbm, ⟨37, _⟩ => ⟨S8x4096x2048, .f32⟩
  | .hbm, ⟨38, _⟩ => ⟨S8x4096x2048, .f32⟩
  | _, _ => ⟨S8x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== EvenKernel.lean ====
abbrev S8x4352x2048 : Shape := ⟨3, ![8, 4352, 2048]⟩
abbrev S8x4352x2 : Shape := ⟨3, ![8, 4352, 2]⟩
abbrev S8x2x6x2048 : Shape := ⟨4, ![8, 2, 6, 2048]⟩
abbrev S2048 : Shape := ⟨1, ![2048]⟩
abbrev S2048x5504 : Shape := ⟨2, ![2048, 5504]⟩
abbrev S1x2048 : Shape := ⟨2, ![1, 2048]⟩
abbrev S8x4352x5504 : Shape := ⟨3, ![8, 4352, 5504]⟩
abbrev S1x256x2048 : Shape := ⟨3, ![1, 256, 2048]⟩
abbrev S1x256x2 : Shape := ⟨3, ![1, 256, 2]⟩
abbrev S1x1x6x2048 : Shape := ⟨4, ![1, 1, 6, 2048]⟩
abbrev S1x256x5504 : Shape := ⟨3, ![1, 256, 5504]⟩
abbrev S256x2048 : Shape := ⟨2, ![256, 2048]⟩
abbrev S256x2 : Shape := ⟨2, ![256, 2]⟩
abbrev S256x1 : Shape := ⟨2, ![256, 1]⟩
abbrev S6x2048 : Shape := ⟨2, ![6, 2048]⟩
abbrev S256 : Shape := ⟨1, ![256]⟩
abbrev S256x5504 : Shape := ⟨2, ![256, 5504]⟩

abbrev nBuf : Space → Nat
  | .hbm => 12
  | .vmem => 18
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .bf16⟩
  | .hbm, ⟨2, _⟩ => ⟨S8x4352x2048, .bf16⟩
  | .hbm, ⟨3, _⟩ => ⟨S8x4352x2, .f32⟩
  | .hbm, ⟨4, _⟩ => ⟨S8x2x6x2048, .f32⟩
  | .hbm, ⟨5, _⟩ => ⟨S8x2x6x2048, .f32⟩
  | .hbm, ⟨6, _⟩ => ⟨S2048, .f32⟩
  | .hbm, ⟨7, _⟩ => ⟨S2048x5504, .f32⟩
  | .hbm, ⟨8, _⟩ => ⟨S2048x5504, .bf16⟩
  | .hbm, ⟨9, _⟩ => ⟨S1x2048, .f32⟩
  | .hbm, ⟨10, _⟩ => ⟨S8x4352x2048, .f32⟩
  | .hbm, ⟨11, _⟩ => ⟨S8x4352x5504, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2, .f32⟩
  | .local _ .vmem, ⟨7, _⟩ => ⟨S1x256x2, .f32⟩
  | .local _ .vmem, ⟨8, _⟩ => ⟨S1x1x6x2048, .f32⟩
  | .local _ .vmem, ⟨9, _⟩ => ⟨S1x1x6x2048, .f32⟩
  | .local _ .vmem, ⟨10, _⟩ => ⟨S1x1x6x2048, .f32⟩
  | .local _ .vmem, ⟨11, _⟩ => ⟨S1x1x6x2048, .f32⟩
  | .local _ .vmem, ⟨12, _⟩ => ⟨S1x2048, .f32⟩
  | .local _ .vmem, ⟨13, _⟩ => ⟨S2048x5504, .bf16⟩
  | .local _ .vmem, ⟨14, _⟩ => ⟨S1x256x2048, .f32⟩
  | .local _ .vmem, ⟨15, _⟩ => ⟨S1x256x2048, .f32⟩
  | .local _ .vmem, ⟨16, _⟩ => ⟨S1x256x5504, .f32⟩
  | .local _ .vmem, ⟨17, _⟩ => ⟨S1x256x5504, .f32⟩
  | _, _ => ⟨S8x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x5504 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x5504 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== EvenReferenceIdeal.lean ====
abbrev S8x4352x2048 : Shape := ⟨3, ![8, 4352, 2048]⟩
abbrev S8x4352x2 : Shape := ⟨3, ![8, 4352, 2]⟩
abbrev S8x2x6x2048 : Shape := ⟨4, ![8, 2, 6, 2048]⟩
abbrev S2048 : Shape := ⟨1, ![2048]⟩
abbrev S2048x5504 : Shape := ⟨2, ![2048, 5504]⟩
abbrev S8x4352x1 : Shape := ⟨3, ![8, 4352, 1]⟩
abbrev S8x256x2048 : Shape := ⟨3, ![8, 256, 2048]⟩
abbrev S8x1x1x2048 : Shape := ⟨4, ![8, 1, 1, 2048]⟩
abbrev S8x2048 : Shape := ⟨2, ![8, 2048]⟩
abbrev S8x1x2048 : Shape := ⟨3, ![8, 1, 2048]⟩
abbrev S8x4096x2048 : Shape := ⟨3, ![8, 4096, 2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x4096 : Shape := ⟨2, ![8, 4096]⟩
abbrev S8x4096x1 : Shape := ⟨3, ![8, 4096, 1]⟩
abbrev S8x256x5504 : Shape := ⟨3, ![8, 256, 5504]⟩
abbrev S8x4096x5504 : Shape := ⟨3, ![8, 4096, 5504]⟩
abbrev S8x4352x5504 : Shape := ⟨3, ![8, 4352, 5504]⟩

abbrev nBuf : Space → Nat
  | .hbm => 95
  | .vmem => 0
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .bf16⟩
  | .hbm, ⟨2, _⟩ => ⟨S8x4352x2048, .bf16⟩
  | .hbm, ⟨3, _⟩ => ⟨S8x4352x2, .f32⟩
  | .hbm, ⟨4, _⟩ => ⟨S8x2x6x2048, .f32⟩
  | .hbm, ⟨5, _⟩ => ⟨S8x2x6x2048, .f32⟩
  | .hbm, ⟨6, _⟩ => ⟨S2048, .f32⟩
  | .hbm, ⟨7, _⟩ => ⟨S2048x5504, .f32⟩
  | .hbm, ⟨8, _⟩ => ⟨S8x4352x1, .f32⟩
  | .hbm, ⟨9, _⟩ => ⟨S8x4352x2048, .f32⟩
  | .hbm, ⟨10, _⟩ => ⟨S8x4352x2048, .f32⟩
  | .hbm, ⟨11, _⟩ => ⟨S8x4352x2048, .f32⟩
  | .hbm, ⟨12, _⟩ => ⟨S8x4352x1, .f32⟩
  | .hbm, ⟨13, _⟩ => ⟨S8x4352x2048, .f32⟩
  | .hbm, ⟨14, _⟩ => ⟨S8x4352x2048, .f32⟩
  | .hbm, ⟨15, _⟩ => ⟨S8x4352x2048, .f32⟩
  | .hbm, ⟨16, _⟩ => ⟨S8x4352x2048, .f32⟩
  | .hbm, ⟨17, _⟩ => ⟨S8x256x2048, .f32⟩
  | .hbm, ⟨18, _⟩ => ⟨S8x1x1x2048, .f32⟩
  | .hbm, ⟨19, _⟩ => ⟨S8x2048, .f32⟩
  | .hbm, ⟨20, _⟩ => ⟨S8x1x2048, .f32⟩
  | .hbm, ⟨21, _⟩ => ⟨S8x256x2048, .f32⟩
  | .hbm, ⟨22, _⟩ => ⟨S8x256x2048, .f32⟩
  | .hbm, ⟨23, _⟩ => ⟨S8x256x2048, .f32⟩
  | .hbm, ⟨24, _⟩ => ⟨S8x256x2048, .f32⟩
  | .hbm, ⟨25, _⟩ => ⟨S8x4096x2048, .f32⟩
  | .hbm, ⟨26, _⟩ => ⟨S8x1x1x2048, .f32⟩
  | .hbm, ⟨27, _⟩ => ⟨S8x2048, .f32⟩
  | .hbm, ⟨28, _⟩ => ⟨S8x1x2048, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S8x4096x2048, .f32⟩
  | .hbm, ⟨33, _⟩ => ⟨S8x256x2048, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S8x256x1, .f32⟩
  | .hbm, ⟨44, _⟩ => ⟨S8x256x2048, .f32⟩
  | .hbm, ⟨45, _⟩ => ⟨S8x256x2048, .f32⟩
  | .hbm, ⟨46, _⟩ => ⟨S1x1x2048, .f32⟩
  | .hbm, ⟨47, _⟩ => ⟨S8x256x2048, .f32⟩
  | .hbm, ⟨48, _⟩ => ⟨S8x256x2048, .f32⟩
  | .hbm, ⟨49, _⟩ => ⟨S8x1x1x2048, .f32⟩
  | .hbm, ⟨50, _⟩ => ⟨S8x2048, .f32⟩
  | .hbm, ⟨51, _⟩ => ⟨S8x1x2048, .f32⟩
  | .hbm, ⟨52, _⟩ => ⟨S8x1x1x2048, .f32⟩
  | .hbm, ⟨53, _⟩ => ⟨S8x2048, .f32⟩
  | .hbm, ⟨54, _⟩ => ⟨S8x1x2048, .f32⟩
  | .hbm, ⟨55, _⟩ => ⟨S_, .f32⟩
  | .hbm, ⟨56, _⟩ => ⟨S8x1x2048, .f32⟩
  | .hbm, ⟨57, _⟩ => ⟨S8x1x2048, .f32⟩
  | .hbm, ⟨58, _⟩ => ⟨S8x256x2048, .f32⟩
  | .hbm, ⟨59, _⟩ => ⟨S8x256x2048, .f32⟩
  | .hbm, ⟨60, _⟩ => ⟨S8x256x2048, .f32⟩
  | .hbm, ⟨61, _⟩ => ⟨S8x256x2048, .f32⟩
  | .hbm, ⟨62, _⟩ => ⟨S8x4096x2048, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x2048, .f32⟩
  | .hbm, ⟨74, _⟩ => ⟨S8x4096x2048, .f32⟩
  | .hbm, ⟨75, _⟩ => ⟨S1x1x2048, .f32⟩
  | .hbm, ⟨76, _⟩ => ⟨S8x4096x2048, .f32⟩
  | .hbm, ⟨77, _⟩ => ⟨S8x4096x2048, .f32⟩
  | .hbm, ⟨78, _⟩ => ⟨S8x1x1x2048, .f32⟩
  | .hbm, ⟨79, _⟩ => ⟨S8x2048, .f32⟩
  | .hbm, ⟨80, _⟩ => ⟨S8x1x2048, .f32⟩
  | .hbm, ⟨81, _⟩ => ⟨S8x1x1x2048, .f32⟩
  | .hbm, ⟨82, _⟩ => ⟨S8x2048, .f32⟩
  | .hbm, ⟨83, _⟩ => ⟨S8x1x2048, .f32⟩
  | .hbm, ⟨84, _⟩ => ⟨S_, .f32⟩
  | .hbm, ⟨85, _⟩ => ⟨S8x1x2048, .f32⟩
  | .hbm, ⟨86, _⟩ => ⟨S8x1x2048, .f32⟩
  | .hbm, ⟨87, _⟩ => ⟨S8x4096x2048, .f32⟩
  | .hbm, ⟨88, _⟩ => ⟨S8x4096x2048, .f32⟩
  | .hbm, ⟨89, _⟩ => ⟨S8x4096x2048, .f32⟩
  | .hbm, ⟨90, _⟩ => ⟨S8x4096x2048, .f32⟩
  | .hbm, ⟨91, _⟩ => ⟨S8x256x5504, .f32⟩
  | .hbm, ⟨92, _⟩ => ⟨S8x4096x5504, .f32⟩
  | .hbm, ⟨93, _⟩ => ⟨S8x4352x2048, .f32⟩
  | .hbm, ⟨94, _⟩ => ⟨S8x4352x5504, .f32⟩
  | _, _ => ⟨S8x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== OddKernel.lean ====
abbrev S8x4352x2048 : Shape := ⟨3, ![8, 4352, 2048]⟩
abbrev S8x4352x2 : Shape := ⟨3, ![8, 4352, 2]⟩
abbrev S8x2x6x2048 : Shape := ⟨4, ![8, 2, 6, 2048]⟩
abbrev S2048 : Shape := ⟨1, ![2048]⟩
abbrev S2048x6144 : Shape := ⟨2, ![2048, 6144]⟩
abbrev S3x2048 : Shape := ⟨2, ![3, 2048]⟩
abbrev S1x2048 : Shape := ⟨2, ![1, 2048]⟩
abbrev S1x256x2048 : Shape := ⟨3, ![1, 256, 2048]⟩
abbrev S1x256x2 : Shape := ⟨3, ![1, 256, 2]⟩
abbrev S1x1x6x2048 : Shape := ⟨4, ![1, 1, 6, 2048]⟩
abbrev S256x2048 : Shape := ⟨2, ![256, 2048]⟩
abbrev S256x2 : Shape := ⟨2, ![256, 2]⟩
abbrev S256x1 : Shape := ⟨2, ![256, 1]⟩
abbrev S6x2048 : Shape := ⟨2, ![6, 2048]⟩
abbrev S256 : Shape := ⟨1, ![256]⟩
abbrev S256x6144 : Shape := ⟨2, ![256, 6144]⟩

abbrev nBuf : Space → Nat
  | .hbm => 13
  | .vmem => 19
  | .smem => 0
  | _ => 0

abbrev bufTy : (tb : Table) → Fin (tcTables nBuf tb) → BufTy
  | .hbm, ⟨0, _⟩ => ⟨S8x4352x2048, .f32⟩
  | .hbm, ⟨1, _⟩ => ⟨S8x4352x2048, .bf16⟩
  | .hbm, ⟨2, _⟩ => ⟨S8x4352x2048, .bf16⟩
  | .hbm, ⟨3, _⟩ => ⟨S8x4352x2, .f32⟩
  | .hbm, ⟨4, _⟩ => ⟨S8x2x6x2048, .f32⟩
  | .hbm, ⟨5, _⟩ => ⟨S8x2x6x2048, .f32⟩
  | .hbm, ⟨6, _⟩ => ⟨S2048, .f32⟩
  | .hbm, ⟨7, _⟩ => ⟨S2048x6144, .f32⟩
  | .hbm, ⟨8, _⟩ => ⟨S3x2048, .f32⟩
  | .hbm, ⟨9, _⟩ => ⟨S2048x6144, .bf16⟩
  | .hbm, ⟨10, _⟩ => ⟨S1x2048, .f32⟩
  | .hbm, ⟨11, _⟩ => ⟨S8x4352x2048, .f32⟩
  | .hbm, ⟨12, _⟩ => ⟨S8x4352x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2, .f32⟩
  | .local _ .vmem, ⟨7, _⟩ => ⟨S1x256x2, .f32⟩
  | .local _ .vmem, ⟨8, _⟩ => ⟨S1x1x6x2048, .f32⟩
  | .local _ .vmem, ⟨9, _⟩ => ⟨S1x1x6x2048, .f32⟩
  | .local _ .vmem, ⟨10, _⟩ => ⟨S1x1x6x2048, .f32⟩
  | .local _ .vmem, ⟨11, _⟩ => ⟨S1x1x6x2048, .f32⟩
  | .local _ .vmem, ⟨12, _⟩ => ⟨S1x2048, .f32⟩
  | .local _ .vmem, ⟨13, _⟩ => ⟨S2048x6144, .bf16⟩
  | .local _ .vmem, ⟨14, _⟩ => ⟨S3x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .bf16⟩
  | .local _ .vmem, ⟨18, _⟩ => ⟨S1x256x2048, .bf16⟩
  | _, _ => ⟨S8x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OddReferenceIdeal.lean ====
abbrev S8x4352x2048 : Shape := ⟨3, ![8, 4352, 2048]⟩
abbrev S8x4352x2 : Shape := ⟨3, ![8, 4352, 2]⟩
abbrev S8x2x6x2048 : Shape := ⟨4, ![8, 2, 6, 2048]⟩
abbrev S2048 : Shape := ⟨1, ![2048]⟩
abbrev S2048x6144 : Shape := ⟨2, ![2048, 6144]⟩
abbrev S3x2048 : Shape := ⟨2, ![3, 2048]⟩
abbrev S8x4352x1 : Shape := ⟨3, ![8, 4352, 1]⟩
abbrev S8x256x2048 : Shape := ⟨3, ![8, 256, 2048]⟩
abbrev S8x1x1x2048 : Shape := ⟨4, ![8, 1, 1, 2048]⟩
abbrev S8x2048 : Shape := ⟨2, ![8, 2048]⟩
abbrev S8x1x2048 : Shape := ⟨3, ![8, 1, 2048]⟩
abbrev S8x4096x2048 : Shape := ⟨3, ![8, 4096, 2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x4096 : Shape := ⟨2, ![8, 4096]⟩
abbrev S8x4096x1 : Shape := ⟨3, ![8, 4096, 1]⟩
abbrev S8x256x6144 : Shape := ⟨3, ![8, 256, 6144]⟩
abbrev S8x255x2048 : Shape := ⟨3, ![8, 255, 2048]⟩
abbrev S1x2048 : Shape := ⟨2, ![1, 2048]⟩
abbrev S8x4096x6144 : Shape := ⟨3, ![8, 4096, 6144]⟩
abbrev S8x64x64x2048 : Shape := ⟨4, ![8, 64, 64, 2048]⟩
abbrev S8x64x1x2048 : Shape := ⟨4, ![8, 64, 1, 2048]⟩
abbrev S8x64x63x2048 : Shape := ⟨4, ![8, 64, 63, 2048]⟩
abbrev S1x1x1x2048 : Shape := ⟨4, ![1, 1, 1, 2048]⟩

abbrev nBuf : Space → Nat
  | .hbm => 158
  | .vmem => 0
  | .smem => 0
  | _ => 0

abbrev hbmTy0_0 (i : Nat) : BufTy := match i % 128 with
  | 0 => ⟨S8x4352x2048, .f32⟩
  | 1 => ⟨S8x4352x2048, .bf16⟩
  | 2 => ⟨S8x4352x2048, .bf16⟩
  | 3 => ⟨S8x4352x2, .f32⟩
  | 4 => ⟨S8x2x6x2048, .f32⟩
  | 5 => ⟨S8x2x6x2048, .f32⟩
  | 6 => ⟨S2048, .f32⟩
  | 7 => ⟨S2048x6144, .f32⟩
  | 8 => ⟨S3x2048, .f32⟩
  | 9 => ⟨S8x4352x1, .f32⟩
  | 10 => ⟨S8x4352x2048, .f32⟩
  | 11 => ⟨S8x4352x2048, .f32⟩
  | 12 => ⟨S8x4352x2048, .f32⟩
  | 13 => ⟨S8x4352x1, .f32⟩
  | 14 => ⟨S8x4352x2048, .f32⟩
  | 15 => ⟨S8x4352x2048, .f32⟩
  | 16 => ⟨S8x4352x2048, .f32⟩
  | 17 => ⟨S8x4352x2048, .f32⟩
  | 18 => ⟨S8x256x2048, .f32⟩
  | 19 => ⟨S8x1x1x2048, .f32⟩
  | 20 => ⟨S8x2048, .f32⟩
  | 21 => ⟨S8x1x2048, .f32⟩
  | 22 => ⟨S8x256x2048, .f32⟩
  | 23 => ⟨S8x256x2048, .f32⟩
  | 24 => ⟨S8x256x2048, .f32⟩
  | 25 => ⟨S8x256x2048, .f32⟩
  | 26 => ⟨S8x4096x2048, .f32⟩
  | 27 => ⟨S8x1x1x2048, .f32⟩
  | 28 => ⟨S8x2048, .f32⟩
  | 29 => ⟨S8x1x2048, .f32⟩
  | 30 => ⟨S8x4096x2048, .f32⟩
  | 31 => ⟨S8x4096x2048, .f32⟩
  | 32 => ⟨S8x4096x2048, .f32⟩
  | 33 => ⟨S8x4096x2048, .f32⟩
  | 34 => ⟨S8x256x2048, .f32⟩
  | 35 => ⟨S_, .f32⟩
  | 36 => ⟨S8x256, .f32⟩
  | 37 => ⟨S8x256x1, .f32⟩
  | 38 => ⟨S_, .f32⟩
  | 39 => ⟨S8x256x1, .f32⟩
  | 40 => ⟨S8x256x1, .f32⟩
  | 41 => ⟨S_, .f32⟩
  | 42 => ⟨S8x256x1, .f32⟩
  | 43 => ⟨S8x256x1, .f32⟩
  | 44 => ⟨S8x256x1, .f32⟩
  | 45 => ⟨S8x256x2048, .f32⟩
  | 46 => ⟨S8x256x2048, .f32⟩
  | 47 => ⟨S1x1x2048, .f32⟩
  | 48 => ⟨S8x256x2048, .f32⟩
  | 49 => ⟨S8x256x2048, .f32⟩
  | 50 => ⟨S8x1x1x2048, .f32⟩
  | 51 => ⟨S8x2048, .f32⟩
  | 52 => ⟨S8x1x2048, .f32⟩
  | 53 => ⟨S8x1x1x2048, .f32⟩
  | 54 => ⟨S8x2048, .f32⟩
  | 55 => ⟨S8x1x2048, .f32⟩
  | 56 => ⟨S_, .f32⟩
  | 57 => ⟨S8x1x2048, .f32⟩
  | 58 => ⟨S8x1x2048, .f32⟩
  | 59 => ⟨S8x256x2048, .f32⟩
  | 60 => ⟨S8x256x2048, .f32⟩
  | 61 => ⟨S8x256x2048, .f32⟩
  | 62 => ⟨S8x256x2048, .f32⟩
  | 63 => ⟨S8x4096x2048, .f32⟩
  | 64 => ⟨S_, .f32⟩
  | 65 => ⟨S8x4096, .f32⟩
  | 66 => ⟨S8x4096x1, .f32⟩
  | 67 => ⟨S_, .f32⟩
  | 68 => ⟨S8x4096x1, .f32⟩
  | 69 => ⟨S8x4096x1, .f32⟩
  | 70 => ⟨S_, .f32⟩
  | 71 => ⟨S8x4096x1, .f32⟩
  | 72 => ⟨S8x4096x1, .f32⟩
  | 73 => ⟨S8x4096x1, .f32⟩
  | 74 => ⟨S8x4096x2048, .f32⟩
  | 75 => ⟨S8x4096x2048, .f32⟩
  | 76 => ⟨S1x1x2048, .f32⟩
  | 77 => ⟨S8x4096x2048, .f32⟩
  | 78 => ⟨S8x4096x2048, .f32⟩
  | 79 => ⟨S8x1x1x2048, .f32⟩
  | 80 => ⟨S8x2048, .f32⟩
  | 81 => ⟨S8x1x2048, .f32⟩
  | 82 => ⟨S8x1x1x2048, .f32⟩
  | 83 => ⟨S8x2048, .f32⟩
  | 84 => ⟨S8x1x2048, .f32⟩
  | 85 => ⟨S_, .f32⟩
  | 86 => ⟨S8x1x2048, .f32⟩
  | 87 => ⟨S8x1x2048, .f32⟩
  | 88 => ⟨S8x4096x2048, .f32⟩
  | 89 => ⟨S8x4096x2048, .f32⟩
  | 90 => ⟨S8x4096x2048, .f32⟩
  | 91 => ⟨S8x4096x2048, .f32⟩
  | 92 => ⟨S8x256x6144, .f32⟩
  | 93 => ⟨S8x256x2048, .f32⟩
  | 94 => ⟨S8x256x2048, .f32⟩
  | 95 => ⟨S8x256x2048, .f32⟩
  | 96 => ⟨S8x256x2048, .f32⟩
  | 97 => ⟨S8x1x2048, .f32⟩
  | 98 => ⟨S_, .f32⟩
  | 99 => ⟨S8x1x2048, .f32⟩
  | 100 => ⟨S8x255x2048, .f32⟩
  | 101 => ⟨S8x256x2048, .f32⟩
  | 102 => ⟨S8x255x2048, .f32⟩
  | 103 => ⟨S8x256x2048, .f32⟩
  | 104 => ⟨S1x2048, .f32⟩
  | 105 => ⟨S2048, .f32⟩
  | 106 => ⟨S1x1x2048, .f32⟩
  | 107 => ⟨S8x256x2048, .f32⟩
  | 108 => ⟨S8x256x2048, .f32⟩
  | 109 => ⟨S1x2048, .f32⟩
  | 110 => ⟨S2048, .f32⟩
  | 111 => ⟨S1x1x2048, .f32⟩
  | 112 => ⟨S8x256x2048, .f32⟩
  | 113 => ⟨S8x256x2048, .f32⟩
  | 114 => ⟨S8x256x2048, .f32⟩
  | 115 => ⟨S1x2048, .f32⟩
  | 116 => ⟨S2048, .f32⟩
  | 117 => ⟨S1x1x2048, .f32⟩
  | 118 => ⟨S8x256x2048, .f32⟩
  | 119 => ⟨S8x256x2048, .f32⟩
  | 120 => ⟨S8x256x2048, .f32⟩
  | 121 => ⟨S8x256x2048, .f32⟩
  | 122 => ⟨S8x256x2048, .bf16⟩
  | 123 => ⟨S8x4096x6144, .f32⟩
  | 124 => ⟨S8x4096x2048, .f32⟩
  | 125 => ⟨S8x4096x2048, .f32⟩
  | 126 => ⟨S8x4096x2048, .f32⟩
  | 127 => ⟨S8x4096x2048, .f32⟩
  | _ => ⟨S8x4352x2048, .f32⟩

abbrev hbmTy0_1 (i : Nat) : BufTy := match i % 128 with
  | 0 => ⟨S8x64x64x2048, .f32⟩
  | 1 => ⟨S8x64x1x2048, .f32⟩
  | 2 => ⟨S_, .f32⟩
  | 3 => ⟨S8x64x1x2048, .f32⟩
  | 4 => ⟨S8x64x63x2048, .f32⟩
  | 5 => ⟨S8x64x64x2048, .f32⟩
  | 6 => ⟨S8x64x63x2048, .f32⟩
  | 7 => ⟨S8x64x64x2048, .f32⟩
  | 8 => ⟨S1x2048, .f32⟩
  | 9 => ⟨S2048, .f32⟩
  | 10 => ⟨S1x1x1x2048, .f32⟩
  | 11 => ⟨S8x64x64x2048, .f32⟩
  | 12 => ⟨S8x64x64x2048, .f32⟩
  | 13 => ⟨S1x2048, .f32⟩
  | 14 => ⟨S2048, .f32⟩
  | 15 => ⟨S1x1x1x2048, .f32⟩
  | 16 => ⟨S8x64x64x2048, .f32⟩
  | 17 => ⟨S8x64x64x2048, .f32⟩
  | 18 => ⟨S8x64x64x2048, .f32⟩
  | 19 => ⟨S1x2048, .f32⟩
  | 20 => ⟨S2048, .f32⟩
  | 21 => ⟨S1x1x1x2048, .f32⟩
  | 22 => ⟨S8x64x64x2048, .f32⟩
  | 23 => ⟨S8x64x64x2048, .f32⟩
  | 24 => ⟨S8x64x64x2048, .f32⟩
  | 25 => ⟨S8x4096x2048, .f32⟩
  | 26 => ⟨S8x4096x2048, .f32⟩
  | 27 => ⟨S8x4096x2048, .bf16⟩
  | 28 => ⟨S8x4352x2048, .f32⟩
  | 29 => ⟨S8x4352x2048, .bf16⟩
  | _ => ⟨S8x4352x2048, .f32⟩

abbrev hbmTy (i : Nat) : BufTy := match i / 128 with
  | 0 => hbmTy0_0 i
  | 1 => hbmTy0_1 i
  | _ => ⟨S8x4352x2048, .f32⟩

abbrev bufTy : (tb : Table) → Fin (tcTables nBuf tb) → BufTy
  | .hbm, ⟨i, _⟩ => hbmTy i
  | _, _ => ⟨S8x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_3 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_8 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩

abbrev nD : Nat := 1
abbrev τ : Topo := Topo.v7x

variable {F : FTy → Type} [FloatOps F]
-- ==== FirstKernel.lean ====
abbrev S8x256x2048 : Shape := ⟨3, ![8, 256, 2048]⟩
abbrev S8x4096x2048 : Shape := ⟨3, ![8, 4096, 2048]⟩
abbrev S8x2x6x2048 : Shape := ⟨4, ![8, 2, 6, 2048]⟩
abbrev S2048 : Shape := ⟨1, ![2048]⟩
abbrev S2048x5504 : Shape := ⟨2, ![2048, 5504]⟩
abbrev S1x2048 : Shape := ⟨2, ![1, 2048]⟩
abbrev S8x4352x2048 : Shape := ⟨3, ![8, 4352, 2048]⟩
abbrev S8x4352x5504 : Shape := ⟨3, ![8, 4352, 5504]⟩
abbrev S1x256x2048 : Shape := ⟨3, ![1, 256, 2048]⟩
abbrev S1x1x6x2048 : Shape := ⟨4, ![1, 1, 6, 2048]⟩
abbrev S1x256x5504 : Shape := ⟨3, ![1, 256, 5504]⟩
abbrev S256x2048 : Shape := ⟨2, ![256, 2048]⟩
abbrev S6x2048 : Shape := ⟨2, ![6, 2048]⟩
abbrev S256 : Shape := ⟨1, ![256]⟩
abbrev S256x1 : Shape := ⟨2, ![256, 1]⟩
abbrev S256x5504 : Shape := ⟨2, ![256, 5504]⟩

abbrev nBuf : Space → Nat
  | .hbm => 9
  | .vmem => 12
  | .smem => 0
  | _ => 0

abbrev bufTy : (tb : Table) → Fin (tcTables nBuf tb) → BufTy
  | .hbm, ⟨0, _⟩ => ⟨S8x256x2048, .f32⟩
  | .hbm, ⟨1, _⟩ => ⟨S8x4096x2048, .f32⟩
  | .hbm, ⟨2, _⟩ => ⟨S8x2x6x2048, .f32⟩
  | .hbm, ⟨3, _⟩ => ⟨S2048, .f32⟩
  | .hbm, ⟨4, _⟩ => ⟨S2048x5504, .f32⟩
  | .hbm, ⟨5, _⟩ => ⟨S2048x5504, .bf16⟩
  | .hbm, ⟨6, _⟩ => ⟨S1x2048, .f32⟩
  | .hbm, ⟨7, _⟩ => ⟨S8x4352x2048, .f32⟩
  | .hbm, ⟨8, _⟩ => ⟨S8x4352x5504, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x2048, .f32⟩
  | .local _ .vmem, ⟨7, _⟩ => ⟨S2048x5504, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x5504, .f32⟩
  | .local _ .vmem, ⟨11, _⟩ => ⟨S1x256x5504, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x5504 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FirstReferenceIdeal.lean ====
abbrev S8x256x2048 : Shape := ⟨3, ![8, 256, 2048]⟩
abbrev S8x4096x2048 : Shape := ⟨3, ![8, 4096, 2048]⟩
abbrev S8x2x6x2048 : Shape := ⟨4, ![8, 2, 6, 2048]⟩
abbrev S2048 : Shape := ⟨1, ![2048]⟩
abbrev S2048x5504 : Shape := ⟨2, ![2048, 5504]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x1x1x2048 : Shape := ⟨4, ![8, 1, 1, 2048]⟩
abbrev S8x2048 : Shape := ⟨2, ![8, 2048]⟩
abbrev S8x1x2048 : Shape := ⟨3, ![8, 1, 2048]⟩
abbrev S8x4096 : Shape := ⟨2, ![8, 4096]⟩
abbrev S8x4096x1 : Shape := ⟨3, ![8, 4096, 1]⟩
abbrev S8x256x5504 : Shape := ⟨3, ![8, 256, 5504]⟩
abbrev S8x4096x5504 : Shape := ⟨3, ![8, 4096, 5504]⟩
abbrev S8x4352x2048 : Shape := ⟨3, ![8, 4352, 2048]⟩
abbrev S8x4352x5504 : Shape := ⟨3, ![8, 4352, 5504]⟩

abbrev nBuf : Space → Nat
  | .hbm => 67
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x4096x2048, .f32⟩
  | .hbm, ⟨2, _⟩ => ⟨S8x2x6x2048, .f32⟩
  | .hbm, ⟨3, _⟩ => ⟨S2048, .f32⟩
  | .hbm, ⟨4, _⟩ => ⟨S2048x5504, .f32⟩
  | .hbm, ⟨5, _⟩ => ⟨S8x256x2048, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x2048, .f32⟩
  | .hbm, ⟨17, _⟩ => ⟨S8x256x2048, .f32⟩
  | .hbm, ⟨18, _⟩ => ⟨S1x1x2048, .f32⟩
  | .hbm, ⟨19, _⟩ => ⟨S8x256x2048, .f32⟩
  | .hbm, ⟨20, _⟩ => ⟨S8x256x2048, .f32⟩
  | .hbm, ⟨21, _⟩ => ⟨S8x1x1x2048, .f32⟩
  | .hbm, ⟨22, _⟩ => ⟨S8x2048, .f32⟩
  | .hbm, ⟨23, _⟩ => ⟨S8x1x2048, .f32⟩
  | .hbm, ⟨24, _⟩ => ⟨S8x1x1x2048, .f32⟩
  | .hbm, ⟨25, _⟩ => ⟨S8x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x256x2048, .f32⟩
  | .hbm, ⟨31, _⟩ => ⟨S8x256x2048, .f32⟩
  | .hbm, ⟨32, _⟩ => ⟨S8x256x2048, .f32⟩
  | .hbm, ⟨33, _⟩ => ⟨S8x256x2048, .f32⟩
  | .hbm, ⟨34, _⟩ => ⟨S8x4096x2048, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x2048, .f32⟩
  | .hbm, ⟨46, _⟩ => ⟨S8x4096x2048, .f32⟩
  | .hbm, ⟨47, _⟩ => ⟨S1x1x2048, .f32⟩
  | .hbm, ⟨48, _⟩ => ⟨S8x4096x2048, .f32⟩
  | .hbm, ⟨49, _⟩ => ⟨S8x4096x2048, .f32⟩
  | .hbm, ⟨50, _⟩ => ⟨S8x1x1x2048, .f32⟩
  | .hbm, ⟨51, _⟩ => ⟨S8x2048, .f32⟩
  | .hbm, ⟨52, _⟩ => ⟨S8x1x2048, .f32⟩
  | .hbm, ⟨53, _⟩ => ⟨S8x1x1x2048, .f32⟩
  | .hbm, ⟨54, _⟩ => ⟨S8x2048, .f32⟩
  | .hbm, ⟨55, _⟩ => ⟨S8x1x2048, .f32⟩
  | .hbm, ⟨56, _⟩ => ⟨S_, .f32⟩
  | .hbm, ⟨57, _⟩ => ⟨S8x1x2048, .f32⟩
  | .hbm, ⟨58, _⟩ => ⟨S8x1x2048, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S8x256x5504, .f32⟩
  | .hbm, ⟨64, _⟩ => ⟨S8x4096x5504, .f32⟩
  | .hbm, ⟨65, _⟩ => ⟨S8x4352x2048, .f32⟩
  | .hbm, ⟨66, _⟩ => ⟨S8x4352x5504, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== OutKernel.lean ====
abbrev S8x4352x2048 : Shape := ⟨3, ![8, 4352, 2048]⟩
abbrev S8x2x6x2048 : Shape := ⟨4, ![8, 2, 6, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S1x2048 : Shape := ⟨2, ![1, 2048]⟩
abbrev S16x2048 : Shape := ⟨2, ![16, 2048]⟩
abbrev S16x1 : Shape := ⟨2, ![16, 1]⟩
abbrev S8x2x4352 : Shape := ⟨3, ![8, 2, 4352]⟩
abbrev S1x256x2048 : Shape := ⟨3, ![1, 256, 2048]⟩
abbrev S1x1x6x2048 : Shape := ⟨4, ![1, 1, 6, 2048]⟩
abbrev S1x2x256 : Shape := ⟨3, ![1, 2, 256]⟩
abbrev S6x2048 : Shape := ⟨2, ![6, 2048]⟩
abbrev S256x2048 : Shape := ⟨2, ![256, 2048]⟩
abbrev S256 : Shape := ⟨1, ![256]⟩
abbrev S256x1 : Shape := ⟨2, ![256, 1]⟩
abbrev S16x256 : Shape := ⟨2, ![16, 256]⟩
abbrev S1x256 : Shape := ⟨2, ![1, 256]⟩
abbrev S2x256 : Shape := ⟨2, ![2, 256]⟩

abbrev nBuf : Space → Nat
  | .hbm => 16
  | .vmem => 18
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x2048, .f32⟩
  | .hbm, ⟨2, _⟩ => ⟨S8x2x6x2048, .f32⟩
  | .hbm, ⟨3, _⟩ => ⟨S2048, .f32⟩
  | .hbm, ⟨4, _⟩ => ⟨S2048x2048, .f32⟩
  | .hbm, ⟨5, _⟩ => ⟨S2048x16, .f32⟩
  | .hbm, ⟨6, _⟩ => ⟨S16, .f32⟩
  | .hbm, ⟨7, _⟩ => ⟨S2048x2048, .bf16⟩
  | .hbm, ⟨8, _⟩ => ⟨S1x2048, .f32⟩
  | .hbm, ⟨9, _⟩ => ⟨S16x2048, .f32⟩
  | .hbm, ⟨10, _⟩ => ⟨S16x2048, .bf16⟩
  | .hbm, ⟨11, _⟩ => ⟨S16x1, .f32⟩
  | .hbm, ⟨12, _⟩ => ⟨S8x4352x2048, .f32⟩
  | .hbm, ⟨13, _⟩ => ⟨S8x4352x2048, .bf16⟩
  | .hbm, ⟨14, _⟩ => ⟨S8x2x4352, .i32⟩
  | .hbm, ⟨15, _⟩ => ⟨S8x2x4352, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x2048, .f32⟩
  | .local _ .vmem, ⟨7, _⟩ => ⟨S2048x2048, .bf16⟩
  | .local _ .vmem, ⟨8, _⟩ => ⟨S16x2048, .bf16⟩
  | .local _ .vmem, ⟨9, _⟩ => ⟨S16x1, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .bf16⟩
  | .local _ .vmem, ⟨13, _⟩ => ⟨S1x256x2048, .bf16⟩
  | .local _ .vmem, ⟨14, _⟩ => ⟨S1x2x256, .i32⟩
  | .local _ .vmem, ⟨15, _⟩ => ⟨S1x2x256, .i32⟩
  | .local _ .vmem, ⟨16, _⟩ => ⟨S1x2x256, .f32⟩
  | .local _ .vmem, ⟨17, _⟩ => ⟨S1x2x256, .f32⟩
  | _, _ => ⟨S8x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutReferenceIdeal.lean ====
abbrev S8x4352x2048 : Shape := ⟨3, ![8, 4352, 2048]⟩
abbrev S8x2x6x2048 : Shape := ⟨4, ![8, 2, 6, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S8x256x2048 : Shape := ⟨3, ![8, 256, 2048]⟩
abbrev S8x1x1x2048 : Shape := ⟨4, ![8, 1, 1, 2048]⟩
abbrev S8x2048 : Shape := ⟨2, ![8, 2048]⟩
abbrev S8x1x2048 : Shape := ⟨3, ![8, 1, 2048]⟩
abbrev S8x4096x2048 : Shape := ⟨3, ![8, 4096, 2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x4096 : Shape := ⟨2, ![8, 4096]⟩
abbrev S8x4096x1 : Shape := ⟨3, ![8, 4096, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x2048, .f32⟩
  | .hbm, ⟨2, _⟩ => ⟨S8x2x6x2048, .f32⟩
  | .hbm, ⟨3, _⟩ => ⟨S2048, .f32⟩
  | .hbm, ⟨4, _⟩ => ⟨S2048x2048, .f32⟩
  | .hbm, ⟨5, _⟩ => ⟨S2048x16, .f32⟩
  | .hbm, ⟨6, _⟩ => ⟨S16, .f32⟩
  | .hbm, ⟨7, _⟩ => ⟨S8x4352x2048, .f32⟩
  | .hbm, ⟨8, _⟩ => ⟨S8x4352x2048, .f32⟩
  | .hbm, ⟨9, _⟩ => ⟨S8x256x2048, .f32⟩
  | .hbm, ⟨10, _⟩ => ⟨S8x1x1x2048, .f32⟩
  | .hbm, ⟨11, _⟩ => ⟨S8x2048, .f32⟩
  | .hbm, ⟨12, _⟩ => ⟨S8x1x2048, .f32⟩
  | .hbm, ⟨13, _⟩ => ⟨S8x256x2048, .f32⟩
  | .hbm, ⟨14, _⟩ => ⟨S8x256x2048, .f32⟩
  | .hbm, ⟨15, _⟩ => ⟨S8x256x2048, .f32⟩
  | .hbm, ⟨16, _⟩ => ⟨S8x256x2048, .f32⟩
  | .hbm, ⟨17, _⟩ => ⟨S8x4096x2048, .f32⟩
  | .hbm, ⟨18, _⟩ => ⟨S8x1x1x2048, .f32⟩
  | .hbm, ⟨19, _⟩ => ⟨S8x2048, .f32⟩
  | .hbm, ⟨20, _⟩ => ⟨S8x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x256x2048, .f32⟩
  | .hbm, ⟨26, _⟩ => ⟨S_, .f32⟩
  | .hbm, ⟨27, _⟩ => ⟨S8x256, .f32⟩
  | .hbm, ⟨28, _⟩ => ⟨S8x256x1, .f32⟩
  | .hbm, ⟨29, _⟩ => ⟨S_, .f32⟩
  | .hbm, ⟨30, _⟩ => ⟨S8x256x1, .f32⟩
  | .hbm, ⟨31, _⟩ => ⟨S8x256x1, .f32⟩
  | .hbm, ⟨32, _⟩ => ⟨S_, .f32⟩
  | .hbm, ⟨33, _⟩ => ⟨S8x256x1, .f32⟩
  | .hbm, ⟨34, _⟩ => ⟨S8x256x1, .f32⟩
  | .hbm, ⟨35, _⟩ => ⟨S8x256x1, .f32⟩
  | .hbm, ⟨36, _⟩ => ⟨S8x256x2048, .f32⟩
  | .hbm, ⟨37, _⟩ => ⟨S8x256x2048, .f32⟩
  | .hbm, ⟨38, _⟩ => ⟨S1x1x2048, .f32⟩
  | .hbm, ⟨39, _⟩ => ⟨S8x256x2048, .f32⟩
  | .hbm, ⟨40, _⟩ => ⟨S8x256x2048, .f32⟩
  | .hbm, ⟨41, _⟩ => ⟨S8x1x1x2048, .f32⟩
  | .hbm, ⟨42, _⟩ => ⟨S8x2048, .f32⟩
  | .hbm, ⟨43, _⟩ => ⟨S8x1x2048, .f32⟩
  | .hbm, ⟨44, _⟩ => ⟨S8x1x1x2048, .f32⟩
  | .hbm, ⟨45, _⟩ => ⟨S8x2048, .f32⟩
  | .hbm, ⟨46, _⟩ => ⟨S8x1x2048, .f32⟩
  | .hbm, ⟨47, _⟩ => ⟨S_, .f32⟩
  | .hbm, ⟨48, _⟩ => ⟨S8x1x2048, .f32⟩
  | .hbm, ⟨49, _⟩ => ⟨S8x1x2048, .f32⟩
  | .hbm, ⟨50, _⟩ => ⟨S8x256x2048, .f32⟩
  | .hbm, ⟨51, _⟩ => ⟨S8x256x2048, .f32⟩
  | .hbm, ⟨52, _⟩ => ⟨S8x256x2048, .f32⟩
  | .hbm, ⟨53, _⟩ => ⟨S8x256x2048, .f32⟩
  | .hbm, ⟨54, _⟩ => ⟨S8x4096x2048, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x2048, .f32⟩
  | .hbm, ⟨66, _⟩ => ⟨S8x4096x2048, .f32⟩
  | .hbm, ⟨67, _⟩ => ⟨S1x1x2048, .f32⟩
  | .hbm, ⟨68, _⟩ => ⟨S8x4096x2048, .f32⟩
  | .hbm, ⟨69, _⟩ => ⟨S8x4096x2048, .f32⟩
  | .hbm, ⟨70, _⟩ => ⟨S8x1x1x2048, .f32⟩
  | .hbm, ⟨71, _⟩ => ⟨S8x2048, .f32⟩
  | .hbm, ⟨72, _⟩ => ⟨S8x1x2048, .f32⟩
  | .hbm, ⟨73, _⟩ => ⟨S8x1x1x2048, .f32⟩
  | .hbm, ⟨74, _⟩ => ⟨S8x2048, .f32⟩
  | .hbm, ⟨75, _⟩ => ⟨S8x1x2048, .f32⟩
  | .hbm, ⟨76, _⟩ => ⟨S_, .f32⟩
  | .hbm, ⟨77, _⟩ => ⟨S8x1x2048, .f32⟩
  | .hbm, ⟨78, _⟩ => ⟨S8x1x2048, .f32⟩
  | .hbm, ⟨79, _⟩ => ⟨S8x4096x2048, .f32⟩
  | .hbm, ⟨80, _⟩ => ⟨S8x4096x2048, .f32⟩
  | .hbm, ⟨81, _⟩ => ⟨S8x4096x2048, .f32⟩
  | .hbm, ⟨82, _⟩ => ⟨S8x4096x2048, .f32⟩
  | .hbm, ⟨83, _⟩ => ⟨S8x4352x2048, .f32⟩
  | .hbm, ⟨84, _⟩ => ⟨S8x4352x2048, .f32⟩
  | .hbm, ⟨85, _⟩ => ⟨S8x4352x2048, .bf16⟩
  | _, _ => ⟨S8x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== RouteKernel.lean ====
abbrev S8x4352x2048 : Shape := ⟨3, ![8, 4352, 2048]⟩
abbrev S8x2x6x2048 : Shape := ⟨4, ![8, 2, 6, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S1x2048 : Shape := ⟨2, ![1, 2048]⟩
abbrev S16x2048 : Shape := ⟨2, ![16, 2048]⟩
abbrev S16x1 : Shape := ⟨2, ![16, 1]⟩
abbrev S8x2x4352 : Shape := ⟨3, ![8, 2, 4352]⟩
abbrev S1x256x2048 : Shape := ⟨3, ![1, 256, 2048]⟩
abbrev S1x1x6x2048 : Shape := ⟨4, ![1, 1, 6, 2048]⟩
abbrev S1x2x256 : Shape := ⟨3, ![1, 2, 256]⟩
abbrev S6x2048 : Shape := ⟨2, ![6, 2048]⟩
abbrev S256x2048 : Shape := ⟨2, ![256, 2048]⟩
abbrev S256 : Shape := ⟨1, ![256]⟩
abbrev S256x1 : Shape := ⟨2, ![256, 1]⟩
abbrev S16x256 : Shape := ⟨2, ![16, 256]⟩
abbrev S1x256 : Shape := ⟨2, ![1, 256]⟩
abbrev S2x256 : Shape := ⟨2, ![2, 256]⟩

abbrev nBuf : Space → Nat
  | .hbm => 16
  | .vmem => 18
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x2048, .f32⟩
  | .hbm, ⟨2, _⟩ => ⟨S8x2x6x2048, .f32⟩
  | .hbm, ⟨3, _⟩ => ⟨S2048, .f32⟩
  | .hbm, ⟨4, _⟩ => ⟨S2048x2048, .f32⟩
  | .hbm, ⟨5, _⟩ => ⟨S2048x16, .f32⟩
  | .hbm, ⟨6, _⟩ => ⟨S16, .f32⟩
  | .hbm, ⟨7, _⟩ => ⟨S2048x2048, .bf16⟩
  | .hbm, ⟨8, _⟩ => ⟨S1x2048, .f32⟩
  | .hbm, ⟨9, _⟩ => ⟨S16x2048, .f32⟩
  | .hbm, ⟨10, _⟩ => ⟨S16x2048, .bf16⟩
  | .hbm, ⟨11, _⟩ => ⟨S16x1, .f32⟩
  | .hbm, ⟨12, _⟩ => ⟨S8x4352x2048, .f32⟩
  | .hbm, ⟨13, _⟩ => ⟨S8x4352x2048, .bf16⟩
  | .hbm, ⟨14, _⟩ => ⟨S8x2x4352, .i32⟩
  | .hbm, ⟨15, _⟩ => ⟨S8x2x4352, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x2048, .f32⟩
  | .local _ .vmem, ⟨7, _⟩ => ⟨S2048x2048, .bf16⟩
  | .local _ .vmem, ⟨8, _⟩ => ⟨S16x2048, .bf16⟩
  | .local _ .vmem, ⟨9, _⟩ => ⟨S16x1, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .bf16⟩
  | .local _ .vmem, ⟨13, _⟩ => ⟨S1x256x2048, .bf16⟩
  | .local _ .vmem, ⟨14, _⟩ => ⟨S1x2x256, .i32⟩
  | .local _ .vmem, ⟨15, _⟩ => ⟨S1x2x256, .i32⟩
  | .local _ .vmem, ⟨16, _⟩ => ⟨S1x2x256, .f32⟩
  | .local _ .vmem, ⟨17, _⟩ => ⟨S1x2x256, .f32⟩
  | _, _ => ⟨S8x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RouteReferenceIdeal.lean ====
abbrev S8x4352x2048 : Shape := ⟨3, ![8, 4352, 2048]⟩
abbrev S8x2x6x2048 : Shape := ⟨4, ![8, 2, 6, 2048]⟩
abbrev S2048 : Shape := ⟨1, ![2048]⟩
abbrev S2048x2048 : Shape := ⟨2, ![2048, 2048]⟩
abbrev S2048x16 : Shape := ⟨2, ![2048, 16]⟩
abbrev S16 : Shape := ⟨1, ![16]⟩
abbrev S8x256x2048 : Shape := ⟨3, ![8, 256, 2048]⟩
abbrev S8x1x1x2048 : Shape := ⟨4, ![8, 1, 1, 2048]⟩
abbrev S8x2048 : Shape := ⟨2, ![8, 2048]⟩
abbrev S8x1x2048 : Shape := ⟨3, ![8, 1, 2048]⟩
abbrev S8x4096x2048 : Shape := ⟨3, ![8, 4096, 2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x4096 : Shape := ⟨2, ![8, 4096]⟩
abbrev S8x4096x1 : Shape := ⟨3, ![8, 4096, 1]⟩
abbrev S8x4352x16 : Shape := ⟨3, ![8, 4352, 16]⟩
abbrev S1x1x16 : Shape := ⟨3, ![1, 1, 16]⟩
abbrev S8x4352x4x4 : Shape := ⟨4, ![8, 4352, 4, 4]⟩
abbrev S8x4352x4x2 : Shape := ⟨4, ![8, 4352, 4, 2]⟩
abbrev S8x4352x4 : Shape := ⟨3, ![8, 4352, 4]⟩
abbrev S8x4352x1 : Shape := ⟨3, ![8, 4352, 1]⟩
abbrev S8x4352x2 : Shape := ⟨3, ![8, 4352, 2]⟩
abbrev S8x4352x2x1 : Shape := ⟨4, ![8, 4352, 2, 1]⟩
abbrev S1x1x1x16 : Shape := ⟨4, ![1, 1, 1, 16]⟩
abbrev S8x4352x2x16 : Shape := ⟨4, ![8, 4352, 2, 16]⟩
abbrev S8x4352x1x16 : Shape := ⟨4, ![8, 4352, 1, 16]⟩
abbrev S8x4352 : Shape := ⟨2, ![8, 4352]⟩
abbrev S8x2x4352 : Shape := ⟨3, ![8, 2, 4352]⟩

abbrev nBuf : Space → Nat
  | .hbm => 138
  | .vmem => 0
  | .smem => 0
  | _ => 0

abbrev hbmTy0_0 (i : Nat) : BufTy := match i % 128 with
  | 0 => ⟨S8x4352x2048, .bf16⟩
  | 1 => ⟨S8x4352x2048, .f32⟩
  | 2 => ⟨S8x2x6x2048, .f32⟩
  | 3 => ⟨S2048, .f32⟩
  | 4 => ⟨S2048x2048, .f32⟩
  | 5 => ⟨S2048x16, .f32⟩
  | 6 => ⟨S16, .f32⟩
  | 7 => ⟨S8x4352x2048, .f32⟩
  | 8 => ⟨S8x4352x2048, .f32⟩
  | 9 => ⟨S8x256x2048, .f32⟩
  | 10 => ⟨S8x1x1x2048, .f32⟩
  | 11 => ⟨S8x2048, .f32⟩
  | 12 => ⟨S8x1x2048, .f32⟩
  | 13 => ⟨S8x256x2048, .f32⟩
  | 14 => ⟨S8x256x2048, .f32⟩
  | 15 => ⟨S8x256x2048, .f32⟩
  | 16 => ⟨S8x256x2048, .f32⟩
  | 17 => ⟨S8x4096x2048, .f32⟩
  | 18 => ⟨S8x1x1x2048, .f32⟩
  | 19 => ⟨S8x2048, .f32⟩
  | 20 => ⟨S8x1x2048, .f32⟩
  | 21 => ⟨S8x4096x2048, .f32⟩
  | 22 => ⟨S8x4096x2048, .f32⟩
  | 23 => ⟨S8x4096x2048, .f32⟩
  | 24 => ⟨S8x4096x2048, .f32⟩
  | 25 => ⟨S8x256x2048, .f32⟩
  | 26 => ⟨S_, .f32⟩
  | 27 => ⟨S8x256, .f32⟩
  | 28 => ⟨S8x256x1, .f32⟩
  | 29 => ⟨S_, .f32⟩
  | 30 => ⟨S8x256x1, .f32⟩
  | 31 => ⟨S8x256x1, .f32⟩
  | 32 => ⟨S_, .f32⟩
  | 33 => ⟨S8x256x1, .f32⟩
  | 34 => ⟨S8x256x1, .f32⟩
  | 35 => ⟨S8x256x1, .f32⟩
  | 36 => ⟨S8x256x2048, .f32⟩
  | 37 => ⟨S8x256x2048, .f32⟩
  | 38 => ⟨S1x1x2048, .f32⟩
  | 39 => ⟨S8x256x2048, .f32⟩
  | 40 => ⟨S8x256x2048, .f32⟩
  | 41 => ⟨S8x1x1x2048, .f32⟩
  | 42 => ⟨S8x2048, .f32⟩
  | 43 => ⟨S8x1x2048, .f32⟩
  | 44 => ⟨S8x1x1x2048, .f32⟩
  | 45 => ⟨S8x2048, .f32⟩
  | 46 => ⟨S8x1x2048, .f32⟩
  | 47 => ⟨S_, .f32⟩
  | 48 => ⟨S8x1x2048, .f32⟩
  | 49 => ⟨S8x1x2048, .f32⟩
  | 50 => ⟨S8x256x2048, .f32⟩
  | 51 => ⟨S8x256x2048, .f32⟩
  | 52 => ⟨S8x256x2048, .f32⟩
  | 53 => ⟨S8x256x2048, .f32⟩
  | 54 => ⟨S8x4096x2048, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S_, .f32⟩
  | 62 => ⟨S8x4096x1, .f32⟩
  | 63 => ⟨S8x4096x1, .f32⟩
  | 64 => ⟨S8x4096x1, .f32⟩
  | 65 => ⟨S8x4096x2048, .f32⟩
  | 66 => ⟨S8x4096x2048, .f32⟩
  | 67 => ⟨S1x1x2048, .f32⟩
  | 68 => ⟨S8x4096x2048, .f32⟩
  | 69 => ⟨S8x4096x2048, .f32⟩
  | 70 => ⟨S8x1x1x2048, .f32⟩
  | 71 => ⟨S8x2048, .f32⟩
  | 72 => ⟨S8x1x2048, .f32⟩
  | 73 => ⟨S8x1x1x2048, .f32⟩
  | 74 => ⟨S8x2048, .f32⟩
  | 75 => ⟨S8x1x2048, .f32⟩
  | 76 => ⟨S_, .f32⟩
  | 77 => ⟨S8x1x2048, .f32⟩
  | 78 => ⟨S8x1x2048, .f32⟩
  | 79 => ⟨S8x4096x2048, .f32⟩
  | 80 => ⟨S8x4096x2048, .f32⟩
  | 81 => ⟨S8x4096x2048, .f32⟩
  | 82 => ⟨S8x4096x2048, .f32⟩
  | 83 => ⟨S8x4352x2048, .f32⟩
  | 84 => ⟨S8x4352x16, .f32⟩
  | 85 => ⟨S8x4352x16, .f32⟩
  | 86 => ⟨S8x4352x16, .f32⟩
  | 87 => ⟨S_, .f32⟩
  | 88 => ⟨S8x4352x16, .f32⟩
  | 89 => ⟨S8x4352x16, .f32⟩
  | 90 => ⟨S_, .f32⟩
  | 91 => ⟨S8x4352x16, .f32⟩
  | 92 => ⟨S8x4352x16, .f32⟩
  | 93 => ⟨S1x1x16, .f32⟩
  | 94 => ⟨S8x4352x16, .f32⟩
  | 95 => ⟨S8x4352x16, .f32⟩
  | 96 => ⟨S8x4352x4x4, .f32⟩
  | 97 => ⟨S8x4352x4x2, .f32⟩
  | 98 => ⟨S8x4352x4x2, .i32⟩
  | 99 => ⟨S_, .f32⟩
  | 100 => ⟨S8x4352x4, .f32⟩
  | 101 => ⟨S8x4352x1, .f32⟩
  | 102 => ⟨S8x4352x1, .i32⟩
  | 103 => ⟨S16, .i32⟩
  | 104 => ⟨S_, .i32⟩
  | 105 => ⟨S16, .i32⟩
  | 106 => ⟨S16, .i32⟩
  | 107 => ⟨S1x1x16, .i32⟩
  | 108 => ⟨S8x4352x16, .i32⟩
  | 109 => ⟨S8x4352x16, .i32⟩
  | 110 => ⟨S8x4352x16, .i1⟩
  | 111 => ⟨S_, .f32⟩
  | 112 => ⟨S_, .f32⟩
  | 113 => ⟨S8x4352x16, .f32⟩
  | 114 => ⟨S8x4352x16, .f32⟩
  | 115 => ⟨S8x4352x2, .f32⟩
  | 116 => ⟨S8x4352x2, .i32⟩
  | 117 => ⟨S8x4352x2x1, .i32⟩
  | 118 => ⟨S16, .i32⟩
  | 119 => ⟨S1x1x1x16, .i32⟩
  | 120 => ⟨S8x4352x2x16, .i32⟩
  | 121 => ⟨S8x4352x2x16, .i32⟩
  | 122 => ⟨S8x4352x2x16, .i1⟩
  | 123 => ⟨S8x4352x1x16, .f32⟩
  | 124 => ⟨S_, .f32⟩
  | 125 => ⟨S_, .f32⟩
  | 126 => ⟨S8x4352x2x16, .f32⟩
  | 127 => ⟨S8x4352x2x16, .f32⟩
  | _ => ⟨S8x4352x2048, .bf16⟩

abbrev hbmTy0_1 (i : Nat) : BufTy := match i % 128 with
  | 0 => ⟨S8x4352x2x16, .f32⟩
  | 1 => ⟨S_, .f32⟩
  | 2 => ⟨S8x4352x2, .f32⟩
  | 3 => ⟨S_, .f32⟩
  | 4 => ⟨S8x4352, .f32⟩
  | 5 => ⟨S8x4352x1, .f32⟩
  | 6 => ⟨S8x4352x2, .f32⟩
  | 7 => ⟨S8x4352x2, .f32⟩
  | 8 => ⟨S8x2x4352, .i32⟩
  | 9 => ⟨S8x2x4352, .f32⟩
  | _ => ⟨S8x4352x2048, .bf16⟩

abbrev hbmTy (i : Nat) : BufTy := match i / 128 with
  | 0 => hbmTy0_0 i
  | 1 => hbmTy0_1 i
  | _ => ⟨S8x4352x2048, .bf16⟩

abbrev bufTy : (tb : Table) → Fin (tcTables nBuf tb) → BufTy
  | .hbm, ⟨i, _⟩ => hbmTy i
  | _, _ => ⟨S8x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_values : Ref sig .tc := ⟨.hbm, 97, rfl⟩
abbrev main_indices : Ref sig .tc := ⟨.hbm, 98, rfl⟩
abbrev main_cst_9 : Ref sig .tc := ⟨.hbm, 99, rfl⟩
abbrev main_v80 : Ref sig .tc := ⟨.hbm, 100, rfl⟩
abbrev main_values_10 : Ref sig .tc := ⟨.hbm, 101, rfl⟩
abbrev main_indices_11 : Ref sig .tc := ⟨.hbm, 102, rfl⟩
abbrev main_v81 : Ref sig .tc := ⟨.hbm, 103, rfl⟩
abbrev main_c : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_call0_v0 : Ref sig .tc := ⟨.hbm, 112, rfl⟩
abbrev main_call0_v1 : Ref sig .tc := ⟨.hbm, 113, rfl⟩
abbrev main_v88 : Ref sig .tc := ⟨.hbm, 114, rfl⟩
abbrev main_values_13 : Ref sig .tc := ⟨.hbm, 115, rfl⟩
abbrev main_indices_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_15 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_cst_17 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩

abbrev nD : Nat := 1
abbrev τ : Topo := Topo.v7x

variable {F : FTy → Type} [FloatOps F]
-- ==== ModKernel.lean ====
abbrev S16x2048 : Shape := ⟨2, ![16, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S16x2048 : Shape := ⟨2, ![16, 2048]⟩
abbrev S4x2048x12288 : Shape := ⟨3, ![4, 2048, 12288]⟩
abbrev S4x12288 : Shape := ⟨2, ![4, 12288]⟩
abbrev S_ : Shape := ⟨0, ![]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x12288x16, .f32⟩
  | .hbm, ⟨13, _⟩ => ⟨S4x16x12288, .f32⟩
  | .hbm, ⟨14, _⟩ => ⟨S4x1x12288, .f32⟩
  | .hbm, ⟨15, _⟩ => ⟨S4x16x12288, .f32⟩
  | .hbm, ⟨16, _⟩ => ⟨S4x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Stream.Formula.lean ====
/- The residual stream at exact arithmetic: what the calls around the routed feed-forward compute of a token. -/
module

public import Idealize.ShloMosaic.Lib.Tactic
public import Idealize.ShloMosaic.Lib.Pointwise

@[expose] public section

noncomputable section

namespace Cert.Stream

open Idealize.ShloMosaic

/-- Token `(b, s)` after the previous layer's expert outputs are added: gates times outputs, times the modulation's last
    row of part `r` (0 for context tokens, 1 for latent tokens). -/
def mix (X : Vec Ideal ⟨3, ![8, 4352, 2048]⟩ .f32) (Y1 Y2 : Vec Ideal ⟨3, ![8, 4352, 2048]⟩ .bf16) (Gt : Vec Ideal ⟨3, ![8, 4352, 2]⟩ .f32)
    (M : Vec Ideal ⟨4, ![8, 2, 6, 2048]⟩ .f32) (r : Fin 2) (b : Fin 8) (s : Fin 4352) (d : Fin 2048) : EReal :=
  X (ix3 b s d) + M (ix4 b r 5 d) * (Gt (ix3 b s 0) * Y1 (ix3 b s d) + Gt (ix3 b s 1) * Y2 (ix3 b s d))

/-- A token over the root of its mean square, unscaled: entry `d` of `x` by `1 / sqrt (mean of x² + 10⁻⁶)`. -/
def rms (x : Fin 2048 → EReal) (d : Fin 2048) : EReal :=
  x d * Ideal.rsqrt (Ideal.div (∑ k : Fin 2048, x k * x k) (Ideal.ofBits FTy.f32 1157627904#32) + Ideal.ofBits FTy.f32 897988541#32)

/-- The part of the sequence a token lies in: 0 for the 256 context tokens, 1 for the latent tokens. -/
def part (s : Fin 4352) : Fin 2 := if s.val < 256 then 0 else 1

/-- A normed token under a layer's modulation: gain `g`, then scale (row 1) and shift (row 0) of part `r`. -/
def modded (q : Fin 2048 → EReal) (g : Vec Ideal ⟨1, ![2048]⟩ .f32) (M : Vec Ideal ⟨4, ![8, 2, 6, 2048]⟩ .f32) (r : Fin 2) (b : Fin 8) (d : Fin 2048) : EReal :=
  rms q d * g (ix1 d) * (Ideal.ofBits FTy.f32 1065353216#32 + M (ix4 b r 1 d)) + M (ix4 b r 0 d)

end Cert.Stream
end
-- ==== Proof.Stream.Final.lean ====
/- The last layer's norm at exact arithmetic: the kernel's result array, entry by entry. -/
module

public import proofs.«01_k».proof.Proof.Gen.FinalKernelIdeal.Value
public import proofs.«01_k».proof.Proof.Stream.Formula
public import Idealize.ShloMosaic.Lib.Pipeline.ValueKit.Geometry

@[expose] public section

set_option maxRecDepth 16384
set_option maxHeartbeats 4000000

noncomputable section

namespace Cert.FinalKernelIdeal.Stream

open Cert.FinalKernelIdeal Cert.FinalKernelIdeal.Gen Cert.Stream Idealize.ShloMosaic Idealize.ShloMosaic.TcCoe

variable (m : (ℓ : Loc nD τ sig) → Buf (Elt Ideal) ℓ) (c : Dev nD)

/-- The arguments of device `c`. -/
abbrev aX : Vec Ideal S8x4352x2048 .f32 := m ((c : Thread nD τ).loc main_arg0)
abbrev aY1 : Vec Ideal S8x4352x2048 .bf16 := m ((c : Thread nD τ).loc main_arg1)
abbrev aY2 : Vec Ideal S8x4352x2048 .bf16 := m ((c : Thread nD τ).loc main_arg2)
abbrev aG : Vec Ideal S8x4352x2 .f32 := m ((c : Thread nD τ).loc main_arg3)
abbrev aM : Vec Ideal S8x2x6x2048 .f32 := m ((c : Thread nD τ).loc main_arg4)
abbrev aN : Vec Ideal S2048 .f32 := m ((c : Thread nD τ).loc main_arg5)

/-- The result, entry by entry: latent token `s` is token `256 + s` of the stream. -/
def resE (X : Vec Ideal S8x4352x2048 .f32) (Y1 Y2 : Vec Ideal S8x4352x2048 .bf16) (Gt : Vec Ideal S8x4352x2 .f32) (M : Vec Ideal S8x2x6x2048 .f32) (g : Vec Ideal S2048 .f32)
    (b : Fin 8) (s : Fin 4096) (d : Fin 2048) : EReal :=
  rms (mix X Y1 Y2 Gt M 1 b ⟨256 + s.val, by omega⟩) d * g (ix1 d)

/-- The result array. -/
def res : Vec Ideal S8x4096x2048 .f32 := fun i => resE (aX m c) (aY1 m c) (aY2 m c) (aG m c) (aM m c) (aN m c) (i 0) (i 1) (i 2)

theorem tlt (t : Fin cfg0.N) : t.val < 128 := t.isLt

theorem index0 : ∀ t : Fin cfg0.N, win0_0.index t = ![t.val / 16, t.val % 16 + 1, 0] := (by decide +kernel : ∀ t : Fin grid0.N, win0_0.index t = ![t.val / 16, t.val % 16 + 1, 0])
theorem index1 : ∀ t : Fin cfg0.N, win0_1.index t = ![t.val / 16, t.val % 16 + 1, 0] := (by decide +kernel : ∀ t : Fin grid0.N, win0_1.index t = ![t.val / 16, t.val % 16 + 1, 0])
theorem index2 : ∀ t : Fin cfg0.N, win0_2.index t = ![t.val / 16, t.val % 16 + 1, 0] := (by decide +kernel : ∀ t : Fin grid0.N, win0_2.index t = ![t.val / 16, t.val % 16 + 1, 0])
theorem index3 : ∀ t : Fin cfg0.N, win0_3.index t = ![t.val / 16, t.val % 16 + 1, 0] := (by decide +kernel : ∀ t : Fin grid0.N, win0_3.index t = ![t.val / 16, t.val % 16 + 1, 0])
theorem index4 : ∀ t : Fin cfg0.N, win0_4.index t = ![t.val / 16, 1, 0, 0] := (by decide +kernel : ∀ t : Fin grid0.N, win0_4.index t = ![t.val / 16, 1, 0, 0])
theorem index5 : ∀ t : Fin cfg0.N, win0_5.index t = ![0, 0] := (by decide +kernel : ∀ t : Fin grid0.N, win0_5.index t = ![0, 0])
theorem index6 : ∀ t : Fin cfg0.N, win0_6.index t = ![t.val / 16, t.val % 16, 0] := (by decide +kernel : ∀ t : Fin grid0.N, win0_6.index t = ![t.val / 16, t.val % 16, 0])

/-- The batch row and the first token of a block. -/
abbrev bt (t : Fin cfg0.N) : Fin 8 := ⟨t.val / 16, by have := tlt t; omega⟩
abbrev tok (t : Fin cfg0.N) (r : Fin 256) : Fin 4352 := ⟨256 + (256 * (t.val % 16) + r.val), by have := tlt t; omega⟩
abbrev row (t : Fin cfg0.N) (r : Fin 256) : Fin 4096 := ⟨256 * (t.val % 16) + r.val, by have := tlt t; omega⟩

theorem iblk0 (t : Fin cfg0.N) (r : Fin 256) (d : Fin 2048) : (iblk m c 0 t : Vec Ideal S1x256x2048 .f32) (ix3 0 r d) = aX m c (ix3 (bt t) (tok t r) d) := by
  refine Eq.trans (congrArg (V m c main_arg0 : Vec Ideal S8x4352x2048 .f32) (funext fun (x : Fin 3) => Fin.ext ?_ : ((cfg0.win 0).blk t).view.emb (ix3 0 r d : S1x256x2048.Idx) = (ix3 (bt t) (tok t r) d : S8x4352x2048.Idx))) (congrFun (V_main_arg0 m c) _)
  refine ((cfg0.win 0).rect_emb_val t (ix3 0 r d : S1x256x2048.Idx) x).trans ?_
  rw [show (cfg0.win 0).index t = _ from index0 t]
  match x with
  | 0 => show t.val / 16 * 1 + 0 = t.val / 16; omega
  | 1 => show (t.val % 16 + 1) * 256 + r.val = 256 + (256 * (t.val % 16) + r.val); omega
  | 2 => show 0 * 2048 + d.val = d.val; omega

theorem iblk1 (t : Fin cfg0.N) (r : Fin 256) (d : Fin 2048) : (iblk m c 1 t : Vec Ideal S1x256x2048 .bf16) (ix3 0 r d) = aY1 m c (ix3 (bt t) (tok t r) d) := by
  refine Eq.trans (congrArg (V m c main_arg1 : Vec Ideal S8x4352x2048 .bf16) (funext fun (x : Fin 3) => Fin.ext ?_ : ((cfg0.win 1).blk t).view.emb (ix3 0 r d : S1x256x2048.Idx) = (ix3 (bt t) (tok t r) d : S8x4352x2048.Idx))) (congrFun (V_main_arg1 m c) _)
  refine ((cfg0.win 1).rect_emb_val t (ix3 0 r d : S1x256x2048.Idx) x).trans ?_
  rw [show (cfg0.win 1).index t = _ from index1 t]
  match x with
  | 0 => show t.val / 16 * 1 + 0 = t.val / 16; omega
  | 1 => show (t.val % 16 + 1) * 256 + r.val = 256 + (256 * (t.val % 16) + r.val); omega
  | 2 => show 0 * 2048 + d.val = d.val; omega

theorem iblk2 (t : Fin cfg0.N) (r : Fin 256) (d : Fin 2048) : (iblk m c 2 t : Vec Ideal S1x256x2048 .bf16) (ix3 0 r d) = aY2 m c (ix3 (bt t) (tok t r) d) := by
  refine Eq.trans (congrArg (V m c main_arg2 : Vec Ideal S8x4352x2048 .bf16) (funext fun (x : Fin 3) => Fin.ext ?_ : ((cfg0.win 2).blk t).view.emb (ix3 0 r d : S1x256x2048.Idx) = (ix3 (bt t) (tok t r) d : S8x4352x2048.Idx))) (congrFun (V_main_arg2 m c) _)
  refine ((cfg0.win 2).rect_emb_val t (ix3 0 r d : S1x256x2048.Idx) x).trans ?_
  rw [show (cfg0.win 2).index t = _ from index2 t]
  match x with
  | 0 => show t.val / 16 * 1 + 0 = t.val / 16; omega
  | 1 => show (t.val % 16 + 1) * 256 + r.val = 256 + (256 * (t.val % 16) + r.val); omega
  | 2 => show 0 * 2048 + d.val = d.val; omega

theorem iblk3 (t : Fin cfg0.N) (r : Fin 256) (k : Fin 2) : (iblk m c 3 t : Vec Ideal S1x256x2 .f32) (ix3 0 r k) = aG m c (ix3 (bt t) (tok t r) k) := by
  refine Eq.trans (congrArg (V m c main_arg3 : Vec Ideal S8x4352x2 .f32) (funext fun (x : Fin 3) => Fin.ext ?_ : ((cfg0.win 3).blk t).view.emb (ix3 0 r k : S1x256x2.Idx) = (ix3 (bt t) (tok t r) k : S8x4352x2.Idx))) (congrFun (V_main_arg3 m c) _)
  refine ((cfg0.win 3).rect_emb_val t (ix3 0 r k : S1x256x2.Idx) x).trans ?_
  rw [show (cfg0.win 3).index t = _ from index3 t]
  match x with
  | 0 => show t.val / 16 * 1 + 0 = t.val / 16; omega
  | 1 => show (t.val % 16 + 1) * 256 + r.val = 256 + (256 * (t.val % 16) + r.val); omega
  | 2 => show 0 * 2 + k.val = k.val; omega

theorem iblk4 (t : Fin cfg0.N) (k : Fin 6) (d : Fin 2048) : (iblk m c 4 t : Vec Ideal S1x1x6x2048 .f32) (ix4 0 0 k d) = aM m c (ix4 (bt t) 1 k d) := by
  refine Eq.trans (congrArg (V m c main_arg4 : Vec Ideal S8x2x6x2048 .f32) (funext fun (x : Fin 4) => Fin.ext ?_ : ((cfg0.win 4).blk t).view.emb (ix4 0 0 k d : S1x1x6x2048.Idx) = (ix4 (bt t) 1 k d : S8x2x6x2048.Idx))) (congrFun (V_main_arg4 m c) _)
  refine ((cfg0.win 4).rect_emb_val t (ix4 0 0 k d : S1x1x6x2048.Idx) x).trans ?_
  rw [show (cfg0.win 4).index t = _ from index4 t]
  match x with
  | 0 => show t.val / 16 * 1 + 0 = t.val / 16; omega
  | 1 => rfl
  | 2 => show 0 * 6 + k.val = k.val; omega
  | 3 => show 0 * 2048 + d.val = d.val; omega

/-- The gain reaches the kernel as one row. -/
theorem V_gain (d : Fin 2048) : (V m c main_v0 : Vec Ideal S1x2048 .f32) (ix2 0 d) = aN m c (ix1 d) := by
  have h : (V m c main_v0 : Vec Ideal S1x2048 .f32) = shapeCast (α := Ideal .f32) S1x2048 (aN m c) shapeCasts_S2048_S1x2048 := by
    simp only [V, hostOps0, StableHlo.after, List.foldl_cons, List.foldl_nil]
    rfl
  rw [h]
  pointwise []

theorem emb5 (t : Fin cfg0.N) (d : Fin 2048) : (((cfg0.win 5).blk t).view.emb (ix2 0 d : S1x2048.Idx) : S1x2048.Idx) = ix2 0 d := by
  refine funext fun (x : Fin 2) => Fin.ext ?_
  refine ((cfg0.win 5).rect_emb_val t (ix2 0 d : S1x2048.Idx) x).trans ?_
  rw [show (cfg0.win 5).index t = _ from index5 t]
  match x with
  | 0 => rfl
  | 1 => show 0 * 2048 + d.val = d.val; omega

theorem iblk5 (t : Fin cfg0.N) (d : Fin 2048) : (iblk m c 5 t : Vec Ideal S1x2048 .f32) (ix2 0 d) = aN m c (ix1 d) :=
  (congrArg (V m c main_v0 : Vec Ideal S1x2048 .f32) (emb5 t d)).trans (V_gain m c d)

theorem emb6 (t : Fin cfg0.N) (r : Fin 256) (d : Fin 2048) : (((cfg0.win 6).blk t).view.emb (ix3 0 r d : S1x256x2048.Idx) : S8x4096x2048.Idx) = ix3 (bt t) (row t r) d := by
  refine funext fun (x : Fin 3) => Fin.ext ?_
  refine ((cfg0.win 6).rect_emb_val t (ix3 0 r d : S1x256x2048.Idx) x).trans ?_
  rw [show (cfg0.win 6).index t = _ from index6 t]
  match x with
  | 0 => show t.val / 16 * 1 + 0 = t.val / 16; omega
  | 1 => show t.val % 16 * 256 + r.val = 256 * (t.val % 16) + r.val; omega
  | 2 => show 0 * 2048 + d.val = d.val; omega

/-- One token of a block. -/
theorem pay_apply (P0 : Vec Ideal S1x256x2048 .f32) (P1 : Vec Ideal S1x1x6x2048 .f32) (P2 : Vec Ideal S1x256x2 .f32) (P3 P4 : Vec Ideal S1x256x2048 .bf16) (P5 : Vec Ideal S1x2048 .f32)
    (r : Fin 256) (d : Fin 2048) : k0_pay1 (k0_pay2 P0 P2 P3 P4 P1 P5) (ix3 0 r d)
      = rms (fun x => P0 (ix3 0 r x) + P1 (ix4 0 0 5 x) * (P2 (ix3 0 r 0) * P3 (ix3 0 r x) + P2 (ix3 0 r 1) * P4 (ix3 0 r x))) d * P5 (ix2 0 d) := by
  pointwise [k0_pay1, k0_pay2, rms]

theorem out_eq (x0 : Vec Ideal S1x256x2048 .f32) (x1 x2 : Vec Ideal S1x256x2048 .bf16) (x3 : Vec Ideal S1x256x2 .f32) (x4 : Vec Ideal S1x1x6x2048 .f32) (x5 : Vec Ideal S1x2048 .f32) :
    out0_6 x0 x1 x2 x3 x4 x5 = k0_pay1 (k0_pay2 x0 x3 x1 x2 x4 x5) := by
  unfold out0_6
  rw [View.canon_unit_zero (by decide), View.ld_unit_zero (by decide), View.ld_unit_zero (by decide), View.ld_unit_zero (by decide), View.ld_unit_zero (by decide),
    View.ld_unit_zero (by decide), View.ld_unit_zero (by decide)]

/-- The kernel's result array. -/
theorem final6 : (dats m 0 c).arrAt 6 cfg0.N = res m c := by
  refine (dats m 0 c).arrAt_eq_of_emb 6 (res m c) (fun t hf (y : S1x256x2048.Idx) => ?_) (fun (i : S8x4096x2048.Idx) => ?_)
  · obtain ⟨z, r, d, rfl⟩ : ∃ (z : Fin 1) (r : Fin 256) (d : Fin 2048), y = ix3 z r d := ⟨y 0, y 1, y 2, eq_ix3 y⟩
    obtain rfl : z = 0 := Subsingleton.elim _ _
    refine Eq.trans ?_ (congrArg (res m c) (emb6 t r d)).symm
    show (dats m 0 c).after 6 t (ix3 0 r d : S1x256x2048.Idx) = _
    rw [after0_6]
    refine (congrFun (out_eq _ _ _ _ _ _) _).trans ((pay_apply _ _ _ _ _ _ r d).trans ?_)
    rw [iblk5]
    refine congrArg (fun q => rms q d * aN m c (ix1 d)) (funext fun x => ?_)
    rw [iblk0, iblk1, iblk2, iblk3, iblk3, iblk4]
    rfl
  · obtain ⟨b, s, d, rfl⟩ : ∃ (b : Fin 8) (s : Fin 4096) (d : Fin 2048), i = ix3 b s d := ⟨i 0, i 1, i 2, eq_ix3 i⟩
    have ht : 16 * b.val + s.val / 256 < 128 := by omega
    refine ⟨(⟨16 * b.val + s.val / 256, ht⟩ : Fin 128), flush0_6 _, ?_⟩
    have he := emb6 (⟨16 * b.val + s.val / 256, ht⟩ : Fin 128) ⟨s.val % 256, by omega⟩ d
    have hi : (ix3 b s d : S8x4096x2048.Idx) = ix3 (bt (⟨16 * b.val + s.val / 256, ht⟩ : Fin 128)) (row (⟨16 * b.val + s.val / 256, ht⟩ : Fin 128) ⟨s.val % 256, by omega⟩) d :=
      congrArg₂ (fun p q => (ix3 p q d : S8x4096x2048.Idx)) (Fin.ext (by show b.val = (16 * b.val + s.val / 256) / 16; omega))
        (Fin.ext (by show s.val = 256 * ((16 * b.val + s.val / 256) % 16) + s.val % 256; omega))
    rw [hi, ← he]
    exact View.emb_mem_set _ _

/-- The run: the result array holds the formula, the arguments and the semaphores are as they were. -/
theorem run (g : Dev nD → PrngReg) : θ_run defs (onTc (τ := τ) (main (F := Ideal))) ⟨m, fun _ => 0, g⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2⟩) (Cert.FinalKernelIdeal.Value.run_blocks m g)

end Cert.FinalKernelIdeal.Stream

end
-- ==== Proof.Stream.FinalRef.lean ====
/- The reference of the last layer's norm at exact arithmetic, entry by entry. -/
module

public import proofs.«01_k».proof.Proof.Gen.FinalReferenceIdeal.Run
public import proofs.«01_k».proof.Proof.Stream.Formula
public import Idealize.ShloMosaic.Lib.Quiescent

@[expose] public section

set_option maxRecDepth 16384
set_option maxHeartbeats 4000000

noncomputable section

namespace Cert.FinalReferenceIdeal.Stream

open Cert.FinalReferenceIdeal Cert.FinalReferenceIdeal.Gen Cert.Stream Idealize.ShloMosaic Idealize.ShloMosaic.TcCoe Idealize.SL.Sem

variable (X : Vec Ideal S8x4352x2048 .f32) (Y1 Y2 : Vec Ideal S8x4352x2048 .bf16) (Gt : Vec Ideal S8x4352x2 .f32) (M : Vec Ideal S8x2x6x2048 .f32) (g : Vec Ideal S2048 .f32)
/-- The latent tokens with the expert outputs added. -/
def lat : FVec Ideal S8x4096x2048 .f32 :=
  addf (extractStridedSlice (α := Ideal .f32) S8x4096x2048 ![0, 256, 0] X slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 5, 0] M slices_S8x2x6x2048_S8x1x1x2048_0_1_5_0) shapeCasts_S8x1x1x2048_S8x2048)))
      (extractStridedSlice (α := Ideal .f32) S8x4096x2048 ![0, 256, 0] (addf (mulf (broadcastInDim S8x4352x2048 ![0, 1, 2] bcast_S8x4352x1_S8x4352x2048_0_1_2 (extractStridedSlice (α := Ideal .f32) S8x4352x1 ![0, 0, 0] Gt slices_S8x4352x2_S8x4352x1_0_0_0)) (extf .f32 (φ := .bf16) Y1 bitsLt_bf16_f32))
        (mulf (broadcastInDim S8x4352x2048 ![0, 1, 2] bcast_S8x4352x1_S8x4352x2048_0_1_2 (extractStridedSlice (α := Ideal .f32) S8x4352x1 ![0, 0, 1] Gt slices_S8x4352x2_S8x4352x1_0_0_1)) (extf .f32 (φ := .bf16) Y2 bitsLt_bf16_f32))) slices_S8x4352x2048_S8x4096x2048_0_256_0))
/-- Their root-mean-square norm, times the gain. -/
def out : FVec Ideal S8x4096x2048 .f32 :=
  mulf (mulf (lat X Y1 Y2 Gt M) (broadcastInDim S8x4096x2048 ![0, 1, 2] bcast_S8x4096x1_S8x4096x2048_0_1_2 (Host.rsqrt (addf (Host.divf (broadcastInDim S8x4096x1 ![0, 1] bcast_S8x4096_S8x4096x1_0_1
      (Host.reduceAdd (mulf (lat X Y1 Y2 Gt M) (lat X Y1 Y2 Gt M)) (constant S_ .f32 0x00000000#32) reducesTo_S8x4096x2048_S8x4096_d2 h_S_)) (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g))
/-- An entry of the latent tokens. -/
theorem lat_apply (b : Fin 8) (s : Fin 4096) (d : Fin 2048) : lat X Y1 Y2 Gt M (ix3 b s d) = mix X Y1 Y2 Gt M 1 b ⟨256 + s.val, by omega⟩ d := by
  pointwise [lat, mix]

/-- An entry of the result. -/
theorem out_apply (b : Fin 8) (s : Fin 4096) (d : Fin 2048) : out X Y1 Y2 Gt M g (ix3 b s d) = rms (mix X Y1 Y2 Gt M 1 b ⟨256 + s.val, by omega⟩) d * g (ix1 d) := by
  pointwise [out, lat_apply, rms]

/-- Every execution of the reference ends, its result this, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v29) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨h, sem_eq_zero_of_no_sems (by decide) _⟩) (Value.run m ρ)

end Cert.FinalReferenceIdeal.Stream

end
-- ==== Proof.Stream.Even.lean ====
/- An even layer's input projection at exact arithmetic: the kernel's result arrays, entry by entry. -/
module

public import proofs.«01_k».proof.Proof.Gen.EvenKernelIdeal.Value
public import proofs.«01_k».proof.Proof.Stream.Formula
public import Idealize.ShloMosaic.Lib.Pipeline.ValueKit.Geometry

@[expose] public section

set_option maxRecDepth 16384
set_option maxHeartbeats 4000000

noncomputable section

namespace Cert.EvenKernelIdeal.Stream

open Cert.EvenKernelIdeal Cert.EvenKernelIdeal.Gen Cert.Stream Idealize.ShloMosaic Idealize.ShloMosaic.TcCoe

variable (m : (ℓ : Loc nD τ sig) → Buf (Elt Ideal) ℓ) (c : Dev nD)

/-- The arguments of device `c`. -/
abbrev aX : Vec Ideal S8x4352x2048 .f32 := m ((c : Thread nD τ).loc main_arg0)
abbrev aY1 : Vec Ideal S8x4352x2048 .bf16 := m ((c : Thread nD τ).loc main_arg1)
abbrev aY2 : Vec Ideal S8x4352x2048 .bf16 := m ((c : Thread nD τ).loc main_arg2)
abbrev aG : Vec Ideal S8x4352x2 .f32 := m ((c : Thread nD τ).loc main_arg3)
abbrev aM : Vec Ideal S8x2x6x2048 .f32 := m ((c : Thread nD τ).loc main_arg4)
abbrev aN : Vec Ideal S8x2x6x2048 .f32 := m ((c : Thread nD τ).loc main_arg5)
abbrev aR : Vec Ideal S2048 .f32 := m ((c : Thread nD τ).loc main_arg6)
abbrev aW : Vec Ideal S2048x5504 .f32 := m ((c : Thread nD τ).loc main_arg7)

/-- The stream with the expert outputs added, at one token. -/
abbrev mixE (b : Fin 8) (s : Fin 4352) (d : Fin 2048) : EReal := mix (aX m c) (aY1 m c) (aY2 m c) (aG m c) (aM m c) (part s) b s d

/-- The two results. -/
def res1 : Vec Ideal S8x4352x2048 .f32 := fun i => mixE m c (i 0) (i 1) (i 2)
def res2 : Vec Ideal S8x4352x5504 .f32 := fun i => ∑ k : Fin 2048, modded (mixE m c (i 0) (i 1)) (aR m c) (aN m c) (part (i 1)) (i 0) k * aW m c (ix2 k (i 2))

theorem tlt (t : Fin cfg0.N) : t.val < 136 := t.isLt

/-- The batch row, the part of the sequence and the tokens of a block. -/
abbrev bt (t : Fin cfg0.N) : Fin 8 := ⟨t.val / 17, by have := tlt t; omega⟩
abbrev pt (t : Fin cfg0.N) : Fin 2 := if t.val % 17 < 1 then 0 else 1
abbrev tok (t : Fin cfg0.N) (r : Fin 256) : Fin 4352 := ⟨256 * (t.val % 17) + r.val, by have := tlt t; omega⟩

theorem part_tok (t : Fin cfg0.N) (r : Fin 256) : part (tok t r) = pt t := by
  unfold part
  by_cases h : t.val % 17 < 1
  · rw [if_pos (by show 256 * (t.val % 17) + r.val < 256; omega), pt, if_pos h]
  · rw [if_neg (by show ¬ 256 * (t.val % 17) + r.val < 256; omega), pt, if_neg h]

theorem index0 : ∀ t : Fin cfg0.N, win0_0.index t = ![t.val / 17, t.val % 17, 0] := (by decide +kernel : ∀ t : Fin grid0.N, win0_0.index t = ![t.val / 17, t.val % 17, 0])
theorem emb0 (t : Fin cfg0.N) (r : Fin 256) (d : Fin 2048) : (((cfg0.win 0).blk t).view.emb (ix3 0 r d : S1x256x2048.Idx) : S8x4352x2048.Idx) = ix3 (bt t) (tok t r) d := by
  refine funext fun (x : Fin 3) => Fin.ext ?_
  refine ((cfg0.win 0).rect_emb_val t (ix3 0 r d : S1x256x2048.Idx) x).trans ?_
  rw [show (cfg0.win 0).index t = _ from index0 t]
  match x with
  | 0 => show t.val / 17 * 1 + 0 = t.val / 17; omega
  | 1 => show t.val % 17 * 256 + r.val = 256 * (t.val % 17) + r.val; omega
  | 2 => show 0 * 2048 + d.val = d.val; omega
theorem iblk0 (t : Fin cfg0.N) (r : Fin 256) (d : Fin 2048) : (iblk m c 0 t : Vec Ideal S1x256x2048 .f32) (ix3 0 r d) = aX m c (ix3 (bt t) (tok t r) d) :=
  (congrArg (V m c main_arg0 : Vec Ideal S8x4352x2048 .f32) (emb0 t r d)).trans (congrFun (V_main_arg0 m c) _)

theorem index1 : ∀ t : Fin cfg0.N, win0_1.index t = ![t.val / 17, t.val % 17, 0] := (by decide +kernel : ∀ t : Fin grid0.N, win0_1.index t = ![t.val / 17, t.val % 17, 0])
theorem emb1 (t : Fin cfg0.N) (r : Fin 256) (d : Fin 2048) : (((cfg0.win 1).blk t).view.emb (ix3 0 r d : S1x256x2048.Idx) : S8x4352x2048.Idx) = ix3 (bt t) (tok t r) d := by
  refine funext fun (x : Fin 3) => Fin.ext ?_
  refine ((cfg0.win 1).rect_emb_val t (ix3 0 r d : S1x256x2048.Idx) x).trans ?_
  rw [show (cfg0.win 1).index t = _ from index1 t]
  match x with
  | 0 => show t.val / 17 * 1 + 0 = t.val / 17; omega
  | 1 => show t.val % 17 * 256 + r.val = 256 * (t.val % 17) + r.val; omega
  | 2 => show 0 * 2048 + d.val = d.val; omega
theorem iblk1 (t : Fin cfg0.N) (r : Fin 256) (d : Fin 2048) : (iblk m c 1 t : Vec Ideal S1x256x2048 .bf16) (ix3 0 r d) = aY1 m c (ix3 (bt t) (tok t r) d) :=
  (congrArg (V m c main_arg1 : Vec Ideal S8x4352x2048 .bf16) (emb1 t r d)).trans (congrFun (V_main_arg1 m c) _)

theorem index2 : ∀ t : Fin cfg0.N, win0_2.index t = ![t.val / 17, t.val % 17, 0] := (by decide +kernel : ∀ t : Fin grid0.N, win0_2.index t = ![t.val / 17, t.val % 17, 0])
theorem emb2 (t : Fin cfg0.N) (r : Fin 256) (d : Fin 2048) : (((cfg0.win 2).blk t).view.emb (ix3 0 r d : S1x256x2048.Idx) : S8x4352x2048.Idx) = ix3 (bt t) (tok t r) d := by
  refine funext fun (x : Fin 3) => Fin.ext ?_
  refine ((cfg0.win 2).rect_emb_val t (ix3 0 r d : S1x256x2048.Idx) x).trans ?_
  rw [show (cfg0.win 2).index t = _ from index2 t]
  match x with
  | 0 => show t.val / 17 * 1 + 0 = t.val / 17; omega
  | 1 => show t.val % 17 * 256 + r.val = 256 * (t.val % 17) + r.val; omega
  | 2 => show 0 * 2048 + d.val = d.val; omega
theorem iblk2 (t : Fin cfg0.N) (r : Fin 256) (d : Fin 2048) : (iblk m c 2 t : Vec Ideal S1x256x2048 .bf16) (ix3 0 r d) = aY2 m c (ix3 (bt t) (tok t r) d) :=
  (congrArg (V m c main_arg2 : Vec Ideal S8x4352x2048 .bf16) (emb2 t r d)).trans (congrFun (V_main_arg2 m c) _)

theorem index3 : ∀ t : Fin cfg0.N, win0_3.index t = ![t.val / 17, t.val % 17, 0] := (by decide +kernel : ∀ t : Fin grid0.N, win0_3.index t = ![t.val / 17, t.val % 17, 0])
theorem emb3 (t : Fin cfg0.N) (r : Fin 256) (d : Fin 2) : (((cfg0.win 3).blk t).view.emb (ix3 0 r d : S1x256x2.Idx) : S8x4352x2.Idx) = ix3 (bt t) (tok t r) d := by
  refine funext fun (x : Fin 3) => Fin.ext ?_
  refine ((cfg0.win 3).rect_emb_val t (ix3 0 r d : S1x256x2.Idx) x).trans ?_
  rw [show (cfg0.win 3).index t = _ from index3 t]
  match x with
  | 0 => show t.val / 17 * 1 + 0 = t.val / 17; omega
  | 1 => show t.val % 17 * 256 + r.val = 256 * (t.val % 17) + r.val; omega
  | 2 => show 0 * 2 + d.val = d.val; omega
theorem iblk3 (t : Fin cfg0.N) (r : Fin 256) (d : Fin 2) : (iblk m c 3 t : Vec Ideal S1x256x2 .f32) (ix3 0 r d) = aG m c (ix3 (bt t) (tok t r) d) :=
  (congrArg (V m c main_arg3 : Vec Ideal S8x4352x2 .f32) (emb3 t r d)).trans (congrFun (V_main_arg3 m c) _)

theorem index4 : ∀ t : Fin cfg0.N, win0_4.index t = ![t.val / 17, if t.val % 17 < 1 then 0 else 1, 0, 0] := (by decide +kernel : ∀ t : Fin grid0.N, win0_4.index t = ![t.val / 17, if t.val % 17 < 1 then 0 else 1, 0, 0])
theorem iblk4 (t : Fin cfg0.N) (k : Fin 6) (d : Fin 2048) : (iblk m c 4 t : Vec Ideal S1x1x6x2048 .f32) (ix4 0 0 k d) = aM m c (ix4 (bt t) (pt t) k d) := by
  refine Eq.trans (congrArg (V m c main_arg4 : Vec Ideal S8x2x6x2048 .f32) (funext fun (x : Fin 4) => Fin.ext ?_ : ((cfg0.win 4).blk t).view.emb (ix4 0 0 k d : S1x1x6x2048.Idx) = (ix4 (bt t) (pt t) k d : S8x2x6x2048.Idx))) (congrFun (V_main_arg4 m c) _)
  refine ((cfg0.win 4).rect_emb_val t (ix4 0 0 k d : S1x1x6x2048.Idx) x).trans ?_
  rw [show (cfg0.win 4).index t = _ from index4 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

theorem index5 : ∀ t : Fin cfg0.N, win0_5.index t = ![t.val / 17, if t.val % 17 < 1 then 0 else 1, 0, 0] := (by decide +kernel : ∀ t : Fin grid0.N, win0_5.index t = ![t.val / 17, if t.val % 17 < 1 then 0 else 1, 0, 0])
theorem iblk5 (t : Fin cfg0.N) (k : Fin 6) (d : Fin 2048) : (iblk m c 5 t : Vec Ideal S1x1x6x2048 .f32) (ix4 0 0 k d) = aN m c (ix4 (bt t) (pt t) k d) := by
  refine Eq.trans (congrArg (V m c main_arg5 : Vec Ideal S8x2x6x2048 .f32) (funext fun (x : Fin 4) => Fin.ext ?_ : ((cfg0.win 5).blk t).view.emb (ix4 0 0 k d : S1x1x6x2048.Idx) = (ix4 (bt t) (pt t) k d : S8x2x6x2048.Idx))) (congrFun (V_main_arg5 m c) _)
  refine ((cfg0.win 5).rect_emb_val t (ix4 0 0 k d : S1x1x6x2048.Idx) x).trans ?_
  rw [show (cfg0.win 5).index t = _ from index5 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

/-- The gain reaches the kernel as one row. -/
theorem V_main_v1 (k : Fin 1) (d : Fin 2048) : (V m c main_v1 : Vec Ideal S1x2048 .f32) (ix2 k d) = aR m c (ix1 d) := by
  obtain rfl : k = 0 := Subsingleton.elim _ _
  have h : (V m c main_v1 : Vec Ideal S1x2048 .f32) = shapeCast (α := Ideal .f32) S1x2048 (aR m c) shapeCasts_S2048_S1x2048 := by
    simp only [V, hostOps0, StableHlo.after, List.foldl_cons, List.foldl_nil]
    rfl
  rw [h]
  pointwise []

/-- The matrix reaches the kernel narrowed, which at exact arithmetic changes nothing. -/
theorem V_main_v0 (k : Fin 2048) (d : Fin 5504) : (V m c main_v0 : Vec Ideal S2048x5504 .bf16) (ix2 k d) = aW m c (ix2 k d) := by
  have h : (V m c main_v0 : Vec Ideal S2048x5504 .bf16) = (truncf .bf16 (aW m c : FVec Ideal S2048x5504 .f32) bitsLt_bf16_f32 : FVec Ideal S2048x5504 .bf16) := by
    simp only [V, hostOps0, StableHlo.after, List.foldl_cons, List.foldl_nil]
    rfl
  rw [h]
  pointwise []

theorem index6 : ∀ t : Fin cfg0.N, win0_6.index t = ![0, 0] := (by decide +kernel : ∀ t : Fin grid0.N, win0_6.index t = ![0, 0])
theorem iblk6 (t : Fin cfg0.N) (k : Fin 1) (d : Fin 2048) : (iblk m c 6 t : Vec Ideal S1x2048 .f32) (ix2 k d) = aR m c (ix1 d) := by
  refine Eq.trans (congrArg (V m c main_v1 : Vec Ideal S1x2048 .f32) (funext fun (x : Fin 2) => Fin.ext ?_ : ((cfg0.win 6).blk t).view.emb (ix2 k d : S1x2048.Idx) = (ix2 k d : S1x2048.Idx))) (V_main_v1 m c k d)
  refine ((cfg0.win 6).rect_emb_val t (ix2 k d : S1x2048.Idx) x).trans ?_
  rw [show (cfg0.win 6).index t = _ from index6 t]
  match x with
  | 0 => show 0 * 1 + k.val = k.val; omega
  | 1 => show 0 * 2048 + d.val = d.val; omega

theorem index7 : ∀ t : Fin cfg0.N, win0_7.index t = ![0, 0] := (by decide +kernel : ∀ t : Fin grid0.N, win0_7.index t = ![0, 0])
theorem iblk7 (t : Fin cfg0.N) (k : Fin 2048) (d : Fin 5504) : (iblk m c 7 t : Vec Ideal S2048x5504 .bf16) (ix2 k d) = aW m c (ix2 k d) := by
  refine Eq.trans (congrArg (V m c main_v0 : Vec Ideal S2048x5504 .bf16) (funext fun (x : Fin 2) => Fin.ext ?_ : ((cfg0.win 7).blk t).view.emb (ix2 k d : S2048x5504.Idx) = (ix2 k d : S2048x5504.Idx))) (V_main_v0 m c k d)
  refine ((cfg0.win 7).rect_emb_val t (ix2 k d : S2048x5504.Idx) x).trans ?_
  rw [show (cfg0.win 7).index t = _ from index7 t]
  match x with
  | 0 => show 0 * 2048 + k.val = k.val; omega
  | 1 => show 0 * 5504 + d.val = d.val; omega

theorem index8 : ∀ t : Fin cfg0.N, win0_8.index t = ![t.val / 17, t.val % 17, 0] := (by decide +kernel : ∀ t : Fin grid0.N, win0_8.index t = ![t.val / 17, t.val % 17, 0])
theorem emb8 (t : Fin cfg0.N) (r : Fin 256) (d : Fin 2048) : (((cfg0.win 8).blk t).view.emb (ix3 0 r d : S1x256x2048.Idx) : S8x4352x2048.Idx) = ix3 (bt t) (tok t r) d := by
  refine funext fun (x : Fin 3) => Fin.ext ?_
  refine ((cfg0.win 8).rect_emb_val t (ix3 0 r d : S1x256x2048.Idx) x).trans ?_
  rw [show (cfg0.win 8).index t = _ from index8 t]
  match x with
  | 0 => show t.val / 17 * 1 + 0 = t.val / 17; omega
  | 1 => show t.val % 17 * 256 + r.val = 256 * (t.val % 17) + r.val; omega
  | 2 => show 0 * 2048 + d.val = d.val; omega
theorem index9 : ∀ t : Fin cfg0.N, win0_9.index t = ![t.val / 17, t.val % 17, 0] := (by decide +kernel : ∀ t : Fin grid0.N, win0_9.index t = ![t.val / 17, t.val % 17, 0])
theorem emb9 (t : Fin cfg0.N) (r : Fin 256) (d : Fin 5504) : (((cfg0.win 9).blk t).view.emb (ix3 0 r d : S1x256x5504.Idx) : S8x4352x5504.Idx) = ix3 (bt t) (tok t r) d := by
  refine funext fun (x : Fin 3) => Fin.ext ?_
  refine ((cfg0.win 9).rect_emb_val t (ix3 0 r d : S1x256x5504.Idx) x).trans ?_
  rw [show (cfg0.win 9).index t = _ from index9 t]
  match x with
  | 0 => show t.val / 17 * 1 + 0 = t.val / 17; omega
  | 1 => show t.val % 17 * 256 + r.val = 256 * (t.val % 17) + r.val; omega
  | 2 => show 0 * 5504 + d.val = d.val; omega
/-- One token of a block: the stream, its modulated norm, and the projection. -/
def tokB (P0 : Vec Ideal S1x256x2048 .f32) (P1 P2 : Vec Ideal S1x256x2048 .bf16) (P3 : Vec Ideal S1x256x2 .f32) (P4 : Vec Ideal S1x1x6x2048 .f32) (r : Fin 256) (x : Fin 2048) : EReal :=
  P0 (ix3 0 r x) + P4 (ix4 0 0 5 x) * (P3 (ix3 0 r 0) * P1 (ix3 0 r x) + P3 (ix3 0 r 1) * P2 (ix3 0 r x))

theorem pay3_apply (P0 : Vec Ideal S1x256x2048 .f32) (P1 P2 : Vec Ideal S1x256x2048 .bf16) (P3 : Vec Ideal S1x256x2 .f32) (P4 : Vec Ideal S1x1x6x2048 .f32) (r : Fin 256) (d : Fin 2048) : k0_pay3 P0 P3 P1 P2 P4 (ix3 0 r d) = tokB P0 P1 P2 P3 P4 r d := by
  pointwise [k0_pay3, k0_pay2, tokB]

theorem pay2_apply (P0 : Vec Ideal S1x256x2048 .f32) (P1 P2 : Vec Ideal S1x256x2048 .bf16) (P3 : Vec Ideal S1x256x2 .f32) (P4 : Vec Ideal S1x1x6x2048 .f32) (r : Fin 256) (d : Fin 2048) : k0_pay2 P0 P3 P1 P2 P4 (ix2 r d) = tokB P0 P1 P2 P3 P4 r d := by
  pointwise [k0_pay2, tokB]

theorem pay1_apply (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x5504 .bf16) (r : Fin 256) (n : Fin 5504) :
    k0_pay1 (k0_pay2 P0 P3 P1 P2 P4) (k0_pay5 P6) (k0_pay6 P5) (k0_pay7 P5) P7 (ix3 0 r n)
      = ∑ k : Fin 2048, (rms (tokB P0 P1 P2 P3 P4 r) k * P6 (ix2 0 k) * (Ideal.ofBits FTy.f32 1065353216#32 + P5 (ix4 0 0 1 k)) + P5 (ix4 0 0 0 k)) * P7 (ix2 k n) := by
  pointwise [k0_pay1, k0_pay5, k0_pay6, k0_pay7, k0_pay4, pay2_apply, rms]

theorem out8_eq (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x5504 .bf16) :
    out0_8 P0 P1 P2 P3 P4 P5 P6 P7 = k0_pay3 P0 P3 P1 P2 P4 := by
  unfold out0_8
  rw [View.canon_unit_zero (by decide), View.ld_unit_zero (by decide), View.ld_unit_zero (by decide), View.ld_unit_zero (by decide), View.ld_unit_zero (by decide), View.ld_unit_zero (by decide)]

theorem out9_eq (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x5504 .bf16) :
    out0_9 P0 P1 P2 P3 P4 P5 P6 P7 = k0_pay1 (k0_pay2 P0 P3 P1 P2 P4) (k0_pay5 P6) (k0_pay6 P5) (k0_pay7 P5) P7 := by
  unfold out0_9
  rw [View.canon_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]

theorem cover8 (i : S8x4352x2048.Idx) : ∃ t : Fin cfg0.N, (cfg0.win 8).flush t = true ∧ i ∈ ((cfg0.win 8).blk t).view.set := by
  obtain ⟨b, s, d, rfl⟩ : ∃ (b : Fin 8) (s : Fin 4352) (d : Fin 2048), i = ix3 b s d := ⟨i 0, i 1, i 2, eq_ix3 i⟩
  have ht : 17 * b.val + s.val / 256 < 136 := by omega
  refine ⟨(⟨17 * b.val + s.val / 256, ht⟩ : Fin 136), flush0_8 _, ?_⟩
  have he := emb8 (⟨17 * b.val + s.val / 256, ht⟩ : Fin 136) ⟨s.val % 256, by omega⟩ d
  have hi : (ix3 b s d : S8x4352x2048.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x2048.Idx)) (Fin.ext (by show b.val = (17 * b.val + s.val / 256) / 17; omega))
      (Fin.ext (by show s.val = 256 * ((17 * b.val + s.val / 256) % 17) + s.val % 256; omega))
  rw [hi, ← he]
  exact View.emb_mem_set _ _

theorem cover9 (i : S8x4352x5504.Idx) : ∃ t : Fin cfg0.N, (cfg0.win 9).flush t = true ∧ i ∈ ((cfg0.win 9).blk t).view.set := by
  obtain ⟨b, s, d, rfl⟩ : ∃ (b : Fin 8) (s : Fin 4352) (d : Fin 5504), i = ix3 b s d := ⟨i 0, i 1, i 2, eq_ix3 i⟩
  have ht : 17 * b.val + s.val / 256 < 136 := by omega
  refine ⟨(⟨17 * b.val + s.val / 256, ht⟩ : Fin 136), flush0_9 _, ?_⟩
  have he := emb9 (⟨17 * b.val + s.val / 256, ht⟩ : Fin 136) ⟨s.val % 256, by omega⟩ d
  have hi : (ix3 b s d : S8x4352x5504.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x5504.Idx)) (Fin.ext (by show b.val = (17 * b.val + s.val / 256) / 17; omega))
      (Fin.ext (by show s.val = 256 * ((17 * b.val + s.val / 256) % 17) + s.val % 256; omega))
  rw [hi, ← he]
  exact View.emb_mem_set _ _

/-- A block's token, read from the arguments. -/
theorem mix_blk (t : Fin cfg0.N) (r : Fin 256) (x : Fin 2048) :
    tokB (iblk m c 0 t) (iblk m c 1 t) (iblk m c 2 t) (iblk m c 3 t) (iblk m c 4 t) r x = mixE m c (bt t) (tok t r) x := by
  unfold tokB
  rw [iblk0, iblk1, iblk2, iblk3, iblk3, iblk4, mixE, part_tok]
  rfl

/-- The array the kernel leaves. -/
theorem final8 : (dats m 0 c).arrAt 8 cfg0.N = res1 m c := by
  refine (dats m 0 c).arrAt_eq_of_emb 8 (res1 m c) (fun t hf (y : S1x256x2048.Idx) => ?_) (cover8)
  obtain ⟨z, r, d, rfl⟩ : ∃ (z : Fin 1) (r : Fin 256) (d : Fin 2048), y = ix3 z r d := ⟨y 0, y 1, y 2, eq_ix3 y⟩
  obtain rfl : z = 0 := Subsingleton.elim _ _
  refine Eq.trans ?_ (congrArg (res1 m c) (emb8 t r d)).symm
  show (dats m 0 c).after 8 t (ix3 0 r d : S1x256x2048.Idx) = _
  rw [after0_8]
  refine (congrFun (out8_eq _ _ _ _ _ _ _ _ ) _).trans ((pay3_apply _ _ _ _ _ r d).trans ?_)
  exact mix_blk m c t r d

/-- The array the kernel leaves. -/
theorem final9 : (dats m 0 c).arrAt 9 cfg0.N = res2 m c := by
  refine (dats m 0 c).arrAt_eq_of_emb 9 (res2 m c) (fun t hf (y : S1x256x5504.Idx) => ?_) (cover9)
  obtain ⟨z, r, d, rfl⟩ : ∃ (z : Fin 1) (r : Fin 256) (d : Fin 5504), y = ix3 z r d := ⟨y 0, y 1, y 2, eq_ix3 y⟩
  obtain rfl : z = 0 := Subsingleton.elim _ _
  refine Eq.trans ?_ (congrArg (res2 m c) (emb9 t r d)).symm
  show (dats m 0 c).after 9 t (ix3 0 r d : S1x256x5504.Idx) = _
  rw [after0_9]
  refine (congrFun (out9_eq _ _ _ _ _ _ _ _ ) _).trans ((pay1_apply _ _ _ _ _ _ _ _ r d).trans ?_)
  refine Finset.sum_congr rfl fun k _ => ?_
  rw [iblk5, iblk5, iblk6, iblk7, show tokB _ _ _ _ _ r = mixE m c (bt t) (tok t r) from funext (mix_blk m c t r)]
  show _ = modded (mixE m c (bt t) (tok t r)) (aR m c) (aN m c) (part (tok t r)) (bt t) k * _
  rw [part_tok]
  rfl

/-- The run: the results hold the formulas and the arguments are as they were. -/
theorem run (g : Dev nD → PrngReg) : θ_run defs (onTc (τ := τ) (main (F := Ideal))) ⟨m, fun _ => 0, g⟩ fun r => ∀ c : Dev nD,
      r.2.mem ((c : Thread nD τ).loc main_v2_0) = res1 m c
      ∧ r.2.mem ((c : Thread nD τ).loc main_v2_1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2.1.trans (final9 m c), (h c).2.2⟩) (Cert.EvenKernelIdeal.Value.run_blocks m g)

end Cert.EvenKernelIdeal.Stream

end
-- ==== Proof.Stream.EvenRef.lean ====
/- The reference of an even layer's input projection at exact arithmetic, entry by entry. -/
module

public import proofs.«01_k».proof.Proof.Gen.EvenReferenceIdeal.Run
public import proofs.«01_k».proof.Proof.Stream.Formula
public import Idealize.ShloMosaic.Lib.Quiescent

@[expose] public section

set_option maxRecDepth 16384
set_option maxHeartbeats 4000000

noncomputable section

namespace Cert.EvenReferenceIdeal.Stream

open Cert.EvenReferenceIdeal Cert.EvenReferenceIdeal.Gen Cert.Stream Idealize.ShloMosaic Idealize.ShloMosaic.TcCoe Idealize.SL.Sem

variable (X : Vec Ideal S8x4352x2048 .f32) (Y1 Y2 : Vec Ideal S8x4352x2048 .bf16) (Gt : Vec Ideal S8x4352x2 .f32) (M N : Vec Ideal S8x2x6x2048 .f32) (g : Vec Ideal S2048 .f32) (W : Vec Ideal S2048x5504 .f32)

/-- The two expert outputs of a token, by their gates. -/
def moe : FVec Ideal S8x4352x2048 .f32 :=
  addf (mulf (broadcastInDim S8x4352x2048 ![0, 1, 2] bcast_S8x4352x1_S8x4352x2048_0_1_2 (extractStridedSlice (α := Ideal .f32) S8x4352x1 ![0, 0, 0] Gt slices_S8x4352x2_S8x4352x1_0_0_0)) (extf .f32 (φ := .bf16) Y1 bitsLt_bf16_f32))
    (mulf (broadcastInDim S8x4352x2048 ![0, 1, 2] bcast_S8x4352x1_S8x4352x2048_0_1_2 (extractStridedSlice (α := Ideal .f32) S8x4352x1 ![0, 0, 1] Gt slices_S8x4352x2_S8x4352x1_0_0_1)) (extf .f32 (φ := .bf16) Y2 bitsLt_bf16_f32))
/-- The context tokens with the expert outputs added. -/
def xc : FVec Ideal S8x256x2048 .f32 :=
  addf (extractStridedSlice (α := Ideal .f32) S8x256x2048 ![0, 0, 0] X slices_S8x4352x2048_S8x256x2048_0_0_0)
    (mulf (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 5, 0] M slices_S8x2x6x2048_S8x1x1x2048_0_0_5_0) shapeCasts_S8x1x1x2048_S8x2048)))
      (extractStridedSlice (α := Ideal .f32) S8x256x2048 ![0, 0, 0] (moe Y1 Y2 Gt) slices_S8x4352x2048_S8x256x2048_0_0_0))
/-- Their norm under the modulation. -/
def hc : FVec Ideal S8x256x2048 .f32 :=
  addf (mulf (mulf (mulf (xc X Y1 Y2 Gt M) (broadcastInDim S8x256x2048 ![0, 1, 2] bcast_S8x256x1_S8x256x2048_0_1_2 (Host.rsqrt (addf (Host.divf (broadcastInDim S8x256x1 ![0, 1] bcast_S8x256_S8x256x1_0_1
      (Host.reduceAdd (mulf (xc X Y1 Y2 Gt M) (xc X Y1 Y2 Gt M)) (constant S_ .f32 0x00000000#32) reducesTo_S8x256x2048_S8x256_d2 h_S_)) (broadcastInDim S8x256x1 ![] bcast_S_S8x256x1 (constant S_ .f32 0x45000000#32)))
      (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 g)))
    (broadcastInDim S8x256x2048 ![0, 1, 2] bcast_S8x1x2048_S8x256x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 0, 1, 0] N slices_S8x2x6x2048_S8x1x1x2048_0_0_1_0) shapeCasts_S8x1x1x2048_S8x2048)))))
    (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 0, 0] N slices_S8x2x6x2048_S8x1x1x2048_0_0_0_0) shapeCasts_S8x1x1x2048_S8x2048)))
/-- Their projection. -/
def zc : FVec Ideal S8x256x5504 .f32 :=
  Host.dotGeneral (φ₁ := .f32) (φ₂ := .f32) dot_S8x256x2048_S2048x5504_S8x256x5504_2_0_01_1_n_n none (hc X Y1 Y2 Gt M N g) W
/-- The latent tokens with the expert outputs added. -/
def xl : FVec Ideal S8x4096x2048 .f32 :=
  addf (extractStridedSlice (α := Ideal .f32) S8x4096x2048 ![0, 256, 0] X slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 5, 0] M slices_S8x2x6x2048_S8x1x1x2048_0_1_5_0) shapeCasts_S8x1x1x2048_S8x2048)))
      (extractStridedSlice (α := Ideal .f32) S8x4096x2048 ![0, 256, 0] (moe Y1 Y2 Gt) slices_S8x4352x2048_S8x4096x2048_0_256_0))
/-- Their norm under the modulation. -/
def hl : FVec Ideal S8x4096x2048 .f32 :=
  addf (mulf (mulf (mulf (xl X Y1 Y2 Gt M) (broadcastInDim S8x4096x2048 ![0, 1, 2] bcast_S8x4096x1_S8x4096x2048_0_1_2 (Host.rsqrt (addf (Host.divf (broadcastInDim S8x4096x1 ![0, 1] bcast_S8x4096_S8x4096x1_0_1
      (Host.reduceAdd (mulf (xl X Y1 Y2 Gt M) (xl X Y1 Y2 Gt M)) (constant S_ .f32 0x00000000#32) reducesTo_S8x4096x2048_S8x4096_d2 h_S_)) (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g)))
    (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 1, 1, 0] N slices_S8x2x6x2048_S8x1x1x2048_0_1_1_0) shapeCasts_S8x1x1x2048_S8x2048)))))
    (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 0, 0] N slices_S8x2x6x2048_S8x1x1x2048_0_1_0_0) shapeCasts_S8x1x1x2048_S8x2048)))
/-- Their projection. -/
def zl : FVec Ideal S8x4096x5504 .f32 :=
  Host.dotGeneral (φ₁ := .f32) (φ₂ := .f32) dot_S8x4096x2048_S2048x5504_S8x4096x5504_2_0_01_1_n_n none (hl X Y1 Y2 Gt M N g) W
/-- The two results. -/
def out1 : FVec Ideal S8x4352x2048 .f32 := concatenate (α := Ideal .f32) S8x4352x2048 1 [⟨S8x256x2048, xc X Y1 Y2 Gt M⟩, ⟨S8x4096x2048, xl X Y1 Y2 Gt M⟩] concatenates_S8x256x2048_S8x4096x2048_S8x4352x2048_d1
def out2 : FVec Ideal S8x4352x5504 .f32 := concatenate (α := Ideal .f32) S8x4352x5504 1 [⟨S8x256x5504, zc X Y1 Y2 Gt M N g W⟩, ⟨S8x4096x5504, zl X Y1 Y2 Gt M N g W⟩] concatenates_S8x256x5504_S8x4096x5504_S8x4352x5504_d1

/-- Entries of these. -/
theorem xc_apply (b : Fin 8) (s : Fin 256) (d : Fin 2048) : xc X Y1 Y2 Gt M (ix3 b s d) = mix X Y1 Y2 Gt M 0 b ⟨0 + s.val, by omega⟩ d := by
  pointwise [xc, moe, mix]
theorem hc_apply (b : Fin 8) (s : Fin 256) (d : Fin 2048) : hc X Y1 Y2 Gt M N g (ix3 b s d) = modded (mix X Y1 Y2 Gt M 0 b ⟨0 + s.val, by omega⟩) g N 0 b d := by
  pointwise [hc, xc_apply, rms, modded]
theorem zc_apply (b : Fin 8) (s : Fin 256) (n : Fin 5504) : zc X Y1 Y2 Gt M N g W (ix3 b s n) = ∑ k : Fin 2048, modded (mix X Y1 Y2 Gt M 0 b ⟨0 + s.val, by omega⟩) g N 0 b k * W (ix2 k n) := by
  pointwise [zc, hc_apply]
/-- Entries of these. -/
theorem xl_apply (b : Fin 8) (s : Fin 4096) (d : Fin 2048) : xl X Y1 Y2 Gt M (ix3 b s d) = mix X Y1 Y2 Gt M 1 b ⟨256 + s.val, by omega⟩ d := by
  pointwise [xl, moe, mix]
theorem hl_apply (b : Fin 8) (s : Fin 4096) (d : Fin 2048) : hl X Y1 Y2 Gt M N g (ix3 b s d) = modded (mix X Y1 Y2 Gt M 1 b ⟨256 + s.val, by omega⟩) g N 1 b d := by
  pointwise [hl, xl_apply, rms, modded]
theorem zl_apply (b : Fin 8) (s : Fin 4096) (n : Fin 5504) : zl X Y1 Y2 Gt M N g W (ix3 b s n) = ∑ k : Fin 2048, modded (mix X Y1 Y2 Gt M 1 b ⟨256 + s.val, by omega⟩) g N 1 b k * W (ix2 k n) := by
  pointwise [zl, hl_apply]
/-- Entries of the two results. -/
theorem out1_apply (b : Fin 8) (s : Fin 4352) (d : Fin 2048) : out1 X Y1 Y2 Gt M (ix3 b s d) = mix X Y1 Y2 Gt M (part s) b s d := by
  pointwise [out1, xc_apply, xl_apply]
  unfold part
  split
  · exact congrArg (fun q => mix X Y1 Y2 Gt M 0 b q d) (Fin.ext rfl)
  · exact congrArg (fun q => mix X Y1 Y2 Gt M 1 b q d) (Fin.ext (by show 256 + (s.val - 256) = s.val; omega))
theorem out2_apply (b : Fin 8) (s : Fin 4352) (n : Fin 5504) : out2 X Y1 Y2 Gt M N g W (ix3 b s n) = ∑ k : Fin 2048, modded (mix X Y1 Y2 Gt M (part s) b s) g N (part s) b k * W (ix2 k n) := by
  pointwise [out2, zc_apply, zl_apply]
  unfold part
  split
  · exact congrArg (fun q => ∑ k : Fin 2048, modded (mix X Y1 Y2 Gt M 0 b q) g N 0 b k * W (ix2 k n)) (Fin.ext rfl)
  · exact congrArg (fun q => ∑ k : Fin 2048, modded (mix X Y1 Y2 Gt M 1 b q) g N 1 b k * W (ix2 k n)) (Fin.ext (by show 256 + (s.val - 256) = s.val; omega))

/-- Every execution of the reference ends, its results these, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v77) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v78) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨h, sem_eq_zero_of_no_sems (by decide) _⟩) (Value.run m ρ)

end Cert.EvenReferenceIdeal.Stream

end
-- ==== Proof.Stream.Conv.lean ====
/- The short convolution of an odd layer at exact arithmetic: three taps along a row of tokens. -/
module

public import proofs.«01_k».proof.Proof.Stream.Formula

@[expose] public section

noncomputable section

namespace Cert.Stream

open Idealize.ShloMosaic

/-- A token that begins its row: the context is one row of 256 tokens, the latent grid is 64 rows of 64. -/
abbrev starts (s : ℕ) : Prop := s = 0 ∨ (256 ≤ s ∧ s % 64 = 0)
/-- A token that ends its row. -/
abbrev ends (s : ℕ) : Prop := s = 255 ∨ (256 ≤ s ∧ s % 64 = 63)

/-- The three taps at token `s`: the token before, the token itself and the token after, nothing beyond the row's ends. -/
def conv (U : Fin 4352 → EReal) (w0 w1 w2 : EReal) (s : Fin 4352) : EReal :=
  (if starts s.val then 0 else w0 * U ⟨s.val - 1, by omega⟩) + w1 * U s + (if ends s.val then 0 else w2 * U ⟨(s.val + 1) % 4352, by omega⟩)

/-- Column `n` of the projection of a normed, modulated token. -/
def proj (q : Fin 2048 → EReal) (g : Vec Ideal ⟨1, ![2048]⟩ .f32) (M : Vec Ideal ⟨4, ![8, 2, 6, 2048]⟩ .f32) (W : Vec Ideal ⟨2, ![2048, 6144]⟩ .f32)
    (r : Fin 2) (b : Fin 8) (n : Fin 6144) : EReal :=
  ∑ k : Fin 2048, modded q g M r b k * W (ix2 k n)

/-- The convolution's operand at one token and channel: the product of the projection's second and third parts. -/
def gated (z : Fin 6144 → EReal) (d : Fin 2048) : EReal := z ⟨2048 + d.val, by omega⟩ * z ⟨4096 + d.val, by omega⟩

end Cert.Stream
end
-- ==== Proof.Stream.Odd.lean ====
/- An odd layer's input projection at exact arithmetic: the kernel's result arrays, entry by entry. -/
module

public import proofs.«01_k».proof.Proof.Gen.OddKernelIdeal.Value
public import proofs.«01_k».proof.Proof.Stream.Conv
public import Idealize.ShloMosaic.Lib.Pipeline.ValueKit.Geometry

@[expose] public section

set_option maxRecDepth 16384
set_option maxHeartbeats 4000000

noncomputable section

namespace Cert.OddKernelIdeal.Stream

open Cert.OddKernelIdeal Cert.OddKernelIdeal.Gen Cert.Stream Idealize.ShloMosaic Idealize.ShloMosaic.TcCoe

variable (m : (ℓ : Loc nD τ sig) → Buf (Elt Ideal) ℓ) (c : Dev nD)

/-- The arguments of device `c`. -/
abbrev aX : Vec Ideal S8x4352x2048 .f32 := m ((c : Thread nD τ).loc main_arg0)
abbrev aY1 : Vec Ideal S8x4352x2048 .bf16 := m ((c : Thread nD τ).loc main_arg1)
abbrev aY2 : Vec Ideal S8x4352x2048 .bf16 := m ((c : Thread nD τ).loc main_arg2)
abbrev aG : Vec Ideal S8x4352x2 .f32 := m ((c : Thread nD τ).loc main_arg3)
abbrev aM : Vec Ideal S8x2x6x2048 .f32 := m ((c : Thread nD τ).loc main_arg4)
abbrev aN : Vec Ideal S8x2x6x2048 .f32 := m ((c : Thread nD τ).loc main_arg5)
abbrev aR : Vec Ideal S2048 .f32 := m ((c : Thread nD τ).loc main_arg6)
abbrev aW : Vec Ideal S2048x6144 .f32 := m ((c : Thread nD τ).loc main_arg7)
abbrev aT : Vec Ideal S3x2048 .f32 := m ((c : Thread nD τ).loc main_arg8)

/-- The stream with the expert outputs added, at one token. -/
abbrev mixE (b : Fin 8) (s : Fin 4352) (d : Fin 2048) : EReal := mix (aX m c) (aY1 m c) (aY2 m c) (aG m c) (aM m c) (part s) b s d

/-- Its projection. -/
abbrev projE (b : Fin 8) (s : Fin 4352) (n : Fin 6144) : EReal := proj (mixE m c b s) (aR m c) (aN m c) (aW m c) (part s) b n

/-- The two results. -/
def res1 : Vec Ideal S8x4352x2048 .f32 := fun i => mixE m c (i 0) (i 1) (i 2)
def val2 (b : Fin 8) (s : Fin 4352) (d : Fin 2048) : EReal :=
  projE m c b s ⟨d.val, by omega⟩ * conv (fun q => gated (projE m c b q) d) (aT m c (ix2 0 d)) (aT m c (ix2 1 d)) (aT m c (ix2 2 d)) s
def res2 : Vec Ideal S8x4352x2048 .bf16 := fun i => val2 m c (i 0) (i 1) (i 2)

theorem tlt (t : Fin cfg0.N) : t.val < 136 := t.isLt

/-- The batch row, the part of the sequence and the tokens of a block. -/
abbrev bt (t : Fin cfg0.N) : Fin 8 := ⟨t.val / 17, by have := tlt t; omega⟩
abbrev pt (t : Fin cfg0.N) : Fin 2 := if t.val % 17 < 1 then 0 else 1
abbrev tok (t : Fin cfg0.N) (r : Fin 256) : Fin 4352 := ⟨256 * (t.val % 17) + r.val, by have := tlt t; omega⟩

theorem part_tok (t : Fin cfg0.N) (r : Fin 256) : part (tok t r) = pt t := by
  unfold part
  by_cases h : t.val % 17 < 1
  · rw [if_pos (by show 256 * (t.val % 17) + r.val < 256; omega), pt, if_pos h]
  · rw [if_neg (by show ¬ 256 * (t.val % 17) + r.val < 256; omega), pt, if_neg h]

theorem index0 : ∀ t : Fin cfg0.N, win0_0.index t = ![t.val / 17, t.val % 17, 0] := (by decide +kernel : ∀ t : Fin grid0.N, win0_0.index t = ![t.val / 17, t.val % 17, 0])
theorem emb0 (t : Fin cfg0.N) (r : Fin 256) (d : Fin 2048) : (((cfg0.win 0).blk t).view.emb (ix3 0 r d : S1x256x2048.Idx) : S8x4352x2048.Idx) = ix3 (bt t) (tok t r) d := by
  refine funext fun (x : Fin 3) => Fin.ext ?_
  refine ((cfg0.win 0).rect_emb_val t (ix3 0 r d : S1x256x2048.Idx) x).trans ?_
  rw [show (cfg0.win 0).index t = _ from index0 t]
  match x with
  | 0 => show t.val / 17 * 1 + 0 = t.val / 17; omega
  | 1 => show t.val % 17 * 256 + r.val = 256 * (t.val % 17) + r.val; omega
  | 2 => show 0 * 2048 + d.val = d.val; omega
theorem iblk0 (t : Fin cfg0.N) (r : Fin 256) (d : Fin 2048) : (iblk m c 0 t : Vec Ideal S1x256x2048 .f32) (ix3 0 r d) = aX m c (ix3 (bt t) (tok t r) d) :=
  (congrArg (V m c main_arg0 : Vec Ideal S8x4352x2048 .f32) (emb0 t r d)).trans (congrFun (V_main_arg0 m c) _)

theorem index1 : ∀ t : Fin cfg0.N, win0_1.index t = ![t.val / 17, t.val % 17, 0] := (by decide +kernel : ∀ t : Fin grid0.N, win0_1.index t = ![t.val / 17, t.val % 17, 0])
theorem emb1 (t : Fin cfg0.N) (r : Fin 256) (d : Fin 2048) : (((cfg0.win 1).blk t).view.emb (ix3 0 r d : S1x256x2048.Idx) : S8x4352x2048.Idx) = ix3 (bt t) (tok t r) d := by
  refine funext fun (x : Fin 3) => Fin.ext ?_
  refine ((cfg0.win 1).rect_emb_val t (ix3 0 r d : S1x256x2048.Idx) x).trans ?_
  rw [show (cfg0.win 1).index t = _ from index1 t]
  match x with
  | 0 => show t.val / 17 * 1 + 0 = t.val / 17; omega
  | 1 => show t.val % 17 * 256 + r.val = 256 * (t.val % 17) + r.val; omega
  | 2 => show 0 * 2048 + d.val = d.val; omega
theorem iblk1 (t : Fin cfg0.N) (r : Fin 256) (d : Fin 2048) : (iblk m c 1 t : Vec Ideal S1x256x2048 .bf16) (ix3 0 r d) = aY1 m c (ix3 (bt t) (tok t r) d) :=
  (congrArg (V m c main_arg1 : Vec Ideal S8x4352x2048 .bf16) (emb1 t r d)).trans (congrFun (V_main_arg1 m c) _)

theorem index2 : ∀ t : Fin cfg0.N, win0_2.index t = ![t.val / 17, t.val % 17, 0] := (by decide +kernel : ∀ t : Fin grid0.N, win0_2.index t = ![t.val / 17, t.val % 17, 0])
theorem emb2 (t : Fin cfg0.N) (r : Fin 256) (d : Fin 2048) : (((cfg0.win 2).blk t).view.emb (ix3 0 r d : S1x256x2048.Idx) : S8x4352x2048.Idx) = ix3 (bt t) (tok t r) d := by
  refine funext fun (x : Fin 3) => Fin.ext ?_
  refine ((cfg0.win 2).rect_emb_val t (ix3 0 r d : S1x256x2048.Idx) x).trans ?_
  rw [show (cfg0.win 2).index t = _ from index2 t]
  match x with
  | 0 => show t.val / 17 * 1 + 0 = t.val / 17; omega
  | 1 => show t.val % 17 * 256 + r.val = 256 * (t.val % 17) + r.val; omega
  | 2 => show 0 * 2048 + d.val = d.val; omega
theorem iblk2 (t : Fin cfg0.N) (r : Fin 256) (d : Fin 2048) : (iblk m c 2 t : Vec Ideal S1x256x2048 .bf16) (ix3 0 r d) = aY2 m c (ix3 (bt t) (tok t r) d) :=
  (congrArg (V m c main_arg2 : Vec Ideal S8x4352x2048 .bf16) (emb2 t r d)).trans (congrFun (V_main_arg2 m c) _)

theorem index3 : ∀ t : Fin cfg0.N, win0_3.index t = ![t.val / 17, t.val % 17, 0] := (by decide +kernel : ∀ t : Fin grid0.N, win0_3.index t = ![t.val / 17, t.val % 17, 0])
theorem emb3 (t : Fin cfg0.N) (r : Fin 256) (d : Fin 2) : (((cfg0.win 3).blk t).view.emb (ix3 0 r d : S1x256x2.Idx) : S8x4352x2.Idx) = ix3 (bt t) (tok t r) d := by
  refine funext fun (x : Fin 3) => Fin.ext ?_
  refine ((cfg0.win 3).rect_emb_val t (ix3 0 r d : S1x256x2.Idx) x).trans ?_
  rw [show (cfg0.win 3).index t = _ from index3 t]
  match x with
  | 0 => show t.val / 17 * 1 + 0 = t.val / 17; omega
  | 1 => show t.val % 17 * 256 + r.val = 256 * (t.val % 17) + r.val; omega
  | 2 => show 0 * 2 + d.val = d.val; omega
theorem iblk3 (t : Fin cfg0.N) (r : Fin 256) (d : Fin 2) : (iblk m c 3 t : Vec Ideal S1x256x2 .f32) (ix3 0 r d) = aG m c (ix3 (bt t) (tok t r) d) :=
  (congrArg (V m c main_arg3 : Vec Ideal S8x4352x2 .f32) (emb3 t r d)).trans (congrFun (V_main_arg3 m c) _)

theorem index4 : ∀ t : Fin cfg0.N, win0_4.index t = ![t.val / 17, if t.val % 17 < 1 then 0 else 1, 0, 0] := (by decide +kernel : ∀ t : Fin grid0.N, win0_4.index t = ![t.val / 17, if t.val % 17 < 1 then 0 else 1, 0, 0])
theorem iblk4 (t : Fin cfg0.N) (k : Fin 6) (d : Fin 2048) : (iblk m c 4 t : Vec Ideal S1x1x6x2048 .f32) (ix4 0 0 k d) = aM m c (ix4 (bt t) (pt t) k d) := by
  refine Eq.trans (congrArg (V m c main_arg4 : Vec Ideal S8x2x6x2048 .f32) (funext fun (x : Fin 4) => Fin.ext ?_ : ((cfg0.win 4).blk t).view.emb (ix4 0 0 k d : S1x1x6x2048.Idx) = (ix4 (bt t) (pt t) k d : S8x2x6x2048.Idx))) (congrFun (V_main_arg4 m c) _)
  refine ((cfg0.win 4).rect_emb_val t (ix4 0 0 k d : S1x1x6x2048.Idx) x).trans ?_
  rw [show (cfg0.win 4).index t = _ from index4 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

theorem index5 : ∀ t : Fin cfg0.N, win0_5.index t = ![t.val / 17, if t.val % 17 < 1 then 0 else 1, 0, 0] := (by decide +kernel : ∀ t : Fin grid0.N, win0_5.index t = ![t.val / 17, if t.val % 17 < 1 then 0 else 1, 0, 0])
theorem iblk5 (t : Fin cfg0.N) (k : Fin 6) (d : Fin 2048) : (iblk m c 5 t : Vec Ideal S1x1x6x2048 .f32) (ix4 0 0 k d) = aN m c (ix4 (bt t) (pt t) k d) := by
  refine Eq.trans (congrArg (V m c main_arg5 : Vec Ideal S8x2x6x2048 .f32) (funext fun (x : Fin 4) => Fin.ext ?_ : ((cfg0.win 5).blk t).view.emb (ix4 0 0 k d : S1x1x6x2048.Idx) = (ix4 (bt t) (pt t) k d : S8x2x6x2048.Idx))) (congrFun (V_main_arg5 m c) _)
  refine ((cfg0.win 5).rect_emb_val t (ix4 0 0 k d : S1x1x6x2048.Idx) x).trans ?_
  rw [show (cfg0.win 5).index t = _ from index5 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

/-- The gain reaches the kernel as one row. -/
theorem V_main_v1 (k : Fin 1) (d : Fin 2048) : (V m c main_v1 : Vec Ideal S1x2048 .f32) (ix2 k d) = aR m c (ix1 d) := by
  obtain rfl : k = 0 := Subsingleton.elim _ _
  have h : (V m c main_v1 : Vec Ideal S1x2048 .f32) = shapeCast (α := Ideal .f32) S1x2048 (aR m c) shapeCasts_S2048_S1x2048 := by
    simp only [V, hostOps0, StableHlo.after, List.foldl_cons, List.foldl_nil]
    rfl
  rw [h]
  pointwise []

/-- The matrix reaches the kernel narrowed, which at exact arithmetic changes nothing. -/
theorem V_main_v0 (k : Fin 2048) (d : Fin 6144) : (V m c main_v0 : Vec Ideal S2048x6144 .bf16) (ix2 k d) = aW m c (ix2 k d) := by
  have h : (V m c main_v0 : Vec Ideal S2048x6144 .bf16) = (truncf .bf16 (aW m c : FVec Ideal S2048x6144 .f32) bitsLt_bf16_f32 : FVec Ideal S2048x6144 .bf16) := by
    simp only [V, hostOps0, StableHlo.after, List.foldl_cons, List.foldl_nil]
    rfl
  rw [h]
  pointwise []

theorem index6 : ∀ t : Fin cfg0.N, win0_6.index t = ![0, 0] := (by decide +kernel : ∀ t : Fin grid0.N, win0_6.index t = ![0, 0])
theorem iblk6 (t : Fin cfg0.N) (k : Fin 1) (d : Fin 2048) : (iblk m c 6 t : Vec Ideal S1x2048 .f32) (ix2 k d) = aR m c (ix1 d) := by
  refine Eq.trans (congrArg (V m c main_v1 : Vec Ideal S1x2048 .f32) (funext fun (x : Fin 2) => Fin.ext ?_ : ((cfg0.win 6).blk t).view.emb (ix2 k d : S1x2048.Idx) = (ix2 k d : S1x2048.Idx))) (V_main_v1 m c k d)
  refine ((cfg0.win 6).rect_emb_val t (ix2 k d : S1x2048.Idx) x).trans ?_
  rw [show (cfg0.win 6).index t = _ from index6 t]
  match x with
  | 0 => show 0 * 1 + k.val = k.val; omega
  | 1 => show 0 * 2048 + d.val = d.val; omega

theorem index7 : ∀ t : Fin cfg0.N, win0_7.index t = ![0, 0] := (by decide +kernel : ∀ t : Fin grid0.N, win0_7.index t = ![0, 0])
theorem iblk7 (t : Fin cfg0.N) (k : Fin 2048) (d : Fin 6144) : (iblk m c 7 t : Vec Ideal S2048x6144 .bf16) (ix2 k d) = aW m c (ix2 k d) := by
  refine Eq.trans (congrArg (V m c main_v0 : Vec Ideal S2048x6144 .bf16) (funext fun (x : Fin 2) => Fin.ext ?_ : ((cfg0.win 7).blk t).view.emb (ix2 k d : S2048x6144.Idx) = (ix2 k d : S2048x6144.Idx))) (V_main_v0 m c k d)
  refine ((cfg0.win 7).rect_emb_val t (ix2 k d : S2048x6144.Idx) x).trans ?_
  rw [show (cfg0.win 7).index t = _ from index7 t]
  match x with
  | 0 => show 0 * 2048 + k.val = k.val; omega
  | 1 => show 0 * 6144 + d.val = d.val; omega

theorem index8 : ∀ t : Fin cfg0.N, win0_8.index t = ![0, 0] := (by decide +kernel : ∀ t : Fin grid0.N, win0_8.index t = ![0, 0])
theorem iblk8 (t : Fin cfg0.N) (k : Fin 3) (d : Fin 2048) : (iblk m c 8 t : Vec Ideal S3x2048 .f32) (ix2 k d) = aT m c (ix2 k d) := by
  refine Eq.trans (congrArg (V m c main_arg8 : Vec Ideal S3x2048 .f32) (funext fun (x : Fin 2) => Fin.ext ?_ : ((cfg0.win 8).blk t).view.emb (ix2 k d : S3x2048.Idx) = (ix2 k d : S3x2048.Idx))) (congrFun (V_main_arg8 m c) _)
  refine ((cfg0.win 8).rect_emb_val t (ix2 k d : S3x2048.Idx) x).trans ?_
  rw [show (cfg0.win 8).index t = _ from index8 t]
  match x with
  | 0 => show 0 * 3 + k.val = k.val; omega
  | 1 => show 0 * 2048 + d.val = d.val; omega

theorem index9 : ∀ t : Fin cfg0.N, win0_9.index t = ![t.val / 17, t.val % 17, 0] := (by decide +kernel : ∀ t : Fin grid0.N, win0_9.index t = ![t.val / 17, t.val % 17, 0])
theorem emb9 (t : Fin cfg0.N) (r : Fin 256) (d : Fin 2048) : (((cfg0.win 9).blk t).view.emb (ix3 0 r d : S1x256x2048.Idx) : S8x4352x2048.Idx) = ix3 (bt t) (tok t r) d := by
  refine funext fun (x : Fin 3) => Fin.ext ?_
  refine ((cfg0.win 9).rect_emb_val t (ix3 0 r d : S1x256x2048.Idx) x).trans ?_
  rw [show (cfg0.win 9).index t = _ from index9 t]
  match x with
  | 0 => show t.val / 17 * 1 + 0 = t.val / 17; omega
  | 1 => show t.val % 17 * 256 + r.val = 256 * (t.val % 17) + r.val; omega
  | 2 => show 0 * 2048 + d.val = d.val; omega
theorem index10 : ∀ t : Fin cfg0.N, win0_10.index t = ![t.val / 17, t.val % 17, 0] := (by decide +kernel : ∀ t : Fin grid0.N, win0_10.index t = ![t.val / 17, t.val % 17, 0])
theorem emb10 (t : Fin cfg0.N) (r : Fin 256) (d : Fin 2048) : (((cfg0.win 10).blk t).view.emb (ix3 0 r d : S1x256x2048.Idx) : S8x4352x2048.Idx) = ix3 (bt t) (tok t r) d := by
  refine funext fun (x : Fin 3) => Fin.ext ?_
  refine ((cfg0.win 10).rect_emb_val t (ix3 0 r d : S1x256x2048.Idx) x).trans ?_
  rw [show (cfg0.win 10).index t = _ from index10 t]
  match x with
  | 0 => show t.val / 17 * 1 + 0 = t.val / 17; omega
  | 1 => show t.val % 17 * 256 + r.val = 256 * (t.val % 17) + r.val; omega
  | 2 => show 0 * 2048 + d.val = d.val; omega
/-- One token of a block: the stream, and the projection of its modulated norm. -/
def tokB (P0 : Vec Ideal S1x256x2048 .f32) (P1 P2 : Vec Ideal S1x256x2048 .bf16) (P3 : Vec Ideal S1x256x2 .f32) (P4 : Vec Ideal S1x1x6x2048 .f32) (r : Fin 256) (x : Fin 2048) : EReal :=
  P0 (ix3 0 r x) + P4 (ix4 0 0 5 x) * (P3 (ix3 0 r 0) * P1 (ix3 0 r x) + P3 (ix3 0 r 1) * P2 (ix3 0 r x))
def projB (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (r : Fin 256) (n : Fin 6144) : EReal :=
  ∑ k : Fin 2048, (rms (tokB P0 P1 P2 P3 P4 r) k * P6 (ix2 0 k) * (Ideal.ofBits FTy.f32 1065353216#32 + P5 (ix4 0 0 1 k)) + P5 (ix4 0 0 0 k)) * P7 (ix2 k n)

theorem pay3_apply (P0 : Vec Ideal S1x256x2048 .f32) (P1 P2 : Vec Ideal S1x256x2048 .bf16) (P3 : Vec Ideal S1x256x2 .f32) (P4 : Vec Ideal S1x1x6x2048 .f32) (r : Fin 256) (d : Fin 2048) : k0_pay3 P0 P3 P1 P2 P4 (ix3 0 r d) = tokB P0 P1 P2 P3 P4 r d := by
  pointwise [k0_pay3, k0_pay2, tokB]

theorem pay2_apply (P0 : Vec Ideal S1x256x2048 .f32) (P1 P2 : Vec Ideal S1x256x2048 .bf16) (P3 : Vec Ideal S1x256x2 .f32) (P4 : Vec Ideal S1x1x6x2048 .f32) (r : Fin 256) (d : Fin 2048) : k0_pay2 P0 P3 P1 P2 P4 (ix2 r d) = tokB P0 P1 P2 P3 P4 r d := by
  pointwise [k0_pay2, tokB]

theorem pay8_apply (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (r : Fin 256) (n : Fin 6144) :
    k0_pay8 (k0_pay2 P0 P3 P1 P2 P4) (k0_pay5 P6) (k0_pay6 P5) (k0_pay7 P5) P7 (ix2 r n) = projB P0 P1 P2 P3 P4 P5 P6 P7 r n := by
  pointwise [k0_pay8, k0_pay5, k0_pay6, k0_pay7, k0_pay4, pay2_apply, rms, projB]

theorem pay9_apply (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (r : Fin 256) (d : Fin 2048) :
    k0_pay9 (k0_pay2 P0 P3 P1 P2 P4) (k0_pay5 P6) (k0_pay6 P5) (k0_pay7 P5) P7 (ix2 r d) = projB P0 P1 P2 P3 P4 P5 P6 P7 r ⟨d.val, by omega⟩ := by
  pointwise [k0_pay9, pay8_apply]

theorem pay10_apply (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (r : Fin 256) (d : Fin 2048) :
    k0_pay10 (k0_pay2 P0 P3 P1 P2 P4) (k0_pay5 P6) (k0_pay6 P5) (k0_pay7 P5) P7 (ix2 r d) = gated (projB P0 P1 P2 P3 P4 P5 P6 P7 r) d := by
  pointwise [k0_pay10, pay8_apply, gated]

/-- Which tokens of a block begin their row, and which end it. -/
theorem mask1 : ∀ (j : Fin 17) (r : Fin 256), k0_pay14 (BitVec.ofNat 32 j.val) (ix2 r 0) = if starts (256 * j.val + r.val) then 0#1 else 1#1 := by
  decide +kernel
theorem mask2 : ∀ (j : Fin 17) (r : Fin 256), IntOp.cmpi CmpIPredicate.ne (k0_pay15 (BitVec.ofNat 32 j.val) (ix2 r 0)) (k0_pay16 (ix2 r 0)) = if ends (256 * j.val + r.val) then 0#1 else 1#1 := by
  decide +kernel
theorem coords1 : ∀ t : Fin cfg0.N, (grid0.coords t 1).val = t.val % 17 := (by decide +kernel : ∀ t : Fin grid0.N, (grid0.coords t 1).val = t.val % 17)

theorem pay1_apply (v54 v57 : FVec Ideal S256x2048 .f32) (v70 : IVec S256x1 1) (v75 v76 : IVec S256x1 32) (P8 : Vec Ideal S3x2048 .f32) (r : Fin 256) (d : Fin 2048) :
    k0_pay1 v54 v57 v70 v75 v76 P8 (ix3 0 r d)
      = v54 (ix2 r d) * (Scalar.select (v70 (ix2 r 0)) (P8 (ix2 0 d) * v57 (ix2 ⟨(r.val + 256 - 1) % 256, by omega⟩ d)) 0 + P8 (ix2 1 d) * v57 (ix2 r d)
        + Scalar.select (IntOp.cmpi CmpIPredicate.ne (v75 (ix2 r 0)) (v76 (ix2 r 0))) (P8 (ix2 2 d) * v57 (ix2 ⟨(r.val + 256 - 255) % 256, by omega⟩ d)) 0) := by
  pointwise [k0_pay1, Pointwise.dynamicRotate_apply]

theorem select_ite (p : Prop) [Decidable p] (x : EReal) : Scalar.select (if p then 0#1 else 1#1) x 0 = if p then 0 else x := by
  split <;> rfl

theorem out9_eq (i : grid0.Coords) (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (P8 : Vec Ideal S3x2048 .f32) : out0_9 i P0 P1 P2 P3 P4 P5 P6 P7 P8 = k0_pay3 P0 P3 P1 P2 P4 := by
  unfold out0_9
  rw [View.canon_unit_zero (by decide), View.ld_unit_zero (by decide), View.ld_unit_zero (by decide), View.ld_unit_zero (by decide), View.ld_unit_zero (by decide), View.ld_unit_zero (by decide)]

theorem out10_eq (i : grid0.Coords) (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (P8 : Vec Ideal S3x2048 .f32) : out0_10 i P0 P1 P2 P3 P4 P5 P6 P7 P8
      = k0_pay1 (k0_pay9 (k0_pay2 P0 P3 P1 P2 P4) (k0_pay5 P6) (k0_pay6 P5) (k0_pay7 P5) P7) (k0_pay10 (k0_pay2 P0 P3 P1 P2 P4) (k0_pay5 P6) (k0_pay6 P5) (k0_pay7 P5) P7) (k0_pay14 (BitVec.ofNat 32 (i 1).val)) (k0_pay15 (BitVec.ofNat 32 (i 1).val)) k0_pay16 P8 := by
  unfold out0_10 k0_pay17 k0_pay18 k0_pay19 k0_pay20
  rw [View.canon_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]

/-- The second result at one token of a block. -/
theorem out10_apply (t : Fin cfg0.N) (P0 : Vec Ideal S1x256x2048 .f32) (P1 P2 : Vec Ideal S1x256x2048 .bf16) (P3 : Vec Ideal S1x256x2 .f32) (P4 : Vec Ideal S1x1x6x2048 .f32) (P5 : Vec Ideal S1x1x6x2048 .f32) (P6 : Vec Ideal S1x2048 .f32) (P7 : Vec Ideal S2048x6144 .bf16) (P8 : Vec Ideal S3x2048 .f32) (r : Fin 256) (d : Fin 2048) : out0_10 (grid0.coords t) P0 P1 P2 P3 P4 P5 P6 P7 P8 (ix3 0 r d)
      = projB P0 P1 P2 P3 P4 P5 P6 P7 r ⟨d.val, by omega⟩
        * ((if starts (tok t r).val then 0 else P8 (ix2 0 d) * gated (projB P0 P1 P2 P3 P4 P5 P6 P7 ⟨(r.val + 256 - 1) % 256, by omega⟩) d) + P8 (ix2 1 d) * gated (projB P0 P1 P2 P3 P4 P5 P6 P7 r) d
          + if ends (tok t r).val then 0 else P8 (ix2 2 d) * gated (projB P0 P1 P2 P3 P4 P5 P6 P7 ⟨(r.val + 256 - 255) % 256, by omega⟩) d) := by
  rw [out10_eq, pay1_apply, coords1, mask1 ⟨t.val % 17, by omega⟩ r, mask2 ⟨t.val % 17, by omega⟩ r, select_ite, select_ite, pay9_apply, pay10_apply, pay10_apply, pay10_apply]

theorem cover9 (i : S8x4352x2048.Idx) : ∃ t : Fin cfg0.N, (cfg0.win 9).flush t = true ∧ i ∈ ((cfg0.win 9).blk t).view.set := by
  obtain ⟨b, s, d, rfl⟩ : ∃ (b : Fin 8) (s : Fin 4352) (d : Fin 2048), i = ix3 b s d := ⟨i 0, i 1, i 2, eq_ix3 i⟩
  have ht : 17 * b.val + s.val / 256 < 136 := by omega
  refine ⟨(⟨17 * b.val + s.val / 256, ht⟩ : Fin 136), flush0_9 _, ?_⟩
  have he := emb9 (⟨17 * b.val + s.val / 256, ht⟩ : Fin 136) ⟨s.val % 256, by omega⟩ d
  have hi : (ix3 b s d : S8x4352x2048.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x2048.Idx)) (Fin.ext (by show b.val = (17 * b.val + s.val / 256) / 17; omega))
      (Fin.ext (by show s.val = 256 * ((17 * b.val + s.val / 256) % 17) + s.val % 256; omega))
  rw [hi, ← he]
  exact View.emb_mem_set _ _

theorem cover10 (i : S8x4352x2048.Idx) : ∃ t : Fin cfg0.N, (cfg0.win 10).flush t = true ∧ i ∈ ((cfg0.win 10).blk t).view.set := by
  obtain ⟨b, s, d, rfl⟩ : ∃ (b : Fin 8) (s : Fin 4352) (d : Fin 2048), i = ix3 b s d := ⟨i 0, i 1, i 2, eq_ix3 i⟩
  have ht : 17 * b.val + s.val / 256 < 136 := by omega
  refine ⟨(⟨17 * b.val + s.val / 256, ht⟩ : Fin 136), flush0_10 _, ?_⟩
  have he := emb10 (⟨17 * b.val + s.val / 256, ht⟩ : Fin 136) ⟨s.val % 256, by omega⟩ d
  have hi : (ix3 b s d : S8x4352x2048.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x2048.Idx)) (Fin.ext (by show b.val = (17 * b.val + s.val / 256) / 17; omega))
      (Fin.ext (by show s.val = 256 * ((17 * b.val + s.val / 256) % 17) + s.val % 256; omega))
  rw [hi, ← he]
  exact View.emb_mem_set _ _

/-- A block's token, read from the arguments. -/
theorem mix_blk (t : Fin cfg0.N) (r : Fin 256) (x : Fin 2048) :
    tokB (iblk m c 0 t) (iblk m c 1 t) (iblk m c 2 t) (iblk m c 3 t) (iblk m c 4 t) r x = mixE m c (bt t) (tok t r) x := by
  unfold tokB
  rw [iblk0, iblk1, iblk2, iblk3, iblk3, iblk4, mixE, part_tok]
  rfl

theorem proj_blk (t : Fin cfg0.N) (r : Fin 256) :
    projB (iblk m c 0 t) (iblk m c 1 t) (iblk m c 2 t) (iblk m c 3 t) (iblk m c 4 t) (iblk m c 5 t) (iblk m c 6 t) (iblk m c 7 t) r = projE m c (bt t) (tok t r) := by
  refine funext fun n => Finset.sum_congr rfl fun k _ => ?_
  rw [iblk5, iblk5, iblk6, iblk7, show tokB _ _ _ _ _ r = mixE m c (bt t) (tok t r) from funext (mix_blk m c t r)]
  show _ = modded (mixE m c (bt t) (tok t r)) (aR m c) (aN m c) (part (tok t r)) (bt t) k * _
  rw [part_tok]
  rfl

/-- The array the kernel leaves. -/
theorem final9 : (dats m 0 c).arrAt 9 cfg0.N = res1 m c := by
  refine (dats m 0 c).arrAt_eq_of_emb 9 (res1 m c) (fun t hf (y : S1x256x2048.Idx) => ?_) (cover9)
  obtain ⟨z, r, d, rfl⟩ : ∃ (z : Fin 1) (r : Fin 256) (d : Fin 2048), y = ix3 z r d := ⟨y 0, y 1, y 2, eq_ix3 y⟩
  obtain rfl : z = 0 := Subsingleton.elim _ _
  refine Eq.trans ?_ (congrArg (res1 m c) (emb9 t r d)).symm
  show (dats m 0 c).after 9 t (ix3 0 r d : S1x256x2048.Idx) = _
  rw [after0_9]
  refine (congrFun (out9_eq _ _ _ _ _ _ _ _ _ _ ) _).trans ((pay3_apply _ _ _ _ _ r d).trans ?_)
  exact mix_blk m c t r d

/-- Blocks break where rows break, so a token's neighbour in the row is its neighbour in the block. -/
theorem prev_tok (t : Fin cfg0.N) (r : Fin 256) (h : ¬ starts (tok t r).val) : tok t ⟨(r.val + 256 - 1) % 256, by omega⟩ = ⟨(tok t r).val - 1, by omega⟩ := by
  have hr := r.isLt
  have ht := tlt t
  have h' : ¬ (256 * (t.val % 17) + r.val = 0 ∨ (256 ≤ 256 * (t.val % 17) + r.val ∧ (256 * (t.val % 17) + r.val) % 64 = 0)) := h
  refine Fin.ext ?_
  show 256 * (t.val % 17) + (r.val + 256 - 1) % 256 = 256 * (t.val % 17) + r.val - 1
  omega
theorem next_tok (t : Fin cfg0.N) (r : Fin 256) (h : ¬ ends (tok t r).val) : tok t ⟨(r.val + 256 - 255) % 256, by omega⟩ = ⟨((tok t r).val + 1) % 4352, by omega⟩ := by
  have hr := r.isLt
  have ht := tlt t
  have h' : ¬ (256 * (t.val % 17) + r.val = 255 ∨ (256 ≤ 256 * (t.val % 17) + r.val ∧ (256 * (t.val % 17) + r.val) % 64 = 63)) := h
  refine Fin.ext ?_
  show 256 * (t.val % 17) + (r.val + 256 - 255) % 256 = (256 * (t.val % 17) + r.val + 1) % 4352
  omega

/-- The array the kernel leaves. -/
theorem final10 : (dats m 0 c).arrAt 10 cfg0.N = res2 m c := by
  refine (dats m 0 c).arrAt_eq_of_emb 10 (res2 m c) (fun t hf (y : S1x256x2048.Idx) => ?_) (cover10)
  obtain ⟨z, r, d, rfl⟩ : ∃ (z : Fin 1) (r : Fin 256) (d : Fin 2048), y = ix3 z r d := ⟨y 0, y 1, y 2, eq_ix3 y⟩
  obtain rfl : z = 0 := Subsingleton.elim _ _
  refine Eq.trans ?_ (congrArg (res2 m c) (emb10 t r d)).symm
  show (dats m 0 c).after 10 t (ix3 0 r d : S1x256x2048.Idx) = _
  rw [after0_10]
  refine (out10_apply t _ _ _ _ _ _ _ _ _ r d).trans ?_
  rw [iblk8, iblk8, iblk8, proj_blk, proj_blk, proj_blk]
  show _ = val2 m c (bt t) (tok t r) d
  unfold val2 conv
  have hr := r.isLt
  have ht := tlt t
  by_cases h1 : starts (tok t r).val <;> by_cases h2 : ends (tok t r).val
  · rw [if_pos h1, if_pos h2, if_pos h1, if_pos h2]
  · rw [if_pos h1, if_neg h2, if_pos h1, if_neg h2, next_tok t r h2]
  · rw [if_neg h1, if_pos h2, if_neg h1, if_pos h2, prev_tok t r h1]
  · rw [if_neg h1, if_neg h2, if_neg h1, if_neg h2, next_tok t r h2, prev_tok t r h1]

/-- The run: the results hold the formulas and the arguments are as they were. -/
theorem run (g : Dev nD → PrngReg) : θ_run defs (onTc (τ := τ) (main (F := Ideal))) ⟨m, fun _ => 0, g⟩ fun r => ∀ c : Dev nD,
      r.2.mem ((c : Thread nD τ).loc main_v2_0) = res1 m c
      ∧ r.2.mem ((c : Thread nD τ).loc main_v2_1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final9 m c), (h c).2.1.trans (final10 m c), (h c).2.2⟩) (Cert.OddKernelIdeal.Value.run_blocks m g)

end Cert.OddKernelIdeal.Stream

end
-- ==== Proof.Stream.OddRef.lean ====
/- The reference of an odd layer's input projection at exact arithmetic, entry by entry. -/
module

public import proofs.«01_k».proof.Proof.Gen.OddReferenceIdeal.Run
public import proofs.«01_k».proof.Proof.Stream.Conv
public import Idealize.ShloMosaic.Lib.Quiescent

@[expose] public section

set_option maxRecDepth 16384
set_option maxHeartbeats 4000000

noncomputable section

namespace Cert.OddReferenceIdeal.Stream

open Cert.OddReferenceIdeal Cert.OddReferenceIdeal.Gen Cert.Stream Idealize.ShloMosaic Idealize.ShloMosaic.TcCoe Idealize.SL.Sem

variable (X : Vec Ideal S8x4352x2048 .f32) (Y1 Y2 : Vec Ideal S8x4352x2048 .bf16) (Gt : Vec Ideal S8x4352x2 .f32) (M N : Vec Ideal S8x2x6x2048 .f32) (g : Vec Ideal S2048 .f32) (W : Vec Ideal S2048x6144 .f32) (T : Vec Ideal S3x2048 .f32)

/-- The two expert outputs of a token, by their gates. -/
def moe : FVec Ideal S8x4352x2048 .f32 :=
  addf (mulf (broadcastInDim S8x4352x2048 ![0, 1, 2] bcast_S8x4352x1_S8x4352x2048_0_1_2 (extractStridedSlice (α := Ideal .f32) S8x4352x1 ![0, 0, 0] Gt slices_S8x4352x2_S8x4352x1_0_0_0)) (extf .f32 (φ := .bf16) Y1 bitsLt_bf16_f32))
    (mulf (broadcastInDim S8x4352x2048 ![0, 1, 2] bcast_S8x4352x1_S8x4352x2048_0_1_2 (extractStridedSlice (α := Ideal .f32) S8x4352x1 ![0, 0, 1] Gt slices_S8x4352x2_S8x4352x1_0_0_1)) (extf .f32 (φ := .bf16) Y2 bitsLt_bf16_f32))
/-- The context tokens with the expert outputs added. -/
def xc : FVec Ideal S8x256x2048 .f32 :=
  addf (extractStridedSlice (α := Ideal .f32) S8x256x2048 ![0, 0, 0] X slices_S8x4352x2048_S8x256x2048_0_0_0)
    (mulf (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 5, 0] M slices_S8x2x6x2048_S8x1x1x2048_0_0_5_0) shapeCasts_S8x1x1x2048_S8x2048)))
      (extractStridedSlice (α := Ideal .f32) S8x256x2048 ![0, 0, 0] (moe Y1 Y2 Gt) slices_S8x4352x2048_S8x256x2048_0_0_0))
/-- Their norm under the modulation. -/
def hc : FVec Ideal S8x256x2048 .f32 :=
  addf (mulf (mulf (mulf (xc X Y1 Y2 Gt M) (broadcastInDim S8x256x2048 ![0, 1, 2] bcast_S8x256x1_S8x256x2048_0_1_2 (Host.rsqrt (addf (Host.divf (broadcastInDim S8x256x1 ![0, 1] bcast_S8x256_S8x256x1_0_1
      (Host.reduceAdd (mulf (xc X Y1 Y2 Gt M) (xc X Y1 Y2 Gt M)) (constant S_ .f32 0x00000000#32) reducesTo_S8x256x2048_S8x256_d2 h_S_)) (broadcastInDim S8x256x1 ![] bcast_S_S8x256x1 (constant S_ .f32 0x45000000#32)))
      (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 g)))
    (broadcastInDim S8x256x2048 ![0, 1, 2] bcast_S8x1x2048_S8x256x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 0, 1, 0] N slices_S8x2x6x2048_S8x1x1x2048_0_0_1_0) shapeCasts_S8x1x1x2048_S8x2048)))))
    (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 0, 0] N slices_S8x2x6x2048_S8x1x1x2048_0_0_0_0) shapeCasts_S8x1x1x2048_S8x2048)))
/-- Their projection. -/
def zc : FVec Ideal S8x256x6144 .f32 :=
  Host.dotGeneral (φ₁ := .f32) (φ₂ := .f32) dot_S8x256x2048_S2048x6144_S8x256x6144_2_0_01_1_n_n none (hc X Y1 Y2 Gt M N g) W
/-- The latent tokens with the expert outputs added. -/
def xl : FVec Ideal S8x4096x2048 .f32 :=
  addf (extractStridedSlice (α := Ideal .f32) S8x4096x2048 ![0, 256, 0] X slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 5, 0] M slices_S8x2x6x2048_S8x1x1x2048_0_1_5_0) shapeCasts_S8x1x1x2048_S8x2048)))
      (extractStridedSlice (α := Ideal .f32) S8x4096x2048 ![0, 256, 0] (moe Y1 Y2 Gt) slices_S8x4352x2048_S8x4096x2048_0_256_0))
/-- Their norm under the modulation. -/
def hl : FVec Ideal S8x4096x2048 .f32 :=
  addf (mulf (mulf (mulf (xl X Y1 Y2 Gt M) (broadcastInDim S8x4096x2048 ![0, 1, 2] bcast_S8x4096x1_S8x4096x2048_0_1_2 (Host.rsqrt (addf (Host.divf (broadcastInDim S8x4096x1 ![0, 1] bcast_S8x4096_S8x4096x1_0_1
      (Host.reduceAdd (mulf (xl X Y1 Y2 Gt M) (xl X Y1 Y2 Gt M)) (constant S_ .f32 0x00000000#32) reducesTo_S8x4096x2048_S8x4096_d2 h_S_)) (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g)))
    (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 1, 1, 0] N slices_S8x2x6x2048_S8x1x1x2048_0_1_1_0) shapeCasts_S8x1x1x2048_S8x2048)))))
    (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 0, 0] N slices_S8x2x6x2048_S8x1x1x2048_0_1_0_0) shapeCasts_S8x1x1x2048_S8x2048)))
/-- Their projection. -/
def zl : FVec Ideal S8x4096x6144 .f32 :=
  Host.dotGeneral (φ₁ := .f32) (φ₂ := .f32) dot_S8x4096x2048_S2048x6144_S8x4096x6144_2_0_01_1_n_n none (hl X Y1 Y2 Gt M N g) W
/-- The convolution's operand, context tokens. -/
def uc : FVec Ideal S8x256x2048 .f32 := mulf (extractStridedSlice (α := Ideal .f32) S8x256x2048 ![0, 0, 2048] (zc X Y1 Y2 Gt M N g W) slices_S8x256x6144_S8x256x2048_0_0_2048) (extractStridedSlice (α := Ideal .f32) S8x256x2048 ![0, 0, 4096] (zc X Y1 Y2 Gt M N g W) slices_S8x256x6144_S8x256x2048_0_0_4096)
/-- Its three taps. -/
def vc (U : FVec Ideal S8x256x2048 .f32) : FVec Ideal S8x256x2048 .f32 :=
  addf (addf (mulf (broadcastInDim S8x256x2048 ![0, 1, 2] bcast_S1x1x2048_S8x256x2048_0_1_2 (broadcastInDim S1x1x2048 ![2] bcast_S2048_S1x1x2048_2 (shapeCast (α := Ideal .f32) S2048 (extractStridedSlice (α := Ideal .f32) S1x2048 ![0, 0] T slices_S3x2048_S1x2048_0_0) shapeCasts_S1x2048_S2048)))
      (concatenate (α := Ideal .f32) S8x256x2048 1 [⟨S8x1x2048, (broadcastInDim S8x1x2048 ![] bcast_S_S8x1x2048 (constant S_ .f32 0x00000000#32))⟩, ⟨S8x255x2048, (extractStridedSlice (α := Ideal .f32) S8x255x2048 ![0, 0, 0] U slices_S8x256x2048_S8x255x2048_0_0_0)⟩] concatenates_S8x1x2048_S8x255x2048_S8x256x2048_d1))
    (mulf (broadcastInDim S8x256x2048 ![0, 1, 2] bcast_S1x1x2048_S8x256x2048_0_1_2 (broadcastInDim S1x1x2048 ![2] bcast_S2048_S1x1x2048_2 (shapeCast (α := Ideal .f32) S2048 (extractStridedSlice (α := Ideal .f32) S1x2048 ![1, 0] T slices_S3x2048_S1x2048_1_0) shapeCasts_S1x2048_S2048))) U))
    (mulf (broadcastInDim S8x256x2048 ![0, 1, 2] bcast_S1x1x2048_S8x256x2048_0_1_2 (broadcastInDim S1x1x2048 ![2] bcast_S2048_S1x1x2048_2 (shapeCast (α := Ideal .f32) S2048 (extractStridedSlice (α := Ideal .f32) S1x2048 ![2, 0] T slices_S3x2048_S1x2048_2_0) shapeCasts_S1x2048_S2048)))
      (concatenate (α := Ideal .f32) S8x256x2048 1 [⟨S8x255x2048, (extractStridedSlice (α := Ideal .f32) S8x255x2048 ![0, 1, 0] U slices_S8x256x2048_S8x255x2048_0_1_0)⟩, ⟨S8x1x2048, (broadcastInDim S8x1x2048 ![] bcast_S_S8x1x2048 (constant S_ .f32 0x00000000#32))⟩] concatenates_S8x255x2048_S8x1x2048_S8x256x2048_d1))
/-- The gated convolution of the context tokens. -/
def oc : FVec Ideal S8x256x2048 .bf16 := truncf .bf16 (mulf (extractStridedSlice (α := Ideal .f32) S8x256x2048 ![0, 0, 0] (zc X Y1 Y2 Gt M N g W) slices_S8x256x6144_S8x256x2048_0_0_0) (vc T (uc X Y1 Y2 Gt M N g W))) bitsLt_bf16_f32
/-- The convolution's operand, latent tokens, as 64 rows of 64. -/
def ul : FVec Ideal S8x64x64x2048 .f32 := shapeCast (α := Ideal .f32) S8x64x64x2048 (mulf (extractStridedSlice (α := Ideal .f32) S8x4096x2048 ![0, 0, 2048] (zl X Y1 Y2 Gt M N g W) slices_S8x4096x6144_S8x4096x2048_0_0_2048) (extractStridedSlice (α := Ideal .f32) S8x4096x2048 ![0, 0, 4096] (zl X Y1 Y2 Gt M N g W) slices_S8x4096x6144_S8x4096x2048_0_0_4096)) shapeCasts_S8x4096x2048_S8x64x64x2048
/-- Its three taps. -/
def vl (U : FVec Ideal S8x64x64x2048 .f32) : FVec Ideal S8x64x64x2048 .f32 :=
  addf (addf (mulf (broadcastInDim S8x64x64x2048 ![0, 1, 2, 3] bcast_S1x1x1x2048_S8x64x64x2048_0_1_2_3 (broadcastInDim S1x1x1x2048 ![3] bcast_S2048_S1x1x1x2048_3 (shapeCast (α := Ideal .f32) S2048 (extractStridedSlice (α := Ideal .f32) S1x2048 ![0, 0] T slices_S3x2048_S1x2048_0_0) shapeCasts_S1x2048_S2048)))
      (concatenate (α := Ideal .f32) S8x64x64x2048 2 [⟨S8x64x1x2048, (broadcastInDim S8x64x1x2048 ![] bcast_S_S8x64x1x2048 (constant S_ .f32 0x00000000#32))⟩, ⟨S8x64x63x2048, (extractStridedSlice (α := Ideal .f32) S8x64x63x2048 ![0, 0, 0, 0] U slices_S8x64x64x2048_S8x64x63x2048_0_0_0_0)⟩] concatenates_S8x64x1x2048_S8x64x63x2048_S8x64x64x2048_d2))
    (mulf (broadcastInDim S8x64x64x2048 ![0, 1, 2, 3] bcast_S1x1x1x2048_S8x64x64x2048_0_1_2_3 (broadcastInDim S1x1x1x2048 ![3] bcast_S2048_S1x1x1x2048_3 (shapeCast (α := Ideal .f32) S2048 (extractStridedSlice (α := Ideal .f32) S1x2048 ![1, 0] T slices_S3x2048_S1x2048_1_0) shapeCasts_S1x2048_S2048))) U))
    (mulf (broadcastInDim S8x64x64x2048 ![0, 1, 2, 3] bcast_S1x1x1x2048_S8x64x64x2048_0_1_2_3 (broadcastInDim S1x1x1x2048 ![3] bcast_S2048_S1x1x1x2048_3 (shapeCast (α := Ideal .f32) S2048 (extractStridedSlice (α := Ideal .f32) S1x2048 ![2, 0] T slices_S3x2048_S1x2048_2_0) shapeCasts_S1x2048_S2048)))
      (concatenate (α := Ideal .f32) S8x64x64x2048 2 [⟨S8x64x63x2048, (extractStridedSlice (α := Ideal .f32) S8x64x63x2048 ![0, 0, 1, 0] U slices_S8x64x64x2048_S8x64x63x2048_0_0_1_0)⟩, ⟨S8x64x1x2048, (broadcastInDim S8x64x1x2048 ![] bcast_S_S8x64x1x2048 (constant S_ .f32 0x00000000#32))⟩] concatenates_S8x64x63x2048_S8x64x1x2048_S8x64x64x2048_d2))
/-- The gated convolution of the latent tokens. -/
def ol : FVec Ideal S8x4096x2048 .bf16 := truncf .bf16 (mulf (extractStridedSlice (α := Ideal .f32) S8x4096x2048 ![0, 0, 0] (zl X Y1 Y2 Gt M N g W) slices_S8x4096x6144_S8x4096x2048_0_0_0) (shapeCast (α := Ideal .f32) S8x4096x2048 (vl T (ul X Y1 Y2 Gt M N g W)) shapeCasts_S8x64x64x2048_S8x4096x2048)) bitsLt_bf16_f32
/-- The two results. -/
def out1 : FVec Ideal S8x4352x2048 .f32 := concatenate (α := Ideal .f32) S8x4352x2048 1 [⟨S8x256x2048, xc X Y1 Y2 Gt M⟩, ⟨S8x4096x2048, xl X Y1 Y2 Gt M⟩] concatenates_S8x256x2048_S8x4096x2048_S8x4352x2048_d1
def out2 : FVec Ideal S8x4352x2048 .bf16 := concatenate (α := Ideal .bf16) S8x4352x2048 1 [⟨S8x256x2048, oc X Y1 Y2 Gt M N g W T⟩, ⟨S8x4096x2048, ol X Y1 Y2 Gt M N g W T⟩] concatenates_S8x256x2048_S8x4096x2048_S8x4352x2048_d1

/-- Entries of these. -/
theorem xc_apply (b : Fin 8) (s : Fin 256) (d : Fin 2048) : xc X Y1 Y2 Gt M (ix3 b s d) = mix X Y1 Y2 Gt M 0 b ⟨0 + s.val, by omega⟩ d := by
  pointwise [xc, moe, mix]
theorem hc_apply (b : Fin 8) (s : Fin 256) (d : Fin 2048) : hc X Y1 Y2 Gt M N g (ix3 b s d) = modded (mix X Y1 Y2 Gt M 0 b ⟨0 + s.val, by omega⟩) g N 0 b d := by
  pointwise [hc, xc_apply, rms, modded]
theorem zc_apply (b : Fin 8) (s : Fin 256) (n : Fin 6144) : zc X Y1 Y2 Gt M N g W (ix3 b s n) = proj (mix X Y1 Y2 Gt M 0 b ⟨0 + s.val, by omega⟩) g N W 0 b n := by
  pointwise [zc, hc_apply, proj]
/-- Entries of these. -/
theorem xl_apply (b : Fin 8) (s : Fin 4096) (d : Fin 2048) : xl X Y1 Y2 Gt M (ix3 b s d) = mix X Y1 Y2 Gt M 1 b ⟨256 + s.val, by omega⟩ d := by
  pointwise [xl, moe, mix]
theorem hl_apply (b : Fin 8) (s : Fin 4096) (d : Fin 2048) : hl X Y1 Y2 Gt M N g (ix3 b s d) = modded (mix X Y1 Y2 Gt M 1 b ⟨256 + s.val, by omega⟩) g N 1 b d := by
  pointwise [hl, xl_apply, rms, modded]
theorem zl_apply (b : Fin 8) (s : Fin 4096) (n : Fin 6144) : zl X Y1 Y2 Gt M N g W (ix3 b s n) = proj (mix X Y1 Y2 Gt M 1 b ⟨256 + s.val, by omega⟩) g N W 1 b n := by
  pointwise [zl, hl_apply, proj]
/-- The first result. -/
theorem out1_apply (b : Fin 8) (s : Fin 4352) (d : Fin 2048) : out1 X Y1 Y2 Gt M (ix3 b s d) = mix X Y1 Y2 Gt M (part s) b s d := by
  pointwise [out1, xc_apply, xl_apply]
  unfold part
  split
  · exact congrArg (fun q => mix X Y1 Y2 Gt M 0 b q d) (Fin.ext rfl)
  · exact congrArg (fun q => mix X Y1 Y2 Gt M 1 b q d) (Fin.ext (by show 256 + (s.val - 256) = s.val; omega))
/-- Token `(b, s)` projected. -/
def pr (b : Fin 8) (s : Fin 4352) (n : Fin 6144) : EReal := proj (mix X Y1 Y2 Gt M (part s) b s) g N W (part s) b n
/-- The second result at one token and channel. -/
def val2 (b : Fin 8) (s : Fin 4352) (d : Fin 2048) : EReal :=
  pr X Y1 Y2 Gt M N g W b s ⟨d.val, by omega⟩ * conv (fun q => gated (pr X Y1 Y2 Gt M N g W b q) d) (T (ix2 0 d)) (T (ix2 1 d)) (T (ix2 2 d)) s

theorem zc_pr (b : Fin 8) (s : Fin 256) (n : Fin 6144) : zc X Y1 Y2 Gt M N g W (ix3 b s n) = pr X Y1 Y2 Gt M N g W b ⟨s.val, by omega⟩ n := by
  rw [zc_apply, pr, show part ⟨s.val, by omega⟩ = 0 from if_pos s.isLt]
  exact congrArg (fun q => proj (mix X Y1 Y2 Gt M 0 b q) g N W 0 b n) (Fin.ext (Nat.zero_add _))
theorem zl_pr (b : Fin 8) (s : Fin 4096) (n : Fin 6144) : zl X Y1 Y2 Gt M N g W (ix3 b s n) = pr X Y1 Y2 Gt M N g W b ⟨256 + s.val, by omega⟩ n := by
  rw [zl_apply, pr, show part ⟨256 + s.val, by omega⟩ = 1 from if_neg (by show ¬ 256 + s.val < 256; omega)]
/-- Entries of the convolution. -/
theorem uc_apply (b : Fin 8) (s : Fin 256) (d : Fin 2048) : uc X Y1 Y2 Gt M N g W (ix3 b s d) = gated (pr X Y1 Y2 Gt M N g W b ⟨s.val, by omega⟩) d := by
  pointwise [uc, zc_pr, gated]
theorem vc_apply (U : FVec Ideal S8x256x2048 .f32) (b : Fin 8) (s : Fin 256) (d : Fin 2048) : vc T U (ix3 b s d)
    = (T (ix2 0 d) * if h : s.val < 1 then 0 else U (ix3 b ⟨s.val - 1, by omega⟩ d)) + T (ix2 1 d) * U (ix3 b s d)
      + T (ix2 2 d) * if h : s.val < 255 then U (ix3 b ⟨1 + s.val, by omega⟩ d) else 0 := by
  pointwise [vc]
theorem ul_apply (b : Fin 8) (y x : Fin 64) (d : Fin 2048) : ul X Y1 Y2 Gt M N g W (ix4 b y x d) = gated (pr X Y1 Y2 Gt M N g W b ⟨256 + (y.val * 64 + x.val), by omega⟩) d := by
  pointwise [ul, zl_pr, gated]
theorem vl_apply (U : FVec Ideal S8x64x64x2048 .f32) (b : Fin 8) (y x : Fin 64) (d : Fin 2048) : vl T U (ix4 b y x d)
    = (T (ix2 0 d) * if h : x.val < 1 then 0 else U (ix4 b y ⟨x.val - 1, by omega⟩ d)) + T (ix2 1 d) * U (ix4 b y x d)
      + T (ix2 2 d) * if h : x.val < 63 then U (ix4 b y ⟨1 + x.val, by omega⟩ d) else 0 := by
  pointwise [vl]

/-- The taps along the context row, and along a latent row, are the convolution's. -/
theorem conv_ctx (U : Fin 4352 → EReal) (w0 w1 w2 : EReal) (s : Fin 256) :
    (w0 * if h : s.val < 1 then 0 else U ⟨s.val - 1, by omega⟩) + w1 * U ⟨s.val, by omega⟩ + (w2 * if h : s.val < 255 then U ⟨1 + s.val, by omega⟩ else 0)
      = conv U w0 w1 w2 ⟨s.val, by omega⟩ := by
  have hs := s.isLt
  unfold conv
  refine congrArg₂ (· + ·) (congrArg (· + _) ?_) ?_
  · by_cases h : s.val < 1
    · rw [dif_pos h, if_pos (by show s.val = 0 ∨ _; omega), mul_zero]
    · rw [dif_neg h, if_neg (by show ¬ (s.val = 0 ∨ (256 ≤ s.val ∧ s.val % 64 = 0)); omega)]
  · by_cases h : s.val < 255
    · rw [dif_pos h, if_neg (by show ¬ (s.val = 255 ∨ (256 ≤ s.val ∧ s.val % 64 = 63)); omega)]
      exact congrArg (fun q => w2 * U q) (Fin.ext (by show 1 + s.val = (s.val + 1) % 4352; omega))
    · rw [dif_neg h, if_pos (by show s.val = 255 ∨ _; omega), mul_zero]
theorem conv_lat (U : Fin 4352 → EReal) (w0 w1 w2 : EReal) (y x : Fin 64) :
    (w0 * if h : x.val < 1 then 0 else U ⟨256 + (y.val * 64 + (x.val - 1)), by omega⟩) + w1 * U ⟨256 + (y.val * 64 + x.val), by omega⟩
        + (w2 * if h : x.val < 63 then U ⟨256 + (y.val * 64 + (1 + x.val)), by omega⟩ else 0)
      = conv U w0 w1 w2 ⟨256 + (y.val * 64 + x.val), by omega⟩ := by
  have hx := x.isLt
  have hy := y.isLt
  unfold conv
  refine congrArg₂ (· + ·) (congrArg (· + _) ?_) ?_
  · by_cases h : x.val < 1
    · rw [dif_pos h, if_pos (by show 256 + (y.val * 64 + x.val) = 0 ∨ (256 ≤ 256 + (y.val * 64 + x.val) ∧ (256 + (y.val * 64 + x.val)) % 64 = 0); omega), mul_zero]
    · rw [dif_neg h, if_neg (by show ¬ (256 + (y.val * 64 + x.val) = 0 ∨ (256 ≤ 256 + (y.val * 64 + x.val) ∧ (256 + (y.val * 64 + x.val)) % 64 = 0)); omega)]
      exact congrArg (fun q => w0 * U q) (Fin.ext (by show 256 + (y.val * 64 + (x.val - 1)) = 256 + (y.val * 64 + x.val) - 1; omega))
  · by_cases h : x.val < 63
    · rw [dif_pos h, if_neg (by show ¬ (256 + (y.val * 64 + x.val) = 255 ∨ (256 ≤ 256 + (y.val * 64 + x.val) ∧ (256 + (y.val * 64 + x.val)) % 64 = 63)); omega)]
      exact congrArg (fun q => w2 * U q) (Fin.ext (by show 256 + (y.val * 64 + (1 + x.val)) = (256 + (y.val * 64 + x.val) + 1) % 4352; omega))
    · rw [dif_neg h, if_pos (by show 256 + (y.val * 64 + x.val) = 255 ∨ (256 ≤ 256 + (y.val * 64 + x.val) ∧ (256 + (y.val * 64 + x.val)) % 64 = 63); omega), mul_zero]

/-- The second result. -/
theorem oc_apply (b : Fin 8) (s : Fin 256) (d : Fin 2048) : oc X Y1 Y2 Gt M N g W T (ix3 b s d) = val2 X Y1 Y2 Gt M N g W T b ⟨s.val, by omega⟩ d := by
  pointwise [oc, zc_pr]
  rw [vc_apply]
  simp only [uc_apply]
  exact congrArg _ (conv_ctx (fun q => gated (pr X Y1 Y2 Gt M N g W b q) d) _ _ _ s)
theorem ol_apply (b : Fin 8) (s : Fin 4096) (d : Fin 2048) : ol X Y1 Y2 Gt M N g W T (ix3 b s d) = val2 X Y1 Y2 Gt M N g W T b ⟨256 + s.val, by omega⟩ d := by
  pointwise [ol, zl_pr]
  rw [vl_apply]
  simp only [ul_apply]
  refine (congrArg _ (conv_lat (fun q => gated (pr X Y1 Y2 Gt M N g W b q) d) _ _ _ ⟨s.val / 64, by omega⟩ ⟨s.val % 64, by omega⟩)).trans ?_
  refine congrArg (fun q => pr X Y1 Y2 Gt M N g W b ⟨256 + s.val, by omega⟩ ⟨d.val, by omega⟩ * conv (fun q => gated (pr X Y1 Y2 Gt M N g W b q) d) (T (ix2 0 d)) (T (ix2 1 d)) (T (ix2 2 d)) q) (Fin.ext ?_)
  show 256 + (s.val / 64 * 64 + s.val % 64) = 256 + s.val
  omega
theorem out2_apply (b : Fin 8) (s : Fin 4352) (d : Fin 2048) : out2 X Y1 Y2 Gt M N g W T (ix3 b s d) = val2 X Y1 Y2 Gt M N g W T b s d := by
  pointwise [out2]
  split
  · exact oc_apply X Y1 Y2 Gt M N g W T b _ d
  · exact (ol_apply X Y1 Y2 Gt M N g W T b _ d).trans (congrArg (fun q => val2 X Y1 Y2 Gt M N g W T b q d) (Fin.ext (by show 256 + (s.val - 256) = s.val; omega)))

/-- Every execution of the reference ends, its results these, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v137) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v138) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨h, sem_eq_zero_of_no_sems (by decide) _⟩) (Value.run m ρ)

end Cert.OddReferenceIdeal.Stream

end
-- ==== Proof.Stream.Joined.lean ====
/- The first layer's tokens at exact arithmetic: the context before the latent tokens. -/
module

public import proofs.«01_k».proof.Proof.Stream.Formula

@[expose] public section

noncomputable section

namespace Cert.Stream

open Idealize.ShloMosaic

/-- Token `(b, s)` of the joined sequence: a context token, then the latent ones. -/
def joined (C : Vec Ideal ⟨3, ![8, 256, 2048]⟩ .f32) (L : Vec Ideal ⟨3, ![8, 4096, 2048]⟩ .f32) (b : Fin 8) (s : Fin 4352) (d : Fin 2048) : EReal :=
  if h : s.val < 256 then C (ix3 b ⟨s.val, h⟩ d) else L (ix3 b ⟨s.val - 256, by omega⟩ d)

end Cert.Stream
end
-- ==== Proof.Stream.First.lean ====
/- The first layer's input projection at exact arithmetic: the kernel's result arrays, entry by entry. -/
module

public import proofs.«01_k».proof.Proof.Gen.FirstKernelIdeal.Value
public import proofs.«01_k».proof.Proof.Stream.Joined
public import Idealize.ShloMosaic.Lib.Pipeline.ValueKit.Geometry

@[expose] public section

set_option maxRecDepth 16384
set_option maxHeartbeats 4000000

noncomputable section

namespace Cert.FirstKernelIdeal.Stream

open Cert.FirstKernelIdeal Cert.FirstKernelIdeal.Gen Cert.Stream Idealize.ShloMosaic Idealize.ShloMosaic.TcCoe

variable (m : (ℓ : Loc nD τ sig) → Buf (Elt Ideal) ℓ) (c : Dev nD)

/-- The arguments of device `c`. -/
abbrev aC : Vec Ideal S8x256x2048 .f32 := m ((c : Thread nD τ).loc main_arg0)
abbrev aL : Vec Ideal S8x4096x2048 .f32 := m ((c : Thread nD τ).loc main_arg1)
abbrev aN : Vec Ideal S8x2x6x2048 .f32 := m ((c : Thread nD τ).loc main_arg2)
abbrev aR : Vec Ideal S2048 .f32 := m ((c : Thread nD τ).loc main_arg3)
abbrev aW : Vec Ideal S2048x5504 .f32 := m ((c : Thread nD τ).loc main_arg4)

/-- The two results. -/
def res1 : Vec Ideal S8x4352x2048 .f32 := fun i => joined (aC m c) (aL m c) (i 0) (i 1) (i 2)
def res2 : Vec Ideal S8x4352x5504 .f32 := fun i => ∑ k : Fin 2048, modded (joined (aC m c) (aL m c) (i 0) (i 1)) (aR m c) (aN m c) (part (i 1)) (i 0) k * aW m c (ix2 k (i 2))

theorem tlt (t : Fin cfg0.N) : t.val < 136 := t.isLt

/-- The batch row, the part of the sequence and the tokens of a block. -/
abbrev bt (t : Fin cfg0.N) : Fin 8 := ⟨t.val / 17, by have := tlt t; omega⟩
abbrev pt (t : Fin cfg0.N) : Fin 2 := if t.val % 17 < 1 then 0 else 1
abbrev tok (t : Fin cfg0.N) (r : Fin 256) : Fin 4352 := ⟨256 * (t.val % 17) + r.val, by have := tlt t; omega⟩

theorem part_tok (t : Fin cfg0.N) (r : Fin 256) : part (tok t r) = pt t := by
  unfold part
  by_cases h : t.val % 17 < 1
  · rw [if_pos (by show 256 * (t.val % 17) + r.val < 256; omega), pt, if_pos h]
  · rw [if_neg (by show ¬ 256 * (t.val % 17) + r.val < 256; omega), pt, if_neg h]

theorem index0 : ∀ t : Fin cfg0.N, win0_0.index t = ![t.val / 17, 0, 0] := (by decide +kernel : ∀ t : Fin grid0.N, win0_0.index t = ![t.val / 17, 0, 0])
theorem iblk0 (t : Fin cfg0.N) (r : Fin 256) (d : Fin 2048) : (iblk m c 0 t : Vec Ideal S1x256x2048 .f32) (ix3 0 r d) = aC m c (ix3 (bt t) r d) := by
  refine Eq.trans (congrArg (V m c main_arg0 : Vec Ideal S8x256x2048 .f32) (funext fun (x : Fin 3) => Fin.ext ?_ : ((cfg0.win 0).blk t).view.emb (ix3 0 r d : S1x256x2048.Idx) = (ix3 (bt t) r d : S8x256x2048.Idx))) (congrFun (V_main_arg0 m c) _)
  refine ((cfg0.win 0).rect_emb_val t (ix3 0 r d : S1x256x2048.Idx) x).trans ?_
  rw [show (cfg0.win 0).index t = _ from index0 t]
  match x with
  | 0 => show t.val / 17 * 1 + 0 = t.val / 17; omega
  | 1 => show 0 * 256 + r.val = r.val; omega
  | 2 => show 0 * 2048 + d.val = d.val; omega

/-- The latent token of a block's row, where the block is not the context. -/
abbrev lat (t : Fin cfg0.N) (r : Fin 256) : Fin 4096 := ⟨(t.val % 17 - 1) * 256 + r.val, by have := tlt t; omega⟩

theorem index1 : ∀ t : Fin cfg0.N, win0_1.index t = ![t.val / 17, t.val % 17 - 1, 0] := (by decide +kernel : ∀ t : Fin grid0.N, win0_1.index t = ![t.val / 17, t.val % 17 - 1, 0])
theorem iblk1 (t : Fin cfg0.N) (r : Fin 256) (d : Fin 2048) : (iblk m c 1 t : Vec Ideal S1x256x2048 .f32) (ix3 0 r d) = aL m c (ix3 (bt t) (lat t r) d) := by
  refine Eq.trans (congrArg (V m c main_arg1 : Vec Ideal S8x4096x2048 .f32) (funext fun (x : Fin 3) => Fin.ext ?_ : ((cfg0.win 1).blk t).view.emb (ix3 0 r d : S1x256x2048.Idx) = (ix3 (bt t) (lat t r) d : S8x4096x2048.Idx))) (congrFun (V_main_arg1 m c) _)
  refine ((cfg0.win 1).rect_emb_val t (ix3 0 r d : S1x256x2048.Idx) x).trans ?_
  rw [show (cfg0.win 1).index t = _ from index1 t]
  match x with
  | 0 => show t.val / 17 * 1 + 0 = t.val / 17; omega
  | 1 => show (t.val % 17 - 1) * 256 + r.val = (t.val % 17 - 1) * 256 + r.val; rfl
  | 2 => show 0 * 2048 + d.val = d.val; omega

theorem index2 : ∀ t : Fin cfg0.N, win0_2.index t = ![t.val / 17, if t.val % 17 < 1 then 0 else 1, 0, 0] := (by decide +kernel : ∀ t : Fin grid0.N, win0_2.index t = ![t.val / 17, if t.val % 17 < 1 then 0 else 1, 0, 0])
theorem iblk2 (t : Fin cfg0.N) (k : Fin 6) (d : Fin 2048) : (iblk m c 2 t : Vec Ideal S1x1x6x2048 .f32) (ix4 0 0 k d) = aN m c (ix4 (bt t) (pt t) k d) := by
  refine Eq.trans (congrArg (V m c main_arg2 : Vec Ideal S8x2x6x2048 .f32) (funext fun (x : Fin 4) => Fin.ext ?_ : ((cfg0.win 2).blk t).view.emb (ix4 0 0 k d : S1x1x6x2048.Idx) = (ix4 (bt t) (pt t) k d : S8x2x6x2048.Idx))) (congrFun (V_main_arg2 m c) _)
  refine ((cfg0.win 2).rect_emb_val t (ix4 0 0 k d : S1x1x6x2048.Idx) x).trans ?_
  rw [show (cfg0.win 2).index t = _ from index2 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

/-- The gain reaches the kernel as one row. -/
theorem V_main_v1 (k : Fin 1) (d : Fin 2048) : (V m c main_v1 : Vec Ideal S1x2048 .f32) (ix2 k d) = aR m c (ix1 d) := by
  obtain rfl : k = 0 := Subsingleton.elim _ _
  have h : (V m c main_v1 : Vec Ideal S1x2048 .f32) = shapeCast (α := Ideal .f32) S1x2048 (aR m c) shapeCasts_S2048_S1x2048 := by
    simp only [V, hostOps0, StableHlo.after, List.foldl_cons, List.foldl_nil]
    rfl
  rw [h]
  pointwise []

/-- The matrix reaches the kernel narrowed, which at exact arithmetic changes nothing. -/
theorem V_main_v0 (k : Fin 2048) (d : Fin 5504) : (V m c main_v0 : Vec Ideal S2048x5504 .bf16) (ix2 k d) = aW m c (ix2 k d) := by
  have h : (V m c main_v0 : Vec Ideal S2048x5504 .bf16) = (truncf .bf16 (aW m c : FVec Ideal S2048x5504 .f32) bitsLt_bf16_f32 : FVec Ideal S2048x5504 .bf16) := by
    simp only [V, hostOps0, StableHlo.after, List.foldl_cons, List.foldl_nil]
    rfl
  rw [h]
  pointwise []

theorem index3 : ∀ t : Fin cfg0.N, win0_3.index t = ![0, 0] := (by decide +kernel : ∀ t : Fin grid0.N, win0_3.index t = ![0, 0])
theorem iblk3 (t : Fin cfg0.N) (k : Fin 1) (d : Fin 2048) : (iblk m c 3 t : Vec Ideal S1x2048 .f32) (ix2 k d) = aR m c (ix1 d) := by
  refine Eq.trans (congrArg (V m c main_v1 : Vec Ideal S1x2048 .f32) (funext fun (x : Fin 2) => Fin.ext ?_ : ((cfg0.win 3).blk t).view.emb (ix2 k d : S1x2048.Idx) = (ix2 k d : S1x2048.Idx))) (V_main_v1 m c k d)
  refine ((cfg0.win 3).rect_emb_val t (ix2 k d : S1x2048.Idx) x).trans ?_
  rw [show (cfg0.win 3).index t = _ from index3 t]
  match x with
  | 0 => show 0 * 1 + k.val = k.val; omega
  | 1 => show 0 * 2048 + d.val = d.val; omega

theorem index4 : ∀ t : Fin cfg0.N, win0_4.index t = ![0, 0] := (by decide +kernel : ∀ t : Fin grid0.N, win0_4.index t = ![0, 0])
theorem iblk4 (t : Fin cfg0.N) (k : Fin 2048) (d : Fin 5504) : (iblk m c 4 t : Vec Ideal S2048x5504 .bf16) (ix2 k d) = aW m c (ix2 k d) := by
  refine Eq.trans (congrArg (V m c main_v0 : Vec Ideal S2048x5504 .bf16) (funext fun (x : Fin 2) => Fin.ext ?_ : ((cfg0.win 4).blk t).view.emb (ix2 k d : S2048x5504.Idx) = (ix2 k d : S2048x5504.Idx))) (V_main_v0 m c k d)
  refine ((cfg0.win 4).rect_emb_val t (ix2 k d : S2048x5504.Idx) x).trans ?_
  rw [show (cfg0.win 4).index t = _ from index4 t]
  match x with
  | 0 => show 0 * 2048 + k.val = k.val; omega
  | 1 => show 0 * 5504 + d.val = d.val; omega

theorem index5 : ∀ t : Fin cfg0.N, win0_5.index t = ![t.val / 17, t.val % 17, 0] := (by decide +kernel : ∀ t : Fin grid0.N, win0_5.index t = ![t.val / 17, t.val % 17, 0])
theorem emb5 (t : Fin cfg0.N) (r : Fin 256) (d : Fin 2048) : (((cfg0.win 5).blk t).view.emb (ix3 0 r d : S1x256x2048.Idx) : S8x4352x2048.Idx) = ix3 (bt t) (tok t r) d := by
  refine funext fun (x : Fin 3) => Fin.ext ?_
  refine ((cfg0.win 5).rect_emb_val t (ix3 0 r d : S1x256x2048.Idx) x).trans ?_
  rw [show (cfg0.win 5).index t = _ from index5 t]
  match x with
  | 0 => show t.val / 17 * 1 + 0 = t.val / 17; omega
  | 1 => show t.val % 17 * 256 + r.val = 256 * (t.val % 17) + r.val; omega
  | 2 => show 0 * 2048 + d.val = d.val; omega
theorem index6 : ∀ t : Fin cfg0.N, win0_6.index t = ![t.val / 17, t.val % 17, 0] := (by decide +kernel : ∀ t : Fin grid0.N, win0_6.index t = ![t.val / 17, t.val % 17, 0])
theorem emb6 (t : Fin cfg0.N) (r : Fin 256) (d : Fin 5504) : (((cfg0.win 6).blk t).view.emb (ix3 0 r d : S1x256x5504.Idx) : S8x4352x5504.Idx) = ix3 (bt t) (tok t r) d := by
  refine funext fun (x : Fin 3) => Fin.ext ?_
  refine ((cfg0.win 6).rect_emb_val t (ix3 0 r d : S1x256x5504.Idx) x).trans ?_
  rw [show (cfg0.win 6).index t = _ from index6 t]
  match x with
  | 0 => show t.val / 17 * 1 + 0 = t.val / 17; omega
  | 1 => show t.val % 17 * 256 + r.val = 256 * (t.val % 17) + r.val; omega
  | 2 => show 0 * 5504 + d.val = d.val; omega
theorem mask : ∀ j : Fin 17, Scalar.cmpi .slt (BitVec.ofNat 32 j.val) 1#32 = if j.val < 1 then 1#1 else 0#1 := by decide +kernel
theorem coords1 : ∀ t : Fin cfg0.N, (grid0.coords t 1).val = t.val % 17 := (by decide +kernel : ∀ t : Fin grid0.N, (grid0.coords t 1).val = t.val % 17)

/-- One token of a block, and its projection. -/
def tokB (i : grid0.Coords) (P0 P1 : Vec Ideal S1x256x2048 .f32) (r : Fin 256) (x : Fin 2048) : EReal := if (i 1).val < 1 then P0 (ix3 0 r x) else P1 (ix3 0 r x)

theorem pay2_apply (i : grid0.Coords) (P0 P1 : Vec Ideal S1x256x2048 .f32) (r : Fin 256) (d : Fin 2048) : k0_pay2 i P0 P1 (ix2 r d) = tokB i P0 P1 r d := by
  unfold k0_pay2 tokB
  by_cases h : (i 1).val < 1
  · rw [if_pos h, show Scalar.cmpi .slt (BitVec.ofNat 32 (i 1).val) 1#32 = 1#1 from (mask (i 1)).trans (if_pos h)]
    show shapeCast (α := Ideal .f32) S256x2048 P0 shapeCasts_S1x256x2048_S256x2048 (ix2 r d) = _
    pointwise []
  · rw [if_neg h, show Scalar.cmpi .slt (BitVec.ofNat 32 (i 1).val) 1#32 = 0#1 from (mask (i 1)).trans (if_neg h)]
    show shapeCast (α := Ideal .f32) S256x2048 P1 shapeCasts_S1x256x2048_S256x2048 (ix2 r d) = _
    pointwise []

theorem pay3_apply (i : grid0.Coords) (P0 P1 : Vec Ideal S1x256x2048 .f32) (r : Fin 256) (d : Fin 2048) : k0_pay3 i P0 P1 (ix3 0 r d) = tokB i P0 P1 r d := by
  pointwise [k0_pay3, pay2_apply]

theorem pay1_apply (i : grid0.Coords) (P0 P1 : Vec Ideal S1x256x2048 .f32) (P2 : Vec Ideal S1x1x6x2048 .f32) (P3 : Vec Ideal S1x2048 .f32) (P4 : Vec Ideal S2048x5504 .bf16) (r : Fin 256) (n : Fin 5504) :
    k0_pay1 (k0_pay4 i P0 P1 P2 P3) P4 (ix3 0 r n)
      = ∑ k : Fin 2048, (rms (tokB i P0 P1 r) k * P3 (ix2 0 k) * (Ideal.ofBits FTy.f32 1065353216#32 + P2 (ix4 0 0 1 k)) + P2 (ix4 0 0 0 k)) * P4 (ix2 k n) := by
  pointwise [k0_pay1, k0_pay4, pay2_apply, rms]

theorem out5_eq (i : grid0.Coords) (P0 P1 : Vec Ideal S1x256x2048 .f32) (P2 : Vec Ideal S1x1x6x2048 .f32) (P3 : Vec Ideal S1x2048 .f32) (P4 : Vec Ideal S2048x5504 .bf16) :
    out0_5 i P0 P1 P2 P3 P4 = k0_pay3 i P0 P1 := by
  unfold out0_5
  rw [View.canon_unit_zero (by decide), View.ld_unit_zero (by decide), View.ld_unit_zero (by decide)]

theorem out6_eq (i : grid0.Coords) (P0 P1 : Vec Ideal S1x256x2048 .f32) (P2 : Vec Ideal S1x1x6x2048 .f32) (P3 : Vec Ideal S1x2048 .f32) (P4 : Vec Ideal S2048x5504 .bf16) :
    out0_6 i P0 P1 P2 P3 P4 = k0_pay1 (k0_pay4 i P0 P1 P2 P3) P4 := by
  unfold out0_6
  rw [View.canon_unit_zero (by decide), View.ld_unit_zero (by decide), View.ld_unit_zero (by decide), View.ld_unit_zero (by decide), View.ld_unit_zero (by decide), View.ld_unit_zero (by decide)]

theorem cover5 (i : S8x4352x2048.Idx) : ∃ t : Fin cfg0.N, (cfg0.win 5).flush t = true ∧ i ∈ ((cfg0.win 5).blk t).view.set := by
  obtain ⟨b, s, d, rfl⟩ : ∃ (b : Fin 8) (s : Fin 4352) (d : Fin 2048), i = ix3 b s d := ⟨i 0, i 1, i 2, eq_ix3 i⟩
  have ht : 17 * b.val + s.val / 256 < 136 := by omega
  refine ⟨(⟨17 * b.val + s.val / 256, ht⟩ : Fin 136), flush0_5 _, ?_⟩
  have he := emb5 (⟨17 * b.val + s.val / 256, ht⟩ : Fin 136) ⟨s.val % 256, by omega⟩ d
  have hi : (ix3 b s d : S8x4352x2048.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x2048.Idx)) (Fin.ext (by show b.val = (17 * b.val + s.val / 256) / 17; omega))
      (Fin.ext (by show s.val = 256 * ((17 * b.val + s.val / 256) % 17) + s.val % 256; omega))
  rw [hi, ← he]
  exact View.emb_mem_set _ _

theorem cover6 (i : S8x4352x5504.Idx) : ∃ t : Fin cfg0.N, (cfg0.win 6).flush t = true ∧ i ∈ ((cfg0.win 6).blk t).view.set := by
  obtain ⟨b, s, d, rfl⟩ : ∃ (b : Fin 8) (s : Fin 4352) (d : Fin 5504), i = ix3 b s d := ⟨i 0, i 1, i 2, eq_ix3 i⟩
  have ht : 17 * b.val + s.val / 256 < 136 := by omega
  refine ⟨(⟨17 * b.val + s.val / 256, ht⟩ : Fin 136), flush0_6 _, ?_⟩
  have he := emb6 (⟨17 * b.val + s.val / 256, ht⟩ : Fin 136) ⟨s.val % 256, by omega⟩ d
  have hi : (ix3 b s d : S8x4352x5504.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x5504.Idx)) (Fin.ext (by show b.val = (17 * b.val + s.val / 256) / 17; omega))
      (Fin.ext (by show s.val = 256 * ((17 * b.val + s.val / 256) % 17) + s.val % 256; omega))
  rw [hi, ← he]
  exact View.emb_mem_set _ _

/-- A block's token, read from the arguments. -/
theorem tok_blk (t : Fin cfg0.N) (r : Fin 256) (x : Fin 2048) :
    tokB (grid0.coords t) (iblk m c 0 t) (iblk m c 1 t) r x = joined (aC m c) (aL m c) (bt t) (tok t r) x := by
  have ht := tlt t
  unfold tokB joined
  rw [coords1, iblk0, iblk1]
  by_cases h : t.val % 17 < 1
  · rw [if_pos h, dif_pos (by show 256 * (t.val % 17) + r.val < 256; omega)]
    exact congrArg (fun q => aC m c (ix3 (bt t) q x)) (Fin.ext (by show r.val = 256 * (t.val % 17) + r.val; omega))
  · rw [if_neg h, dif_neg (by show ¬ 256 * (t.val % 17) + r.val < 256; omega)]
    exact congrArg (fun q => aL m c (ix3 (bt t) q x)) (Fin.ext (by show (t.val % 17 - 1) * 256 + r.val = 256 * (t.val % 17) + r.val - 256; omega))

/-- The array the kernel leaves. -/
theorem final5 : (dats m 0 c).arrAt 5 cfg0.N = res1 m c := by
  refine (dats m 0 c).arrAt_eq_of_emb 5 (res1 m c) (fun t hf (y : S1x256x2048.Idx) => ?_) (cover5)
  obtain ⟨z, r, d, rfl⟩ : ∃ (z : Fin 1) (r : Fin 256) (d : Fin 2048), y = ix3 z r d := ⟨y 0, y 1, y 2, eq_ix3 y⟩
  obtain rfl : z = 0 := Subsingleton.elim _ _
  refine Eq.trans ?_ (congrArg (res1 m c) (emb5 t r d)).symm
  show (dats m 0 c).after 5 t (ix3 0 r d : S1x256x2048.Idx) = _
  rw [after0_5]
  refine (congrFun (out5_eq _ _ _ _ _ _ ) _).trans ((pay3_apply _ _ _ r d).trans ?_)
  exact tok_blk m c t r d

/-- The array the kernel leaves. -/
theorem final6 : (dats m 0 c).arrAt 6 cfg0.N = res2 m c := by
  refine (dats m 0 c).arrAt_eq_of_emb 6 (res2 m c) (fun t hf (y : S1x256x5504.Idx) => ?_) (cover6)
  obtain ⟨z, r, d, rfl⟩ : ∃ (z : Fin 1) (r : Fin 256) (d : Fin 5504), y = ix3 z r d := ⟨y 0, y 1, y 2, eq_ix3 y⟩
  obtain rfl : z = 0 := Subsingleton.elim _ _
  refine Eq.trans ?_ (congrArg (res2 m c) (emb6 t r d)).symm
  show (dats m 0 c).after 6 t (ix3 0 r d : S1x256x5504.Idx) = _
  rw [after0_6]
  refine (congrFun (out6_eq _ _ _ _ _ _ ) _).trans ((pay1_apply _ _ _ _ _ _ r d).trans ?_)
  refine Finset.sum_congr rfl fun k _ => ?_
  rw [iblk2, iblk2, iblk3, iblk4, show tokB _ _ _ r = joined (aC m c) (aL m c) (bt t) (tok t r) from funext (tok_blk m c t r)]
  show _ = modded (joined (aC m c) (aL m c) (bt t) (tok t r)) (aR m c) (aN m c) (part (tok t r)) (bt t) k * _
  rw [part_tok]
  rfl

/-- The run: the results hold the formulas and the arguments are as they were. -/
theorem run (g : Dev nD → PrngReg) : θ_run defs (onTc (τ := τ) (main (F := Ideal))) ⟨m, fun _ => 0, g⟩ fun r => ∀ c : Dev nD,
      r.2.mem ((c : Thread nD τ).loc main_v2_0) = res1 m c
      ∧ r.2.mem ((c : Thread nD τ).loc main_v2_1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (Cert.FirstKernelIdeal.Value.run_blocks m g)

end Cert.FirstKernelIdeal.Stream

end
-- ==== Proof.Stream.FirstRef.lean ====
/- The reference of the first layer's input projection at exact arithmetic, entry by entry. -/
module

public import proofs.«01_k».proof.Proof.Gen.FirstReferenceIdeal.Run
public import proofs.«01_k».proof.Proof.Stream.Joined
public import Idealize.ShloMosaic.Lib.Quiescent

@[expose] public section

set_option maxRecDepth 16384
set_option maxHeartbeats 4000000

noncomputable section

namespace Cert.FirstReferenceIdeal.Stream

open Cert.FirstReferenceIdeal Cert.FirstReferenceIdeal.Gen Cert.Stream Idealize.ShloMosaic Idealize.ShloMosaic.TcCoe Idealize.SL.Sem

variable (C : Vec Ideal S8x256x2048 .f32) (L : Vec Ideal S8x4096x2048 .f32) (N : Vec Ideal S8x2x6x2048 .f32) (g : Vec Ideal S2048 .f32) (W : Vec Ideal S2048x5504 .f32)

/-- The context tokens' norm under the modulation. -/
def hc : FVec Ideal S8x256x2048 .f32 :=
  addf (mulf (mulf (mulf C (broadcastInDim S8x256x2048 ![0, 1, 2] bcast_S8x256x1_S8x256x2048_0_1_2 (Host.rsqrt (addf (Host.divf (broadcastInDim S8x256x1 ![0, 1] bcast_S8x256_S8x256x1_0_1
      (Host.reduceAdd (mulf C C) (constant S_ .f32 0x00000000#32) reducesTo_S8x256x2048_S8x256_d2 h_S_)) (broadcastInDim S8x256x1 ![] bcast_S_S8x256x1 (constant S_ .f32 0x45000000#32)))
      (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 g)))
    (broadcastInDim S8x256x2048 ![0, 1, 2] bcast_S8x1x2048_S8x256x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 0, 1, 0] N slices_S8x2x6x2048_S8x1x1x2048_0_0_1_0) shapeCasts_S8x1x1x2048_S8x2048)))))
    (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 0, 0] N slices_S8x2x6x2048_S8x1x1x2048_0_0_0_0) shapeCasts_S8x1x1x2048_S8x2048)))
/-- Their projection. -/
def zc : FVec Ideal S8x256x5504 .f32 :=
  Host.dotGeneral (φ₁ := .f32) (φ₂ := .f32) dot_S8x256x2048_S2048x5504_S8x256x5504_2_0_01_1_n_n none (hc C N g) W
/-- The latent tokens' norm under the modulation. -/
def hl : FVec Ideal S8x4096x2048 .f32 :=
  addf (mulf (mulf (mulf L (broadcastInDim S8x4096x2048 ![0, 1, 2] bcast_S8x4096x1_S8x4096x2048_0_1_2 (Host.rsqrt (addf (Host.divf (broadcastInDim S8x4096x1 ![0, 1] bcast_S8x4096_S8x4096x1_0_1
      (Host.reduceAdd (mulf L L) (constant S_ .f32 0x00000000#32) reducesTo_S8x4096x2048_S8x4096_d2 h_S_)) (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g)))
    (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 1, 1, 0] N slices_S8x2x6x2048_S8x1x1x2048_0_1_1_0) shapeCasts_S8x1x1x2048_S8x2048)))))
    (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 0, 0] N slices_S8x2x6x2048_S8x1x1x2048_0_1_0_0) shapeCasts_S8x1x1x2048_S8x2048)))
/-- Their projection. -/
def zl : FVec Ideal S8x4096x5504 .f32 :=
  Host.dotGeneral (φ₁ := .f32) (φ₂ := .f32) dot_S8x4096x2048_S2048x5504_S8x4096x5504_2_0_01_1_n_n none (hl L N g) W
/-- The two results. -/
def out1 : FVec Ideal S8x4352x2048 .f32 := concatenate (α := Ideal .f32) S8x4352x2048 1 [⟨S8x256x2048, C⟩, ⟨S8x4096x2048, L⟩] concatenates_S8x256x2048_S8x4096x2048_S8x4352x2048_d1
def out2 : FVec Ideal S8x4352x5504 .f32 := concatenate (α := Ideal .f32) S8x4352x5504 1 [⟨S8x256x5504, zc C N g W⟩, ⟨S8x4096x5504, zl L N g W⟩] concatenates_S8x256x5504_S8x4096x5504_S8x4352x5504_d1

/-- Entries of these. -/
theorem hc_apply (b : Fin 8) (s : Fin 256) (d : Fin 2048) : hc C N g (ix3 b s d) = modded (fun k => C (ix3 b s k)) g N 0 b d := by
  pointwise [hc, rms, modded]
theorem zc_apply (b : Fin 8) (s : Fin 256) (n : Fin 5504) : zc C N g W (ix3 b s n) = ∑ k : Fin 2048, modded (fun k => C (ix3 b s k)) g N 0 b k * W (ix2 k n) := by
  pointwise [zc, hc_apply]
theorem hl_apply (b : Fin 8) (s : Fin 4096) (d : Fin 2048) : hl L N g (ix3 b s d) = modded (fun k => L (ix3 b s k)) g N 1 b d := by
  pointwise [hl, rms, modded]
theorem zl_apply (b : Fin 8) (s : Fin 4096) (n : Fin 5504) : zl L N g W (ix3 b s n) = ∑ k : Fin 2048, modded (fun k => L (ix3 b s k)) g N 1 b k * W (ix2 k n) := by
  pointwise [zl, hl_apply]
/-- Entries of the two results. -/
theorem out1_apply (b : Fin 8) (s : Fin 4352) (d : Fin 2048) : out1 C L (ix3 b s d) = joined C L b s d := by
  pointwise [out1, joined]
theorem out2_apply (b : Fin 8) (s : Fin 4352) (n : Fin 5504) : out2 C L N g W (ix3 b s n) = ∑ k : Fin 2048, modded (joined C L b s) g N (part s) b k * W (ix2 k n) := by
  pointwise [out2, zc_apply, zl_apply]
  by_cases h : s.val < 256
  · rw [dif_pos h, part, if_pos h, show joined C L b s = fun k => C (ix3 b ⟨s.val, h⟩ k) from funext fun k => dif_pos h]
  · rw [dif_neg h, part, if_neg h, show joined C L b s = fun k => L (ix3 b ⟨s.val - 256, by omega⟩ k) from funext fun k => dif_neg h]

/-- Every execution of the reference ends, its results these, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v52) = out1 (m ((c.tc : Thread nD τ).loc main_arg0)) (m ((c.tc : Thread nD τ).loc main_arg1))
      ∧ r.2.mem ((c.tc : Thread nD τ).loc main_v53) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨h, sem_eq_zero_of_no_sems (by decide) _⟩) (Value.run m ρ)

end Cert.FirstReferenceIdeal.Stream

end
-- ==== Proof.Stream.Added.lean ====
/- What the output projection computes of a token at exact arithmetic. -/
module

public import proofs.«01_k».proof.Proof.Stream.Formula

@[expose] public section

noncomputable section

namespace Cert.Stream

open Idealize.ShloMosaic

/-- Token `(b, s)` after the projected rows are added: the rows `L` times the matrix `W`, times the modulation's row 2 of part `r`. -/
def added (L : Vec Ideal ⟨3, ![8, 4352, 2048]⟩ .bf16) (X : Vec Ideal ⟨3, ![8, 4352, 2048]⟩ .f32) (M : Vec Ideal ⟨4, ![8, 2, 6, 2048]⟩ .f32)
    (W : Vec Ideal ⟨2, ![2048, 2048]⟩ .f32) (r : Fin 2) (b : Fin 8) (s : Fin 4352) (d : Fin 2048) : EReal :=
  X (ix3 b s d) + M (ix4 b r 2 d) * ∑ k : Fin 2048, L (ix3 b s k) * W (ix2 k d)

/-- A normed token under the layer's second modulation: gain `g`, then scale (row 4) and shift (row 3) of part `r`. -/
def modded2 (q : Fin 2048 → EReal) (g : Vec Ideal ⟨1, ![2048]⟩ .f32) (M : Vec Ideal ⟨4, ![8, 2, 6, 2048]⟩ .f32) (r : Fin 2) (b : Fin 8) (d : Fin 2048) : EReal :=
  rms q d * g (ix1 d) * (Ideal.ofBits FTy.f32 1065353216#32 + M (ix4 b r 4 d)) + M (ix4 b r 3 d)

end Cert.Stream
end
-- ==== Proof.Stream.Proj.lean ====
/- The output projection at exact arithmetic: the kernel's first two result arrays, entry by entry. -/
module

public import proofs.«01_k».proof.Proof.Gen.OutKernelIdeal.Frame
public import proofs.«01_k».proof.Proof.Stream.Added
public import Idealize.ShloMosaic.Lib.Pipeline.ValueKit.Geometry

@[expose] public section

set_option maxRecDepth 16384
set_option maxHeartbeats 4000000

noncomputable section

namespace Cert.OutKernelIdeal.Stream

open Cert.OutKernelIdeal Cert.OutKernelIdeal.Gen Cert.Stream Idealize.ShloMosaic Idealize.ShloMosaic.TcCoe

variable (m : (ℓ : Loc nD τ sig) → Buf (Elt Ideal) ℓ) (c : Dev nD)

/-- The arguments of device `c`. -/
abbrev aL : Vec Ideal S8x4352x2048 .bf16 := m ((c : Thread nD τ).loc main_arg0)
abbrev aX : Vec Ideal S8x4352x2048 .f32 := m ((c : Thread nD τ).loc main_arg1)
abbrev aM : Vec Ideal S8x2x6x2048 .f32 := m ((c : Thread nD τ).loc main_arg2)
abbrev aR : Vec Ideal S2048 .f32 := m ((c : Thread nD τ).loc main_arg3)
abbrev aW : Vec Ideal S2048x2048 .f32 := m ((c : Thread nD τ).loc main_arg4)

/-- The stream with the projected rows added, at one token. -/
abbrev addE (b : Fin 8) (s : Fin 4352) (d : Fin 2048) : EReal := added (aL m c) (aX m c) (aM m c) (aW m c) (part s) b s d

/-- The two results. -/
def res1 : Vec Ideal S8x4352x2048 .f32 := fun i => addE m c (i 0) (i 1) (i 2)
def res2 : Vec Ideal S8x4352x2048 .bf16 := fun i => modded2 (addE m c (i 0) (i 1)) (aR m c) (aM m c) (part (i 1)) (i 0) (i 2)

theorem tlt (t : Fin cfg0.N) : t.val < 136 := t.isLt

/-- The batch row, the part of the sequence and the tokens of a block. -/
abbrev bt (t : Fin cfg0.N) : Fin 8 := ⟨t.val / 17, by have := tlt t; omega⟩
abbrev pt (t : Fin cfg0.N) : Fin 2 := if t.val % 17 < 1 then 0 else 1
abbrev tok (t : Fin cfg0.N) (r : Fin 256) : Fin 4352 := ⟨256 * (t.val % 17) + r.val, by have := tlt t; omega⟩

theorem part_tok (t : Fin cfg0.N) (r : Fin 256) : part (tok t r) = pt t := by
  unfold part
  by_cases h : t.val % 17 < 1
  · rw [if_pos (by show 256 * (t.val % 17) + r.val < 256; omega), pt, if_pos h]
  · rw [if_neg (by show ¬ 256 * (t.val % 17) + r.val < 256; omega), pt, if_neg h]

theorem index0 : ∀ t : Fin cfg0.N, win0_0.index t = ![t.val / 17, t.val % 17, 0] := (by decide +kernel : ∀ t : Fin grid0.N, win0_0.index t = ![t.val / 17, t.val % 17, 0])
theorem emb0 (t : Fin cfg0.N) (r : Fin 256) (d : Fin 2048) : (((cfg0.win 0).blk t).view.emb (ix3 0 r d : S1x256x2048.Idx) : S8x4352x2048.Idx) = ix3 (bt t) (tok t r) d := by
  refine funext fun (x : Fin 3) => Fin.ext ?_
  refine ((cfg0.win 0).rect_emb_val t (ix3 0 r d : S1x256x2048.Idx) x).trans ?_
  rw [show (cfg0.win 0).index t = _ from index0 t]
  match x with
  | 0 => show t.val / 17 * 1 + 0 = t.val / 17; omega
  | 1 => show t.val % 17 * 256 + r.val = 256 * (t.val % 17) + r.val; omega
  | 2 => show 0 * 2048 + d.val = d.val; omega
theorem iblk0 (t : Fin cfg0.N) (r : Fin 256) (d : Fin 2048) : (iblk m c 0 t : Vec Ideal S1x256x2048 .bf16) (ix3 0 r d) = aL m c (ix3 (bt t) (tok t r) d) :=
  (congrArg (V m c main_arg0 : Vec Ideal S8x4352x2048 .bf16) (emb0 t r d)).trans (congrFun (V_main_arg0 m c) _)

theorem index1 : ∀ t : Fin cfg0.N, win0_1.index t = ![t.val / 17, t.val % 17, 0] := (by decide +kernel : ∀ t : Fin grid0.N, win0_1.index t = ![t.val / 17, t.val % 17, 0])
theorem emb1 (t : Fin cfg0.N) (r : Fin 256) (d : Fin 2048) : (((cfg0.win 1).blk t).view.emb (ix3 0 r d : S1x256x2048.Idx) : S8x4352x2048.Idx) = ix3 (bt t) (tok t r) d := by
  refine funext fun (x : Fin 3) => Fin.ext ?_
  refine ((cfg0.win 1).rect_emb_val t (ix3 0 r d : S1x256x2048.Idx) x).trans ?_
  rw [show (cfg0.win 1).index t = _ from index1 t]
  match x with
  | 0 => show t.val / 17 * 1 + 0 = t.val / 17; omega
  | 1 => show t.val % 17 * 256 + r.val = 256 * (t.val % 17) + r.val; omega
  | 2 => show 0 * 2048 + d.val = d.val; omega
theorem iblk1 (t : Fin cfg0.N) (r : Fin 256) (d : Fin 2048) : (iblk m c 1 t : Vec Ideal S1x256x2048 .f32) (ix3 0 r d) = aX m c (ix3 (bt t) (tok t r) d) :=
  (congrArg (V m c main_arg1 : Vec Ideal S8x4352x2048 .f32) (emb1 t r d)).trans (congrFun (V_main_arg1 m c) _)

theorem index2 : ∀ t : Fin cfg0.N, win0_2.index t = ![t.val / 17, if t.val % 17 < 1 then 0 else 1, 0, 0] := (by decide +kernel : ∀ t : Fin grid0.N, win0_2.index t = ![t.val / 17, if t.val % 17 < 1 then 0 else 1, 0, 0])
theorem iblk2 (t : Fin cfg0.N) (k : Fin 6) (d : Fin 2048) : (iblk m c 2 t : Vec Ideal S1x1x6x2048 .f32) (ix4 0 0 k d) = aM m c (ix4 (bt t) (pt t) k d) := by
  refine Eq.trans (congrArg (V m c main_arg2 : Vec Ideal S8x2x6x2048 .f32) (funext fun (x : Fin 4) => Fin.ext ?_ : ((cfg0.win 2).blk t).view.emb (ix4 0 0 k d : S1x1x6x2048.Idx) = (ix4 (bt t) (pt t) k d : S8x2x6x2048.Idx))) (congrFun (V_main_arg2 m c) _)
  refine ((cfg0.win 2).rect_emb_val t (ix4 0 0 k d : S1x1x6x2048.Idx) x).trans ?_
  rw [show (cfg0.win 2).index t = _ from index2 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

/-- The gain reaches the kernel as one row. -/
theorem V_main_v1 (k : Fin 1) (d : Fin 2048) : (V m c main_v1 : Vec Ideal S1x2048 .f32) (ix2 k d) = aR m c (ix1 d) := by
  obtain rfl : k = 0 := Subsingleton.elim _ _
  have h : (V m c main_v1 : Vec Ideal S1x2048 .f32) = shapeCast (α := Ideal .f32) S1x2048 (aR m c) shapeCasts_S2048_S1x2048 := by
    simp only [V, hostOps0, StableHlo.after, List.foldl_cons, List.foldl_nil]
    rfl
  rw [h]
  pointwise []

/-- The matrix reaches the kernel narrowed, which at exact arithmetic changes nothing. -/
theorem V_main_v0 (k : Fin 2048) (d : Fin 2048) : (V m c main_v0 : Vec Ideal S2048x2048 .bf16) (ix2 k d) = aW m c (ix2 k d) := by
  have h : (V m c main_v0 : Vec Ideal S2048x2048 .bf16) = (truncf .bf16 (aW m c : FVec Ideal S2048x2048 .f32) bitsLt_bf16_f32 : FVec Ideal S2048x2048 .bf16) := by
    simp only [V, hostOps0, StableHlo.after, List.foldl_cons, List.foldl_nil]
    rfl
  rw [h]
  pointwise []

theorem index3 : ∀ t : Fin cfg0.N, win0_3.index t = ![0, 0] := (by decide +kernel : ∀ t : Fin grid0.N, win0_3.index t = ![0, 0])
theorem iblk3 (t : Fin cfg0.N) (k : Fin 1) (d : Fin 2048) : (iblk m c 3 t : Vec Ideal S1x2048 .f32) (ix2 k d) = aR m c (ix1 d) := by
  refine Eq.trans (congrArg (V m c main_v1 : Vec Ideal S1x2048 .f32) (funext fun (x : Fin 2) => Fin.ext ?_ : ((cfg0.win 3).blk t).view.emb (ix2 k d : S1x2048.Idx) = (ix2 k d : S1x2048.Idx))) (V_main_v1 m c k d)
  refine ((cfg0.win 3).rect_emb_val t (ix2 k d : S1x2048.Idx) x).trans ?_
  rw [show (cfg0.win 3).index t = _ from index3 t]
  match x with
  | 0 => show 0 * 1 + k.val = k.val; omega
  | 1 => show 0 * 2048 + d.val = d.val; omega

theorem index4 : ∀ t : Fin cfg0.N, win0_4.index t = ![0, 0] := (by decide +kernel : ∀ t : Fin grid0.N, win0_4.index t = ![0, 0])
theorem iblk4 (t : Fin cfg0.N) (k : Fin 2048) (d : Fin 2048) : (iblk m c 4 t : Vec Ideal S2048x2048 .bf16) (ix2 k d) = aW m c (ix2 k d) := by
  refine Eq.trans (congrArg (V m c main_v0 : Vec Ideal S2048x2048 .bf16) (funext fun (x : Fin 2) => Fin.ext ?_ : ((cfg0.win 4).blk t).view.emb (ix2 k d : S2048x2048.Idx) = (ix2 k d : S2048x2048.Idx))) (V_main_v0 m c k d)
  refine ((cfg0.win 4).rect_emb_val t (ix2 k d : S2048x2048.Idx) x).trans ?_
  rw [show (cfg0.win 4).index t = _ from index4 t]
  match x with
  | 0 => show 0 * 2048 + k.val = k.val; omega
  | 1 => show 0 * 2048 + d.val = d.val; omega

theorem index7 : ∀ t : Fin cfg0.N, win0_7.index t = ![t.val / 17, t.val % 17, 0] := (by decide +kernel : ∀ t : Fin grid0.N, win0_7.index t = ![t.val / 17, t.val % 17, 0])
theorem emb7 (t : Fin cfg0.N) (r : Fin 256) (d : Fin 2048) : (((cfg0.win 7).blk t).view.emb (ix3 0 r d : S1x256x2048.Idx) : S8x4352x2048.Idx) = ix3 (bt t) (tok t r) d := by
  refine funext fun (x : Fin 3) => Fin.ext ?_
  refine ((cfg0.win 7).rect_emb_val t (ix3 0 r d : S1x256x2048.Idx) x).trans ?_
  rw [show (cfg0.win 7).index t = _ from index7 t]
  match x with
  | 0 => show t.val / 17 * 1 + 0 = t.val / 17; omega
  | 1 => show t.val % 17 * 256 + r.val = 256 * (t.val % 17) + r.val; omega
  | 2 => show 0 * 2048 + d.val = d.val; omega
theorem index8 : ∀ t : Fin cfg0.N, win0_8.index t = ![t.val / 17, t.val % 17, 0] := (by decide +kernel : ∀ t : Fin grid0.N, win0_8.index t = ![t.val / 17, t.val % 17, 0])
theorem emb8 (t : Fin cfg0.N) (r : Fin 256) (d : Fin 2048) : (((cfg0.win 8).blk t).view.emb (ix3 0 r d : S1x256x2048.Idx) : S8x4352x2048.Idx) = ix3 (bt t) (tok t r) d := by
  refine funext fun (x : Fin 3) => Fin.ext ?_
  refine ((cfg0.win 8).rect_emb_val t (ix3 0 r d : S1x256x2048.Idx) x).trans ?_
  rw [show (cfg0.win 8).index t = _ from index8 t]
  match x with
  | 0 => show t.val / 17 * 1 + 0 = t.val / 17; omega
  | 1 => show t.val % 17 * 256 + r.val = 256 * (t.val % 17) + r.val; omega
  | 2 => show 0 * 2048 + d.val = d.val; omega
/-- One token of a block: the stream and its modulated norm. -/
def tokB (P0 : Vec Ideal S1x256x2048 .bf16) (P1 : Vec Ideal S1x256x2048 .f32) (P2 : Vec Ideal S1x1x6x2048 .f32) (P4 : Vec Ideal S2048x2048 .bf16) (r : Fin 256) (x : Fin 2048) : EReal :=
  P1 (ix3 0 r x) + P2 (ix4 0 0 2 x) * ∑ k : Fin 2048, P0 (ix3 0 r k) * P4 (ix2 k x)

theorem pay4_apply (P0 : Vec Ideal S1x256x2048 .bf16) (P1 : Vec Ideal S1x256x2048 .f32) (P2 : Vec Ideal S1x1x6x2048 .f32) (P4 : Vec Ideal S2048x2048 .bf16) (r : Fin 256) (d : Fin 2048) : k0_pay4 P2 P1 P0 P4 (ix2 r d) = tokB P0 P1 P2 P4 r d := by
  pointwise [k0_pay4, k0_pay3, tokB]

theorem pay5_apply (P0 : Vec Ideal S1x256x2048 .bf16) (P1 : Vec Ideal S1x256x2048 .f32) (P2 : Vec Ideal S1x1x6x2048 .f32) (P4 : Vec Ideal S2048x2048 .bf16) (r : Fin 256) (d : Fin 2048) : k0_pay5 P2 P1 P0 P4 (ix3 0 r d) = tokB P0 P1 P2 P4 r d := by
  pointwise [k0_pay5, pay4_apply]

theorem pay10_apply (P0 : Vec Ideal S1x256x2048 .bf16) (P1 : Vec Ideal S1x256x2048 .f32) (P2 : Vec Ideal S1x1x6x2048 .f32) (P4 : Vec Ideal S2048x2048 .bf16) (P3 : Vec Ideal S1x2048 .f32) (r : Fin 256) (d : Fin 2048) :
    k0_pay10 (k0_pay6 P2) (k0_pay7 P2 P1 P0 P4 P3) (k0_pay8 P2) (ix3 0 r d)
      = rms (tokB P0 P1 P2 P4 r) d * P3 (ix2 0 d) * (Ideal.ofBits FTy.f32 1065353216#32 + P2 (ix4 0 0 4 d)) + P2 (ix4 0 0 3 d) := by
  pointwise [k0_pay10, k0_pay9, k0_pay6, k0_pay7, k0_pay8, k0_pay3, pay4_apply, rms]

theorem out7_eq (P0 : Vec Ideal S1x256x2048 .bf16) (P1 : Vec Ideal S1x256x2048 .f32) (P2 : Vec Ideal S1x1x6x2048 .f32) (P3 : Vec Ideal S1x2048 .f32) (P4 : Vec Ideal S2048x2048 .bf16) (P5 : Vec Ideal S16x2048 .bf16) (P6 : Vec Ideal S16x1 .f32) :
    out0_7 P0 P1 P2 P3 P4 P5 P6 = k0_pay5 P2 P1 P0 P4 := by
  unfold out0_7
  rw [View.canon_unit_zero (by decide), View.ld_unit_zero (by decide), View.ld_unit_zero (by decide), View.ld_unit_zero (by decide), View.ld_unit_zero (by decide)]

theorem out8_eq (P0 : Vec Ideal S1x256x2048 .bf16) (P1 : Vec Ideal S1x256x2048 .f32) (P2 : Vec Ideal S1x1x6x2048 .f32) (P3 : Vec Ideal S1x2048 .f32) (P4 : Vec Ideal S2048x2048 .bf16) (P5 : Vec Ideal S16x2048 .bf16) (P6 : Vec Ideal S16x1 .f32) :
    out0_8 P0 P1 P2 P3 P4 P5 P6 = k0_pay10 (k0_pay6 P2) (k0_pay7 P2 P1 P0 P4 P3) (k0_pay8 P2) := by
  unfold out0_8 k0_pay37 k0_pay38 k0_pay39
  rw [View.canon_unit_zero (by decide), View.ld_unit_zero (by decide), View.ld_unit_zero (by decide), View.ld_unit_zero (by decide), View.ld_unit_zero (by decide), View.ld_unit_zero (by decide)]

theorem cover7 (i : S8x4352x2048.Idx) : ∃ t : Fin cfg0.N, (cfg0.win 7).flush t = true ∧ i ∈ ((cfg0.win 7).blk t).view.set := by
  obtain ⟨b, s, d, rfl⟩ : ∃ (b : Fin 8) (s : Fin 4352) (d : Fin 2048), i = ix3 b s d := ⟨i 0, i 1, i 2, eq_ix3 i⟩
  have ht : 17 * b.val + s.val / 256 < 136 := by omega
  refine ⟨(⟨17 * b.val + s.val / 256, ht⟩ : Fin 136), flush0_7 _, ?_⟩
  have he := emb7 (⟨17 * b.val + s.val / 256, ht⟩ : Fin 136) ⟨s.val % 256, by omega⟩ d
  have hi : (ix3 b s d : S8x4352x2048.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x2048.Idx)) (Fin.ext (by show b.val = (17 * b.val + s.val / 256) / 17; omega))
      (Fin.ext (by show s.val = 256 * ((17 * b.val + s.val / 256) % 17) + s.val % 256; omega))
  rw [hi, ← he]
  exact View.emb_mem_set _ _

theorem cover8 (i : S8x4352x2048.Idx) : ∃ t : Fin cfg0.N, (cfg0.win 8).flush t = true ∧ i ∈ ((cfg0.win 8).blk t).view.set := by
  obtain ⟨b, s, d, rfl⟩ : ∃ (b : Fin 8) (s : Fin 4352) (d : Fin 2048), i = ix3 b s d := ⟨i 0, i 1, i 2, eq_ix3 i⟩
  have ht : 17 * b.val + s.val / 256 < 136 := by omega
  refine ⟨(⟨17 * b.val + s.val / 256, ht⟩ : Fin 136), flush0_8 _, ?_⟩
  have he := emb8 (⟨17 * b.val + s.val / 256, ht⟩ : Fin 136) ⟨s.val % 256, by omega⟩ d
  have hi : (ix3 b s d : S8x4352x2048.Idx) = ix3 (bt (⟨17 * b.val + s.val / 256, ht⟩ : Fin 136)) (tok (⟨17 * b.val + s.val / 256, ht⟩ : Fin 136) ⟨s.val % 256, by omega⟩) d :=
    congrArg₂ (fun p q => (ix3 p q d : S8x4352x2048.Idx)) (Fin.ext (by show b.val = (17 * b.val + s.val / 256) / 17; omega))
      (Fin.ext (by show s.val = 256 * ((17 * b.val + s.val / 256) % 17) + s.val % 256; omega))
  rw [hi, ← he]
  exact View.emb_mem_set _ _

/-- A block's token, read from the arguments. -/
theorem add_blk (t : Fin cfg0.N) (r : Fin 256) (x : Fin 2048) :
    tokB (iblk m c 0 t) (iblk m c 1 t) (iblk m c 2 t) (iblk m c 4 t) r x = addE m c (bt t) (tok t r) x := by
  unfold tokB
  rw [iblk1, iblk2, addE, part_tok, added]
  refine congrArg (fun q => _ + _ * q) (Finset.sum_congr rfl fun k _ => ?_)
  rw [iblk0, iblk4]

/-- The array the kernel leaves. -/
theorem final7 : (dats m 0 c).arrAt 7 cfg0.N = res1 m c := by
  refine (dats m 0 c).arrAt_eq_of_emb 7 (res1 m c) (fun t hf (y : S1x256x2048.Idx) => ?_) (cover7)
  obtain ⟨z, r, d, rfl⟩ : ∃ (z : Fin 1) (r : Fin 256) (d : Fin 2048), y = ix3 z r d := ⟨y 0, y 1, y 2, eq_ix3 y⟩
  obtain rfl : z = 0 := Subsingleton.elim _ _
  refine Eq.trans ?_ (congrArg (res1 m c) (emb7 t r d)).symm
  show (dats m 0 c).after 7 t (ix3 0 r d : S1x256x2048.Idx) = _
  rw [after0_7]
  refine (congrFun (out7_eq _ _ _ _ _ _ _ ) _).trans ((pay5_apply _ _ _ _ r d).trans ?_)
  exact add_blk m c t r d

/-- The array the kernel leaves. -/
theorem final8 : (dats m 0 c).arrAt 8 cfg0.N = res2 m c := by
  refine (dats m 0 c).arrAt_eq_of_emb 8 (res2 m c) (fun t hf (y : S1x256x2048.Idx) => ?_) (cover8)
  obtain ⟨z, r, d, rfl⟩ : ∃ (z : Fin 1) (r : Fin 256) (d : Fin 2048), y = ix3 z r d := ⟨y 0, y 1, y 2, eq_ix3 y⟩
  obtain rfl : z = 0 := Subsingleton.elim _ _
  refine Eq.trans ?_ (congrArg (res2 m c) (emb8 t r d)).symm
  show (dats m 0 c).after 8 t (ix3 0 r d : S1x256x2048.Idx) = _
  rw [after0_8]
  refine (congrFun (out8_eq _ _ _ _ _ _ _ ) _).trans ((pay10_apply _ _ _ _ _ r d).trans ?_)
  rw [iblk2, iblk2, iblk3, show tokB _ _ _ _ r = addE m c (bt t) (tok t r) from funext (add_blk m c t r)]
  show _ = modded2 (addE m c (bt t) (tok t r)) (aR m c) (aM m c) (part (tok t r)) (bt t) d
  rw [part_tok]
  rfl

/-- The run: the results hold the formulas and the arguments are as they were. -/
theorem run (g : Dev nD → PrngReg) : θ_run defs (onTc (τ := τ) (main (F := Ideal))) ⟨m, fun _ => 0, g⟩ fun r => ∀ c : Dev nD,
      r.2.mem ((c : Thread nD τ).loc main_v5_0) = res1 m c
      ∧ r.2.mem ((c : Thread nD τ).loc main_v5_1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 7).trans (final7 m c), ((h c).1 8).trans (final8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m g)

end Cert.OutKernelIdeal.Stream

end
-- ==== Proof.Stream.ProjRef.lean ====
/- The reference of the output projection at exact arithmetic, entry by entry. -/
module

public import proofs.«01_k».proof.Proof.Gen.OutReferenceIdeal.Run
public import proofs.«01_k».proof.Proof.Stream.Added
public import Idealize.ShloMosaic.Lib.Quiescent

@[expose] public section

set_option maxRecDepth 16384
set_option maxHeartbeats 4000000

noncomputable section

namespace Cert.OutReferenceIdeal.Stream

open Cert.OutReferenceIdeal Cert.OutReferenceIdeal.Gen Cert.Stream Idealize.ShloMosaic Idealize.ShloMosaic.TcCoe Idealize.SL.Sem

variable (L : Vec Ideal S8x4352x2048 .bf16) (X : Vec Ideal S8x4352x2048 .f32) (M : Vec Ideal S8x2x6x2048 .f32) (g : Vec Ideal S2048 .f32) (W : Vec Ideal S2048x2048 .f32)

/-- The projected rows. -/
def o : FVec Ideal S8x4352x2048 .f32 :=
  Host.dotGeneral (φ₁ := .f32) (φ₂ := .f32) dot_S8x4352x2048_S2048x2048_S8x4352x2048_2_0_01_1_n_n none (extf .f32 (φ := .bf16) L bitsLt_bf16_f32) W
/-- The context tokens with the projected rows added. -/
def xc : FVec Ideal S8x256x2048 .f32 :=
  addf (extractStridedSlice (α := Ideal .f32) S8x256x2048 ![0, 0, 0] X slices_S8x4352x2048_S8x256x2048_0_0_0)
    (mulf (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 2, 0] M slices_S8x2x6x2048_S8x1x1x2048_0_0_2_0) shapeCasts_S8x1x1x2048_S8x2048)))
      (extractStridedSlice (α := Ideal .f32) S8x256x2048 ![0, 0, 0] (o L W) slices_S8x4352x2048_S8x256x2048_0_0_0))
/-- Their norm under the modulation. -/
def hc : FVec Ideal S8x256x2048 .f32 :=
  addf (mulf (mulf (mulf (xc L X M W) (broadcastInDim S8x256x2048 ![0, 1, 2] bcast_S8x256x1_S8x256x2048_0_1_2 (Host.rsqrt (addf (Host.divf (broadcastInDim S8x256x1 ![0, 1] bcast_S8x256_S8x256x1_0_1
      (Host.reduceAdd (mulf (xc L X M W) (xc L X M W)) (constant S_ .f32 0x00000000#32) reducesTo_S8x256x2048_S8x256_d2 h_S_)) (broadcastInDim S8x256x1 ![] bcast_S_S8x256x1 (constant S_ .f32 0x45000000#32)))
      (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 g)))
    (broadcastInDim S8x256x2048 ![0, 1, 2] bcast_S8x1x2048_S8x256x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 0, 4, 0] M slices_S8x2x6x2048_S8x1x1x2048_0_0_4_0) shapeCasts_S8x1x1x2048_S8x2048)))))
    (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 3, 0] M slices_S8x2x6x2048_S8x1x1x2048_0_0_3_0) shapeCasts_S8x1x1x2048_S8x2048)))
/-- The latent tokens with the projected rows added. -/
def xl : FVec Ideal S8x4096x2048 .f32 :=
  addf (extractStridedSlice (α := Ideal .f32) S8x4096x2048 ![0, 256, 0] X slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 2, 0] M slices_S8x2x6x2048_S8x1x1x2048_0_1_2_0) shapeCasts_S8x1x1x2048_S8x2048)))
      (extractStridedSlice (α := Ideal .f32) S8x4096x2048 ![0, 256, 0] (o L W) slices_S8x4352x2048_S8x4096x2048_0_256_0))
/-- Their norm under the modulation. -/
def hl : FVec Ideal S8x4096x2048 .f32 :=
  addf (mulf (mulf (mulf (xl L X M W) (broadcastInDim S8x4096x2048 ![0, 1, 2] bcast_S8x4096x1_S8x4096x2048_0_1_2 (Host.rsqrt (addf (Host.divf (broadcastInDim S8x4096x1 ![0, 1] bcast_S8x4096_S8x4096x1_0_1
      (Host.reduceAdd (mulf (xl L X M W) (xl L X M W)) (constant S_ .f32 0x00000000#32) reducesTo_S8x4096x2048_S8x4096_d2 h_S_)) (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g)))
    (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 1, 4, 0] M slices_S8x2x6x2048_S8x1x1x2048_0_1_4_0) shapeCasts_S8x1x1x2048_S8x2048)))))
    (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 3, 0] M slices_S8x2x6x2048_S8x1x1x2048_0_1_3_0) shapeCasts_S8x1x1x2048_S8x2048)))
/-- The two results. -/
def out1 : FVec Ideal S8x4352x2048 .f32 := concatenate (α := Ideal .f32) S8x4352x2048 1 [⟨S8x256x2048, xc L X M W⟩, ⟨S8x4096x2048, xl L X M W⟩] concatenates_S8x256x2048_S8x4096x2048_S8x4352x2048_d1
def out2 : FVec Ideal S8x4352x2048 .bf16 := truncf .bf16 (φ := .f32) (concatenate (α := Ideal .f32) S8x4352x2048 1 [⟨S8x256x2048, hc L X M g W⟩, ⟨S8x4096x2048, hl L X M g W⟩] concatenates_S8x256x2048_S8x4096x2048_S8x4352x2048_d1) bitsLt_bf16_f32

/-- Entries of these. -/
theorem xc_apply (b : Fin 8) (s : Fin 256) (d : Fin 2048) : xc L X M W (ix3 b s d) = added L X M W 0 b ⟨0 + s.val, by omega⟩ d := by
  pointwise [xc, o, added]
theorem hc_apply (b : Fin 8) (s : Fin 256) (d : Fin 2048) : hc L X M g W (ix3 b s d) = modded2 (added L X M W 0 b ⟨0 + s.val, by omega⟩) g M 0 b d := by
  pointwise [hc, xc_apply, rms, modded2]
/-- Entries of these. -/
theorem xl_apply (b : Fin 8) (s : Fin 4096) (d : Fin 2048) : xl L X M W (ix3 b s d) = added L X M W 1 b ⟨256 + s.val, by omega⟩ d := by
  pointwise [xl, o, added]
theorem hl_apply (b : Fin 8) (s : Fin 4096) (d : Fin 2048) : hl L X M g W (ix3 b s d) = modded2 (added L X M W 1 b ⟨256 + s.val, by omega⟩) g M 1 b d := by
  pointwise [hl, xl_apply, rms, modded2]
/-- Entries of the two results. -/
theorem out1_apply (b : Fin 8) (s : Fin 4352) (d : Fin 2048) : out1 L X M W (ix3 b s d) = added L X M W (part s) b s d := by
  pointwise [out1, xc_apply, xl_apply]
  unfold part
  split
  · exact congrArg (fun q => added L X M W 0 b q d) (Fin.ext rfl)
  · exact congrArg (fun q => added L X M W 1 b q d) (Fin.ext (by show 256 + (s.val - 256) = s.val; omega))
theorem out2_apply (b : Fin 8) (s : Fin 4352) (d : Fin 2048) : out2 L X M g W (ix3 b s d) = modded2 (added L X M W (part s) b s) g M (part s) b d := by
  pointwise [out2, hc_apply, hl_apply]
  unfold part
  split
  · exact congrArg (fun q => modded2 (added L X M W 0 b q) g M 0 b d) (Fin.ext rfl)
  · exact congrArg (fun q => modded2 (added L X M W 1 b q) g M 1 b d) (Fin.ext (by show 256 + (s.val - 256) = s.val; omega))

/-- Every execution of the reference ends, its results these, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v68) = out1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v70) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨h, sem_eq_zero_of_no_sems (by decide) _⟩) (Value.run m ρ)

end Cert.OutReferenceIdeal.Stream

end
-- ==== Proof.Stream.Ranked.lean ====
/- Positions in order of value: the greatest of a few extended reals, the second greatest, and the two experts a token goes to. -/
module

public import Idealize.ShloMosaic.Lib.Tactic
public import Idealize.ShloMosaic.Lib.Pointwise
public import Idealize.ShloMosaic.Lib.SortPrefix

@[expose] public section

noncomputable section

namespace Cert.Stream

open Idealize.ShloMosaic

/-- The position of the `k`-th greatest of `x`, equal values in order of position. -/
def rank {n : Nat} (x : Fin n → EReal) (k : Fin n) : Fin n := sortedFrom (fun a b => decide (x b < x a)) k

/-- Position `a` comes before `b`: by value, then by position. -/
def beats {n : Nat} (x : Fin n → EReal) (a b : Fin n) : Bool := decide (x b < x a) || (decide (x a = x b) && decide (a < b))

theorem beats_total {n : Nat} (x : Fin n → EReal) : StrictTotalBefore (beats x) :=
  StrictTotalBefore.of_key_then_position (fun p q : EReal => decide (q < p)) x (by simp)
    (fun a b c h h' => by simp only [decide_eq_true_eq] at *; exact h'.trans h)
    (fun a b => by simp only [decide_eq_true_eq]; rcases lt_trichotomy a b with h | h | h <;> simp [h])

theorem beats_false {n : Nat} {x : Fin n → EReal} {a b : Fin n} (h : x a ≤ x b) (h' : a < b → x a < x b) : beats x a b = false := by
  unfold beats
  have h1 : ¬ x b < x a := not_lt.mpr h
  by_cases e : a < b
  · simp [h1, (h' e).ne]
  · simp [h1, e]

/-- On positions in order, sorting by value alone is sorting by value and then position. -/
theorem stableSort_beats {n : Nat} (x : Fin n → EReal) (l : List (Fin n)) (hl : l.Pairwise (· < ·)) :
    stableSort (fun a b => decide (x b < x a)) l = stableSort (beats x) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [beats, this]

theorem rank_eq {n : Nat} (x : Fin n → EReal) (k : Fin n) : rank x k = sortedFrom (beats x) k := by
  have h : sortPositions n (fun a b => decide (x b < x a)) = sortPositions n (beats x) :=
    stableSort_beats x _ (List.pairwise_lt_finRange n)
  exact List.get_of_eq h _

/-- The first two positions, from what characterises them. -/
theorem rank_two {n : Nat} (hn : 2 ≤ n) (x : Fin n → EReal) (i j : Fin n) (hij : i ≠ j) (hi : ∀ p, x p ≤ x i ∧ (p < i → x p < x i))
    (hj : ∀ p, p ≠ i → x p ≤ x j ∧ (p < j → x p < x j)) (k : Fin 2) : rank x (k.castLE hn) = ![i, j] k := by
  rw [rank_eq]
  refine (beats_total x).sortedFrom_eq_of_prefix hn ![i, j] ?_ ?_ ?_ k
  · intro a b h
    match a, b with
    | 0, 0 => rfl
    | 1, 1 => rfl
    | 0, 1 => exact absurd h hij
    | 1, 0 => exact absurd h.symm hij
  · intro a b h
    match a, b with
    | 0, 0 => exact absurd h (by decide)
    | 1, 1 => exact absurd h (by decide)
    | 0, 1 => exact beats_false (hi j).1 (hi j).2
    | 1, 0 => exact absurd h (by decide)
  · intro a p h
    match a with
    | 0 => exact beats_false (hi p).1 (hi p).2
    | 1 => exact beats_false (hj p (fun e => h 0 e.symm)).1 (hj p (fun e => h 0 e.symm)).2

theorem rank_one {n : Nat} (hn : 1 ≤ n) (x : Fin n → EReal) (i : Fin n) (hi : ∀ p, x p ≤ x i ∧ (p < i → x p < x i)) (k : Fin 1) : rank x (k.castLE hn) = i := by
  rw [rank_eq]
  refine (beats_total x).sortedFrom_eq_of_prefix hn (fun _ => i) (fun a b _ => Subsingleton.elim a b) (fun a b h => ?_) (fun a p _ => beats_false (hi p).1 (hi p).2) k
  exact absurd h (by rw [Subsingleton.elim a b]; exact lt_irrefl _)

/-- The running greatest of four: the first position of the greatest value. -/
def top1 (v : Fin 4 → EReal) : Fin 4 := if v 0 < v 1 then 1 else 0
def top2 (v : Fin 4 → EReal) : Fin 4 := if v (top1 v) < v 2 then 2 else top1 v
def top (v : Fin 4 → EReal) : Fin 4 := if v (top2 v) < v 3 then 3 else top2 v

theorem top1_spec (v : Fin 4 → EReal) : (top1 v).val ≤ 1 ∧ ∀ p : Fin 4, p.val ≤ 1 → v p ≤ v (top1 v) ∧ (p < top1 v → v p < v (top1 v)) := by
  unfold top1
  split
  · rename_i h
    refine ⟨le_rfl, fun p hp => ?_⟩
    match p with
    | 0 => exact ⟨h.le, fun _ => h⟩
    | 1 => exact ⟨le_rfl, fun e => absurd e (lt_irrefl _)⟩
  · rename_i h
    refine ⟨by decide, fun p hp => ?_⟩
    match p with
    | 0 => exact ⟨le_rfl, fun e => absurd e (lt_irrefl _)⟩
    | 1 => exact ⟨not_lt.mp h, fun e => absurd e (by decide)⟩

/-- One more value keeps the running greatest what it is. -/
theorem step_spec (v : Fin 4 → EReal) (n : Nat) (r q : Fin 4) (hq : q.val = n + 1) (h : r.val ≤ n ∧ ∀ p : Fin 4, p.val ≤ n → v p ≤ v r ∧ (p < r → v p < v r)) :
    (if v r < v q then q else r).val ≤ n + 1 ∧ ∀ p : Fin 4, p.val ≤ n + 1 → v p ≤ v (if v r < v q then q else r) ∧ (p < (if v r < v q then q else r) → v p < v (if v r < v q then q else r)) := by
  split
  · rename_i hl
    refine ⟨hq.le, fun p hp => ?_⟩
    rcases Nat.lt_or_ge n p.val with h1 | h1
    · obtain rfl : p = q := Fin.ext (by omega)
      exact ⟨le_rfl, fun e => absurd e (lt_irrefl _)⟩
    · exact ⟨((h.2 p h1).1.trans_lt hl).le, fun _ => (h.2 p h1).1.trans_lt hl⟩
  · rename_i hl
    refine ⟨by have := h.1; omega, fun p hp => ?_⟩
    rcases Nat.lt_or_ge n p.val with h1 | h1
    · obtain rfl : p = q := Fin.ext (by omega)
      exact ⟨not_lt.mp hl, fun e => absurd e (by have := h.1; rw [Fin.lt_def]; omega)⟩
    · exact h.2 p h1

theorem top_spec (v : Fin 4 → EReal) (p : Fin 4) : v p ≤ v (top v) ∧ (p < top v → v p < v (top v)) :=
  (step_spec v 2 (top2 v) 3 rfl (step_spec v 1 (top1 v) 2 rfl (top1_spec v))).2 p (by omega)

/-- The values with one of them put out of the running. -/
def without (v : Fin 4 → EReal) (r : Fin 4) : Fin 4 → EReal := fun j => if j = r then ⊥ else v j

/-- The second greatest's position. -/
def next (v : Fin 4 → EReal) : Fin 4 := top (without v (top v))

theorem next_ne (v : Fin 4 → EReal) (hv : ∀ j, ⊥ < v j) : top v ≠ next v := by
  intro e
  obtain ⟨q, hq⟩ : ∃ q : Fin 4, q ≠ top v := exists_ne _
  have h := (top_spec (without v (top v)) q).1
  rw [show top (without v (top v)) = top v from e.symm] at h
  unfold without at h
  rw [if_neg hq, if_pos rfl] at h
  exact absurd (hv q) (not_lt.mpr h)

theorem next_spec (v : Fin 4 → EReal) (hv : ∀ j, ⊥ < v j) (p : Fin 4) (hp : p ≠ top v) : v p ≤ v (next v) ∧ (p < next v → v p < v (next v)) := by
  have h := top_spec (without v (top v)) p
  have e : without v (top v) (next v) = v (next v) := if_neg (next_ne v hv).symm
  have e' : without v (top v) p = v p := if_neg hp
  rw [show top (without v (top v)) = next v from rfl, e, e'] at h
  exact h

theorem rank_four (v : Fin 4 → EReal) (hv : ∀ j, ⊥ < v j) (k : Fin 2) : rank v (k.castLE (by decide)) = ![top v, next v] k :=
  rank_two (by decide) v _ _ (next_ne v hv) (top_spec v) (next_spec v hv) k

/-- The greatest of the six sums of two of four values. -/
def pairs (v : Fin 4 → EReal) : EReal := max (max (max (max (max (v 0 + v 1) (v 0 + v 2)) (v 0 + v 3)) (v 1 + v 2)) (v 1 + v 3)) (v 2 + v 3)

theorem pair_le (v : Fin 4 → EReal) (hv : ∀ j, ⊥ < v j) (p q : Fin 4) (hpq : p ≠ q) : v p + v q ≤ v (top v) + v (next v) := by
  by_cases h : q = top v
  · rw [add_comm, h]
    exact add_le_add le_rfl (next_spec v hv p (h ▸ hpq)).1
  · exact add_le_add (top_spec v p).1 (next_spec v hv q h).1

theorem le_pairs (v : Fin 4 → EReal) (p q : Fin 4) (hpq : p ≠ q) : v p + v q ≤ pairs v := by
  unfold pairs
  match p, q with
  | 0, 0 => exact absurd rfl hpq
  | 1, 1 => exact absurd rfl hpq
  | 2, 2 => exact absurd rfl hpq
  | 3, 3 => exact absurd rfl hpq
  | 0, 1 => simp only [le_max_iff, le_refl, true_or, or_true]
  | 0, 2 => simp only [le_max_iff, le_refl, true_or, or_true]
  | 0, 3 => simp only [le_max_iff, le_refl, true_or, or_true]
  | 1, 2 => simp only [le_max_iff, le_refl, true_or, or_true]
  | 1, 3 => simp only [le_max_iff, le_refl, true_or, or_true]
  | 2, 3 => simp only [le_max_iff, le_refl, true_or, or_true]
  | 1, 0 => rw [add_comm]; simp only [le_max_iff, le_refl, true_or, or_true]
  | 2, 0 => rw [add_comm]; simp only [le_max_iff, le_refl, true_or, or_true]
  | 3, 0 => rw [add_comm]; simp only [le_max_iff, le_refl, true_or, or_true]
  | 2, 1 => rw [add_comm]; simp only [le_max_iff, le_refl, true_or, or_true]
  | 3, 1 => rw [add_comm]; simp only [le_max_iff, le_refl, true_or, or_true]
  | 3, 2 => rw [add_comm]; simp only [le_max_iff, le_refl, true_or, or_true]

/-- The greatest sum of two values is the sum of the two greatest. -/
theorem pairs_eq (v : Fin 4 → EReal) (hv : ∀ j, ⊥ < v j) : pairs v = v (top v) + v (next v) := by
  refine le_antisymm ?_ (le_pairs v _ _ (next_ne v hv))
  unfold pairs
  refine max_le (max_le (max_le (max_le (max_le ?_ ?_) ?_) ?_) ?_) ?_ <;> exact pair_le v hv _ _ (by decide)

/-- Expert `i` of group `g`. -/
def at4 (g i : Fin 4) : Fin 16 := ⟨4 * g.val + i.val, by omega⟩

theorem at4_inj {g i j : Fin 4} (h : at4 g i = at4 g j) : i = j := by
  have := congrArg Fin.val h
  unfold at4 at this
  dsimp only at this
  exact Fin.ext (by omega)

/-- The group with the greatest sum of two. -/
def best (x : Fin 16 → EReal) : Fin 4 := top fun g => pairs fun i => x (at4 g i)

/-- The two experts: the two greatest of that group. -/
def chosen (x : Fin 16 → EReal) (k : Fin 2) : Fin 16 := at4 (best x) (![top fun i => x (at4 (best x) i), next fun i => x (at4 (best x) i)] k)

/-- The two weights: the chosen experts' scores over their sum. -/
def gate (sc x : Fin 16 → EReal) (k : Fin 2) : EReal := Ideal.div (sc (chosen x k)) (sc (chosen x 0) + sc (chosen x 1))

/-- The sum of a group's two greatest, and the first group with the greatest sum. -/
def score (x : Fin 16 → EReal) (g : Fin 4) : EReal := ∑ k : Fin 2, x (at4 g (rank (fun i => x (at4 g i)) (k.castLE (by decide))))

theorem score_eq (x : Fin 16 → EReal) (hx : ∀ e, ⊥ < x e) (g : Fin 4) : score x g = pairs fun i => x (at4 g i) := by
  rw [pairs_eq _ (fun i => hx _), score, Fin.sum_univ_two, rank_four _ (fun i => hx _), rank_four _ (fun i => hx _)]
  rfl

theorem rank_score (x : Fin 16 → EReal) (hx : ∀ e, ⊥ < x e) (k : Fin 1) : rank (score x) (k.castLE (by decide)) = best x := by
  rw [show score x = (fun g => pairs fun i => x (at4 g i)) from funext (score_eq x hx)]
  exact rank_one (by decide) _ _ (top_spec _) k

/-- The two greatest of all sixteen with the other groups put out of the running. -/
theorem rank_chosen (x : Fin 16 → EReal) (hx : ∀ e, ⊥ < x e) (k : Fin 2) :
    rank (fun e : Fin 16 => if e.val / 4 = (best x).val then x e else ⊥) (k.castLE (by decide)) = chosen x k := by
  have hin : ∀ i : Fin 4, (at4 (best x) i).val / 4 = (best x).val := fun i => by unfold at4; show (4 * (best x).val + i.val) / 4 = _; omega
  have hsplit : ∀ p : Fin 16, p.val / 4 = (best x).val → ∃ j : Fin 4, p = at4 (best x) j := fun p hp =>
    ⟨⟨p.val % 4, by omega⟩, Fin.ext (by unfold at4; show p.val = 4 * (best x).val + p.val % 4; omega)⟩
  have hlt : ∀ i j : Fin 4, at4 (best x) i < at4 (best x) j → i < j := fun i j h => by
    rw [Fin.lt_def] at h ⊢; unfold at4 at h; dsimp only at h; omega
  have hne : at4 (best x) (top fun i => x (at4 (best x) i)) ≠ at4 (best x) (next fun i => x (at4 (best x) i)) := fun e =>
    next_ne (fun i => x (at4 (best x) i)) (fun i => hx _) (at4_inj e)
  refine (rank_two (by decide) _ (at4 (best x) (top fun i => x (at4 (best x) i))) (at4 (best x) (next fun i => x (at4 (best x) i))) hne ?_ ?_ k).trans ?_
  · intro p
    beta_reduce
    rw [if_pos (hin _)]
    by_cases hp : p.val / 4 = (best x).val
    · obtain ⟨j, rfl⟩ := hsplit p hp
      rw [if_pos hp]
      have h := top_spec (fun i => x (at4 (best x) i)) j
      exact ⟨h.1, fun e => h.2 (hlt _ _ e)⟩
    · rw [if_neg hp]
      exact ⟨bot_le, fun _ => hx _⟩
  · intro p hpi
    beta_reduce
    rw [if_pos (hin _)]
    by_cases hp : p.val / 4 = (best x).val
    · obtain ⟨j, rfl⟩ := hsplit p hp
      rw [if_pos hp]
      have h := next_spec (fun i => x (at4 (best x) i)) (fun i => hx _) j (fun e => hpi (congrArg (at4 (best x)) e))
      exact ⟨h.1, fun e => h.2 (hlt _ _ e)⟩
    · rw [if_neg hp]
      exact ⟨bot_le, fun _ => hx _⟩
  · match k with
    | 0 => rfl
    | 1 => rfl

/-- The chosen experts as 32-bit words, from the group's and the position's. -/
theorem at4_word : ∀ g i : Fin 4, BitVec.ofNat 32 g.val * 4#32 + BitVec.ofNat 32 i.val = BitVec.ofNat 32 (at4 g i).val := by decide

end Cert.Stream
end
-- ==== Proof.Stream.Route.lean ====
/- What the router computes of a token at exact arithmetic: the experts' scores and the biased scores it ranks. -/
module

public import proofs.«01_k».proof.Proof.Stream.Added
public import proofs.«01_k».proof.Proof.Stream.Ranked

@[expose] public section

noncomputable section

namespace Cert.Stream

open Idealize.ShloMosaic

/-- Expert `e`'s score of a normed token `q`: the logistic function of `q` times column `e` of `U`. -/
def scoreE (q : Fin 2048 → EReal) (U : Vec Ideal ⟨2, ![2048, 16]⟩ .f32) (e : Fin 16) : EReal := Ideal.div 1 (1 + Ideal.exp (-∑ x : Fin 2048, q x * U (ix2 x e)))

/-- The score with the expert's bias. -/
def biased (q : Fin 2048 → EReal) (U : Vec Ideal ⟨2, ![2048, 16]⟩ .f32) (B : Vec Ideal ⟨1, ![16]⟩ .f32) (e : Fin 16) : EReal := scoreE q U e + B (ix1 e)

theorem logistic_gt (x : EReal) : ⊥ < Ideal.logistic x := by
  induction x with
  | bot => rw [Ideal.logistic_bot]; exact EReal.bot_lt_zero
  | coe r => rw [Ideal.logistic_coe]; exact EReal.bot_lt_coe _
  | top => rw [Ideal.logistic_top]; exact EReal.bot_lt_coe 1

/-- A biased score is above minus infinity when the bias is. -/
theorem biased_gt (q : Fin 2048 → EReal) (U : Vec Ideal ⟨2, ![2048, 16]⟩ .f32) (B : Vec Ideal ⟨1, ![16]⟩ .f32) (hB : ∀ e : Fin 16, ⊥ < B (ix1 e)) (e : Fin 16) : ⊥ < biased q U B e :=
  EReal.bot_lt_add_iff.mpr ⟨logistic_gt _, hB e⟩

theorem minus_inf : Ideal.ofBits FTy.f32 4286578688#32 = ⊥ := by
  simp [Ideal.ofBits, Ideal.ieee]

/-- A running choice of the largest of four, as a word. -/
theorem top_word (v : Fin 4 → EReal) :
    Scalar.select (BitVec.ofBool (decide (Scalar.select (BitVec.ofBool (decide (Scalar.select (BitVec.ofBool (decide (v 0 < v 1))) (v 1) (v 0) < v 2))) (v 2) (Scalar.select (BitVec.ofBool (decide (v 0 < v 1))) (v 1) (v 0)) < v 3))) 3#32
      (Scalar.select (BitVec.ofBool (decide (Scalar.select (BitVec.ofBool (decide (v 0 < v 1))) (v 1) (v 0) < v 2))) 2#32 (Scalar.select (BitVec.ofBool (decide (v 0 < v 1))) 1#32 0#32))
      = BitVec.ofNat 32 (top v).val := by
  simp only [Scalar.select_decide]
  unfold top top2 top1
  split_ifs <;> first | rfl | contradiction

/-- One of four values by the word of a number below four. -/
theorem pick_word {α : Type} (b : Fin 4) (f : Fin 4 → α) :
    Scalar.select (IntOp.cmpi CmpIPredicate.eq (BitVec.ofNat 32 b.val) 3#32) (f 3) (Scalar.select (IntOp.cmpi CmpIPredicate.eq (BitVec.ofNat 32 b.val) 2#32) (f 2)
      (Scalar.select (IntOp.cmpi CmpIPredicate.eq (BitVec.ofNat 32 b.val) 1#32) (f 1) (f 0))) = f b := by
  match b with
  | 0 => rfl
  | 1 => rfl
  | 2 => rfl
  | 3 => rfl

/-- A value set aside when its number is the chosen one. -/
theorem without_word (v : Fin 4 → EReal) (b j : Fin 4) :
    Scalar.select (IntOp.cmpi CmpIPredicate.eq (BitVec.ofNat 32 b.val) (BitVec.ofNat 32 j.val)) (Ideal.ofBits FTy.f32 4286578688#32) (v j) = without v b j := by
  rw [(by decide : ∀ b j : Fin 4, IntOp.cmpi CmpIPredicate.eq (BitVec.ofNat 32 b.val) (BitVec.ofNat 32 j.val) = BitVec.ofBool (decide (j = b))) b j, minus_inf]
  exact Scalar.select_decide _ _ _

end Cert.Stream
end
-- ==== Proof.Stream.RouteBlock.lean ====
/- The router's block of the output projection at exact arithmetic: the best group, the two experts and their gates, word by word. -/
module

public import proofs.«01_k».proof.Proof.Gen.RouteKernelIdeal.Frame
public import proofs.«01_k».proof.Proof.Stream.Route
public import Idealize.ShloMosaic.Lib.Pipeline.ValueKit.Geometry

@[expose] public section

set_option maxRecDepth 16384
set_option maxHeartbeats 4000000

noncomputable section

namespace Cert.RouteKernelIdeal.Stream

open Cert.RouteKernelIdeal Cert.RouteKernelIdeal.Gen Cert.Stream Idealize.ShloMosaic Idealize.ShloMosaic.TcCoe

variable (P0 : Vec Ideal S1x256x2048 .bf16) (P1 : Vec Ideal S1x256x2048 .f32) (P2 : Vec Ideal S1x1x6x2048 .f32) (P3 : Vec Ideal S1x2048 .f32) (P4 : Vec Ideal S2048x2048 .bf16) (P5 : Vec Ideal S16x2048 .bf16) (P6 : Vec Ideal S16x1 .f32)

/-- The scores and the biased scores of one token of the block. -/
abbrev sB (r : Fin 256) (e : Fin 16) : EReal := k0_pay40 (F := Ideal) P0 P1 P2 P3 P4 P5 P6 (ix2 e r)
abbrev yB (r : Fin 256) (e : Fin 16) : EReal := k0_pay41 (F := Ideal) P0 P1 P2 P3 P4 P5 P6 (ix2 e r)
/-- The four experts of the best group. -/
abbrev cB (r : Fin 256) (i : Fin 4) : EReal := yB P0 P1 P2 P3 P4 P5 P6 r (at4 (best (yB P0 P1 P2 P3 P4 P5 P6 r)) i)

theorem group_word (r : Fin 256) : k0_pay49 (F := Ideal) P0 P1 P2 P3 P4 P5 P6 (ix2 0 r) = BitVec.ofNat 32 (best (yB P0 P1 P2 P3 P4 P5 P6 r)).val := by
  refine Eq.trans ?_ (top_word fun g => pairs fun i => yB P0 P1 P2 P3 P4 P5 P6 r (at4 g i))
  pointwise [k0_pay49, k0_pay20, k0_pay42, k0_pay43, k0_pay44, k0_pay45, k0_pay46, k0_pay47, k0_pay48, k0_pay13, k0_pay14, k0_pay15, k0_pay16, k0_pay17, k0_pay18, k0_pay19]
  rfl

theorem pick0 (r : Fin 256) : k0_pay50 (F := Ideal) P0 P1 P2 P3 P4 P5 P6 (ix2 0 r) = cB P0 P1 P2 P3 P4 P5 P6 r 0 := by
  refine Eq.trans ?_ (pick_word (best (yB P0 P1 P2 P3 P4 P5 P6 r)) fun g => yB P0 P1 P2 P3 P4 P5 P6 r (at4 g 0))
  rw [← group_word]
  pointwise [k0_pay50, k0_pay22, k0_pay21]
  rfl
theorem pick1 (r : Fin 256) : k0_pay51 (F := Ideal) P0 P1 P2 P3 P4 P5 P6 (ix2 0 r) = cB P0 P1 P2 P3 P4 P5 P6 r 1 := by
  refine Eq.trans ?_ (pick_word (best (yB P0 P1 P2 P3 P4 P5 P6 r)) fun g => yB P0 P1 P2 P3 P4 P5 P6 r (at4 g 1))
  rw [← group_word]
  pointwise [k0_pay51, k0_pay23]
  rfl
theorem pick2 (r : Fin 256) : k0_pay52 (F := Ideal) P0 P1 P2 P3 P4 P5 P6 (ix2 0 r) = cB P0 P1 P2 P3 P4 P5 P6 r 2 := by
  refine Eq.trans ?_ (pick_word (best (yB P0 P1 P2 P3 P4 P5 P6 r)) fun g => yB P0 P1 P2 P3 P4 P5 P6 r (at4 g 2))
  rw [← group_word]
  pointwise [k0_pay52, k0_pay24]
  rfl
theorem pick3 (r : Fin 256) : k0_pay53 (F := Ideal) P0 P1 P2 P3 P4 P5 P6 (ix2 0 r) = cB P0 P1 P2 P3 P4 P5 P6 r 3 := by
  refine Eq.trans ?_ (pick_word (best (yB P0 P1 P2 P3 P4 P5 P6 r)) fun g => yB P0 P1 P2 P3 P4 P5 P6 r (at4 g 3))
  rw [← group_word]
  pointwise [k0_pay53, k0_pay25]
  rfl

/-- The scores of the four experts of the best group. -/
abbrev gB (r : Fin 256) (i : Fin 4) : EReal := sB P0 P1 P2 P3 P4 P5 P6 r (at4 (best (yB P0 P1 P2 P3 P4 P5 P6 r)) i)

theorem take0 (r : Fin 256) : k0_pay54 (F := Ideal) P0 P1 P2 P3 P4 P5 P6 (ix2 0 r) = gB P0 P1 P2 P3 P4 P5 P6 r 0 := by
  refine Eq.trans ?_ (pick_word (best (yB P0 P1 P2 P3 P4 P5 P6 r)) fun g => sB P0 P1 P2 P3 P4 P5 P6 r (at4 g 0))
  rw [← group_word]
  pointwise [k0_pay54, k0_pay27, k0_pay26]
  rfl
theorem take1 (r : Fin 256) : k0_pay55 (F := Ideal) P0 P1 P2 P3 P4 P5 P6 (ix2 0 r) = gB P0 P1 P2 P3 P4 P5 P6 r 1 := by
  refine Eq.trans ?_ (pick_word (best (yB P0 P1 P2 P3 P4 P5 P6 r)) fun g => sB P0 P1 P2 P3 P4 P5 P6 r (at4 g 1))
  rw [← group_word]
  pointwise [k0_pay55, k0_pay28]
  rfl
theorem take2 (r : Fin 256) : k0_pay29 (F := Ideal) (k0_pay40 P0 P1 P2 P3 P4 P5 P6) (k0_pay49 P0 P1 P2 P3 P4 P5 P6) (ix2 0 r) = gB P0 P1 P2 P3 P4 P5 P6 r 2 := by
  refine Eq.trans ?_ (pick_word (best (yB P0 P1 P2 P3 P4 P5 P6 r)) fun g => sB P0 P1 P2 P3 P4 P5 P6 r (at4 g 2))
  rw [← group_word]
  pointwise [k0_pay29]
  rfl
theorem take3 (r : Fin 256) : k0_pay30 (F := Ideal) (k0_pay40 P0 P1 P2 P3 P4 P5 P6) (k0_pay49 P0 P1 P2 P3 P4 P5 P6) (ix2 0 r) = gB P0 P1 P2 P3 P4 P5 P6 r 3 := by
  refine Eq.trans ?_ (pick_word (best (yB P0 P1 P2 P3 P4 P5 P6 r)) fun g => sB P0 P1 P2 P3 P4 P5 P6 r (at4 g 3))
  rw [← group_word]
  pointwise [k0_pay30]
  rfl

/-- The first expert of the group, then the second. -/
theorem first_word (r : Fin 256) : k0_pay58 (F := Ideal) P0 P1 P2 P3 P4 P5 P6 (ix2 0 r) = BitVec.ofNat 32 (top (cB P0 P1 P2 P3 P4 P5 P6 r)).val := by
  refine Eq.trans ?_ (top_word (cB P0 P1 P2 P3 P4 P5 P6 r))
  rw [← pick0, ← pick1, ← pick2, ← pick3]
  pointwise [k0_pay58, k0_pay33, k0_pay56, k0_pay57, k0_pay31, k0_pay32]

theorem next_word (r : Fin 256) : k0_pay59 (F := Ideal) P0 P1 P2 P3 P4 P5 P6 (ix2 0 r) = BitVec.ofNat 32 (next (cB P0 P1 P2 P3 P4 P5 P6 r)).val := by
  refine Eq.trans ?_ (top_word (without (cB P0 P1 P2 P3 P4 P5 P6 r) (top (cB P0 P1 P2 P3 P4 P5 P6 r))))
  rw [← without_word, ← without_word, ← without_word, ← without_word, ← first_word, ← pick0, ← pick1, ← pick2, ← pick3]
  pointwise [k0_pay59, k0_pay34]
  rfl

theorem ids_apply (k : Fin 2) (r : Fin 256) : k0_pay1 (k0_pay49 (F := Ideal) P0 P1 P2 P3 P4 P5 P6) (k0_pay58 P0 P1 P2 P3 P4 P5 P6) (k0_pay59 P0 P1 P2 P3 P4 P5 P6) (ix3 0 k r) = BitVec.ofNat 32 (chosen (yB P0 P1 P2 P3 P4 P5 P6 r) k).val := by
  unfold chosen
  match k with
  | 0 =>
    refine Eq.trans ?_ (at4_word (best (yB P0 P1 P2 P3 P4 P5 P6 r)) (top (cB P0 P1 P2 P3 P4 P5 P6 r)))
    rw [← group_word, ← first_word]
    pointwise [k0_pay1]
    rfl
  | 1 =>
    refine Eq.trans ?_ (at4_word (best (yB P0 P1 P2 P3 P4 P5 P6 r)) (next (cB P0 P1 P2 P3 P4 P5 P6 r)))
    rw [← group_word, ← next_word]
    pointwise [k0_pay1]
    rfl

theorem gates_apply (k : Fin 2) (r : Fin 256) :
    k0_pay2 (F := Ideal) (k0_pay54 P0 P1 P2 P3 P4 P5 P6) (k0_pay55 P0 P1 P2 P3 P4 P5 P6) (k0_pay29 (k0_pay40 P0 P1 P2 P3 P4 P5 P6) (k0_pay49 P0 P1 P2 P3 P4 P5 P6)) (k0_pay30 (k0_pay40 P0 P1 P2 P3 P4 P5 P6) (k0_pay49 P0 P1 P2 P3 P4 P5 P6)) (k0_pay58 P0 P1 P2 P3 P4 P5 P6) (k0_pay59 P0 P1 P2 P3 P4 P5 P6)
      (k0_pay35 (k0_pay50 P0 P1 P2 P3 P4 P5 P6) (k0_pay51 P0 P1 P2 P3 P4 P5 P6) (k0_pay52 P0 P1 P2 P3 P4 P5 P6) (k0_pay53 P0 P1 P2 P3 P4 P5 P6) (k0_pay54 P0 P1 P2 P3 P4 P5 P6) (k0_pay55 P0 P1 P2 P3 P4 P5 P6) (k0_pay56 P0 P1 P2 P3 P4 P5 P6) (k0_pay57 P0 P1 P2 P3 P4 P5 P6)) (k0_pay36 (k0_pay50 P0 P1 P2 P3 P4 P5 P6) (k0_pay51 P0 P1 P2 P3 P4 P5 P6) (k0_pay52 P0 P1 P2 P3 P4 P5 P6) (k0_pay53 P0 P1 P2 P3 P4 P5 P6) (k0_pay56 P0 P1 P2 P3 P4 P5 P6) (k0_pay57 P0 P1 P2 P3 P4 P5 P6)) (ix3 0 k r)
      = gate (sB P0 P1 P2 P3 P4 P5 P6 r) (yB P0 P1 P2 P3 P4 P5 P6 r) k := by
  have h1 : sB P0 P1 P2 P3 P4 P5 P6 r (chosen (yB P0 P1 P2 P3 P4 P5 P6 r) 0) = _ := (pick_word (top (cB P0 P1 P2 P3 P4 P5 P6 r)) (gB P0 P1 P2 P3 P4 P5 P6 r)).symm
  have h2 : sB P0 P1 P2 P3 P4 P5 P6 r (chosen (yB P0 P1 P2 P3 P4 P5 P6 r) 1) = _ := (pick_word (next (cB P0 P1 P2 P3 P4 P5 P6 r)) (gB P0 P1 P2 P3 P4 P5 P6 r)).symm
  rw [← first_word, ← take0, ← take1, ← take2, ← take3] at h1
  rw [← next_word, ← take0, ← take1, ← take2, ← take3] at h2
  unfold gate
  match k with
  | 0 =>
    rw [h1, h2]
    pointwise [k0_pay2, k0_pay35, k0_pay36]
    rfl
  | 1 =>
    rw [h1, h2]
    pointwise [k0_pay2, k0_pay35, k0_pay36]
    rfl

end Cert.RouteKernelIdeal.Stream

end
-- ==== Proof.Stream.RouteOut.lean ====
/- The output projection at exact arithmetic: the experts' numbers and the gates, entry by entry. -/
module

public import proofs.«01_k».proof.Proof.Stream.RouteBlock
public import Idealize.ShloMosaic.Lib.Pipeline.ValueKit.Geometry

@[expose] public section

set_option maxRecDepth 16384
set_option maxHeartbeats 4000000

noncomputable section

namespace Cert.RouteKernelIdeal.Stream

open Cert.RouteKernelIdeal Cert.RouteKernelIdeal.Gen Cert.Stream Idealize.ShloMosaic Idealize.ShloMosaic.TcCoe

variable (m : (ℓ : Loc nD τ sig) → Buf (Elt Ideal) ℓ) (c : Dev nD)

/-- The arguments of device `c`. -/
abbrev aL : Vec Ideal S8x4352x2048 .bf16 := m ((c : Thread nD τ).loc main_arg0)
abbrev aX : Vec Ideal S8x4352x2048 .f32 := m ((c : Thread nD τ).loc main_arg1)
abbrev aM : Vec Ideal S8x2x6x2048 .f32 := m ((c : Thread nD τ).loc main_arg2)
abbrev aR : Vec Ideal S2048 .f32 := m ((c : Thread nD τ).loc main_arg3)
abbrev aW : Vec Ideal S2048x2048 .f32 := m ((c : Thread nD τ).loc main_arg4)
abbrev aU : Vec Ideal S2048x16 .f32 := m ((c : Thread nD τ).loc main_arg5)
abbrev aB : Vec Ideal S16 .f32 := m ((c : Thread nD τ).loc main_arg6)

/-- The stream with the projected rows added, at one token. -/
abbrev addE (b : Fin 8) (s : Fin 4352) (d : Fin 2048) : EReal := added (aL m c) (aX m c) (aM m c) (aW m c) (part s) b s d

/-- Its modulated norm, the token the router reads. -/
abbrev tokE (b : Fin 8) (s : Fin 4352) (d : Fin 2048) : EReal := modded2 (addE m c b s) (aR m c) (aM m c) (part s) b d

/-- The two results. -/
def res1 : Vec Ideal S8x2x4352 .i32 := fun i => BitVec.ofNat 32 (chosen (biased (tokE m c (i 0) (i 2)) (aU m c) (aB m c)) (i 1)).val
def res2 : Vec Ideal S8x2x4352 .f32 := fun i => gate (scoreE (tokE m c (i 0) (i 2)) (aU m c)) (biased (tokE m c (i 0) (i 2)) (aU m c) (aB m c)) (i 1)

theorem tlt (t : Fin cfg0.N) : t.val < 136 := t.isLt

/-- The batch row, the part of the sequence and the tokens of a block. -/
abbrev bt (t : Fin cfg0.N) : Fin 8 := ⟨t.val / 17, by have := tlt t; omega⟩
abbrev pt (t : Fin cfg0.N) : Fin 2 := if t.val % 17 < 1 then 0 else 1
abbrev tok (t : Fin cfg0.N) (r : Fin 256) : Fin 4352 := ⟨256 * (t.val % 17) + r.val, by have := tlt t; omega⟩

theorem part_tok (t : Fin cfg0.N) (r : Fin 256) : part (tok t r) = pt t := by
  unfold part
  by_cases h : t.val % 17 < 1
  · rw [if_pos (by show 256 * (t.val % 17) + r.val < 256; omega), pt, if_pos h]
  · rw [if_neg (by show ¬ 256 * (t.val % 17) + r.val < 256; omega), pt, if_neg h]

theorem index0 : ∀ t : Fin cfg0.N, win0_0.index t = ![t.val / 17, t.val % 17, 0] := (by decide +kernel : ∀ t : Fin grid0.N, win0_0.index t = ![t.val / 17, t.val % 17, 0])
theorem emb0 (t : Fin cfg0.N) (r : Fin 256) (d : Fin 2048) : (((cfg0.win 0).blk t).view.emb (ix3 0 r d : S1x256x2048.Idx) : S8x4352x2048.Idx) = ix3 (bt t) (tok t r) d := by
  refine funext fun (x : Fin 3) => Fin.ext ?_
  refine ((cfg0.win 0).rect_emb_val t (ix3 0 r d : S1x256x2048.Idx) x).trans ?_
  rw [show (cfg0.win 0).index t = _ from index0 t]
  match x with
  | 0 => show t.val / 17 * 1 + 0 = t.val / 17; omega
  | 1 => show t.val % 17 * 256 + r.val = 256 * (t.val % 17) + r.val; omega
  | 2 => show 0 * 2048 + d.val = d.val; omega
theorem iblk0 (t : Fin cfg0.N) (r : Fin 256) (d : Fin 2048) : (iblk m c 0 t : Vec Ideal S1x256x2048 .bf16) (ix3 0 r d) = aL m c (ix3 (bt t) (tok t r) d) :=
  (congrArg (V m c main_arg0 : Vec Ideal S8x4352x2048 .bf16) (emb0 t r d)).trans (congrFun (V_main_arg0 m c) _)

theorem index1 : ∀ t : Fin cfg0.N, win0_1.index t = ![t.val / 17, t.val % 17, 0] := (by decide +kernel : ∀ t : Fin grid0.N, win0_1.index t = ![t.val / 17, t.val % 17, 0])
theorem emb1 (t : Fin cfg0.N) (r : Fin 256) (d : Fin 2048) : (((cfg0.win 1).blk t).view.emb (ix3 0 r d : S1x256x2048.Idx) : S8x4352x2048.Idx) = ix3 (bt t) (tok t r) d := by
  refine funext fun (x : Fin 3) => Fin.ext ?_
  refine ((cfg0.win 1).rect_emb_val t (ix3 0 r d : S1x256x2048.Idx) x).trans ?_
  rw [show (cfg0.win 1).index t = _ from index1 t]
  match x with
  | 0 => show t.val / 17 * 1 + 0 = t.val / 17; omega
  | 1 => show t.val % 17 * 256 + r.val = 256 * (t.val % 17) + r.val; omega
  | 2 => show 0 * 2048 + d.val = d.val; omega
theorem iblk1 (t : Fin cfg0.N) (r : Fin 256) (d : Fin 2048) : (iblk m c 1 t : Vec Ideal S1x256x2048 .f32) (ix3 0 r d) = aX m c (ix3 (bt t) (tok t r) d) :=
  (congrArg (V m c main_arg1 : Vec Ideal S8x4352x2048 .f32) (emb1 t r d)).trans (congrFun (V_main_arg1 m c) _)

theorem index2 : ∀ t : Fin cfg0.N, win0_2.index t = ![t.val / 17, if t.val % 17 < 1 then 0 else 1, 0, 0] := (by decide +kernel : ∀ t : Fin grid0.N, win0_2.index t = ![t.val / 17, if t.val % 17 < 1 then 0 else 1, 0, 0])
theorem iblk2 (t : Fin cfg0.N) (k : Fin 6) (d : Fin 2048) : (iblk m c 2 t : Vec Ideal S1x1x6x2048 .f32) (ix4 0 0 k d) = aM m c (ix4 (bt t) (pt t) k d) := by
  refine Eq.trans (congrArg (V m c main_arg2 : Vec Ideal S8x2x6x2048 .f32) (funext fun (x : Fin 4) => Fin.ext ?_ : ((cfg0.win 2).blk t).view.emb (ix4 0 0 k d : S1x1x6x2048.Idx) = (ix4 (bt t) (pt t) k d : S8x2x6x2048.Idx))) (congrFun (V_main_arg2 m c) _)
  refine ((cfg0.win 2).rect_emb_val t (ix4 0 0 k d : S1x1x6x2048.Idx) x).trans ?_
  rw [show (cfg0.win 2).index t = _ from index2 t]
  match x with
  | 0 => show t.val / 17 * 1 + 0 = t.val / 17; omega
  | 1 => show (if t.val % 17 < 1 then 0 else 1) * 1 + 0 = (pt t).val; unfold pt; split <;> rfl
  | 2 => show 0 * 6 + k.val = k.val; omega
  | 3 => show 0 * 2048 + d.val = d.val; omega

/-- The gain reaches the kernel as one row. -/
theorem V_main_v1 (k : Fin 1) (d : Fin 2048) : (V m c main_v1 : Vec Ideal S1x2048 .f32) (ix2 k d) = aR m c (ix1 d) := by
  obtain rfl : k = 0 := Subsingleton.elim _ _
  have h : (V m c main_v1 : Vec Ideal S1x2048 .f32) = shapeCast (α := Ideal .f32) S1x2048 (aR m c) shapeCasts_S2048_S1x2048 := by
    simp only [V, hostOps0, StableHlo.after, List.foldl_cons, List.foldl_nil]
    rfl
  rw [h]
  pointwise []

/-- The matrix reaches the kernel narrowed, which at exact arithmetic changes nothing. -/
theorem V_main_v0 (k : Fin 2048) (d : Fin 2048) : (V m c main_v0 : Vec Ideal S2048x2048 .bf16) (ix2 k d) = aW m c (ix2 k d) := by
  have h : (V m c main_v0 : Vec Ideal S2048x2048 .bf16) = (truncf .bf16 (aW m c : FVec Ideal S2048x2048 .f32) bitsLt_bf16_f32 : FVec Ideal S2048x2048 .bf16) := by
    simp only [V, hostOps0, StableHlo.after, List.foldl_cons, List.foldl_nil]
    rfl
  rw [h]
  pointwise []

theorem index3 : ∀ t : Fin cfg0.N, win0_3.index t = ![0, 0] := (by decide +kernel : ∀ t : Fin grid0.N, win0_3.index t = ![0, 0])
theorem iblk3 (t : Fin cfg0.N) (k : Fin 1) (d : Fin 2048) : (iblk m c 3 t : Vec Ideal S1x2048 .f32) (ix2 k d) = aR m c (ix1 d) := by
  refine Eq.trans (congrArg (V m c main_v1 : Vec Ideal S1x2048 .f32) (funext fun (x : Fin 2) => Fin.ext ?_ : ((cfg0.win 3).blk t).view.emb (ix2 k d : S1x2048.Idx) = (ix2 k d : S1x2048.Idx))) (V_main_v1 m c k d)
  refine ((cfg0.win 3).rect_emb_val t (ix2 k d : S1x2048.Idx) x).trans ?_
  rw [show (cfg0.win 3).index t = _ from index3 t]
  match x with
  | 0 => show 0 * 1 + k.val = k.val; omega
  | 1 => show 0 * 2048 + d.val = d.val; omega

theorem index4 : ∀ t : Fin cfg0.N, win0_4.index t = ![0, 0] := (by decide +kernel : ∀ t : Fin grid0.N, win0_4.index t = ![0, 0])
theorem iblk4 (t : Fin cfg0.N) (k : Fin 2048) (d : Fin 2048) : (iblk m c 4 t : Vec Ideal S2048x2048 .bf16) (ix2 k d) = aW m c (ix2 k d) := by
  refine Eq.trans (congrArg (V m c main_v0 : Vec Ideal S2048x2048 .bf16) (funext fun (x : Fin 2) => Fin.ext ?_ : ((cfg0.win 4).blk t).view.emb (ix2 k d : S2048x2048.Idx) = (ix2 k d : S2048x2048.Idx))) (V_main_v0 m c k d)
  refine ((cfg0.win 4).rect_emb_val t (ix2 k d : S2048x2048.Idx) x).trans ?_
  rw [show (cfg0.win 4).index t = _ from index4 t]
  match x with
  | 0 => show 0 * 2048 + k.val = k.val; omega
  | 1 => show 0 * 2048 + d.val = d.val; omega

/-- The router's matrix reaches the kernel turned and narrowed, the bias as one column. -/
theorem V_main_v3 (e : Fin 16) (d : Fin 2048) : (V m c main_v3 : Vec Ideal S16x2048 .bf16) (ix2 e d) = aU m c (ix2 d e) := by
  have h : (V m c main_v3 : Vec Ideal S16x2048 .bf16) = (truncf .bf16 (transpose S16x2048 [1, 0] (aU m c) transposes_S2048x16_S16x2048_1_0 : FVec Ideal S16x2048 .f32) bitsLt_bf16_f32 : FVec Ideal S16x2048 .bf16) := by
    simp only [V, hostOps0, StableHlo.after, List.foldl_cons, List.foldl_nil]
    rfl
  rw [h]
  pointwise []
theorem V_main_v4 (e : Fin 16) (k : Fin 1) : (V m c main_v4 : Vec Ideal S16x1 .f32) (ix2 e k) = aB m c (ix1 e) := by
  obtain rfl : k = 0 := Subsingleton.elim _ _
  have h : (V m c main_v4 : Vec Ideal S16x1 .f32) = shapeCast (α := Ideal .f32) S16x1 (aB m c) shapeCasts_S16_S16x1 := by
    simp only [V, hostOps0, StableHlo.after, List.foldl_cons, List.foldl_nil]
    rfl
  rw [h]
  pointwise []

theorem index5 : ∀ t : Fin cfg0.N, win0_5.index t = ![0, 0] := (by decide +kernel : ∀ t : Fin grid0.N, win0_5.index t = ![0, 0])
theorem iblk5 (t : Fin cfg0.N) (e : Fin 16) (d : Fin 2048) : (iblk m c 5 t : Vec Ideal S16x2048 .bf16) (ix2 e d) = aU m c (ix2 d e) := by
  refine Eq.trans (congrArg (V m c main_v3 : Vec Ideal S16x2048 .bf16) (funext fun (x : Fin 2) => Fin.ext ?_ : ((cfg0.win 5).blk t).view.emb (ix2 e d : S16x2048.Idx) = (ix2 e d : S16x2048.Idx))) (V_main_v3 m c e d)
  refine ((cfg0.win 5).rect_emb_val t (ix2 e d : S16x2048.Idx) x).trans ?_
  rw [show (cfg0.win 5).index t = _ from index5 t]
  match x with
  | 0 => show 0 * 16 + e.val = e.val; omega
  | 1 => show 0 * 2048 + d.val = d.val; omega

theorem index6 : ∀ t : Fin cfg0.N, win0_6.index t = ![0, 0] := (by decide +kernel : ∀ t : Fin grid0.N, win0_6.index t = ![0, 0])
theorem iblk6 (t : Fin cfg0.N) (e : Fin 16) (k : Fin 1) : (iblk m c 6 t : Vec Ideal S16x1 .f32) (ix2 e k) = aB m c (ix1 e) := by
  refine Eq.trans (congrArg (V m c main_v4 : Vec Ideal S16x1 .f32) (funext fun (x : Fin 2) => Fin.ext ?_ : ((cfg0.win 6).blk t).view.emb (ix2 e k : S16x1.Idx) = (ix2 e k : S16x1.Idx))) (V_main_v4 m c e k)
  refine ((cfg0.win 6).rect_emb_val t (ix2 e k : S16x1.Idx) x).trans ?_
  rw [show (cfg0.win 6).index t = _ from index6 t]
  match x with
  | 0 => show 0 * 16 + e.val = e.val; omega
  | 1 => show 0 * 1 + k.val = k.val; omega

theorem index9 : ∀ t : Fin cfg0.N, win0_9.index t = ![t.val / 17, 0, t.val % 17] := (by decide +kernel : ∀ t : Fin grid0.N, win0_9.index t = ![t.val / 17, 0, t.val % 17])
theorem emb9 (t : Fin cfg0.N) (k : Fin 2) (r : Fin 256) : (((cfg0.win 9).blk t).view.emb (ix3 0 k r : S1x2x256.Idx) : S8x2x4352.Idx) = ix3 (bt t) k (tok t r) := by
  refine funext fun (x : Fin 3) => Fin.ext ?_
  refine ((cfg0.win 9).rect_emb_val t (ix3 0 k r : S1x2x256.Idx) x).trans ?_
  rw [show (cfg0.win 9).index t = _ from index9 t]
  match x with
  | 0 => show t.val / 17 * 1 + 0 = t.val / 17; omega
  | 1 => show 0 * 2 + k.val = k.val; omega
  | 2 => show t.val % 17 * 256 + r.val = 256 * (t.val % 17) + r.val; omega
theorem cover9 (i : S8x2x4352.Idx) : ∃ t : Fin cfg0.N, (cfg0.win 9).flush t = true ∧ i ∈ ((cfg0.win 9).blk t).view.set := by
  obtain ⟨b, k, s, rfl⟩ : ∃ (b : Fin 8) (k : Fin 2) (s : Fin 4352), i = ix3 b k s := ⟨i 0, i 1, i 2, eq_ix3 i⟩
  have ht : 17 * b.val + s.val / 256 < 136 := by omega
  refine ⟨(⟨17 * b.val + s.val / 256, ht⟩ : Fin 136), flush0_9 _, ?_⟩
  have he := emb9 (⟨17 * b.val + s.val / 256, ht⟩ : Fin 136) k ⟨s.val % 256, by omega⟩
  have hi : (ix3 b k s : S8x2x4352.Idx) = ix3 (bt (⟨17 * b.val + s.val / 256, ht⟩ : Fin 136)) k (tok (⟨17 * b.val + s.val / 256, ht⟩ : Fin 136) ⟨s.val % 256, by omega⟩) :=
    congrArg₂ (fun p q => (ix3 p k q : S8x2x4352.Idx)) (Fin.ext (by show b.val = (17 * b.val + s.val / 256) / 17; omega))
      (Fin.ext (by show s.val = 256 * ((17 * b.val + s.val / 256) % 17) + s.val % 256; omega))
  rw [hi, ← he]
  exact View.emb_mem_set _ _

theorem index10 : ∀ t : Fin cfg0.N, win0_10.index t = ![t.val / 17, 0, t.val % 17] := (by decide +kernel : ∀ t : Fin grid0.N, win0_10.index t = ![t.val / 17, 0, t.val % 17])
theorem emb10 (t : Fin cfg0.N) (k : Fin 2) (r : Fin 256) : (((cfg0.win 10).blk t).view.emb (ix3 0 k r : S1x2x256.Idx) : S8x2x4352.Idx) = ix3 (bt t) k (tok t r) := by
  refine funext fun (x : Fin 3) => Fin.ext ?_
  refine ((cfg0.win 10).rect_emb_val t (ix3 0 k r : S1x2x256.Idx) x).trans ?_
  rw [show (cfg0.win 10).index t = _ from index10 t]
  match x with
  | 0 => show t.val / 17 * 1 + 0 = t.val / 17; omega
  | 1 => show 0 * 2 + k.val = k.val; omega
  | 2 => show t.val % 17 * 256 + r.val = 256 * (t.val % 17) + r.val; omega
theorem cover10 (i : S8x2x4352.Idx) : ∃ t : Fin cfg0.N, (cfg0.win 10).flush t = true ∧ i ∈ ((cfg0.win 10).blk t).view.set := by
  obtain ⟨b, k, s, rfl⟩ : ∃ (b : Fin 8) (k : Fin 2) (s : Fin 4352), i = ix3 b k s := ⟨i 0, i 1, i 2, eq_ix3 i⟩
  have ht : 17 * b.val + s.val / 256 < 136 := by omega
  refine ⟨(⟨17 * b.val + s.val / 256, ht⟩ : Fin 136), flush0_10 _, ?_⟩
  have he := emb10 (⟨17 * b.val + s.val / 256, ht⟩ : Fin 136) k ⟨s.val % 256, by omega⟩
  have hi : (ix3 b k s : S8x2x4352.Idx) = ix3 (bt (⟨17 * b.val + s.val / 256, ht⟩ : Fin 136)) k (tok (⟨17 * b.val + s.val / 256, ht⟩ : Fin 136) ⟨s.val % 256, by omega⟩) :=
    congrArg₂ (fun p q => (ix3 p k q : S8x2x4352.Idx)) (Fin.ext (by show b.val = (17 * b.val + s.val / 256) / 17; omega))
      (Fin.ext (by show s.val = 256 * ((17 * b.val + s.val / 256) % 17) + s.val % 256; omega))
  rw [hi, ← he]
  exact View.emb_mem_set _ _

/-- One token of a block: the stream and its modulated norm. -/
def tokB (P0 : Vec Ideal S1x256x2048 .bf16) (P1 : Vec Ideal S1x256x2048 .f32) (P2 : Vec Ideal S1x1x6x2048 .f32) (P4 : Vec Ideal S2048x2048 .bf16) (r : Fin 256) (x : Fin 2048) : EReal :=
  P1 (ix3 0 r x) + P2 (ix4 0 0 2 x) * ∑ k : Fin 2048, P0 (ix3 0 r k) * P4 (ix2 k x)

theorem pay4_apply (P0 : Vec Ideal S1x256x2048 .bf16) (P1 : Vec Ideal S1x256x2048 .f32) (P2 : Vec Ideal S1x1x6x2048 .f32) (P4 : Vec Ideal S2048x2048 .bf16) (r : Fin 256) (d : Fin 2048) : k0_pay4 P2 P1 P0 P4 (ix2 r d) = tokB P0 P1 P2 P4 r d := by
  pointwise [k0_pay4, k0_pay3, tokB]

/-- The modulated norm of one token of a block. -/
def nrmB (P0 : Vec Ideal S1x256x2048 .bf16) (P1 : Vec Ideal S1x256x2048 .f32) (P2 : Vec Ideal S1x1x6x2048 .f32) (P3 : Vec Ideal S1x2048 .f32) (P4 : Vec Ideal S2048x2048 .bf16) (r : Fin 256) (d : Fin 2048) : EReal :=
  rms (tokB P0 P1 P2 P4 r) d * P3 (ix2 0 d) * (Ideal.ofBits FTy.f32 1065353216#32 + P2 (ix4 0 0 4 d)) + P2 (ix4 0 0 3 d)

theorem pay9_apply (P0 : Vec Ideal S1x256x2048 .bf16) (P1 : Vec Ideal S1x256x2048 .f32) (P2 : Vec Ideal S1x1x6x2048 .f32) (P3 : Vec Ideal S1x2048 .f32) (P4 : Vec Ideal S2048x2048 .bf16) (r : Fin 256) (d : Fin 2048) :
    k0_pay9 (k0_pay6 P2) (k0_pay7 P2 P1 P0 P4 P3) (k0_pay8 P2) (ix2 r d) = nrmB P0 P1 P2 P3 P4 r d := by
  pointwise [k0_pay9, k0_pay6, k0_pay7, k0_pay8, k0_pay3, pay4_apply, rms, nrmB]

variable (P0 : Vec Ideal S1x256x2048 .bf16) (P1 : Vec Ideal S1x256x2048 .f32) (P2 : Vec Ideal S1x1x6x2048 .f32) (P3 : Vec Ideal S1x2048 .f32) (P4 : Vec Ideal S2048x2048 .bf16) (P5 : Vec Ideal S16x2048 .bf16) (P6 : Vec Ideal S16x1 .f32)

theorem sB_eq (r : Fin 256) (e : Fin 16) : sB P0 P1 P2 P3 P4 P5 P6 r e = Ideal.div 1 (1 + Ideal.exp (-∑ x : Fin 2048, nrmB P0 P1 P2 P3 P4 r x * P5 (ix2 e x))) := by
  unfold sB k0_pay40 k0_pay37 k0_pay38 k0_pay39
  rw [View.ld_unit_zero (by decide), View.ld_unit_zero (by decide), View.ld_unit_zero (by decide), View.ld_unit_zero (by decide), View.ld_unit_zero (by decide), View.ld_unit_zero (by decide)]
  pointwise [k0_pay11, pay9_apply]
  rw [sub_eq_add_neg, zero_add]
  exact congrArg (fun q => Ideal.div 1 (1 + Ideal.exp (-q))) (Finset.sum_congr rfl fun _ _ => mul_comm _ _)

theorem yB_eq (r : Fin 256) (e : Fin 16) : yB P0 P1 P2 P3 P4 P5 P6 r e = sB P0 P1 P2 P3 P4 P5 P6 r e + P6 (ix2 e 0) := by
  unfold sB yB k0_pay41 k0_pay40
  rw [View.ld_unit_zero (X := P6) (by decide)]
  pointwise [k0_pay12]

theorem out9_eq : out0_9 P0 P1 P2 P3 P4 P5 P6 = k0_pay1 (k0_pay49 (F := Ideal) P0 P1 P2 P3 P4 P5 P6) (k0_pay58 P0 P1 P2 P3 P4 P5 P6) (k0_pay59 P0 P1 P2 P3 P4 P5 P6) := by
  unfold out0_9
  rw [View.canon_unit_zero (by decide)]

theorem out10_eq : out0_10 P0 P1 P2 P3 P4 P5 P6 = k0_pay2 (F := Ideal) (k0_pay54 P0 P1 P2 P3 P4 P5 P6) (k0_pay55 P0 P1 P2 P3 P4 P5 P6) (k0_pay29 (k0_pay40 P0 P1 P2 P3 P4 P5 P6) (k0_pay49 P0 P1 P2 P3 P4 P5 P6)) (k0_pay30 (k0_pay40 P0 P1 P2 P3 P4 P5 P6) (k0_pay49 P0 P1 P2 P3 P4 P5 P6)) (k0_pay58 P0 P1 P2 P3 P4 P5 P6) (k0_pay59 P0 P1 P2 P3 P4 P5 P6)
      (k0_pay35 (k0_pay50 P0 P1 P2 P3 P4 P5 P6) (k0_pay51 P0 P1 P2 P3 P4 P5 P6) (k0_pay52 P0 P1 P2 P3 P4 P5 P6) (k0_pay53 P0 P1 P2 P3 P4 P5 P6) (k0_pay54 P0 P1 P2 P3 P4 P5 P6) (k0_pay55 P0 P1 P2 P3 P4 P5 P6) (k0_pay56 P0 P1 P2 P3 P4 P5 P6) (k0_pay57 P0 P1 P2 P3 P4 P5 P6)) (k0_pay36 (k0_pay50 P0 P1 P2 P3 P4 P5 P6) (k0_pay51 P0 P1 P2 P3 P4 P5 P6) (k0_pay52 P0 P1 P2 P3 P4 P5 P6) (k0_pay53 P0 P1 P2 P3 P4 P5 P6) (k0_pay56 P0 P1 P2 P3 P4 P5 P6) (k0_pay57 P0 P1 P2 P3 P4 P5 P6)) := by
  unfold out0_10
  rw [View.canon_unit_zero (by decide)]

/-- A block's token, read from the arguments. -/
theorem add_blk (t : Fin cfg0.N) (r : Fin 256) (x : Fin 2048) :
    tokB (iblk m c 0 t) (iblk m c 1 t) (iblk m c 2 t) (iblk m c 4 t) r x = addE m c (bt t) (tok t r) x := by
  unfold tokB
  rw [iblk1, iblk2, addE, part_tok, added]
  refine congrArg (fun q => _ + _ * q) (Finset.sum_congr rfl fun k _ => ?_)
  rw [iblk0, iblk4]

theorem nrm_blk (t : Fin cfg0.N) (r : Fin 256) (d : Fin 2048) : nrmB (iblk m c 0 t) (iblk m c 1 t) (iblk m c 2 t) (iblk m c 3 t) (iblk m c 4 t) r d = tokE m c (bt t) (tok t r) d := by
  unfold nrmB
  rw [iblk2, iblk2, iblk3, show tokB _ _ _ _ r = addE m c (bt t) (tok t r) from funext (add_blk m c t r), tokE, part_tok]
  rfl

theorem s_blk (t : Fin cfg0.N) (r : Fin 256) : sB (iblk m c 0 t) (iblk m c 1 t) (iblk m c 2 t) (iblk m c 3 t) (iblk m c 4 t) (iblk m c 5 t) (iblk m c 6 t) r = scoreE (tokE m c (bt t) (tok t r)) (aU m c) := by
  refine funext fun e => (sB_eq _ _ _ _ _ _ _ r e).trans ?_
  unfold scoreE
  refine congrArg (fun q => Ideal.div 1 (1 + Ideal.exp (-q))) (Finset.sum_congr rfl fun x _ => ?_)
  rw [nrm_blk, iblk5]

theorem y_blk (t : Fin cfg0.N) (r : Fin 256) : yB (iblk m c 0 t) (iblk m c 1 t) (iblk m c 2 t) (iblk m c 3 t) (iblk m c 4 t) (iblk m c 5 t) (iblk m c 6 t) r = biased (tokE m c (bt t) (tok t r)) (aU m c) (aB m c) := by
  refine funext fun e => (yB_eq _ _ _ _ _ _ _ r e).trans ?_
  unfold biased
  rw [iblk6]
  exact congrArg (fun q => q + _) (congrFun (s_blk m c t r) e)

/-- The array the kernel leaves. -/
theorem final9 : (dats m 0 c).arrAt 9 cfg0.N = res1 m c := by
  refine (dats m 0 c).arrAt_eq_of_emb 9 (res1 m c) (fun t hf (y : S1x2x256.Idx) => ?_) (cover9)
  obtain ⟨z, k, r, rfl⟩ : ∃ (z : Fin 1) (k : Fin 2) (r : Fin 256), y = ix3 z k r := ⟨y 0, y 1, y 2, eq_ix3 y⟩
  obtain rfl : z = 0 := Subsingleton.elim _ _
  refine Eq.trans ?_ (congrArg (res1 m c) (emb9 t k r)).symm
  show (dats m 0 c).after 9 t (ix3 0 k r : S1x2x256.Idx) = _
  rw [after0_9]
  refine (congrFun (out9_eq _ _ _ _ _ _ _) _).trans ((ids_apply _ _ _ _ _ _ _ k r).trans ?_)
  rw [y_blk]
  rfl

/-- The array the kernel leaves. -/
theorem final10 : (dats m 0 c).arrAt 10 cfg0.N = res2 m c := by
  refine (dats m 0 c).arrAt_eq_of_emb 10 (res2 m c) (fun t hf (y : S1x2x256.Idx) => ?_) (cover10)
  obtain ⟨z, k, r, rfl⟩ : ∃ (z : Fin 1) (k : Fin 2) (r : Fin 256), y = ix3 z k r := ⟨y 0, y 1, y 2, eq_ix3 y⟩
  obtain rfl : z = 0 := Subsingleton.elim _ _
  refine Eq.trans ?_ (congrArg (res2 m c) (emb10 t k r)).symm
  show (dats m 0 c).after 10 t (ix3 0 k r : S1x2x256.Idx) = _
  rw [after0_10]
  refine (congrFun (out10_eq _ _ _ _ _ _ _) _).trans ((gates_apply _ _ _ _ _ _ _ k r).trans ?_)
  rw [y_blk, s_blk]
  rfl

/-- The run: the results hold the formulas and the arguments are as they were. -/
theorem run (g : Dev nD → PrngReg) : θ_run defs (onTc (τ := τ) (main (F := Ideal))) ⟨m, fun _ => 0, g⟩ fun r => ∀ c : Dev nD,
      r.2.mem ((c : Thread nD τ).loc main_v5_2) = res1 m c
      ∧ r.2.mem ((c : Thread nD τ).loc main_v5_3) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 9).trans (final9 m c), ((h c).1 10).trans (final10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m g)

end Cert.RouteKernelIdeal.Stream

end
-- ==== Proof.Stream.RouteRef.lean ====
/- The reference of the router at exact arithmetic, entry by entry. -/
module

public import proofs.«01_k».proof.Proof.Gen.RouteReferenceIdeal.Run
public import proofs.«01_k».proof.Proof.Stream.Route
public import Idealize.ShloMosaic.Lib.Quiescent

@[expose] public section

set_option maxRecDepth 16384
set_option maxHeartbeats 4000000

noncomputable section

namespace Cert.RouteReferenceIdeal.Stream

open Cert.RouteReferenceIdeal Cert.RouteReferenceIdeal.Gen Cert.Stream Idealize.ShloMosaic Idealize.ShloMosaic.TcCoe Idealize.SL.Sem

variable (L : Vec Ideal S8x4352x2048 .bf16) (X : Vec Ideal S8x4352x2048 .f32) (M : Vec Ideal S8x2x6x2048 .f32) (g : Vec Ideal S2048 .f32) (W : Vec Ideal S2048x2048 .f32) (U : Vec Ideal S2048x16 .f32) (B : Vec Ideal S16 .f32)

/-- The projected rows. -/
def o : FVec Ideal S8x4352x2048 .f32 :=
  Host.dotGeneral (φ₁ := .f32) (φ₂ := .f32) dot_S8x4352x2048_S2048x2048_S8x4352x2048_2_0_01_1_n_n none (extf .f32 (φ := .bf16) L bitsLt_bf16_f32) W
/-- The context tokens with the projected rows added. -/
def xc : FVec Ideal S8x256x2048 .f32 :=
  addf (extractStridedSlice (α := Ideal .f32) S8x256x2048 ![0, 0, 0] X slices_S8x4352x2048_S8x256x2048_0_0_0)
    (mulf (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 2, 0] M slices_S8x2x6x2048_S8x1x1x2048_0_0_2_0) shapeCasts_S8x1x1x2048_S8x2048)))
      (extractStridedSlice (α := Ideal .f32) S8x256x2048 ![0, 0, 0] (o L W) slices_S8x4352x2048_S8x256x2048_0_0_0))
/-- Their norm under the modulation. -/
def hc : FVec Ideal S8x256x2048 .f32 :=
  addf (mulf (mulf (mulf (xc L X M W) (broadcastInDim S8x256x2048 ![0, 1, 2] bcast_S8x256x1_S8x256x2048_0_1_2 (Host.rsqrt (addf (Host.divf (broadcastInDim S8x256x1 ![0, 1] bcast_S8x256_S8x256x1_0_1
      (Host.reduceAdd (mulf (xc L X M W) (xc L X M W)) (constant S_ .f32 0x00000000#32) reducesTo_S8x256x2048_S8x256_d2 h_S_)) (broadcastInDim S8x256x1 ![] bcast_S_S8x256x1 (constant S_ .f32 0x45000000#32)))
      (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 g)))
    (broadcastInDim S8x256x2048 ![0, 1, 2] bcast_S8x1x2048_S8x256x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 0, 4, 0] M slices_S8x2x6x2048_S8x1x1x2048_0_0_4_0) shapeCasts_S8x1x1x2048_S8x2048)))))
    (broadcastInDim S8x256x2048 ![0, 1, 2] bcast_S8x1x2048_S8x256x2048_0_1_2 (broadcastInDim S8x1x2048 ![0, 2] bcast_S8x2048_S8x1x2048_0_2 (shapeCast (α := Ideal .f32) S8x2048 (extractStridedSlice (α := Ideal .f32) S8x1x1x2048 ![0, 0, 3, 0] M slices_S8x2x6x2048_S8x1x1x2048_0_0_3_0) shapeCasts_S8x1x1x2048_S8x2048)))
/-- The latent tokens with the projected rows added. -/
def xl : FVec Ideal S8x4096x2048 .f32 :=
  addf (extractStridedSlice (α := Ideal .f32) S8x4096x2048 ![0, 256, 0] X slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 2, 0] M slices_S8x2x6x2048_S8x1x1x2048_0_1_2_0) shapeCasts_S8x1x1x2048_S8x2048)))
      (extractStridedSlice (α := Ideal .f32) S8x4096x2048 ![0, 256, 0] (o L W) slices_S8x4352x2048_S8x4096x2048_0_256_0))
/-- Their norm under the modulation. -/
def hl : FVec Ideal S8x4096x2048 .f32 :=
  addf (mulf (mulf (mulf (xl L X M W) (broadcastInDim S8x4096x2048 ![0, 1, 2] bcast_S8x4096x1_S8x4096x2048_0_1_2 (Host.rsqrt (addf (Host.divf (broadcastInDim S8x4096x1 ![0, 1] bcast_S8x4096_S8x4096x1_0_1
      (Host.reduceAdd (mulf (xl L X M W) (xl L X M W)) (constant S_ .f32 0x00000000#32) reducesTo_S8x4096x2048_S8x4096_d2 h_S_)) (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g)))
    (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (shapeCast (α := Ideal .f32) S8x2048 (extractStridedSlice (α := Ideal .f32) S8x1x1x2048 ![0, 1, 4, 0] M slices_S8x2x6x2048_S8x1x1x2048_0_1_4_0) shapeCasts_S8x1x1x2048_S8x2048)))))
    (broadcastInDim S8x4096x2048 ![0, 1, 2] bcast_S8x1x2048_S8x4096x2048_0_1_2 (broadcastInDim S8x1x2048 ![0, 2] bcast_S8x2048_S8x1x2048_0_2 (shapeCast (α := Ideal .f32) S8x2048 (extractStridedSlice (α := Ideal .f32) S8x1x1x2048 ![0, 1, 3, 0] M slices_S8x2x6x2048_S8x1x1x2048_0_1_3_0) shapeCasts_S8x1x1x2048_S8x2048)))
/-- Entries of these. -/
theorem xc_apply (b : Fin 8) (s : Fin 256) (d : Fin 2048) : xc L X M W (ix3 b s d) = added L X M W 0 b ⟨0 + s.val, by omega⟩ d := by
  pointwise [xc, o, added]
theorem hc_apply (b : Fin 8) (s : Fin 256) (d : Fin 2048) : hc L X M g W (ix3 b s d) = modded2 (added L X M W 0 b ⟨0 + s.val, by omega⟩) g M 0 b d := by
  pointwise [hc, xc_apply, rms, modded2]
/-- Entries of these. -/
theorem xl_apply (b : Fin 8) (s : Fin 4096) (d : Fin 2048) : xl L X M W (ix3 b s d) = added L X M W 1 b ⟨256 + s.val, by omega⟩ d := by
  pointwise [xl, o, added]
theorem hl_apply (b : Fin 8) (s : Fin 4096) (d : Fin 2048) : hl L X M g W (ix3 b s d) = modded2 (added L X M W 1 b ⟨256 + s.val, by omega⟩) g M 1 b d := by
  pointwise [hl, xl_apply, rms, modded2]

/-- The normed tokens. -/
def hj : FVec Ideal S8x4352x2048 .f32 := concatenate (α := Ideal .f32) S8x4352x2048 1 [⟨S8x256x2048, hc L X M g W⟩, ⟨S8x4096x2048, hl L X M g W⟩] concatenates_S8x256x2048_S8x4096x2048_S8x4352x2048_d1
/-- The experts' scores. -/
def sc : FVec Ideal S8x4352x16 .f32 :=
  Host.divf (broadcastInDim S8x4352x16 ![] bcast_S_S8x4352x16 (constant S_ .f32 0x3F800000#32)) (addf (broadcastInDim S8x4352x16 ![] bcast_S_S8x4352x16 (constant S_ .f32 0x3F800000#32))
    (Host.exp (Host.negf (Host.dotGeneral (φ₁ := .f32) (φ₂ := .f32) dot_S8x4352x2048_S2048x16_S8x4352x16_2_0_01_1_n_n none (hj L X M g W) U))))
/-- The scores with the bias. -/
def sl : FVec Ideal S8x4352x16 .f32 :=
  addf (sc L X M g W U) (broadcastInDim S8x4352x16 ![0, 1, 2] bcast_S1x1x16_S8x4352x16_0_1_2 (broadcastInDim S1x1x16 ![2] bcast_S16_S1x1x16_2 B))
/-- The same by group. -/
def by4 : FVec Ideal S8x4352x4x4 .f32 := shapeCast (α := Ideal .f32) S8x4352x4x4 (sl L X M g W U B) shapeCasts_S8x4352x16_S8x4352x4x4
/-- The sum of each group's two greatest. -/
def grp : FVec Ideal S8x4352x4 .f32 :=
  Host.reduceAdd (Host.topK S8x4352x4x2 3 (FloatOps.cmpfTotal (F := Ideal) (φ := .f32) .gt) (by4 L X M g W U B) sliceFits_S8x4352x4x4_S8x4352x4x2).1 (constant S_ .f32 0x00000000#32) reducesTo_S8x4352x4x2_S8x4352x4_d3 h_S_
/-- The group with the greatest. -/
def bst : IVec S8x4352x1 32 := (Host.topK S8x4352x1 2 (FloatOps.cmpfTotal (F := Ideal) (φ := .f32) .gt) (grp L X M g W U B) sliceFits_S8x4352x4_S8x4352x1).2
/-- The biased scores with the other groups at minus infinity. -/
def msk : FVec Ideal S8x4352x16 .f32 :=
  select (cmpi .eq (broadcastInDim S8x4352x16 ![0, 1, 2] bcast_S1x1x16_S8x4352x16_0_1_2 (broadcastInDim S1x1x16 ![2] bcast_S16_S1x1x16_2 (Host.divsi (iotaInDim S16 32 0) (broadcastInDim S16 ![] bcast_S_S16 (constantI S_ 32 4#32)))))
    (broadcastInDim S8x4352x16 ![0, 1, 2] bcast_S8x4352x1_S8x4352x16_0_1_2 (bst L X M g W U B))) (sl L X M g W U B) (broadcastInDim S8x4352x16 ![] bcast_S_S8x4352x16 (constant (F := Ideal) S_ .f32 0xFF800000#32))
/-- The two experts. -/
def idx : IVec S8x4352x2 32 := (Host.topK S8x4352x2 2 (FloatOps.cmpfTotal (F := Ideal) (φ := .f32) .gt) (msk L X M g W U B) sliceFits_S8x4352x16_S8x4352x2).2
/-- Their scores. -/
def gs : FVec Ideal S8x4352x2 .f32 :=
  Host.reduceAdd (select (cmpi .eq (broadcastInDim S8x4352x2x16 ![0, 1, 2, 3] bcast_S8x4352x2x1_S8x4352x2x16_0_1_2_3 (broadcastInDim S8x4352x2x1 ![0, 1, 2] bcast_S8x4352x2_S8x4352x2x1_0_1_2 (idx L X M g W U B)))
      (broadcastInDim S8x4352x2x16 ![0, 1, 2, 3] bcast_S1x1x1x16_S8x4352x2x16_0_1_2_3 (broadcastInDim S1x1x1x16 ![3] bcast_S16_S1x1x1x16_3 (iotaInDim S16 32 0))))
    (broadcastInDim S8x4352x2x16 ![0, 1, 2, 3] bcast_S8x4352x1x16_S8x4352x2x16_0_1_2_3 (broadcastInDim S8x4352x1x16 ![0, 1, 3] bcast_S8x4352x16_S8x4352x1x16_0_1_3 (sc L X M g W U)))
    (broadcastInDim S8x4352x2x16 ![] bcast_S_S8x4352x2x16 (constant (F := Ideal) S_ .f32 0x00000000#32))) (constant S_ .f32 0x00000000#32) reducesTo_S8x4352x2x16_S8x4352x2_d3 h_S_
/-- The two results. -/
def out1 : IVec S8x2x4352 32 := transpose S8x2x4352 [0, 2, 1] (idx L X M g W U B) transposes_S8x4352x2_S8x2x4352_0_2_1
def out2 : FVec Ideal S8x2x4352 .f32 :=
  transpose (α := Ideal .f32) S8x2x4352 [0, 2, 1] (Host.divf (gs L X M g W U B) (broadcastInDim S8x4352x2 ![0, 1, 2] bcast_S8x4352x1_S8x4352x2_0_1_2 (broadcastInDim S8x4352x1 ![0, 1] bcast_S8x4352_S8x4352x1_0_1
    (Host.reduceAdd (gs L X M g W U B) (constant S_ .f32 0x00000000#32) reducesTo_S8x4352x2_S8x4352_d2 h_S_)))) transposes_S8x4352x2_S8x2x4352_0_2_1

/-- Every execution of the reference ends, its results these, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v102) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v103) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨(h c).1.trans (by unfold Value.res_main_v102; rfl), (h c).2.1.trans (by unfold Value.res_main_v103; rfl), (h c).2.2⟩, sem_eq_zero_of_no_sems (by decide) _⟩) (Value.run m ρ)

/-- Entries of the normed tokens. -/
abbrev tokN (b : Fin 8) (s : Fin 4352) (d : Fin 2048) : EReal := modded2 (added L X M W (part s) b s) g M (part s) b d
theorem hj_apply (b : Fin 8) (s : Fin 4352) (d : Fin 2048) : hj L X M g W (ix3 b s d) = tokN L X M g W b s d := by
  pointwise [hj, hc_apply, hl_apply]
  unfold tokN part
  split
  · exact congrArg (fun q => modded2 (added L X M W 0 b q) g M 0 b d) (Fin.ext rfl)
  · exact congrArg (fun q => modded2 (added L X M W 1 b q) g M 1 b d) (Fin.ext (by show 256 + (s.val - 256) = s.val; omega))

/-- The sort by the order of the extended reals, largest first. -/
theorem gt_eq (x y : EReal) : (FloatOps.cmpfTotal (F := Ideal) (φ := .f32) .gt x y == 1#1) = decide (y < x) := by
  show (Ideal.cmp .ogt x y == 1#1) = _
  by_cases h : y < x <;> simp [Ideal.cmp, h]

theorem gt_rank {n : Nat} (f : Fin n → EReal) (k : Fin n) : sortedFrom (fun a b => FloatOps.cmpfTotal (F := Ideal) (φ := .f32) .gt (f a) (f b) == 1#1) k = rank f k := by
  unfold rank
  simp only [gt_eq]

theorem topK4_apply (x : FVec Ideal S8x4352x4x4 .f32) (b : Fin 8) (s : Fin 4352) (e : Fin 4) (k : Fin 2) :
    (Host.topK S8x4352x4x2 3 (FloatOps.cmpfTotal (F := Ideal) (φ := .f32) .gt) x sliceFits_S8x4352x4x4_S8x4352x4x2).1 (ix4 b s e k)
      = x (ix4 b s e (rank (fun i => x (ix4 b s e i)) (k.castLE (by decide)))) := by
  have key : ∀ (y : S8x4352x4x4.Idx → BitVec 32) (J : S8x4352x4x4.Idx), (Host.sort2 S8x4352x4x4 3 (fun l r : Ideal .f32 × BitVec 32 => FloatOps.cmpfTotal (F := Ideal) (φ := .f32) .gt l.1 r.1) x y).1 J = x (J.along 3 (rank (n := 4) (fun i => x (J.along 3 i)) (J 3))) := fun y J => by
    unfold Host.sort2
    rw [dif_pos (by decide : 3 < S8x4352x4x4.rank)]
    exact congrArg (fun q : Fin 4 => x (J.along 3 q)) (gt_rank (n := 4) (fun i => x (J.along 3 i)) (J 3))
  have hJ : (fun a => ⟨0 + ((ix4 b s e k : S8x4352x4x2.Idx) a).val, Nat.lt_of_lt_of_le (Nat.add_lt_add_left (((ix4 b s e k : S8x4352x4x2.Idx)) a).isLt _) (sliceFits_S8x4352x4x4_S8x4352x4x2.2 a)⟩ : S8x4352x4x4.Idx) = ix4 b s e (k.castLE (by decide)) :=
    funext fun (y : Fin 4) => Fin.ext (Nat.zero_add _ |>.trans (by
    match y with
    | 0 => rfl
    | 1 => rfl
    | 2 => rfl
    | 3 => rfl))
  have hA : ∀ (q i : Fin 4), (ix4 b s e q : S8x4352x4x4.Idx).along 3 i = ix4 b s e i := fun q i => funext fun (y : Fin 4) => by
    unfold Shape.Idx.along
    match y with
    | 0 => rfl
    | 1 => rfl
    | 2 => rfl
    | 3 => rfl
  have hr : rank (n := 4) (fun i => x ((ix4 b s e (k.castLE (by decide)) : S8x4352x4x4.Idx).along 3 i)) (k.castLE (by decide)) = rank (fun i => x (ix4 b s e i)) (k.castLE (by decide)) :=
    congrFun (congrArg (rank (n := 4)) (funext fun i => congrArg x (hA _ i))) _
  refine (congrArg (Host.sort2 S8x4352x4x4 3 (fun l r : Ideal .f32 × BitVec 32 => FloatOps.cmpfTotal (F := Ideal) (φ := .f32) .gt l.1 r.1) x (fun i : S8x4352x4x4.Idx => if hd : 3 < S8x4352x4x4.rank then iotaInDim S8x4352x4x4 32 ⟨3, hd⟩ i else 0#32)).1 hJ).trans ((key _ _).trans ?_)
  refine (congrArg (fun q : Fin 4 => x ((ix4 b s e (k.castLE (by decide)) : S8x4352x4x4.Idx).along 3 q)) hr).trans ?_
  beta_reduce
  exact congrArg x (hA _ _)

theorem topK1_apply (x : FVec Ideal S8x4352x4 .f32) (b : Fin 8) (s : Fin 4352) (k : Fin 1) :
    (Host.topK S8x4352x1 2 (FloatOps.cmpfTotal (F := Ideal) (φ := .f32) .gt) x sliceFits_S8x4352x4_S8x4352x1).2 (ix3 b s k)
      = BitVec.ofNat 32 (rank (fun i => x (ix3 b s i)) (k.castLE (by decide))).val := by
  have key : ∀ (y : S8x4352x4.Idx → BitVec 32) (J : S8x4352x4.Idx), (Host.sort2 S8x4352x4 2 (fun l r : Ideal .f32 × BitVec 32 => FloatOps.cmpfTotal (F := Ideal) (φ := .f32) .gt l.1 r.1) x y).2 J = y (J.along 2 (rank (n := 4) (fun i => x (J.along 2 i)) (J 2))) := fun y J => by
    unfold Host.sort2
    rw [dif_pos (by decide : 2 < S8x4352x4.rank)]
    exact congrArg (fun q : Fin 4 => y (J.along 2 q)) (gt_rank (n := 4) (fun i => x (J.along 2 i)) (J 2))
  have hJ : (fun a => ⟨0 + ((ix3 b s k : S8x4352x1.Idx) a).val, Nat.lt_of_lt_of_le (Nat.add_lt_add_left (((ix3 b s k : S8x4352x1.Idx)) a).isLt _) (sliceFits_S8x4352x4_S8x4352x1.2 a)⟩ : S8x4352x4.Idx) = ix3 b s (k.castLE (by decide)) :=
    funext fun (y : Fin 3) => Fin.ext (Nat.zero_add _ |>.trans (by
    match y with
    | 0 => rfl
    | 1 => rfl
    | 2 => rfl))
  have hA : ∀ (q i : Fin 4), (ix3 b s q : S8x4352x4.Idx).along 2 i = ix3 b s i := fun q i => funext fun (y : Fin 3) => by
    unfold Shape.Idx.along
    match y with
    | 0 => rfl
    | 1 => rfl
    | 2 => rfl
  have hr : rank (n := 4) (fun i => x ((ix3 b s (k.castLE (by decide)) : S8x4352x4.Idx).along 2 i)) (k.castLE (by decide)) = rank (fun i => x (ix3 b s i)) (k.castLE (by decide)) :=
    congrFun (congrArg (rank (n := 4)) (funext fun i => congrArg x (hA _ i))) _
  refine (congrArg (Host.sort2 S8x4352x4 2 (fun l r : Ideal .f32 × BitVec 32 => FloatOps.cmpfTotal (F := Ideal) (φ := .f32) .gt l.1 r.1) x (fun i : S8x4352x4.Idx => if hd : 2 < S8x4352x4.rank then iotaInDim S8x4352x4 32 ⟨2, hd⟩ i else 0#32)).2 hJ).trans ((key _ _).trans ?_)
  refine (congrArg (fun q : Fin 4 => (fun i : S8x4352x4.Idx => if hd : 2 < S8x4352x4.rank then iotaInDim S8x4352x4 32 ⟨2, hd⟩ i else 0#32) ((ix3 b s (k.castLE (by decide)) : S8x4352x4.Idx).along 2 q)) hr).trans ?_
  beta_reduce
  rw [hA]
  refine (dif_pos (by decide : 2 < S8x4352x4.rank)).trans ?_
  rfl

theorem topK16_apply (x : FVec Ideal S8x4352x16 .f32) (b : Fin 8) (s : Fin 4352) (k : Fin 2) :
    (Host.topK S8x4352x2 2 (FloatOps.cmpfTotal (F := Ideal) (φ := .f32) .gt) x sliceFits_S8x4352x16_S8x4352x2).2 (ix3 b s k)
      = BitVec.ofNat 32 (rank (fun i => x (ix3 b s i)) (k.castLE (by decide))).val := by
  have key : ∀ (y : S8x4352x16.Idx → BitVec 32) (J : S8x4352x16.Idx), (Host.sort2 S8x4352x16 2 (fun l r : Ideal .f32 × BitVec 32 => FloatOps.cmpfTotal (F := Ideal) (φ := .f32) .gt l.1 r.1) x y).2 J = y (J.along 2 (rank (n := 16) (fun i => x (J.along 2 i)) (J 2))) := fun y J => by
    unfold Host.sort2
    rw [dif_pos (by decide : 2 < S8x4352x16.rank)]
    exact congrArg (fun q : Fin 16 => y (J.along 2 q)) (gt_rank (n := 16) (fun i => x (J.along 2 i)) (J 2))
  have hJ : (fun a => ⟨0 + ((ix3 b s k : S8x4352x2.Idx) a).val, Nat.lt_of_lt_of_le (Nat.add_lt_add_left (((ix3 b s k : S8x4352x2.Idx)) a).isLt _) (sliceFits_S8x4352x16_S8x4352x2.2 a)⟩ : S8x4352x16.Idx) = ix3 b s (k.castLE (by decide)) :=
    funext fun (y : Fin 3) => Fin.ext (Nat.zero_add _ |>.trans (by
    match y with
    | 0 => rfl
    | 1 => rfl
    | 2 => rfl))
  have hA : ∀ (q i : Fin 16), (ix3 b s q : S8x4352x16.Idx).along 2 i = ix3 b s i := fun q i => funext fun (y : Fin 3) => by
    unfold Shape.Idx.along
    match y with
    | 0 => rfl
    | 1 => rfl
    | 2 => rfl
  have hr : rank (n := 16) (fun i => x ((ix3 b s (k.castLE (by decide)) : S8x4352x16.Idx).along 2 i)) (k.castLE (by decide)) = rank (fun i => x (ix3 b s i)) (k.castLE (by decide)) :=
    congrFun (congrArg (rank (n := 16)) (funext fun i => congrArg x (hA _ i))) _
  refine (congrArg (Host.sort2 S8x4352x16 2 (fun l r : Ideal .f32 × BitVec 32 => FloatOps.cmpfTotal (F := Ideal) (φ := .f32) .gt l.1 r.1) x (fun i : S8x4352x16.Idx => if hd : 2 < S8x4352x16.rank then iotaInDim S8x4352x16 32 ⟨2, hd⟩ i else 0#32)).2 hJ).trans ((key _ _).trans ?_)
  refine (congrArg (fun q : Fin 16 => (fun i : S8x4352x16.Idx => if hd : 2 < S8x4352x16.rank then iotaInDim S8x4352x16 32 ⟨2, hd⟩ i else 0#32) ((ix3 b s (k.castLE (by decide)) : S8x4352x16.Idx).along 2 q)) hr).trans ?_
  beta_reduce
  rw [hA]
  refine (dif_pos (by decide : 2 < S8x4352x16.rank)).trans ?_
  rfl

/-- Entries of the scores. -/
theorem sc_apply (b : Fin 8) (s : Fin 4352) (e : Fin 16) : sc L X M g W U (ix3 b s e) = scoreE (tokN L X M g W b s) U e := by
  pointwise [sc, hj_apply, scoreE]
theorem sl_apply (b : Fin 8) (s : Fin 4352) (e : Fin 16) : sl L X M g W U B (ix3 b s e) = biased (tokN L X M g W b s) U B e := by
  pointwise [sl, sc_apply, biased]
theorem by4_apply (b : Fin 8) (s : Fin 4352) (e f : Fin 4) : by4 L X M g W U B (ix4 b s e f) = biased (tokN L X M g W b s) U B (at4 e f) := by
  refine Eq.trans (b := sl L X M g W U B (ix3 b s (at4 e f))) ?_ (sl_apply L X M g W U B b s _)
  pointwise [by4]
  exact congrArg (fun q => sl L X M g W U B (ix3 b s q)) (Fin.ext (by unfold at4; show e.val * 4 + f.val = 4 * e.val + f.val; omega))
theorem grp_apply (b : Fin 8) (s : Fin 4352) (e : Fin 4) : grp L X M g W U B (ix3 b s e) = score (biased (tokN L X M g W b s) U B) e := by
  pointwise [grp, topK4_apply, by4_apply]
  rfl

variable (hB : ∀ e : Fin 16, ⊥ < B (ix1 e))
include hB

theorem bst_apply (b : Fin 8) (s : Fin 4352) (k : Fin 1) : bst L X M g W U B (ix3 b s k) = BitVec.ofNat 32 (best (biased (tokN L X M g W b s) U B)).val := by
  unfold bst
  rw [topK1_apply]
  refine congrArg (fun q : Fin 4 => BitVec.ofNat 32 q.val) (Eq.trans ?_ (rank_score _ (biased_gt _ U B hB) k))
  exact congrFun (congrArg rank (funext fun i => grp_apply L X M g W U B b s i)) _

omit hB in
theorem group_word : ∀ (e : Fin 16) (i : Fin 4), IntOp.cmpi CmpIPredicate.eq (IntOp.divsi ArithUnit.host (BitVec.ofNat 32 e.val) 4#32) (BitVec.ofNat 32 i.val) = BitVec.ofBool (decide (e.val / 4 = i.val)) := by
  decide
omit hB in
theorem expert_word : ∀ e i : Fin 16, IntOp.cmpi CmpIPredicate.eq (BitVec.ofNat 32 e.val) (BitVec.ofNat 32 i.val) = BitVec.ofBool (decide (e = i)) := by
  decide

theorem msk_apply (b : Fin 8) (s : Fin 4352) (e : Fin 16) : msk L X M g W U B (ix3 b s e)
    = if e.val / 4 = (best (biased (tokN L X M g W b s) U B)).val then biased (tokN L X M g W b s) U B e else ⊥ := by
  refine Eq.trans (b := Scalar.select (IntOp.cmpi CmpIPredicate.eq (IntOp.divsi ArithUnit.host (BitVec.ofNat 32 e.val) 4#32) (bst L X M g W U B (ix3 b s 0))) (sl L X M g W U B (ix3 b s e)) (Ideal.ofBits FTy.f32 4286578688#32)) ?_ ?_
  · pointwise [msk]
  · rw [bst_apply L X M g W U B hB, group_word, sl_apply, minus_inf]
    exact Scalar.select_decide _ _ _

theorem idx_apply (b : Fin 8) (s : Fin 4352) (k : Fin 2) : idx L X M g W U B (ix3 b s k) = BitVec.ofNat 32 (chosen (biased (tokN L X M g W b s) U B) k).val := by
  unfold idx
  rw [topK16_apply]
  refine congrArg (fun q : Fin 16 => BitVec.ofNat 32 q.val) (Eq.trans ?_ (rank_chosen _ (biased_gt _ U B hB) k))
  exact congrFun (congrArg rank (funext fun i => msk_apply L X M g W U B hB b s i)) _

theorem gs_apply (b : Fin 8) (s : Fin 4352) (k : Fin 2) : gs L X M g W U B (ix3 b s k) = scoreE (tokN L X M g W b s) U (chosen (biased (tokN L X M g W b s) U B) k) := by
  refine Eq.trans (b := ∑ x : Fin 16, Scalar.select (IntOp.cmpi CmpIPredicate.eq (idx L X M g W U B (ix3 b s k)) (BitVec.ofNat 32 x.val)) (sc L X M g W U (ix3 b s x)) 0) ?_ ?_
  · pointwise [gs]
  · rw [idx_apply L X M g W U B hB]
    refine Eq.trans (Finset.sum_congr rfl fun x _ => ?_) (Finset.sum_ite_eq Finset.univ (chosen (biased (tokN L X M g W b s) U B) k) (scoreE (tokN L X M g W b s) U)) |>.trans (if_pos (Finset.mem_univ _))
    rw [expert_word, sc_apply]
    exact Scalar.select_decide _ _ _

/-- Entries of the two results. -/
theorem out1_apply (b : Fin 8) (k : Fin 2) (s : Fin 4352) : out1 L X M g W U B (ix3 b k s) = BitVec.ofNat 32 (chosen (biased (tokN L X M g W b s) U B) k).val := by
  refine Eq.trans (b := idx L X M g W U B (ix3 b s k)) ?_ (idx_apply L X M g W U B hB b s k)
  pointwise [out1]
theorem out2_apply (b : Fin 8) (k : Fin 2) (s : Fin 4352) : out2 L X M g W U B (ix3 b k s) = gate (scoreE (tokN L X M g W b s) U) (biased (tokN L X M g W b s) U B) k := by
  refine Eq.trans (b := Ideal.div (gs L X M g W U B (ix3 b s k)) (∑ x : Fin 2, gs L X M g W U B (ix3 b s x))) ?_ ?_
  · pointwise [out2]
  · rw [Fin.sum_univ_two, gs_apply L X M g W U B hB, gs_apply L X M g W U B hB, gs_apply L X M g W U B hB]
    rfl

end Cert.RouteReferenceIdeal.Stream

end
-- ==== Proof.Stream.Silu.lean ====
/- The modulation at exact arithmetic: one entry. -/
module

public import proofs.«01_k».proof.Proof.Stream.Formula

@[expose] public section

noncomputable section

namespace Cert.Stream

open Idealize.ShloMosaic

/-- `x` times its logistic function. -/
def silu (x : EReal) : EReal := x * Ideal.div 1 (1 + Ideal.exp (-x))

/-- Entry `n` of layer `l`'s modulation by row `r` of the conditioning vectors. -/
def modE (C : Vec Ideal ⟨2, ![16, 2048]⟩ .f32) (W : Vec Ideal ⟨3, ![4, 2048, 12288]⟩ .f32) (B : Vec Ideal ⟨2, ![4, 12288]⟩ .f32) (l : Fin 4) (r : Fin 16) (n : Fin 12288) : EReal :=
  (∑ k : Fin 2048, silu (C (ix2 r k)) * W (ix3 l k n)) + B (ix2 l n)

end Cert.Stream
end
-- ==== Proof.Stream.Mod.lean ====
/- The modulation at exact arithmetic: the kernel's result array, entry by entry. -/
module

public import proofs.«01_k».proof.Proof.Gen.ModKernelIdeal.Frame
public import proofs.«01_k».proof.Proof.Stream.Silu
public import Idealize.ShloMosaic.Lib.Pipeline.ValueKit.Geometry

@[expose] public section

set_option maxRecDepth 16384
set_option maxHeartbeats 4000000

noncomputable section

namespace Cert.ModKernelIdeal.Stream

open Cert.ModKernelIdeal Cert.ModKernelIdeal.Gen Cert.Stream Idealize.ShloMosaic Idealize.ShloMosaic.TcCoe

variable (m : (ℓ : Loc nD τ sig) → Buf (Elt Ideal) ℓ) (c : Dev nD)

/-- The arguments of device `c`. -/
abbrev aC : Vec Ideal S16x2048 .f32 := m ((c : Thread nD τ).loc main_arg0)
abbrev aW : Vec Ideal S4x2048x12288 .f32 := m ((c : Thread nD τ).loc main_arg1)
abbrev aB : Vec Ideal S4x12288 .f32 := m ((c : Thread nD τ).loc main_arg2)

/-- The result. -/
def res : Vec Ideal S4x16x12288 .f32 := fun i => modE (aC m c) (aW m c) (aB m c) (i 0) (i 1) (i 2)

theorem tlt (t : Fin cfg0.N) : t.val < 48 := t.isLt

/-- The layer and the columns of a block. -/
abbrev ly (t : Fin cfg0.N) : Fin 4 := ⟨t.val / 12, by have := tlt t; omega⟩
abbrev col (t : Fin cfg0.N) (n : Fin 1024) : Fin 12288 := ⟨1024 * (t.val % 12) + n.val, by have := tlt t; omega⟩

theorem index0 : ∀ t : Fin cfg0.N, win0_0.index t = ![0, 0] := (by decide +kernel : ∀ t : Fin grid0.N, win0_0.index t = ![0, 0])
theorem iblk0 (t : Fin cfg0.N) (r : Fin 16) (k : Fin 2048) : (iblk m c 0 t : Vec Ideal S16x2048 .f32) (ix2 r k) = aC m c (ix2 r k) := by
  refine Eq.trans (congrArg (V m c main_arg0 : Vec Ideal S16x2048 .f32) (funext fun (x : Fin 2) => Fin.ext ?_ : ((cfg0.win 0).blk t).view.emb (ix2 r k : S16x2048.Idx) = (ix2 r k : S16x2048.Idx))) (congrFun (V_main_arg0 m c) _)
  refine ((cfg0.win 0).rect_emb_val t (ix2 r k : S16x2048.Idx) x).trans ?_
  rw [show (cfg0.win 0).index t = _ from index0 t]
  match x with
  | 0 => show 0 * 16 + r.val = r.val; omega
  | 1 => show 0 * 2048 + k.val = k.val; omega

theorem index1 : ∀ t : Fin cfg0.N, win0_1.index t = ![t.val / 12, 0, t.val % 12] := (by decide +kernel : ∀ t : Fin grid0.N, win0_1.index t = ![t.val / 12, 0, t.val % 12])
theorem iblk1 (t : Fin cfg0.N) (k : Fin 2048) (n : Fin 1024) : (iblk m c 1 t : Vec Ideal S1x2048x1024 .f32) (ix3 0 k n) = aW m c (ix3 (ly t) k (col t n)) := by
  refine Eq.trans (congrArg (V m c main_arg1 : Vec Ideal S4x2048x12288 .f32) (funext fun (x : Fin 3) => Fin.ext ?_ : ((cfg0.win 1).blk t).view.emb (ix3 0 k n : S1x2048x1024.Idx) = (ix3 (ly t) k (col t n) : S4x2048x12288.Idx))) (congrFun (V_main_arg1 m c) _)
  refine ((cfg0.win 1).rect_emb_val t (ix3 0 k n : S1x2048x1024.Idx) x).trans ?_
  rw [show (cfg0.win 1).index t = _ from index1 t]
  match x with
  | 0 => show t.val / 12 * 1 + 0 = t.val / 12; omega
  | 1 => show 0 * 2048 + k.val = k.val; omega
  | 2 => show t.val % 12 * 1024 + n.val = 1024 * (t.val % 12) + n.val; omega

/-- The offsets reach the kernel with a row axis of one. -/
theorem V_main_v0 (l : Fin 4) (n : Fin 12288) : (V m c main_v0 : Vec Ideal S4x1x12288 .f32) (ix3 l 0 n) = aB m c (ix2 l n) := by
  have h : (V m c main_v0 : Vec Ideal S4x1x12288 .f32) = shapeCast (α := Ideal .f32) S4x1x12288 (aB m c) shapeCasts_S4x12288_S4x1x12288 := by
    simp only [V, hostOps0, StableHlo.after, List.foldl_cons, List.foldl_nil]
    rfl
  rw [h]
  pointwise []

theorem index2 : ∀ t : Fin cfg0.N, win0_2.index t = ![t.val / 12, 0, t.val % 12] := (by decide +kernel : ∀ t : Fin grid0.N, win0_2.index t = ![t.val / 12, 0, t.val % 12])
theorem iblk2 (t : Fin cfg0.N) (n : Fin 1024) : (iblk m c 2 t : Vec Ideal S1x1x1024 .f32) (ix3 0 0 n) = aB m c (ix2 (ly t) (col t n)) := by
  refine Eq.trans (congrArg (V m c main_v0 : Vec Ideal S4x1x12288 .f32) (funext fun (x : Fin 3) => Fin.ext ?_ : ((cfg0.win 2).blk t).view.emb (ix3 0 0 n : S1x1x1024.Idx) = (ix3 (ly t) 0 (col t n) : S4x1x12288.Idx))) (V_main_v0 m c _ _)
  refine ((cfg0.win 2).rect_emb_val t (ix3 0 0 n : S1x1x1024.Idx) x).trans ?_
  rw [show (cfg0.win 2).index t = _ from index2 t]
  match x with
  | 0 => show t.val / 12 * 1 + 0 = t.val / 12; omega
  | 1 => show 0 * 1 + 0 = 0; omega
  | 2 => show t.val % 12 * 1024 + n.val = 1024 * (t.val % 12) + n.val; omega

theorem index3 : ∀ t : Fin cfg0.N, win0_3.index t = ![t.val / 12, 0, t.val % 12] := (by decide +kernel : ∀ t : Fin grid0.N, win0_3.index t = ![t.val / 12, 0, t.val % 12])
theorem emb3 (t : Fin cfg0.N) (r : Fin 16) (n : Fin 1024) : (((cfg0.win 3).blk t).view.emb (ix3 0 r n : S1x16x1024.Idx) : S4x16x12288.Idx) = ix3 (ly t) r (col t n) := by
  refine funext fun (x : Fin 3) => Fin.ext ?_
  refine ((cfg0.win 3).rect_emb_val t (ix3 0 r n : S1x16x1024.Idx) x).trans ?_
  rw [show (cfg0.win 3).index t = _ from index3 t]
  match x with
  | 0 => show t.val / 12 * 1 + 0 = t.val / 12; omega
  | 1 => show 0 * 16 + r.val = r.val; omega
  | 2 => show t.val % 12 * 1024 + n.val = 1024 * (t.val % 12) + n.val; omega

/-- One entry of a block. -/
theorem pay_apply (P0 : Vec Ideal S16x2048 .f32) (P1 : Vec Ideal S1x2048x1024 .f32) (P2 : Vec Ideal S1x1x1024 .f32) (r : Fin 16) (n : Fin 1024) :
    k0_pay1 P0 P1 P2 (ix3 0 r n) = (∑ k : Fin 2048, silu (P0 (ix2 r k)) * P1 (ix3 0 k n)) + P2 (ix3 0 0 n) := by
  pointwise [k0_pay1]
  refine congrArg (fun q => q + P2 (ix3 0 0 n)) (Finset.sum_congr rfl fun k _ => ?_)
  rw [sub_eq_add_neg, zero_add]
  rfl

theorem out_eq (P0 : Vec Ideal S16x2048 .f32) (P1 : Vec Ideal S1x2048x1024 .f32) (P2 : Vec Ideal S1x1x1024 .f32) : out0_3 P0 P1 P2 = k0_pay1 P0 P1 P2 := by
  unfold out0_3
  rw [View.canon_unit_zero (by decide), View.ld_unit_zero (by decide), View.ld_unit_zero (by decide), View.ld_unit_zero (by decide)]

/-- The kernel's result array. -/
theorem final3 : (dats m 0 c).arrAt 3 cfg0.N = res m c := by
  refine (dats m 0 c).arrAt_eq_of_emb 3 (res m c) (fun t hf (y : S1x16x1024.Idx) => ?_) (fun (i : S4x16x12288.Idx) => ?_)
  · obtain ⟨z, r, n, rfl⟩ : ∃ (z : Fin 1) (r : Fin 16) (n : Fin 1024), y = ix3 z r n := ⟨y 0, y 1, y 2, eq_ix3 y⟩
    obtain rfl : z = 0 := Subsingleton.elim _ _
    refine Eq.trans ?_ (congrArg (res m c) (emb3 t r n)).symm
    show (dats m 0 c).after 3 t (ix3 0 r n : S1x16x1024.Idx) = _
    rw [after0_3]
    refine (congrFun (out_eq _ _ _) _).trans ((pay_apply _ _ _ r n).trans ?_)
    rw [iblk2]
    refine congrArg (fun q => q + aB m c (ix2 (ly t) (col t n))) (Finset.sum_congr rfl fun k _ => ?_)
    rw [iblk0, iblk1]
    rfl
  · obtain ⟨l, r, n, rfl⟩ : ∃ (l : Fin 4) (r : Fin 16) (n : Fin 12288), i = ix3 l r n := ⟨i 0, i 1, i 2, eq_ix3 i⟩
    have ht : 12 * l.val + n.val / 1024 < 48 := by omega
    refine ⟨(⟨12 * l.val + n.val / 1024, ht⟩ : Fin 48), flush0_3 _, ?_⟩
    have he := emb3 (⟨12 * l.val + n.val / 1024, ht⟩ : Fin 48) r ⟨n.val % 1024, by omega⟩
    have hi : (ix3 l r n : S4x16x12288.Idx) = ix3 (ly (⟨12 * l.val + n.val / 1024, ht⟩ : Fin 48)) r (col (⟨12 * l.val + n.val / 1024, ht⟩ : Fin 48) ⟨n.val % 1024, by omega⟩) :=
      congrArg₂ (fun p q => (ix3 p r q : S4x16x12288.Idx)) (Fin.ext (by show l.val = (12 * l.val + n.val / 1024) / 12; omega))
        (Fin.ext (by show n.val = 1024 * ((12 * l.val + n.val / 1024) % 12) + n.val % 1024; omega))
    rw [hi, ← he]
    exact View.emb_mem_set _ _

/-- The run: the result array holds the formula and the arguments are as they were. -/
theorem run (g : Dev nD → PrngReg) : θ_run defs (onTc (τ := τ) (main (F := Ideal))) ⟨m, fun _ => 0, g⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m g)

end Cert.ModKernelIdeal.Stream

end
-- ==== Proof.Stream.ModRef.lean ====
/- The reference of the modulation at exact arithmetic, entry by entry. -/
module

public import proofs.«01_k».proof.Proof.Gen.ModReferenceIdeal.Run
public import proofs.«01_k».proof.Proof.Stream.Silu
public import Idealize.ShloMosaic.Lib.Quiescent

@[expose] public section

set_option maxRecDepth 16384
set_option maxHeartbeats 4000000

noncomputable section

namespace Cert.ModReferenceIdeal.Stream

open Cert.ModReferenceIdeal Cert.ModReferenceIdeal.Gen Cert.Stream Idealize.ShloMosaic Idealize.ShloMosaic.TcCoe Idealize.SL.Sem

variable (C : Vec Ideal S16x2048 .f32) (W : Vec Ideal S4x2048x12288 .f32) (B : Vec Ideal S4x12288 .f32)
/-- The conditioning vectors through `silu`. -/
def act : FVec Ideal S16x2048 .f32 :=
  mulf (F := Ideal) (φ := .f32) C (Host.divf (broadcastInDim S16x2048 ![] bcast_S_S16x2048 (constant S_ .f32 0x3F800000#32)) (addf (broadcastInDim S16x2048 ![] bcast_S_S16x2048 (constant S_ .f32 0x3F800000#32)) (Host.exp (Host.negf C))))
/-- The result. -/
def out : FVec Ideal S4x16x12288 .f32 :=
  addf (transpose S4x16x12288 [0, 2, 1] (Host.dotGeneral (F := Ideal) (φ₁ := .f32) (φ₂ := .f32) dot_S4x2048x12288_S16x2048_S4x12288x16_1_1_02_0_n_n none W (act C)) transposes_S4x12288x16_S4x16x12288_0_2_1)
    (broadcastInDim S4x16x12288 ![0, 1, 2] bcast_S4x1x12288_S4x16x12288_0_1_2 (broadcastInDim S4x1x12288 ![0, 2] bcast_S4x12288_S4x1x12288_0_2 B))
theorem act_apply (r : Fin 16) (k : Fin 2048) : act C (ix2 r k) = silu (C (ix2 r k)) := by
  pointwise [act, silu]

/-- An entry of the result. -/
theorem out_apply (l : Fin 4) (r : Fin 16) (n : Fin 12288) : out C W B (ix3 l r n) = modE C W B l r n := by
  pointwise [out, act_apply, modE]
  exact congrArg (fun q => q + B (ix2 l n)) (Finset.sum_congr rfl fun _ _ => mul_comm _ _)

/-- Every execution of the reference ends, its result this, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v5) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨h, sem_eq_zero_of_no_sems (by decide) _⟩) (Value.run m ρ)

end Cert.ModReferenceIdeal.Stream

end
-- ==== Proof.Body.lean ====
/- What one run of the expert kernel's body does to the buffers it is handed. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six prefetched tables as the body is handed them: tile of the item, expert of the item,
    flags, first row and end row of the expert's range, and the number of items. -/
abbrev tbIt : Memref sig .tc .smem S287 .i32 := Memref.whole main_v63
abbrev tbIe : Memref sig .tc .smem S287 .i32 := Memref.whole main_v49
abbrev tbFl : Memref sig .tc .smem S287 .i32 := Memref.whole main_v77
abbrev tbLo : Memref sig .tc .smem S287 .i32 := Memref.whole main_v81
abbrev tbHi : Memref sig .tc .smem S287 .i32 := Memref.whole main_v85
abbrev tbNi : Memref sig .tc .smem S1 .i32 := Memref.whole main_v86

/-- The three scratch buffers: the current expert's weights in bf16. -/
abbrev scG : Memref sig .tc .vmem S2048x1024 .bf16 := Memref.whole cc0_scratch0
abbrev scU : Memref sig .tc .vmem S2048x1024 .bf16 := Memref.whole cc0_scratch1
abbrev scD : Memref sig .tc .vmem S1024x2048 .bf16 := Memref.whole cc0_scratch2

/-- A table's buffer on core `c` held at half the full share at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The index of a table's entry for grid point `i`. -/
def ent (i : grid0.Coords) : S287.Idx := fun | 0 => ⟨(i 0).val, (i 0).isLt⟩
/-- The index of the one entry of the table of the number of items. -/
def ent1 : S1.Idx := fun | 0 => ⟨0, Nat.one_pos⟩

/-- A rectangle of one element starting at the grid point's number names the point's entry. -/
theorem emb_ent (i : grid0.Coords) (off : Fin 1 → ℕ) (hoff : off = ![(i 0).val]) (h : ∀ a, off a + S1.size a ≤ S287.size a)
    (h1 : 0 < (Rect.unit (s := S287) off S1.size h).shape.numel) :
    (Rect.unit (s := S287) off S1.size h).emb (Shape.Idx.first h1) = ent i := by
  subst hoff
  funext a
  apply Fin.ext
  have ha : a = 0 := Subsingleton.elim _ _
  subst ha
  have hz : ((Shape.Idx.first h1 : (Rect.unit (s := S287) ![(i 0).val] S1.size h).shape.Idx) 0).val < 1 := (Shape.Idx.first h1 0).isLt
  show (i 0).val + 1 * ((Shape.Idx.first h1 : (Rect.unit (s := S287) ![(i 0).val] S1.size h).shape.Idx) 0).val = (i 0).val
  omega

theorem emb_ent1 (h : ∀ a, (![0] : Fin 1 → ℕ) a + S1.size a ≤ S1.size a)
    (h1 : 0 < (Rect.unit (s := S1) ![0] S1.size h).shape.numel) :
    (Rect.unit (s := S1) ![0] S1.size h).emb (Shape.Idx.first h1) = ent1 := by
  funext a
  apply Fin.ext
  have ha : a = 0 := Subsingleton.elim _ _
  subst ha
  have hz : ((Shape.Idx.first h1 : (Rect.unit (s := S1) ![0] S1.size h).shape.Idx) 0).val < 1 := (Shape.Idx.first h1 0).isLt
  show 0 + 1 * ((Shape.Idx.first h1 : (Rect.unit (s := S1) ![0] S1.size h).shape.Idx) 0).val = 0
  omega

/-- The condition under which the body reloads the weights, of the flags word. -/
def loadCond (v : BitVec 32) : BitVec 1 :=
  Scalar.cmpi .ne (Scalar.extui (Scalar.cmpi .ne (Scalar.andi v 1#32) 0#32) : BitVec 32) 0#32

/-- What the body leaves in the weight scratch buffers: the block's weights in bf16 if it reloads, else what was there. -/
def gAfter (act ld : Prop) [Decidable act] [Decidable ld] (wg : Vec F S1x1x2048x1024 .f32) (sg : Vec F S2048x1024 .bf16) : Vec F S2048x1024 .bf16 :=
  if act ∧ ld then k0_pay3 wg else sg
def uAfter (act ld : Prop) [Decidable act] [Decidable ld] (wu : Vec F S1x1x2048x1024 .f32) (su : Vec F S2048x1024 .bf16) : Vec F S2048x1024 .bf16 :=
  if act ∧ ld then k0_pay4 wu else su
def dAfter (act ld : Prop) [Decidable act] [Decidable ld] (wd : Vec F S1x1x1024x2048 .f32) (sd : Vec F S1024x2048 .bf16) : Vec F S1024x2048 .bf16 :=
  if act ∧ ld then k0_pay5 wd else sd

/-- What the body leaves in the output block: the rows of the item's own expert at the expert's
    outputs `y`, the other rows zero in a tile's first item and as they were in a later one. -/
def oAfter (act fst cont : Prop) [Decidable act] [Decidable fst] [Decidable cont] (y : Vec F S256x2048 .bf16) (mine : IVec S256x1 1) (o : Vec F S256x2048 .bf16) : Vec F S256x2048 .bf16 :=
  if act then
    if cont then k0_pay2 y mine (if fst then k0_pay1 y mine else o)
    else if fst then k0_pay1 y mine else o
  else o

/-- Reading back a buffer that is stored whole under two conditions and else kept. -/
theorem read_store_if {κ : Kind} {sp : Space} {s : Shape} {e : EltTy} (v : View sig κ sp s e) (f : v.ty.Contents (Elt F))
    {off : Fin s.rank → ℕ} (inb : ∀ a, off a + s.size a ≤ s.size a) (w : s.Idx → Elt F e) (p q : Prop) [Decidable p] [Decidable q]
    (x : s.Idx → Elt F e) (hx : v.read (Elt F) f = x) :
    v.read (Elt F) (if hp : p then (if hq : q then v.writes (Elt F) f [⟨Rect.unit off s.size inb, w⟩] else f) else f) = if p ∧ q then w else x := by
  by_cases hp : p
  · by_cases hq : q
    · rw [dif_pos hp, dif_pos hq, if_pos ⟨hp, hq⟩, View.read_writes_full]
    · rw [dif_pos hp, dif_neg hq, if_neg (fun h => hq h.2), hx]
  · rw [dif_neg hp, if_neg (fun h => hp h.1), hx]

/-- Reading back a buffer that is stored whole under a condition and else kept. -/
theorem read_store_if1 {κ : Kind} {sp : Space} {s : Shape} {e : EltTy} (v : View sig κ sp s e) (f : v.ty.Contents (Elt F))
    {off : Fin s.rank → ℕ} (inb : ∀ a, off a + s.size a ≤ s.size a) (w : s.Idx → Elt F e) (q : Prop) [Decidable q]
    (x : s.Idx → Elt F e) (hx : v.read (Elt F) f = x) :
    v.read (Elt F) (if hq : q then v.writes (Elt F) f [⟨Rect.unit off s.size inb, w⟩] else f) = if q then w else x := by
  by_cases hq : q
  · rw [dif_pos hq, if_pos hq, View.read_writes_full]
  · rw [dif_neg hq, if_neg hq, hx]

set_option maxHeartbeats 1000000 in
/-- The body's triple at any grid point: from the input blocks, the output block and the scratch
    buffers at any contents and the six tables, it leaves the inputs and the tables as they were, the
    scratch buffers at `gAfter`, `uAfter`, `dAfter` and the output block at `oAfter`. -/
theorem run_body (c : Dev nD) (i : grid0.Coords)
    (arg7 : Memref sig .tc .vmem S256x2048 .bf16) (harg7 : arg7.IsWhole)
    (arg8 : Memref sig .tc .vmem S1x1x2048x1024 .f32) (harg8 : arg8.IsWhole)
    (arg9 : Memref sig .tc .vmem S1x1x2048x1024 .f32) (harg9 : arg9.IsWhole)
    (arg10 : Memref sig .tc .vmem S1x1x1024x2048 .f32) (harg10 : arg10.IsWhole)
    (arg11 : Memref sig .tc .vmem S256x2048 .bf16) (harg11 : arg11.IsWhole)
    (x : Vec F S256x2048 .bf16) (wg wu : Vec F S1x1x2048x1024 .f32) (wd : Vec F S1x1x1024x2048 .f32)
    (o : Vec F S256x2048 .bf16) (sg su : Vec F S2048x1024 .bf16) (sd : Vec F S1024x2048 .bf16)
    (f0 : TbBuf (F := F) c tbIt) (f1 : TbBuf (F := F) c tbIe) (f2 : TbBuf (F := F) c tbFl)
    (f3 : TbBuf (F := F) c tbLo) (f4 : TbBuf (F := F) c tbHi) (f5 : TbBuf (F := F) c tbNi)
    (vIt vFl vLo vHi vNi : BitVec 32)
    (hIt : (f0 : S287.Idx → BitVec 32) (ent i) = vIt) (hFl : (f2 : S287.Idx → BitVec 32) (ent i) = vFl)
    (hLo : (f3 : S287.Idx → BitVec 32) (ent i) = vLo) (hHi : (f4 : S287.Idx → BitVec 32) (ent i) = vHi)
    (hNi : (f5 : S1.Idx → BitVec 32) ent1 = vNi)
    (E : Set ℕ) (K : PUnit → sProp 𝕄) :
    iprop(owns (c : Thread nD τ) arg7 fullShare x ∗ owns (c : Thread nD τ) arg8 fullShare wg
        ∗ owns (c : Thread nD τ) arg9 fullShare wu ∗ owns (c : Thread nD τ) arg10 fullShare wd
        ∗ owns (c : Thread nD τ) arg11 fullShare o
        ∗ owns (c : Thread nD τ) scG fullShare sg ∗ owns (c : Thread nD τ) scU fullShare su ∗ owns (c : Thread nD τ) scD fullShare sd
        ∗ tbPt c tbIt f0 ∗ tbPt c tbIe f1 ∗ tbPt c tbFl f2 ∗ tbPt c tbLo f3 ∗ tbPt c tbHi f4 ∗ tbPt c tbNi f5
        ∗ (iprop(owns (c : Thread nD τ) arg7 fullShare x ∗ owns (c : Thread nD τ) arg8 fullShare wg
          ∗ owns (c : Thread nD τ) arg9 fullShare wu ∗ owns (c : Thread nD τ) arg10 fullShare wd
          ∗ owns (c : Thread nD τ) arg11 fullShare
              (oAfter (k0_cond1 i vNi = 1#1) (k0_cond3 vFl = 1#1) (k0_cond4 vFl = 1#1)
                (k0_pay6 x (gAfter (k0_cond1 i vNi = 1#1) (loadCond vFl = 1#1) wg sg) (uAfter (k0_cond1 i vNi = 1#1) (loadCond vFl = 1#1) wu su)
                  (dAfter (k0_cond1 i vNi = 1#1) (loadCond vFl = 1#1) wd sd))
                (k0_pay7 (F := F) vIt vLo vHi) o)
          ∗ owns (c : Thread nD τ) scG fullShare (gAfter (k0_cond1 i vNi = 1#1) (loadCond vFl = 1#1) wg sg)
          ∗ owns (c : Thread nD τ) scU fullShare (uAfter (k0_cond1 i vNi = 1#1) (loadCond vFl = 1#1) wu su)
          ∗ owns (c : Thread nD τ) scD fullShare (dAfter (k0_cond1 i vNi = 1#1) (loadCond vFl = 1#1) wd sd)
          ∗ tbPt c tbIt f0 ∗ tbPt c tbIe f1 ∗ tbPt c tbFl f2 ∗ tbPt c tbLo f3 ∗ tbPt c tbHi f4 ∗ tbPt c tbNi f5) -∗ K ⟨⟩))
      ⊢ wp frame (wpE (defs₀ (F := F)) Variants.none c none) E
          (cc0_moe_experts i tbIt (Memref.isWhole_whole _) tbIe (Memref.isWhole_whole _) tbFl (Memref.isWhole_whole _)
            tbLo (Memref.isWhole_whole _) tbHi (Memref.isWhole_whole _) tbNi (Memref.isWhole_whole _)
            arg7 harg7 arg8 harg8 arg9 harg9 arg10 harg10 arg11 harg11
            scG (Memref.isWhole_whole _) scU (Memref.isWhole_whole _) scD (Memref.isWhole_whole _)) K := by
  simp only [cc0_moe_experts_eq_skeleton, k0_part1_eq_skeleton]; unfold cc0_moe_experts_skel
  unfold owns
  iintro ⟨⟨%g7, %h7, H7⟩, ⟨%g8, %h8, H8⟩, ⟨%g9, %h9, H9⟩, ⟨%g10, %h10, H10⟩, ⟨%g11, %h11, H11⟩,
    ⟨%gg, %hg, HG⟩, ⟨%gu, %hu, HU⟩, ⟨%gd, %hd, HD⟩, T0, T1, T2, T3, T4, T5, Hk⟩
  obtain rfl := harg7.eq_unread h7; obtain rfl := harg8.eq_unread h8; obtain rfl := harg9.eq_unread h9
  obtain rfl := harg10.eq_unread h10; obtain rfl := harg11.eq_unread h11
  obtain rfl := (Memref.isWhole_whole _).eq_unread hg
  obtain rfl := (Memref.isWhole_whole _).eq_unread hu
  obtain rfl := (Memref.isWhole_whole _).eq_unread hd
  sl_exec
  sl_step
  have e5 : run_body.sl.r c f5 = vNi := by
    refine Eq.trans ?_ hNi
    unfold run_body.sl.r
    exact congrArg (f5 : S1.Idx → BitVec 32) (emb_ent1 _ _)
  have e2 : run_body.sl.r_1 c i f2 = vFl := by
    refine Eq.trans ?_ hFl
    unfold run_body.sl.r_1
    exact congrArg (f2 : S287.Idx → BitVec 32) (emb_ent i _ (k0_off2_eq i) _ _)
  have e0 : run_body.sl.r_2 c i f0 = vIt := by
    refine Eq.trans ?_ hIt
    unfold run_body.sl.r_2
    exact congrArg (f0 : S287.Idx → BitVec 32) (emb_ent i _ (k0_off3_eq i) _ _)
  have e3 : run_body.sl.r_3 c i f3 = vLo := by
    refine Eq.trans ?_ hLo
    unfold run_body.sl.r_3
    exact congrArg (f3 : S287.Idx → BitVec 32) (emb_ent i _ (k0_off3_eq i) _ _)
  have e4 : run_body.sl.r_4 c i f4 = vHi := by
    refine Eq.trans ?_ hHi
    unfold run_body.sl.r_4
    exact congrArg (f4 : S287.Idx → BitVec 32) (emb_ent i _ (k0_off3_eq i) _ _)
  have e7 : run_body.sl.r_7 c i f2 = vFl := by
    refine Eq.trans ?_ hFl
    unfold run_body.sl.r_7
    exact congrArg (f2 : S287.Idx → BitVec 32) (emb_ent i _ (k0_off3_eq i) _ _)
  have e8 : run_body.sl.r_8 c i f2 = vFl := by
    refine Eq.trans ?_ hFl
    unfold run_body.sl.r_8
    exact congrArg (f2 : S287.Idx → BitVec 32) (emb_ent i _ (k0_off4_eq i) _ _)
  have e9 : run_body.sl.v9 c i f2 = loadCond vFl := by
    rw [← e2]; rfl
  have e6 : run_body.sl.r_6 c i f0 f3 f4 = k0_pay7 (F := F) vIt vLo vHi := by
    unfold run_body.sl.r_6
    rw [e0, e3, e4]
  iapply Hk
  isplitl [H7]
  · iexists _; isplitr; · ipureintro; exact h7
    iexact H7
  isplitl [H8]
  · iexists _; isplitr; · ipureintro; exact h8
    iexact H8
  isplitl [H9]
  · iexists _; isplitr; · ipureintro; exact h9
    iexact H9
  isplitl [H10]
  · iexists _; isplitr; · ipureintro; exact h10
    iexact H10
  isplitl [H11]
  · iexists _; isplitr; swap; · iexact H11
    ipureintro
    by_cases ha : k0_cond1 i vNi = 1#1
    · have e10 : run_body.sl.r_5 c i arg7 harg7 arg8 harg8 arg9 harg9 arg10 harg10 x wg wu wd sg su sd f2
          = k0_pay6 x (gAfter (k0_cond1 i vNi = 1#1) (loadCond vFl = 1#1) wg sg) (uAfter (k0_cond1 i vNi = 1#1) (loadCond vFl = 1#1) wu su)
              (dAfter (k0_cond1 i vNi = 1#1) (loadCond vFl = 1#1) wd sd) := by
        unfold run_body.sl.r_5 gAfter uAfter dAfter run_body.sl.v12 run_body.sl.v14 run_body.sl.v26
        rw [e9]
        rw [if_congr (and_iff_right ha) rfl rfl, if_congr (and_iff_right ha) rfl rfl, if_congr (and_iff_right ha) rfl rfl]
        refine congr (congr (congr (congrArg _ ?_) ?_) ?_) ?_
        · exact (View.readAt_full _ _ _).trans h7
        · refine (View.readAt_full _ _ _).trans ((read_store_if1 _ _ _ _ _ _ hg).trans ?_)
          rw [View.readAt_full, h8]
        · refine (View.readAt_full _ _ _).trans ((read_store_if1 _ _ _ _ _ _ hu).trans ?_)
          rw [View.readAt_full, h9]
        · refine (View.readAt_full _ _ _).trans ((read_store_if1 _ _ _ _ _ _ hd).trans ?_)
          rw [View.readAt_full, h10]
      have e11 : run_body.sl.v56 c i arg7 harg7 arg8 harg8 arg9 harg9 arg10 harg10 arg11 harg11 x wg wu wd o sg su sd f0 f2 f3 f4
          = if k0_cond3 vFl = 1#1 then k0_pay1 (run_body.sl.r_5 c i arg7 harg7 arg8 harg8 arg9 harg9 arg10 harg10 x wg wu wd sg su sd f2)
              (k0_pay7 (F := F) vIt vLo vHi) else o := by
        unfold run_body.sl.v56
        rw [View.readAt_full, e7, e6]
        exact read_store_if1 _ _ _ _ _ _ h11
      rw [e5, e7, e8, e6, e11, e10, dif_pos ha]
      unfold oAfter
      rw [if_pos ha]
      by_cases hc : k0_cond4 vFl = 1#1
      · rw [dif_pos hc, if_pos hc, View.read_writes_full]
      · rw [dif_neg hc, if_neg hc]
        exact read_store_if1 _ _ _ _ _ _ h11
    · rw [e5, dif_neg ha]
      unfold oAfter
      rw [if_neg ha]
      exact h11
  isplitl [HG]
  · iexists _; isplitr; swap; · iexact HG
    ipureintro
    rw [e5, e9]
    refine (read_store_if _ _ _ _ _ _ _ hg).trans ?_
    rw [View.readAt_full, h8]; rfl
  isplitl [HU]
  · iexists _; isplitr; swap; · iexact HU
    ipureintro
    rw [e5, e9]
    refine (read_store_if _ _ _ _ _ _ _ hu).trans ?_
    rw [View.readAt_full, h9]; rfl
  isplitl [HD]
  · iexists _; isplitr; swap; · iexact HD
    ipureintro
    rw [e5, e9]
    refine (read_store_if _ _ _ _ _ _ _ hd).trans ?_
    rw [View.readAt_full, h10]; rfl
  isplitl [T0]; · iexact T0
  isplitl [T1]; · iexact T1
  isplitl [T2]; · iexact T2
  isplitl [T3]; · iexact T3
  isplitl [T4]; · iexact T4
  iexact T5

end Cert.KernelIdeal.Moe

end
-- ==== Proof.Items.lean ====
/- The list of work items the expert kernel walks, as plain natural numbers, and what makes it a
   valid schedule. -/
module

public import Idealize.ShloMosaic.Lib.Tactic

@[expose] public section

namespace Cert.Moe

/-- A schedule: `S p` the expert of sorted row `p`, `B e` the first row of expert `e`, and item `t`
    multiplies tile `it t` by the weights of expert `ie t`; the first `nI` items do work. -/
structure Items where
  S : ℕ → ℕ
  B : ℕ → ℕ
  it : ℕ → ℕ
  ie : ℕ → ℕ
  nI : ℕ

/-- Item `t` is the first one of its tile. -/
def Items.First (I : Items) (t : ℕ) : Prop := t = 0 ∨ I.it t ≠ I.it (t - 1)
/-- Item `t` is the last one of its tile. -/
def Items.Last (I : Items) (t : ℕ) : Prop := t + 1 = 287 ∨ I.it (t + 1) ≠ I.it t
/-- Item `t` takes up another expert. -/
def Items.New (I : Items) (t : ℕ) : Prop := t = 0 ∨ I.ie t ≠ I.ie (t - 1)

/-- What the kernel needs of a schedule: rows `B e ≤ p < B (e + 1)` are expert `e`'s; a tile's items come
    one after another, in the order of their experts, skipping none that has rows there; the items past
    the last repeat it; every tile has an item. -/
structure Items.Valid (I : Items) : Prop where
  pos : 1 ≤ I.nI
  le : I.nI ≤ 287
  it_lt : ∀ t, t < 287 → I.it t < 272
  ie_lt : ∀ t, t < 287 → I.ie t < 16
  S_lt : ∀ p, p < 69632 → I.S p < 16
  B_le : ∀ e, e ≤ 16 → I.B e ≤ 69632
  mem : ∀ t, t < 287 → ∀ p, p < 69632 → ((I.B (I.ie t) ≤ p ∧ p < I.B (I.ie t + 1)) ↔ I.S p = I.ie t)
  idle : ∀ t, I.nI ≤ t → t < 287 → I.it t = I.it (t - 1) ∧ I.ie t = I.ie (t - 1)
  first : ∀ t, t < 287 → I.First t → ∀ p, p < 69632 → p / 256 = I.it t → I.ie t ≤ I.S p
  lt : ∀ t, t + 1 < I.nI → I.it (t + 1) = I.it t → I.ie t < I.ie (t + 1)
  cont : ∀ t, t + 1 < I.nI → I.it (t + 1) = I.it t → ∀ p, p < 69632 → p / 256 = I.it t → I.S p ≤ I.ie t ∨ I.ie (t + 1) ≤ I.S p
  last : ∀ t, t < 287 → I.Last t → ∀ p, p < 69632 → p / 256 = I.it t → I.S p ≤ I.ie t
  cover : ∀ T, T < 272 → ∃ t, t < 287 ∧ I.it t = T ∧ I.Last t

/-- An item that starts a tile does work. -/
theorem Items.Valid.lt_of_first {I : Items} (h : I.Valid) {t : ℕ} (ht : t < 287) (hf : I.First t) : t < I.nI := by
  by_contra hn
  have hn' : I.nI ≤ t := by omega
  rcases hf with h0 | h1
  · have := h.pos; omega
  · exact h1 (h.idle t hn' ht).1

end Cert.Moe

end
-- ==== Proof.Launch.lean ====
/- The expert launch under any valid schedule: what every grid point leaves, and the array it writes. -/
module

public import proofs.«01_k».proof.Proof.Body
public import proofs.«01_k».proof.Proof.Items
public import Idealize.ShloMosaic.Lib.Pipeline.FrameSuffix
public import Idealize.ShloMosaic.Lib.Pipeline.ValueKit
public import Idealize.ShloMosaic.Lib.Claim

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers and the tables when the launch is entered -/

/-- The host lines before the launch. -/
abbrev pre0Ops : List (List (HloOp τ sig (Elt F))) :=
  [hostOps0, hostOps0_1, hostOps0_2, hostOps0_3, hostOps0_4, hostOps0_5, hostOps0_6, hostOps0_7, hostOps0_8, hostOps0_9, hostOps0_10,
   hostOps0_11, hostOps0_12, hostOps0_13, hostOps0_14, hostOps0_15, hostOps0_16, hostOps0_17, hostOps0_18, hostOps0_19, hostOps0_20, hostOps0_21]
/-- The host lines after it. -/
abbrev tailOps : List (List (HloOp τ sig (Elt F))) := [hostOps1, hostOps1_1, hostOps1_2, hostOps1_3, hostOps1_4]

/-- Core `c`'s buffers when the launch is entered. -/
abbrev V0 (c : Dev nD) : Valuation τ sig (Elt F) := StableHlo.after (List.flatten pre0Ops) (fun b => m (c, b))
abbrev V (c : Dev nD) (b : Ref sig .tc) : Buf (Elt F) ((c : Thread nD τ).loc b) := V0 m c (Proc.devRef .tc b)

/-- The tables' contents there. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- The tables hold the schedule `I`. -/
structure TabOk (a : pre0.Contents (Elt F)) (I : Items) : Prop where
  it : ∀ i : grid0.Coords, (a 0 : S287.Idx → BitVec 32) (ent i) = BitVec.ofNat 32 (I.it (i 0).val)
  ie : ∀ i : grid0.Coords, (a 1 : S287.Idx → BitVec 32) (ent i) = BitVec.ofNat 32 (I.ie (i 0).val)
  lo : ∀ i : grid0.Coords, (a 3 : S287.Idx → BitVec 32) (ent i) = BitVec.ofNat 32 (I.B (I.ie (i 0).val))
  hi : ∀ i : grid0.Coords, (a 4 : S287.Idx → BitVec 32) (ent i) = BitVec.ofNat 32 (I.B (I.ie (i 0).val + 1))
  ni : (a 5 : S1.Idx → BitVec 32) ent1 = BitVec.ofNat 32 I.nI
  ld : ∀ i : grid0.Coords, loadCond ((a 2 : S287.Idx → BitVec 32) (ent i)) = 1#1 ↔ I.New (i 0).val
  fst : ∀ i : grid0.Coords, k0_cond3 ((a 2 : S287.Idx → BitVec 32) (ent i)) = 1#1 ↔ I.First (i 0).val
  cnt : ∀ i : grid0.Coords, k0_cond4 ((a 2 : S287.Idx → BitVec 32) (ent i)) = 1#1 ↔ ¬ I.First (i 0).val

theorem coord_lt (i : grid0.Coords) : (i 0).val < 287 := (i 0).isLt

theorem tr0 (a : pre0.Contents (Elt F)) (i : grid0.Coords) :
    cc0_transform_0 k0_off1_inb numel1_S1 a i = ![((a 0 : S287.Idx → BitVec 32) (ent i)).toNat, 0] := by
  rw [← emb_ent i (k0_off1 i) (k0_off1_eq i) (k0_off1_inb i) (by rw [show (Rect.unit (s := S287) (k0_off1 i) S1.size (k0_off1_inb i)).shape.numel = 1 from numel1_S1]; exact Nat.one_pos)]
  rfl
theorem tr4 (a : pre0.Contents (Elt F)) (i : grid0.Coords) :
    cc0_transform_4 k0_off1_inb numel1_S1 a i = ![((a 0 : S287.Idx → BitVec 32) (ent i)).toNat, 0] := tr0 a i
theorem tr1 (a : pre0.Contents (Elt F)) (i : grid0.Coords) :
    cc0_transform_1 k0_off1_inb numel1_S1 a i = ![0, ((a 1 : S287.Idx → BitVec 32) (ent i)).toNat, 0, 0] := by
  rw [← emb_ent i (k0_off1 i) (k0_off1_eq i) (k0_off1_inb i) (by rw [show (Rect.unit (s := S287) (k0_off1 i) S1.size (k0_off1_inb i)).shape.numel = 1 from numel1_S1]; exact Nat.one_pos)]
  rfl
theorem tr2 (a : pre0.Contents (Elt F)) (i : grid0.Coords) :
    cc0_transform_2 k0_off1_inb numel1_S1 a i = ![0, ((a 1 : S287.Idx → BitVec 32) (ent i)).toNat, 0, 0] := tr1 a i
theorem tr3 (a : pre0.Contents (Elt F)) (i : grid0.Coords) :
    cc0_transform_3 k0_off1_inb numel1_S1 a i = ![0, ((a 1 : S287.Idx → BitVec 32) (ent i)).toNat, 0, 0] := tr1 a i

section
variable {m} {I : Items} (hI : I.Valid) {a : pre0.Contents (Elt F)} (hT : TabOk a I)
include hI hT

theorem it_toNat (i : grid0.Coords) : ((a 0 : S287.Idx → BitVec 32) (ent i)).toNat = I.it (i 0).val := by
  rw [hT.it, BitVec.toNat_ofNat]
  have := hI.it_lt _ (coord_lt i); omega
theorem ie_toNat (i : grid0.Coords) : ((a 1 : S287.Idx → BitVec 32) (ent i)).toNat = I.ie (i 0).val := by
  rw [hT.ie, BitVec.toNat_ofNat]
  have := hI.ie_lt _ (coord_lt i); omega

/-- Under a valid schedule every window's block lies in its array. -/
theorem ok_of_valid : ok0 (F := F) a := by
  refine ⟨fun i => ?_, fun i => ?_, fun i => ?_, fun i => ?_, fun i => ?_⟩
  · refine ⟨fun x => ?_, ?_⟩
    · have h := hI.it_lt _ (coord_lt i)
      rw [tr0, it_toNat hI hT]
      match x with
      | 0 => show (I.it (i 0).val + 1) * 256 ≤ 69632; omega
      | 1 => show (0 + 1) * 2048 ≤ 2048; omega
    · exact .inr (Affine.block_words_dvd (by decide) (by decide))
  · refine ⟨fun x => ?_, .inl rfl⟩
    have h := hI.ie_lt _ (coord_lt i)
    rw [tr1, ie_toNat hI hT]
    match x with
    | 0 => show (0 + 1) * 1 ≤ 4; omega
    | 1 => show (I.ie (i 0).val + 1) * 1 ≤ 16; omega
    | 2 => show (0 + 1) * 2048 ≤ 2048; omega
    | 3 => show (0 + 1) * 1024 ≤ 1024; omega
  · refine ⟨fun x => ?_, .inl rfl⟩
    have h := hI.ie_lt _ (coord_lt i)
    rw [tr2, ie_toNat hI hT]
    match x with
    | 0 => show (0 + 1) * 1 ≤ 4; omega
    | 1 => show (I.ie (i 0).val + 1) * 1 ≤ 16; omega
    | 2 => show (0 + 1) * 2048 ≤ 2048; omega
    | 3 => show (0 + 1) * 1024 ≤ 1024; omega
  · refine ⟨fun x => ?_, .inl rfl⟩
    have h := hI.ie_lt _ (coord_lt i)
    rw [tr3, ie_toNat hI hT]
    match x with
    | 0 => show (0 + 1) * 1 ≤ 4; omega
    | 1 => show (I.ie (i 0).val + 1) * 1 ≤ 16; omega
    | 2 => show (0 + 1) * 1024 ≤ 1024; omega
    | 3 => show (0 + 1) * 2048 ≤ 2048; omega
  · refine ⟨fun x => ?_, ?_⟩
    · have h := hI.it_lt _ (coord_lt i)
      rw [tr4, it_toNat hI hT]
      match x with
      | 0 => show (I.it (i 0).val + 1) * 256 ≤ 69632; omega
      | 1 => show (0 + 1) * 2048 ≤ 2048; omega
    · exact .inr (Affine.block_words_dvd (by decide) (by decide))
end

/-- What the launch is entered with: tables that hold the valid schedule `I`. -/
structure Entry (I : Items) : Prop where
  valid : I.Valid
  tab : TabOk (tbl m) I

variable {m} {I : Items}
abbrev adm (h : Entry m I) : (pcfg0 (F := F)).Adm := ⟨tbl m, ok_of_valid h.valid h.tab⟩
abbrev cfgM (h : Entry m I) : Pipeline.Cfg sig Λ₀ := cfg0 (adm h)

theorem N_eq (h : Entry m I) : (cfgM h).N = 287 := N_0
theorem t_lt (h : Entry m I) (t : Fin (cfgM h).N) : t.val < 287 := lt_of_lt_of_eq t.isLt (N_eq h)
theorem coord (h : Entry m I) (t : Fin (cfgM h).N) : (((cfgM h).grid.coords t) 0).val = t.val := by
  have e : (grid0.coords t 0).val = t.val / 1 % 287 := Pipeline.Grid.coords_val (G := grid0) t 0 (by decide) rfl
  have := t_lt h t
  exact e.trans (by omega)

/-- The windows' block indices at point `t`: the item's tile and the item's expert. -/
theorem index0 (h : Entry m I) (t : Fin (cfgM h).N) : ((cfgM h).win 0).index t = ![I.it t.val, 0] := by
  refine (tr0 (tbl m) ((cfgM h).grid.coords t)).trans ?_
  rw [it_toNat h.valid h.tab, coord]
theorem index4 (h : Entry m I) (t : Fin (cfgM h).N) : ((cfgM h).win 4).index t = ![I.it t.val, 0] := by
  refine (tr4 (tbl m) ((cfgM h).grid.coords t)).trans ?_
  rw [it_toNat h.valid h.tab, coord]
theorem index1 (h : Entry m I) (t : Fin (cfgM h).N) : ((cfgM h).win 1).index t = ![0, I.ie t.val, 0, 0] := by
  refine (tr1 (tbl m) ((cfgM h).grid.coords t)).trans ?_
  rw [ie_toNat h.valid h.tab, coord]
theorem index2 (h : Entry m I) (t : Fin (cfgM h).N) : ((cfgM h).win 2).index t = ![0, I.ie t.val, 0, 0] := by
  refine (tr2 (tbl m) ((cfgM h).grid.coords t)).trans ?_
  rw [ie_toNat h.valid h.tab, coord]
theorem index3 (h : Entry m I) (t : Fin (cfgM h).N) : ((cfgM h).win 3).index t = ![0, I.ie t.val, 0, 0] := by
  refine (tr3 (tbl m) ((cfgM h).grid.coords t)).trans ?_
  rw [ie_toNat h.valid h.tab, coord]

/-! ## The blocks -/

/-- Row `p`, column `y 1` of the sorted tokens or of the output array. -/
def rowIx (p : ℕ) (q : Fin 2048) : S69632x2048.Idx := fun | 0 => ⟨p % 69632, Nat.mod_lt _ (by decide)⟩ | 1 => q
/-- Expert `e`'s entry of the gate and up weights, layer 0. -/
def wIx (e : ℕ) (k : Fin 2048) (f : Fin 1024) : S4x16x2048x1024.Idx := fun | 0 => ⟨0, by decide⟩ | 1 => ⟨e % 16, Nat.mod_lt _ (by decide)⟩ | 2 => k | 3 => f
/-- Expert `e`'s entry of the down weights, layer 0. -/
def wIx' (e : ℕ) (f : Fin 1024) (d : Fin 2048) : S4x16x1024x2048.Idx := fun | 0 => ⟨0, by decide⟩ | 1 => ⟨e % 16, Nat.mod_lt _ (by decide)⟩ | 2 => f | 3 => d

/-- Tile `T` of the sorted tokens, and expert `e`'s three weight blocks. -/
def xB (X : Vec F S69632x2048 .bf16) (T : ℕ) : Vec F S256x2048 .bf16 := fun y => X (rowIx (256 * T + (y 0).val) (y 1))
def wB (W : Vec F S4x16x2048x1024 .f32) (e : ℕ) : Vec F S1x1x2048x1024 .f32 := fun y => W (wIx e (y 2) (y 3))
def wB' (W : Vec F S4x16x1024x2048 .f32) (e : ℕ) : Vec F S1x1x1024x2048 .f32 := fun y => W (wIx' e (y 2) (y 3))

/-- The four operand arrays when the launch is entered. -/
abbrev aX (m : (ℓ : Loc nD τ sig) → Buf (Elt F) ℓ) (c : Dev nD) : Vec F S69632x2048 .bf16 := V m c main_v93
abbrev aG (m : (ℓ : Loc nD τ sig) → Buf (Elt F) ℓ) (c : Dev nD) : Vec F S4x16x2048x1024 .f32 := V m c main_arg2
abbrev aU (m : (ℓ : Loc nD τ sig) → Buf (Elt F) ℓ) (c : Dev nD) : Vec F S4x16x2048x1024 .f32 := V m c main_arg3
abbrev aD (m : (ℓ : Loc nD τ sig) → Buf (Elt F) ℓ) (c : Dev nD) : Vec F S4x16x1024x2048 .f32 := V m c main_arg4

/-- Window `w`'s block at point `t`, read off its array. -/
def iblk (h : Entry m I) (c : Dev nD) (w : Fin (cfgM h).W) (t : Fin (cfgM h).N) : (((cfgM h).win w).xblock ((cfgM h).grid.coords t)).Idx → Elt F ((cfgM h).win w).elt :=
  (((cfgM h).win w).blk t).view.read (Elt F) (V m c (Pipeline.arrRef spec0 w))

theorem iblk0 (h : Entry m I) (c : Dev nD) (t : Fin (cfgM h).N) : iblk h c 0 t = xB (aX m c) (I.it t.val) := by
  refine funext fun (y : S256x2048.Idx) => ?_
  refine congrArg (aX m c) (funext fun (x : Fin 2) => Fin.ext ?_)
  refine (((cfgM h).win 0).rect_emb_val t y x).trans ?_
  rw [index0]
  have hl := h.valid.it_lt _ (t_lt h t)
  match x with
  | 0 =>
    have hy : (y 0).val < 256 := (y 0).isLt
    show I.it t.val * 256 + (y 0).val = (256 * I.it t.val + (y 0).val) % 69632
    omega
  | 1 => show 0 * 2048 + (y 1).val = (y 1).val; omega
theorem iblk1 (h : Entry m I) (c : Dev nD) (t : Fin (cfgM h).N) : iblk h c 1 t = wB (aG m c) (I.ie t.val) := by
  refine funext fun (y : S1x1x2048x1024.Idx) => ?_
  refine congrArg (aG m c) (funext fun (x : Fin 4) => Fin.ext ?_)
  refine (((cfgM h).win 1).rect_emb_val t y x).trans ?_
  rw [index1]
  have hl := h.valid.ie_lt _ (t_lt h t)
  match x with
  | 0 => have hy : (y 0).val < 1 := (y 0).isLt
         show 0 * 1 + (y 0).val = 0; omega
  | 1 => have hy : (y 1).val < 1 := (y 1).isLt
         show I.ie t.val * 1 + (y 1).val = I.ie t.val % 16; omega
  | 2 => show 0 * 2048 + (y 2).val = (y 2).val; omega
  | 3 => show 0 * 1024 + (y 3).val = (y 3).val; omega
theorem iblk2 (h : Entry m I) (c : Dev nD) (t : Fin (cfgM h).N) : iblk h c 2 t = wB (aU m c) (I.ie t.val) := by
  refine funext fun (y : S1x1x2048x1024.Idx) => ?_
  refine congrArg (aU m c) (funext fun (x : Fin 4) => Fin.ext ?_)
  refine (((cfgM h).win 2).rect_emb_val t y x).trans ?_
  rw [index2]
  have hl := h.valid.ie_lt _ (t_lt h t)
  match x with
  | 0 => have hy : (y 0).val < 1 := (y 0).isLt
         show 0 * 1 + (y 0).val = 0; omega
  | 1 => have hy : (y 1).val < 1 := (y 1).isLt
         show I.ie t.val * 1 + (y 1).val = I.ie t.val % 16; omega
  | 2 => show 0 * 2048 + (y 2).val = (y 2).val; omega
  | 3 => show 0 * 1024 + (y 3).val = (y 3).val; omega
theorem iblk3 (h : Entry m I) (c : Dev nD) (t : Fin (cfgM h).N) : iblk h c 3 t = wB' (aD m c) (I.ie t.val) := by
  refine funext fun (y : S1x1x1024x2048.Idx) => ?_
  refine congrArg (aD m c) (funext fun (x : Fin 4) => Fin.ext ?_)
  refine (((cfgM h).win 3).rect_emb_val t y x).trans ?_
  rw [index3]
  have hl := h.valid.ie_lt _ (t_lt h t)
  match x with
  | 0 => have hy : (y 0).val < 1 := (y 0).isLt
         show 0 * 1 + (y 0).val = 0; omega
  | 1 => have hy : (y 1).val < 1 := (y 1).isLt
         show I.ie t.val * 1 + (y 1).val = I.ie t.val % 16; omega
  | 2 => show 0 * 1024 + (y 2).val = (y 2).val; omega
  | 3 => show 0 * 2048 + (y 3).val = (y 3).val; omega

end Cert.KernelIdeal.Moe

end
-- ==== Proof.Step.lean ====
/- What one item leaves in the output block, row by row, under a valid schedule. -/
module

public import proofs.«01_k».proof.Proof.Launch

@[expose] public section

set_option maxRecDepth 16384

noncomputable section

namespace Cert.KernelIdeal.Moe

open Cert.KernelIdeal.Gen Cert.Moe
open Idealize.ShloMosaic Idealize.ShloMosaic.TcCoe Idealize.ShloMosaic.Tactic

variable {F : FTy → Type} [FloatOps F]

/-- The zero of bf16 the body writes into the rows that are not the item's. -/
def zB : F .bf16 := Scalar.ofBits .bf16 0x0000#16

/-- A row's index in the one-column mask. -/
def colIx (r : Fin 256) : S256x1.Idx := fun | 0 => r | 1 => ⟨0, Nat.one_pos⟩

theorem bcast_col (y : S256x2048.Idx) (v : IVec S256x1 1) :
    broadcastTo S256x2048 (shapeCast S256x1 v shapeCasts_S256x1_S256x1) broadcasts_S256x1_S256x2048 y = v (colIx (y 0)) := by
  rw [shapeCast_id]
  exact congrArg v (funext fun a => by match a with | 0 => rfl | 1 => rfl)

theorem pay1_apply (v : FVec F S256x2048 .bf16) (mine : IVec S256x1 1) (y : S256x2048.Idx) :
    k0_pay1 v mine y = if mine (colIx (y 0)) = 1#1 then v y else zB := by
  show Scalar.select _ _ _ = _
  rw [bcast_col]; rfl

theorem pay2_apply (v : FVec F S256x2048 .bf16) (mine : IVec S256x1 1) (o : Vec F S256x2048 .bf16) (y : S256x2048.Idx) :
    k0_pay2 v mine o y = if mine (colIx (y 0)) = 1#1 then v y else o y := by
  show Scalar.select _ _ _ = _
  rw [bcast_col, shapeCast_id]; rfl

theorem mask_apply (a lo hi : ℕ) (ha : a < 272) (hlo : lo ≤ 69632) (hhi : hi ≤ 69632) (r : Fin 256) :
    k0_pay7 (F := F) (BitVec.ofNat 32 a) (BitVec.ofNat 32 lo) (BitVec.ofNat 32 hi) (colIx r) = 1#1
      ↔ lo ≤ 256 * a + r.val ∧ 256 * a + r.val < hi := by
  have hr := r.isLt
  have e : (Scalar.muli (BitVec.ofNat 32 a) 256#32 + BitVec.ofNat 32 r.val : BitVec 32) = BitVec.ofNat 32 (256 * a + r.val) := by
    apply BitVec.eq_of_toNat_eq
    show (_ : BitVec 32).toNat = _
    simp only [Scalar.muli, IntOp.muli, BitVec.toNat_add, BitVec.toNat_mul, BitVec.toNat_ofNat]
    omega
  have ei : iota .tc S256x1 32 [0] iota_S256x1_d0_w32 (colIx r) = BitVec.ofNat 32 r.val := by
    show BitVec.ofNat 32 (0 * 256 + r.val) = _
    rw [Nat.zero_mul, Nat.zero_add]
  show IntOp.andi (IntOp.cmpi .sge (Scalar.muli (BitVec.ofNat 32 a) 256#32 + iota .tc S256x1 32 [0] iota_S256x1_d0_w32 (colIx r)) (BitVec.ofNat 32 lo))
    (IntOp.cmpi .slt (Scalar.muli (BitVec.ofNat 32 a) 256#32 + iota .tc S256x1 32 [0] iota_S256x1_d0_w32 (colIx r)) (BitVec.ofNat 32 hi)) = 1#1 ↔ _
  rw [ei]
  show IntOp.andi (IntOp.cmpi .sge (Scalar.muli (BitVec.ofNat 32 a) 256#32 + BitVec.ofNat 32 r.val) (BitVec.ofNat 32 lo))
    (IntOp.cmpi .slt (Scalar.muli (BitVec.ofNat 32 a) 256#32 + BitVec.ofNat 32 r.val) (BitVec.ofNat 32 hi)) = 1#1 ↔ _
  rw [e, WordCmp.cmpi_sge_ofNat (by omega) (by omega), WordCmp.cmpi_slt_ofNat (by omega) (by omega), WordCmp.andi_ofBool,
    ← Bool.decide_and, WordCmp.ofBool_decide_eq_one_iff]

/-- An item does work exactly when it is one of the first `nI`. -/
theorem act_iff (i : grid0.Coords) (n : ℕ) (hn : n ≤ 287) : k0_cond1 i (BitVec.ofNat 32 n) = 1#1 ↔ (i 0).val < n := by
  have hi := coord_lt i
  have e : k0_cond1 i (BitVec.ofNat 32 n) = IntOp.cmpi .ne (Scalar.extui (IntOp.cmpi .slt (BitVec.ofNat 32 (i 0).val) (BitVec.ofNat 32 n)) : BitVec 32) 0#32 := rfl
  rw [e, WordCmp.cmpi_slt_ofNat (by omega) (by omega)]
  by_cases h : (i 0).val < n
  · simp only [h, decide_true, iff_true]; decide
  · simp only [h, decide_false, iff_false]; decide

/-- Expert `e`'s outputs for tile `T` of the sorted tokens: the body's own arithmetic on the whole tile. -/
def Y (m : (ℓ : Loc nD τ sig) → Buf (Elt F) ℓ) (c : Dev nD) (T e : ℕ) : Vec F S256x2048 .bf16 :=
  k0_pay6 (xB (aX m c) T) (k0_pay3 (wB (aG m c) e)) (k0_pay4 (wB (aU m c) e)) (k0_pay5 (wB' (aD m c) e))

/-- What the output block holds after item `n`: the rows of the experts up to the item's, the others zero. -/
def outC (m : (ℓ : Loc nD τ sig) → Buf (Elt F) ℓ) (I : Items) (c : Dev nD) (n : ℕ) : Vec F S256x2048 .bf16 := fun y =>
  if I.S (256 * I.it n + (y 0).val) ≤ I.ie n then Y m c (I.it n) (I.S (256 * I.it n + (y 0).val)) y else zB

theorem outC_congr (m : (ℓ : Loc nD τ sig) → Buf (Elt F) ℓ) (I : Items) (c : Dev nD) (n k : ℕ) (h1 : I.it n = I.it k) (h2 : I.ie n = I.ie k) :
    outC m I c n = outC m I c k := by
  unfold outC; rw [h1, h2]

/-- One working item: from the block the item before left (nothing is asked of it at a tile's first item) the
    body's stores leave `outC`. -/
theorem step_out (m : (ℓ : Loc nD τ sig) → Buf (Elt F) ℓ) (c : Dev nD) {I : Items} (h : I.Valid) (n : ℕ) (hn : n < I.nI)
    (fst cnt : Prop) [Decidable fst] [Decidable cnt] (hf : fst ↔ I.First n) (hc : cnt ↔ ¬ I.First n)
    (mine : IVec S256x1 1) (hm : ∀ r : Fin 256, mine (colIx r) = 1#1 ↔ I.B (I.ie n) ≤ 256 * I.it n + r.val ∧ 256 * I.it n + r.val < I.B (I.ie n + 1))
    (o : Vec F S256x2048 .bf16) (ho : ¬ I.First n → o = outC m I c (n - 1)) :
    (if cnt then k0_pay2 (Y m c (I.it n) (I.ie n)) mine (if fst then k0_pay1 (Y m c (I.it n) (I.ie n)) mine else o)
      else if fst then k0_pay1 (Y m c (I.it n) (I.ie n)) mine else o) = outC m I c n := by
  have hn287 : n < 287 := lt_of_lt_of_le hn h.le
  have hT := h.it_lt n hn287
  by_cases hF : I.First n
  · rw [if_neg (fun hx => hc.mp hx hF), if_pos (hf.mpr hF)]
    funext y
    have hy : (y 0).val < 256 := (y 0).isLt
    rw [pay1_apply]
    unfold outC
    rw [if_congr (hm (y 0)) rfl rfl, if_congr (h.mem n hn287 _ (by omega)) rfl rfl]
    have h1 := h.first n hn287 hF (256 * I.it n + (y 0).val) (by omega) (by omega)
    by_cases hS : I.S (256 * I.it n + (y 0).val) = I.ie n
    · rw [if_pos hS, if_pos (le_of_eq hS), hS]
    · rw [if_neg hS, if_neg (by omega)]
  · rw [if_pos (hc.mpr hF), if_neg (fun hx => hF (hf.mp hx))]
    rw [ho hF]
    have hF' : n ≠ 0 ∧ I.it n = I.it (n - 1) := by
      constructor
      · intro h0; exact hF (Or.inl h0)
      · by_contra hx; exact hF (Or.inr hx)
    obtain ⟨k, rfl⟩ : ∃ k, n = k + 1 := ⟨n - 1, by omega⟩
    have hik : I.it (k + 1) = I.it k := hF'.2
    have hlt := h.lt k hn hik
    have hct := h.cont k hn hik
    funext y
    have hy : (y 0).val < 256 := (y 0).isLt
    rw [pay2_apply]
    unfold outC
    rw [if_congr (hm (y 0)) rfl rfl, if_congr (h.mem (k + 1) hn287 _ (by omega)) rfl rfl]
    simp only [Nat.add_sub_cancel]
    rw [hik] at hT ⊢
    have h1 := hct (256 * I.it k + (y 0).val) (by omega) (by omega)
    by_cases hS : I.S (256 * I.it k + (y 0).val) = I.ie (k + 1)
    · rw [if_pos hS, if_pos (le_of_eq hS), hS]
    · rw [if_neg hS]
      by_cases hS2 : I.S (256 * I.it k + (y 0).val) ≤ I.ie k
      · rw [if_pos hS2, if_pos (by omega)]
      · rw [if_neg hS2, if_neg (by omega)]

end Cert.KernelIdeal.Moe

end
-- ==== Proof.Run.lean ====
/- The expert launch run under a valid schedule: its invariant, the body's obligation at every item, and what
   the output array holds afterwards. -/
module

public import proofs.«01_k».proof.Proof.Step
public import Idealize.ShloMosaic.Lib.Pipeline.TableIdle

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg) {I : Items}

/-! ## The proof data -/

/-- What the scratch buffers hold before item `n`: from the second item on, the weights of the expert of the item before. -/
def Held (m : (ℓ : Loc nD τ sig) → Buf (Elt F) ℓ) (I : Items) (c : Dev nD) (n : ℕ) (sg su : Vec F S2048x1024 .bf16) (sd : Vec F S1024x2048 .bf16) : Prop :=
  n = 0 ∨ (sg = k0_pay3 (wB (aG m c) (I.ie (n - 1))) ∧ su = k0_pay4 (wB (aU m c) (I.ie (n - 1))) ∧ sd = k0_pay5 (wB' (aD m c) (I.ie (n - 1))))

/-- The launch's invariant before item `n`. -/
def Inv (m : (ℓ : Loc nD τ sig) → Buf (Elt F) ℓ) (I : Items) (c : Dev nD) (n : ℕ) : sProp 𝕄 :=
  iprop(∃ sg : Vec F S2048x1024 .bf16, ∃ su : Vec F S2048x1024 .bf16, ∃ sd : Vec F S1024x2048 .bf16, ⌜Held m I c n sg su sd⌝
    ∗ owns (c : Thread nD τ) scG fullShare sg ∗ owns (c : Thread nD τ) scU fullShare su ∗ owns (c : Thread nD τ) scD fullShare sd
    ∗ (∃ r, prngReg c r)
    ∗ tbPt c tbIt (tbl m 0) ∗ tbPt c tbIe (tbl m 1) ∗ tbPt c tbFl (tbl m 2) ∗ tbPt c tbLo (tbl m 3) ∗ tbPt c tbHi (tbl m 4) ∗ tbPt c tbNi (tbl m 5))

/-- What each window's buffer holds after each item. -/
def afterW (h : Entry m I) (c : Dev nD) : (w : Fin (cfgM h).W) → Fin (cfgM h).N → ((cfgM h).win w).block.Idx → Elt F ((cfgM h).win w).elt
  | ⟨0, _⟩, t => iblk h c 0 t
  | ⟨1, _⟩, t => iblk h c 1 t
  | ⟨2, _⟩, t => iblk h c 2 t
  | ⟨3, _⟩, t => iblk h c 3 t
  | ⟨4, _⟩, t => outC m I c t.val
  | ⟨_ + 5, h⟩, _ => absurd h (Nat.not_lt.2 (Nat.le_add_left _ _))

def datM (h : Entry m I) (c : Dev nD) : Dat τ (Elt F) Unit ℕ (UR sig nD τ) ℕ (cfgM h) c where
  A w := V m c (Pipeline.arrRef spec0 w)
  after := afterW h c
  Φ t := Inv m I c t.val
  q _ := fullShare
  owed _ := 0
abbrev dats (h : Entry m I) (p : Fin 1) (c : Dev nD) : Dat τ (Elt F) Unit ℕ (UR sig nD τ) ℕ (Pipeline.pin (pcfgs (F := F)) (fun _ => adm h) p) c := datM h c

theorem datA (h : Entry m I) (c : Dev nD) (w : Fin (cfgM h).W) : (datM h c).A w = V m c (Pipeline.arrRef spec0 w) := rfl
theorem datQ0 (h : Entry m I) (c : Dev nD) (t : Fin (cfgM h).N) : (datM h c).after 0 t = iblk h c 0 t := rfl
theorem datQ1 (h : Entry m I) (c : Dev nD) (t : Fin (cfgM h).N) : (datM h c).after 1 t = iblk h c 1 t := rfl
theorem datQ2 (h : Entry m I) (c : Dev nD) (t : Fin (cfgM h).N) : (datM h c).after 2 t = iblk h c 2 t := rfl
theorem datQ3 (h : Entry m I) (c : Dev nD) (t : Fin (cfgM h).N) : (datM h c).after 3 t = iblk h c 3 t := rfl
theorem before0 (h : Entry m I) (c : Dev nD) (t : Fin (cfgM h).N) (d) : (datM h c).before 0 t d = xB (aX m c) (I.it t.val) :=
  (((datM h c).before_in_eq_fetched 0 rfl (fun _ => rfl) (fun _ _ _ => rfl)
    (fun t => by rw [datQ0]; unfold Dat.blockOf iblk; rw [datA]; try rfl) t d).trans
    (by unfold Dat.fetched Dat.blockOf; rw [datA]; rfl : _ = iblk h c 0 t)).trans (iblk0 h c t)
theorem before1 (h : Entry m I) (c : Dev nD) (t : Fin (cfgM h).N) (d) : (datM h c).before 1 t d = wB (aG m c) (I.ie t.val) :=
  (((datM h c).before_in_eq_fetched 1 rfl (fun _ => rfl) (fun _ _ _ => rfl)
    (fun t => by rw [datQ1]; unfold Dat.blockOf iblk; rw [datA]; try rfl) t d).trans
    (by unfold Dat.fetched Dat.blockOf; rw [datA]; rfl : _ = iblk h c 1 t)).trans (iblk1 h c t)
theorem before2 (h : Entry m I) (c : Dev nD) (t : Fin (cfgM h).N) (d) : (datM h c).before 2 t d = wB (aU m c) (I.ie t.val) :=
  (((datM h c).before_in_eq_fetched 2 rfl (fun _ => rfl) (fun _ _ _ => rfl)
    (fun t => by rw [datQ2]; unfold Dat.blockOf iblk; rw [datA]; try rfl) t d).trans
    (by unfold Dat.fetched Dat.blockOf; rw [datA]; rfl : _ = iblk h c 2 t)).trans (iblk2 h c t)
theorem before3 (h : Entry m I) (c : Dev nD) (t : Fin (cfgM h).N) (d) : (datM h c).before 3 t d = wB' (aD m c) (I.ie t.val) :=
  (((datM h c).before_in_eq_fetched 3 rfl (fun _ => rfl) (fun _ _ _ => rfl)
    (fun t => by rw [datQ3]; unfold Dat.blockOf iblk; rw [datA]; try rfl) t d).trans
    (by unfold Dat.fetched Dat.blockOf; rw [datA]; rfl : _ = iblk h c 3 t)).trans (iblk3 h c t)
theorem after0 (h : Entry m I) (c : Dev nD) (t : Fin (cfgM h).N) : (datM h c).after 0 t = xB (aX m c) (I.it t.val) := iblk0 h c t
theorem after1 (h : Entry m I) (c : Dev nD) (t : Fin (cfgM h).N) : (datM h c).after 1 t = wB (aG m c) (I.ie t.val) := iblk1 h c t
theorem after2 (h : Entry m I) (c : Dev nD) (t : Fin (cfgM h).N) : (datM h c).after 2 t = wB (aU m c) (I.ie t.val) := iblk2 h c t
theorem after3 (h : Entry m I) (c : Dev nD) (t : Fin (cfgM h).N) : (datM h c).after 3 t = wB' (aD m c) (I.ie t.val) := iblk3 h c t
theorem after4 (h : Entry m I) (c : Dev nD) (t : Fin (cfgM h).N) : (datM h c).after 4 t = outC m I c t.val := rfl

/-! ## When the output window is idle, written back or fresh -/

theorem atD_ent (a : pre0.Contents (Elt F)) (i : grid0.Coords) (off : Fin 1 → ℕ) (hoff : off = ![(i 0).val]) :
    a.atD 2 off = (a 2 : S287.Idx → BitVec 32) (ent i) := by
  subst hoff
  have hi := coord_lt i
  refine (dif_pos (fun (x : Fin 1) => by match x with | 0 => show (i 0).val + 1 ≤ 287; omega)).trans ?_
  exact congrArg (a 2 : S287.Idx → BitVec 32) (funext fun (x : Fin 1) => by match x with | 0 => rfl)
theorem atD_ent1 (a : pre0.Contents (Elt F)) : a.atD 5 ![0] = (a 5 : S1.Idx → BitVec 32) ent1 := by
  refine (dif_pos (fun (x : Fin 1) => by match x with | 0 => show 0 + 1 ≤ 1; omega)).trans ?_
  exact congrArg (a 5 : S1.Idx → BitVec 32) (funext fun (x : Fin 1) => by match x with | 0 => rfl)

theorem idle_at (a : pre0.Contents (Elt F)) (i : grid0.Coords) : idle0 a 4 i = (!(k0_cond1 i (a.atD 5 ![0]) == 1#1 && k0_cond3 (a.atD 2 (k0_off3 i)) == 1#1)
    && !(k0_cond1 i (a.atD 5 ![0]) == 1#1 && k0_cond4 (a.atD 2 (k0_off4 i)) == 1#1)) := by
  unfold idle0
  rfl
theorem idle_fn (h : Entry m I) : (cfgM h).idle = idle0 (tbl m) := rfl
theorem four (h : Entry m I) : (4 : Fin (cfgM h).W) = (4 : Fin 5) := Fin.ext rfl
theorem idle_eq (h : Entry m I) (i : grid0.Coords) : (cfgM h).idle 4 i = idle0 (tbl m) 4 i := by
  rw [idle_fn, four]

/-- The items that do no work are the idle ones. -/
theorem idle4 (h : Entry m I) (t : Fin (cfgM h).N) : (cfgM h).idle 4 ((cfgM h).grid.coords t) = decide (¬ t.val < I.nI) := by
  have hc := coord h t
  have e1 : (grid0.coords t 0).val = t.val := hc
  refine ((idle_eq h (grid0.coords t)).trans (idle_at _ _)).trans ?_
  rw [atD_ent _ _ _ (k0_off3_eq _), atD_ent _ _ _ (k0_off4_eq _), atD_ent1, h.tab.ni]
  have hA := act_iff (grid0.coords t) I.nI h.valid.le
  have hF := h.tab.fst (grid0.coords t)
  have hC := h.tab.cnt (grid0.coords t)
  rw [e1] at hA hF hC
  by_cases ha : t.val < I.nI
  · by_cases hf : I.First t.val
    · simp [hA.mpr ha, hF.mpr hf, ha]
    · simp [hA.mpr ha, hC.mpr hf, ha]
  · have hb : (k0_cond1 (grid0.coords t) (BitVec.ofNat 32 I.nI) == 1#1) = false := by
      rw [beq_eq_false_iff_ne]; exact fun hx => ha (hA.mp hx)
    rw [hb, decide_eq_true ha]; rfl

/-- The output block is written back exactly after a tile's last item. -/
theorem flush4 (h : Entry m I) (t : Fin (cfgM h).N) : ((cfgM h).win 4).flush t = true ↔ I.Last t.val := by
  have hN := N_eq h
  have hinj : ∀ a b : ℕ, (![a, 0] : Fin 2 → ℕ) = ![b, 0] ↔ a = b := fun a b =>
    ⟨fun e => congrFun e 0, fun e => by rw [e]⟩
  unfold Pipeline.Window.flush
  rw [show ((cfgM h).win 4).isOut = true from rfl, Bool.true_and, Bool.or_eq_true, decide_eq_true_iff, decide_eq_true_iff]
  unfold Items.Last
  constructor
  · rintro (h1 | ⟨hx, h2⟩)
    · exact Or.inl (h1.trans hN)
    · refine Or.inr fun e => h2 ?_
      rw [index4, index4, e]
  · rintro (h1 | h2)
    · exact Or.inl (h1.trans hN.symm)
    · by_cases hl : t.val + 1 = 287
      · exact Or.inl (hl.trans hN.symm)
      · refine Or.inr ⟨by have := t_lt h t; show t.val + 1 < (cfgM h).N; omega, fun e => h2 ?_⟩
        rw [index4, index4] at e
        exact (hinj _ _).mp e

theorem fresh4 (h : Entry m I) (n : ℕ) (hn : n < 287) : (cfgM h).fresh 4 n = true → I.First n := by
  induction n with
  | zero => intro _; exact Or.inl rfl
  | succ n ih =>
    intro hf
    have hN := N_eq h
    have hn' : n < (cfgM h).N := by omega
    rw [Cfg.fresh_succ _ _ n hn', Bool.or_eq_true, Bool.and_eq_true, flush4, idle4, decide_eq_true_iff] at hf
    rcases hf with h1 | ⟨h2, h3⟩
    · rcases h1 with h4 | h5
      · have h4' : n + 1 = 287 := h4
        omega
      · exact Or.inr h5
    · exact absurd (h.valid.lt_of_first (by omega) (ih (by omega) h3)) h2

/-- An item that is not its tile's first finds what the item before left. -/
theorem before4 (h : Entry m I) (c : Dev nD) (t : Fin (cfgM h).N) (d) (hf : ¬ I.First t.val) :
    (datM h c).before 4 t d = outC m I c (t.val - 1) := by
  have e := (datM h c).before_out_traj 4 rfl (fun _ _ => rfl) (fun t' ht hi _ => by
    rw [idle4, decide_eq_true_iff] at hi
    have := h.valid.idle t'.val (by omega) (t_lt h t')
    exact outC_congr m I c _ _ this.1 this.2) t.val t rfl d
  rw [e, if_neg (fun hx => hf (fresh4 h _ (t_lt h t) hx))]
  rfl

/-! ## The body at an item -/

/-- The body as the launch runs it at item `t`. -/
def bodyAt (h : Entry m I) (t : Fin (cfgM h).N) :=
  cc0_moe_experts (F := F) (grid0.coords t) tbIt (Memref.isWhole_whole _) tbIe (Memref.isWhole_whole _) tbFl (Memref.isWhole_whole _)
    tbLo (Memref.isWhole_whole _) tbHi (Memref.isWhole_whole _) tbNi (Memref.isWhole_whole _)
    (spec0_0.stage ((cfgM h).slots t 0)) (hstage0_0 (((cfgM h).slots t 0).cast nbuf0_0))
    (spec0_1.stage ((cfgM h).slots t 1)) (hstage0_1 (((cfgM h).slots t 1).cast nbuf0_1))
    (spec0_2.stage ((cfgM h).slots t 2)) (hstage0_2 (((cfgM h).slots t 2).cast nbuf0_2))
    (spec0_3.stage ((cfgM h).slots t 3)) (hstage0_3 (((cfgM h).slots t 3).cast nbuf0_3))
    (spec0_4.stage ((cfgM h).slots t 4)) (hstage0_4 (((cfgM h).slots t 4).cast nbuf0_4))
    scG (Memref.isWhole_whole _) scU (Memref.isWhole_whole _) scD (Memref.isWhole_whole _)

/-- The scratch buffers after item `n` hold the weights of the item's expert. -/
theorem held_step (h : Entry m I) (c : Dev nD) (n : ℕ) (hn : n < 287) (act ld : Prop) [Decidable act] [Decidable ld]
    (ha : act ↔ n < I.nI) (hl : ld ↔ I.New n) (sg su : Vec F S2048x1024 .bf16) (sd : Vec F S1024x2048 .bf16) (hH : Held m I c n sg su sd) :
    gAfter act ld (wB (aG m c) (I.ie n)) sg = k0_pay3 (wB (aG m c) (I.ie n)) ∧ uAfter act ld (wB (aU m c) (I.ie n)) su = k0_pay4 (wB (aU m c) (I.ie n))
      ∧ dAfter act ld (wB' (aD m c) (I.ie n)) sd = k0_pay5 (wB' (aD m c) (I.ie n)) := by
  unfold gAfter uAfter dAfter
  by_cases hx : act ∧ ld
  · rw [if_pos hx, if_pos hx, if_pos hx]; exact ⟨rfl, rfl, rfl⟩
  · rw [if_neg hx, if_neg hx, if_neg hx]
    have hnn : n ≠ 0 ∧ I.ie n = I.ie (n - 1) := by
      by_cases hn' : n < I.nI
      · have hnew : ¬ I.New n := fun hq => hx ⟨ha.mpr hn', hl.mpr hq⟩
        refine ⟨fun h0 => hnew (Or.inl h0), ?_⟩
        by_contra hq; exact hnew (Or.inr hq)
      · have := h.valid.pos
        exact ⟨by omega, (h.valid.idle n (by omega) hn).2⟩
    rcases hH with h0 | ⟨h1, h2, h3⟩
    · exact absurd h0 hnn.1
    · rw [hnn.2]; exact ⟨h1, h2, h3⟩

theorem leaves_live {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]
theorem leaves_kept {cfg : Pipeline.Cfg sig Λ₀} {c : Dev nD} (dat : Dat τ (Elt F) Unit ℕ (UR sig nD τ) ℕ cfg c) (w : Fin cfg.W) (t : Fin cfg.N)
    (hi : cfg.idle w (cfg.grid.coords t) = true) (hd : ∃ d, dat.before w t d = dat.after w t) :
    ∃ Q, dat.leavesExact w t = Q ∧ (owns (c : Thread nD τ) ((cfg.win w).stage (cfg.slots t w)) fullShare (dat.after w t) ⊢ Q) := by
  refine ⟨_, rfl, ?_⟩
  obtain ⟨d, hd⟩ := hd
  unfold Dat.leavesExact; rw [hi]
  cases (cfg.win w).flush t
  · rw [← hd]; iintro H; iexists d; iexact H
  · exact .rfl

/-- What the body leaves in the output block is what the launch expects there. -/
theorem leaves4 (h : Entry m I) (c : Dev nD) (t : Fin (cfgM h).N) : ∃ Q, (datM h c).leavesExact 4 t = Q ∧ ∀ d, ∀ X : Vec F S256x2048 .bf16,
    (t.val < I.nI → X = outC m I c t.val) → (¬ t.val < I.nI → X = (datM h c).before 4 t d) →
    (owns (c : Thread nD τ) (((cfgM h).win 4).stage ((cfgM h).slots t 4)) fullShare X ⊢ Q) := by
  rcases Nat.lt_or_ge t.val I.nI with ht | ht
  · have e := idle4 h t
    rw [decide_eq_false (not_not.mpr ht)] at e
    refine ⟨_, leaves_live (datM h c) 4 t e, fun d X hw hi => ?_⟩
    rw [hw ht, after4]
  · have hnf : ¬ I.First t.val := fun hq => absurd (h.valid.lt_of_first (t_lt h t) hq) (by omega)
    have hid := h.valid.idle t.val (by omega) (t_lt h t)
    have e0 : ∀ d, (datM h c).before 4 t d = (datM h c).after 4 t := fun d => (before4 h c t d hnf).trans (outC_congr m I c _ _ hid.1 hid.2).symm
    have hn : ¬ t.val < I.nI := by omega
    have e := idle4 h t
    rw [decide_eq_true hn] at e
    obtain ⟨Q, hQ, k⟩ := leaves_kept (datM h c) 4 t e ⟨outC m I c t.val, e0 _⟩
    refine ⟨Q, hQ, fun d X hw hi => ?_⟩
    rw [hi hn, e0]
    exact k

end Cert.KernelIdeal.Moe

end
-- ==== Proof.Region.lean ====
/- The whole program run under a valid schedule: the body's obligation, the run, and the output array. -/
module

public import proofs.«01_k».proof.Proof.Run

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg) {I : Items}

/-- The output block after a working item, from the body's own closed form. -/
theorem out_of_body (h : Entry m I) (c : Dev nD) (t : Fin (cfgM h).N) (ht : t.val < I.nI) (o : Vec F S256x2048 .bf16)
    (ho : ¬ I.First t.val → o = outC m I c (t.val - 1)) :
    oAfter (k0_cond1 (grid0.coords t) (BitVec.ofNat 32 I.nI) = 1#1) (k0_cond3 ((tbl m 2 : S287.Idx → BitVec 32) (ent (grid0.coords t))) = 1#1)
      (k0_cond4 ((tbl m 2 : S287.Idx → BitVec 32) (ent (grid0.coords t))) = 1#1)
      (Y m c (I.it t.val) (I.ie t.val))
      (k0_pay7 (F := F) (BitVec.ofNat 32 (I.it t.val)) (BitVec.ofNat 32 (I.B (I.ie t.val))) (BitVec.ofNat 32 (I.B (I.ie t.val + 1)))) o
      = outC m I c t.val := by
  have e1 : (grid0.coords t 0).val = t.val := coord h t
  have hA := act_iff (grid0.coords t) I.nI h.valid.le
  have hF := h.tab.fst (grid0.coords t)
  have hC := h.tab.cnt (grid0.coords t)
  rw [e1] at hA hF hC
  have h287 := t_lt h t
  have hie := h.valid.ie_lt _ h287
  unfold oAfter
  rw [if_pos (hA.mpr ht)]
  exact step_out m c h.valid t.val ht _ _ hF hC _ (fun r => mask_apply _ _ _ (h.valid.it_lt _ h287) (h.valid.B_le _ (by omega)) (h.valid.B_le _ (by omega)) r) o ho

set_option maxHeartbeats 1000000 in
/-- The body's obligation at item `t`. -/
theorem sound_body (h : Entry m I) (c : Dev nD) (t : Fin (cfgM h).N) (O₁ O₂ : sProp 𝕄) (hO : O₁ ⊢ O₂) :
    ∃ L4, (datM h c).leavesExact 4 t = L4 ∧ (iprop(Inv m I c t.val ∗ O₁
        ∗ (∃ d, owns (c : Thread nD τ) (((cfgM h).win 0).stage ((cfgM h).slots t 0)) fullShare ((datM h c).before 0 t d))
        ∗ (∃ d, owns (c : Thread nD τ) (((cfgM h).win 1).stage ((cfgM h).slots t 1)) fullShare ((datM h c).before 1 t d))
        ∗ (∃ d, owns (c : Thread nD τ) (((cfgM h).win 2).stage ((cfgM h).slots t 2)) fullShare ((datM h c).before 2 t d))
        ∗ (∃ d, owns (c : Thread nD τ) (((cfgM h).win 3).stage ((cfgM h).slots t 3)) fullShare ((datM h c).before 3 t d))
        ∗ (∃ d, owns (c : Thread nD τ) (((cfgM h).win 4).stage ((cfgM h).slots t 4)) fullShare ((datM h c).before 4 t d)))
      ⊢ wp frame (wpE (defs₀ (F := F)) Variants.none c none) Set.univ (bodyAt h t) fun _ =>
        iprop(Inv m I c (t.val + 1) ∗ O₂
          ∗ owns (c : Thread nD τ) (((cfgM h).win 0).stage ((cfgM h).slots t 0)) fullShare ((datM h c).after 0 t)
          ∗ owns (c : Thread nD τ) (((cfgM h).win 1).stage ((cfgM h).slots t 1)) fullShare ((datM h c).after 1 t)
          ∗ owns (c : Thread nD τ) (((cfgM h).win 2).stage ((cfgM h).slots t 2)) fullShare ((datM h c).after 2 t)
          ∗ owns (c : Thread nD τ) (((cfgM h).win 3).stage ((cfgM h).slots t 3)) fullShare ((datM h c).after 3 t)
          ∗ L4)) := by
  have h287 := t_lt h t
  have e1 : (grid0.coords t 0).val = t.val := coord h t
  have hA := act_iff (grid0.coords t) I.nI h.valid.le
  have hL := h.tab.ld (grid0.coords t)
  rw [e1] at hA hL
  have tIt := h.tab.it (grid0.coords t)
  have tLo := h.tab.lo (grid0.coords t)
  have tHi := h.tab.hi (grid0.coords t)
  rw [e1] at tIt tLo tHi
  obtain ⟨L4, hL4, hl4⟩ := leaves4 h c t
  refine ⟨L4, hL4, ?_⟩
  have hout := out_of_body h c t
  have hb4 := before4 h c t
  simp only [before0, before1, before2, before3, after0, after1, after2, after3]
  unfold Inv bodyAt
  iintro ⟨⟨%sg, %su, %sd, %hH, HG, HU, HD, Hr, T0, T1, T2, T3, T4, T5⟩, HO, ⟨%d0, H0⟩, ⟨%d1, H1⟩, ⟨%d2, H2⟩, ⟨%d3, H3⟩, ⟨%d4, H4⟩⟩
  have hst := held_step h c t.val h287 _ _ hA hL sg su sd hH
  iapply (run_body c (grid0.coords t) _ (hstage0_0 (((cfgM h).slots t 0).cast nbuf0_0)) _ (hstage0_1 (((cfgM h).slots t 1).cast nbuf0_1))
    _ (hstage0_2 (((cfgM h).slots t 2).cast nbuf0_2)) _ (hstage0_3 (((cfgM h).slots t 3).cast nbuf0_3)) _ (hstage0_4 (((cfgM h).slots t 4).cast nbuf0_4))
    _ _ _ _ _ sg su sd (tbl m 0) (tbl m 1) (tbl m 2) (tbl m 3) (tbl m 4) (tbl m 5) _ _ _ _ _ tIt rfl tLo tHi h.tab.ni Set.univ _)
  isplitl [H0]; · iexact H0
  isplitl [H1]; · iexact H1
  isplitl [H2]; · iexact H2
  isplitl [H3]; · iexact H3
  isplitl [H4]; · iexact H4
  isplitl [HG]; · iexact HG
  isplitl [HU]; · iexact HU
  isplitl [HD]; · iexact HD
  isplitl [T0]; · iexact T0
  isplitl [T1]; · iexact T1
  isplitl [T2]; · iexact T2
  isplitl [T3]; · iexact T3
  isplitl [T4]; · iexact T4
  isplitl [T5]; · iexact T5
  rw [hst.1, hst.2.1, hst.2.2]
  iintro ⟨H0, H1, H2, H3, H4, HG, HU, HD, T0, T1, T2, T3, T4, T5⟩
  isplitl [HG HU HD Hr T0 T1 T2 T3 T4 T5]
  · iexists _; iexists _; iexists _
    isplitr
    · ipureintro; exact Or.inr ⟨rfl, rfl, rfl⟩
    isplitl [HG]; · iexact HG
    isplitl [HU]; · iexact HU
    isplitl [HD]; · iexact HD
    isplitl [Hr]; · iexact Hr
    isplitl [T0]; · iexact T0
    isplitl [T1]; · iexact T1
    isplitl [T2]; · iexact T2
    isplitl [T3]; · iexact T3
    isplitl [T4]; · iexact T4
    iexact T5
  isplitl [HO]; · iapply hO; iexact HO
  isplitl [H0]; · iexact H0
  isplitl [H1]; · iexact H1
  isplitl [H2]; · iexact H2
  isplitl [H3]; · iexact H3
  iapply (hl4 d4 _ (fun hw => hout hw _ (fun hf => hb4 d4 hf)) (fun hi => by
    exact if_neg (fun hx => hi (hA.mp hx))))
  iexact H4

theorem defs₀_row (h : Entry m I) (t : Fin (cfgM h).N) :
    (defs₀ (F := F)) .tc (cfgM h).body ((cfgM h).bodyArgs t ((cfgM h).slots t)) = bodyAt h t := by
  unfold defs₀; rw [Defs.onTc_tc]; rfl

/-- The obligation, from the triple with the posts named by `leavesExact`. -/
theorem obligation_of {cfg : Pipeline.Cfg sig Λ₀} {c : Dev nD} (dat : Dat τ (Elt F) Unit ℕ (UR sig nD τ) ℕ cfg c)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          iprop(dat.Φ t.succ ∗ dat.owesAt () t.succ ∗ bigSep Finset.univ fun w : Fin cfg.W => dat.leavesExact w t)) :
    BodyObligation dat (defs₀ (F := F)) Variants.none () Set.univ := fun t => h t

theorem live0 (h : Entry m I) (c : Dev nD) (t : Fin (cfgM h).N) : (datM h c).leavesExact 0 t = owns (c : Thread nD τ) (((cfgM h).win 0).stage ((cfgM h).slots t 0)) fullShare ((datM h c).after 0 t) :=
  leaves_live _ _ _ rfl
theorem live1 (h : Entry m I) (c : Dev nD) (t : Fin (cfgM h).N) : (datM h c).leavesExact 1 t = owns (c : Thread nD τ) (((cfgM h).win 1).stage ((cfgM h).slots t 1)) fullShare ((datM h c).after 1 t) :=
  leaves_live _ _ _ rfl
theorem live2 (h : Entry m I) (c : Dev nD) (t : Fin (cfgM h).N) : (datM h c).leavesExact 2 t = owns (c : Thread nD τ) (((cfgM h).win 2).stage ((cfgM h).slots t 2)) fullShare ((datM h c).after 2 t) :=
  leaves_live _ _ _ rfl
theorem live3 (h : Entry m I) (c : Dev nD) (t : Fin (cfgM h).N) : (datM h c).leavesExact 3 t = owns (c : Thread nD τ) (((cfgM h).win 3).stage ((cfgM h).slots t 3)) fullShare ((datM h c).after 3 t) :=
  leaves_live _ _ _ rfl

theorem body_obligation (h : Entry m I) (c : Dev nD) : BodyObligation (datM h c) (defs₀ (F := F)) Variants.none () Set.univ :=
  obligation_of (datM h c) fun t => by
    rw [bigSep_W0, bigSep_W0, defs₀_row]
    obtain ⟨L4, hL4, k⟩ := sound_body h c t ((datM h c).owesAt () t.castSucc) ((datM h c).owesAt () t.succ) .rfl
    have hL5 : (datM h c).leavesExact (4 : Fin 5) t = L4 := by rw [← four h]; exact hL4
    rw [live0, live1, live2, live3, hL5]
    exact k

/-! ## The run -/

theorem apart2 {n : ℕ} (r : Fin n → Ref sig .tc) (a b : Ref sig .tc) (h : ∀ k, r k ≠ a ∧ r k ≠ b) :
    ∀ k, Proc.devRef (τ := τ) .tc (r k) ∉ ({Proc.devRef .tc a, Proc.devRef .tc b} : Finset (DevRef τ sig)) := by
  intro k
  rw [Finset.mem_insert, Finset.mem_singleton, not_or]
  exact ⟨StableHlo.devRef_ne_of_ne (h k).1, StableHlo.devRef_ne_of_ne (h k).2⟩
theorem apart3 {n : ℕ} (r : Fin n → Ref sig .tc) (a b d : Ref sig .tc) (h : ∀ k, r k ≠ a ∧ r k ≠ b ∧ r k ≠ d) :
    ∀ k, Proc.devRef (τ := τ) .tc (r k) ∉ ({Proc.devRef .tc a, Proc.devRef .tc b, Proc.devRef .tc d} : Finset (DevRef τ sig)) := by
  intro k
  rw [Finset.mem_insert, Finset.mem_insert, Finset.mem_singleton, not_or, not_or]
  exact ⟨StableHlo.devRef_ne_of_ne (h k).1, StableHlo.devRef_ne_of_ne (h k).2.1, StableHlo.devRef_ne_of_ne (h k).2.2⟩
theorem apart1 {n : ℕ} (r : Fin n → Ref sig .tc) (a : Ref sig .tc) (h : ∀ k, r k ≠ a) :
    ∀ k, Proc.devRef (τ := τ) .tc (r k) ∉ ({Proc.devRef .tc a} : Finset (DevRef τ sig)) := by
  intro k
  rw [Finset.mem_singleton]
  exact StableHlo.devRef_ne_of_ne (h k)

/-- The host lines after the launch touch neither the tables nor, by a write, the launch's arrays. -/
theorem sfx : ∀ op ∈ (tailOps (F := F)).flatten, op.bufs ⊆ StableHlo.tcRefs τ sig ∧ (∀ k : Fin 6, Proc.devRef .tc (pre0.ref k) ∉ op.bufs)
    ∧ op.fresh = ∅ ∧ ∀ w : Fin 5, Proc.devRef .tc (Pipeline.arrRef spec0 w) ∉ op.writes := by
  intro op ho
  simp only [List.flatten_cons, List.flatten_nil, List.append_nil, List.cons_append, List.nil_append, List.mem_cons, List.not_mem_nil, or_false] at ho
  rcases ho with rfl | rfl | rfl | rfl | rfl | rfl | rfl | rfl
  · exact ⟨StableHlo.unary_bufs_sub .., apart2 _ main_v11_1 main_v95 (by decide), rfl, apart1 _ main_v95 (by decide)⟩
  · exact ⟨StableHlo.unary_bufs_sub .., apart2 _ main_v95 main_call12_v0 (by decide), rfl, apart1 _ main_call12_v0 (by decide)⟩
  · exact ⟨StableHlo.binary_bufs_sub .., apart3 _ main_v94 main_call12_v0 main_v96 (by decide), rfl, apart1 _ main_v96 (by decide)⟩
  · exact ⟨StableHlo.reshape_bufs_sub .., apart2 _ main_v96 main_v97 (by decide), rfl, apart1 _ main_v97 (by decide)⟩
  · exact ⟨StableHlo.unary_bufs_sub .., apart2 _ main_v11_1 main_v98 (by decide), rfl, apart1 _ main_v98 (by decide)⟩
  · exact ⟨StableHlo.unary_bufs_sub .., apart2 _ main_v98 main_call13_v0 (by decide), rfl, apart1 _ main_call13_v0 (by decide)⟩
  · exact ⟨StableHlo.binary_bufs_sub .., apart3 _ main_v94 main_call13_v0 main_v99 (by decide), rfl, apart1 _ main_v99 (by decide)⟩
  · exact ⟨StableHlo.reshape_bufs_sub .., apart2 _ main_v99 main_v100 (by decide), rfl, apart1 _ main_v100 (by decide)⟩

theorem sfx_mem {ops : List (HloOp τ sig (Elt F))} (ho : ops ∈ tailOps) {op : HloOp τ sig (Elt F)} (hop : op ∈ ops) : op ∈ (tailOps (F := F)).flatten :=
  List.mem_flatten.mpr ⟨ops, ho, hop⟩

theorem pre_sub : (pre0Ops (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
    hostOps0_10_sub, hostOps0_11_sub, hostOps0_12_sub, hostOps0_13_sub, hostOps0_14_sub, hostOps0_15_sub, hostOps0_16_sub, hostOps0_17_sub, hostOps0_18_sub,
    hostOps0_19_sub, hostOps0_20_sub, hostOps0_21_sub⟩
theorem pre_fresh : (pre0Ops (F := F)).Forall fun ops => ops.Forall fun op => op.fresh = ∅ := by
  simp only [List.Forall]
  repeat' constructor

/-- The six tables, one by one. -/
theorem phiT_eq (c : Dev nD) (v : pre0.Contents (Elt F)) :
    (Pipeline.ΦT pre0 v c : sProp 𝕄) = iprop(tbPt c tbIt (v 0) ∗ tbPt c tbIe (v 1) ∗ tbPt c tbFl (v 2) ∗ tbPt c tbLo (v 3) ∗ tbPt c tbHi (v 4) ∗ tbPt c tbNi (v 5)) := by
  unfold Pipeline.ΦT Pipeline.prefHeld
  exact bigSep_univ_eq_bigSepL [(0 : Fin 6), 1, 2, 3, 4, 5] (by decide) (by decide) _

theorem hin (h : Entry m I) (c : Dev nD) : iprop(Pipeline.ΦA spec0 c ∗ Pipeline.ΦT pre0 (tbl m) c) ⊢ Inv m I c 0 := by
  unfold Pipeline.ΦA Inv
  rw [scopedRest0_eq, phiT_eq]
  simp only [owns_whole]
  iintro ⟨⟨⟨⟨%sg, HG⟩, ⟨%su, HU⟩, ⟨%sd, HD⟩⟩, Hr⟩, T0, T1, T2, T3, T4, T5⟩
  iexists sg; iexists su; iexists sd
  isplitr; · ipureintro; exact Or.inl rfl
  isplitl [HG]; · iexact HG
  isplitl [HU]; · iexact HU
  isplitl [HD]; · iexact HD
  isplitl [Hr]; · iexact Hr
  isplitl [T0]; · iexact T0
  isplitl [T1]; · iexact T1
  isplitl [T2]; · iexact T2
  isplitl [T3]; · iexact T3
  isplitl [T4]; · iexact T4
  iexact T5

theorem hout (h : Entry m I) (c : Dev nD) (n : ℕ) : Inv m I c n ⊢ Pipeline.ΦA spec0 c := by
  unfold Pipeline.ΦA Inv
  rw [scopedRest0_eq]
  simp only [owns_whole]
  iintro ⟨%sg, %su, %sd, -, HG, HU, HD, Hr, -⟩
  isplitr [Hr]
  · isplitl [HG]; · iexists sg; iexact HG
    isplitl [HU]; · iexists su; iexact HU
    iexists sd; iexact HD
  iexact Hr

/-- Core `c`'s buffers after the launch. -/
abbrev VM (h : Entry m I) (c : Dev nD) : Valuation τ sig (Elt F) := Pipeline.withArrays spec0 c (V0 m c) fun w => (datM h c).arrAt w (cfgM h).N

set_option backward.isDefEq.respectTransparency.types false in
set_option maxHeartbeats 800000 in
/-- The whole program terminates with every semaphore at zero, every array at what the launch leaves in it and
    every other buffer at what the host lines after it leave there. -/
theorem run_main (h : Entry m I) : θ_run defs (onTc (τ := τ) (main (F := F))) ⟨m, fun _ => 0, ρ⟩ (fun r =>
    Pipeline.FramePost (Pipeline.pin (pcfgs (F := F)) (fun _ => adm h)) (dats h) 0
      (Pipeline.afterTail (pcfgs (F := F)) (fun _ => adm h) (dats h) 0 (V0 m) tailOps) r ∧ r.2.sem = fun _ => 0) :=
  Pipeline.θ_run_frameP_around_track (Q' := _) (pcfgs (F := F)) (fun _ => adm h) (dats h) (0 : Fin 1) launch0 defs₀ Variants.none m ρ main
    (hbody := fun c => (body_obligation h c).loose)
    (hshare := fun c => (datM h c).share_full fun _ => rfl) (howed := fun _ _ => rfl)
    (V₀ := V0 m) (opss := tailOps)
    (hsub := fun ops ho op hop => Pipeline.sub_tailRefs pre0 spec0 op (sfx op (sfx_mem ho hop)).1 (sfx op (sfx_mem ho hop)).2.1)
    (hfresh := fun ops ho op hop => (sfx op (sfx_mem ho hop)).2.2.1)
    (hkeep := fun ops ho op hop => (sfx op (sfx_mem ho hop)).2.2.2)
    (hmain := Pipeline.hmainP_around (pcfgs (F := F)) (0 : Fin 1) defs₀ Variants.none m main pre0Ops tailOps pre_sub pre_fresh (fun c => (main_chain c).trans rfl))
    (hA := fun _ _ => rfl) (hpf := V_pre m)
    (hin := hin h) (hout := fun c => hout h c _)
    (hQ' := fun r hr => hr)

end Cert.KernelIdeal.Moe

end
-- ==== Proof.Reads.lean ====
/- The host's lines before the launch, read buffer by buffer: what each array of the schedule is computed
   from. -/
module

public import proofs.«01_k».proof.Proof.Launch
public import Idealize.ShloMosaic.Lib.StableHlo.RunRead
public import Idealize.ShloMosaic.Lib.Routing.Model

@[expose] public section

set_option maxRecDepth 16384
set_option maxHeartbeats 4000000

noncomputable section

namespace Cert.KernelIdeal.Moe

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

/-- Two of the schedule's arrays spread over a table of items by experts. -/
abbrev rows287 (x : S287.Idx → BitVec 32) : S287x16.Idx → BitVec 32 :=
  broadcastInDim S287x16 ![0, 1] bcast_S287x1_S287x16_0_1 (broadcastInDim S287x1 ![0] bcast_S287_S287x1_0 x)
abbrev cols287 (x : S16.Idx → BitVec 32) : S287x16.Idx → BitVec 32 :=
  broadcastInDim S287x16 ![0, 1] bcast_S1x16_S287x16_0_1 (broadcastInDim S1x16 ![1] bcast_S16_S1x16_1 x)
/-- An array of the experts read at each item's expert, as the host computes it. -/
abbrev pick (ie : S287.Idx → BitVec 32) (x : S16.Idx → BitVec 32) : S287.Idx → BitVec 32 :=
  Host.reduce IntOp.addi (select (cmpi .eq (rows287 ie) (cols287 (iotaInDim S16 32 0))) (cols287 x)
    (broadcastInDim S287x16 ![] bcast_S_S287x16 (constantI S_ 32 0#32))) (constantI S_ 32 0#32) reducesTo_S287x16_S287_d1 h_S_
/-- One array over the items behind another. -/
def behind (a : S1.Idx → BitVec 32) (b : S286.Idx → BitVec 32) : S287.Idx → BitVec 32 :=
  concatenate S287 0 [⟨S1, a⟩, ⟨S286, b⟩] concatenates_S1_S286_S287_d0
theorem behind_eq (a : S1.Idx → BitVec 32) (b : S286.Idx → BitVec 32) :
    concatenate S287 0 [⟨S1, a⟩, ⟨S286, b⟩] concatenates_S1_S286_S287_d0 = behind a b := rfl
/-- An array over the items rolled by one. -/
abbrev roll (x : S287.Idx → BitVec 32) : S287.Idx → BitVec 32 :=
  behind (extractStridedSlice S1 ![286] x slices_S287_S1_286) (extractStridedSlice S286 ![0] x slices_S287_S286_0)
/-- The bit of each item that is the first or differs from the one before it. -/
abbrev differs (x y : S287.Idx → BitVec 32) : S287.Idx → BitVec 32 :=
  extui 32 (ori (cmpi .eq (iotaInDim S287 32 0) (broadcastInDim S287 ![] bcast_S_S287 (constantI S_ 32 0#32))) (cmpi .ne x y)) natLt_1_32

/-- The experts of the slots, first choices first. -/
abbrev eflat (c : Dev nD) : S69632.Idx → BitVec 32 :=
  shapeCast S69632 (transpose S2x8x4352 [1, 0, 2] (m (c, Proc.devRef .tc main_arg1) : S8x2x4352.Idx → BitVec 32) transposes_S8x2x4352_S2x8x4352_1_0_2) shapeCasts_S2x8x4352_S69632

theorem rd6 (c : Dev nD) : (V m c main_v6 : S69632.Idx → BitVec 32)
    = Host.sort S69632 0 comparator_i32_d0 (addi (muli (eflat m c) (broadcastInDim S69632 ![] bcast_S_S69632 (constantI S_ 32 131072#32))) (iotaInDim S69632 32 0)) := by
  simp only [V, V0, pre0Ops, hostOps0, TRef.binary, TRef.nullary, TRef.unary, TRef.ternary, TRef.toBuf, TRef.ofBuf, cast_eq]
  after_reads_simp <;> rfl
theorem rd8 (c : Dev nD) : (V m c main_v8 : S69632.Idx → BitVec 32)
    = Host.shrsi (V m c main_v6 : S69632.Idx → BitVec 32) (broadcastInDim S69632 ![] bcast_S_S69632 (constantI S_ 32 17#32)) := by
  simp only [V, V0, pre0Ops, hostOps0, TRef.binary, TRef.nullary, TRef.unary, TRef.ternary, TRef.toBuf, TRef.ofBuf, cast_eq]
  after_reads_simp <;> rfl
theorem rd10 (c : Dev nD) : (V m c main_v10 : S69632.Idx → BitVec 32)
    = andi (V m c main_v6 : S69632.Idx → BitVec 32) (broadcastInDim S69632 ![] bcast_S_S69632 (constantI S_ 32 131071#32)) := by
  simp only [V, V0, pre0Ops, hostOps0, TRef.binary, TRef.nullary, TRef.unary, TRef.ternary, TRef.toBuf, TRef.ofBuf, cast_eq]
  after_reads_simp <;> rfl
theorem rd11 (c : Dev nD) : (V m c main_v11_1 : S69632.Idx → BitVec 32)
    = (Host.sort2 S69632 0 comparator_i32_i32_d0 (V m c main_v10 : S69632.Idx → BitVec 32) (iotaInDim S69632 32 0)).2 := by
  simp only [V, V0, pre0Ops, hostOps0, TRef.binary, TRef.nullary, TRef.unary, TRef.ternary, TRef.toBuf, TRef.ofBuf, cast_eq]
  after_reads_simp <;> rfl
theorem rd19 (c : Dev nD) : (V m c main_v19 : S17.Idx → BitVec 32)
    = Host.reduce IntOp.addi (extui 32 (cmpi .slt (broadcastInDim S17x69632 ![0, 1] bcast_S1x69632_S17x69632_0_1 (broadcastInDim S1x69632 ![1] bcast_S69632_S1x69632_1 (V m c main_v8 : S69632.Idx → BitVec 32)))
        (broadcastInDim S17x69632 ![0, 1] bcast_S17x1_S17x69632_0_1 (broadcastInDim S17x1 ![0] bcast_S17_S17x1_0 (iotaInDim S17 32 0)))) natLt_1_32)
      (constantI S_ 32 0#32) reducesTo_S17x69632_S17_d1 h_S_ := by
  simp only [V, V0, pre0Ops, hostOps0, TRef.binary, TRef.nullary, TRef.unary, TRef.ternary, TRef.toBuf, TRef.ofBuf, cast_eq]
  after_reads_simp <;> rfl
theorem rd21 (c : Dev nD) : (V m c main_v21 : S16.Idx → BitVec 32)
    = Routing.pyDiv bcast_S_S16 (extractStridedSlice S16 ![0] (V m c main_v19 : S17.Idx → BitVec 32) slices_S17_S16_0) (constantI S_ 32 256#32) := by
  simp only [V, V0, pre0Ops, hostOps0, hostOps0_1, TRef.binary, TRef.nullary, TRef.unary, TRef.ternary, TRef.toBuf, TRef.ofBuf, cast_eq]
  after_reads_simp <;> rfl
theorem rd32 (c : Dev nD) : (V m c main_v32 : S16.Idx → BitVec 32)
    = select (cmpi .sgt (extractStridedSlice S16 ![1] (V m c main_v19 : S17.Idx → BitVec 32) slices_S17_S16_1) (extractStridedSlice S16 ![0] (V m c main_v19 : S17.Idx → BitVec 32) slices_S17_S16_0))
      (addi (subi (Routing.pyDiv bcast_S_S16 (subi (extractStridedSlice S16 ![1] (V m c main_v19 : S17.Idx → BitVec 32) slices_S17_S16_1) (broadcastInDim S16 ![] bcast_S_S16 (constantI S_ 32 1#32)))
        (constantI S_ 32 256#32)) (V m c main_v21 : S16.Idx → BitVec 32)) (broadcastInDim S16 ![] bcast_S_S16 (constantI S_ 32 1#32)))
      (broadcastInDim S16 ![] bcast_S_S16 (constantI S_ 32 0#32)) := by
  simp only [V, V0, pre0Ops, hostOps0, hostOps0_1, hostOps0_2, hostOps0_3, hostOps0_4, hostOps0_5, TRef.binary, TRef.nullary, TRef.unary, TRef.ternary, TRef.toBuf, TRef.ofBuf, cast_eq]
  after_reads_simp <;> rfl
theorem rd33 (c : Dev nD) : (V m c main_v33 : S16.Idx → BitVec 32)
    = Host.reduceWindow IntOp.addi ![16] ![1] ![15] ![0] (V m c main_v32 : S16.Idx → BitVec 32) (broadcastInDim S_ ![] bcast_S_S_ (constantI S_ 32 0#32)) reduceWindows_S16_S16_w16s1p15_0 h_S_ := by
  simp only [V, V0, pre0Ops, hostOps0, hostOps0_1, hostOps0_2, hostOps0_3, hostOps0_4, hostOps0_5, hostOps0_6, TRef.binary, TRef.nullary, TRef.unary, TRef.ternary, TRef.toBuf, TRef.ofBuf, cast_eq]
  after_reads_simp <;> rfl
theorem rd34 (c : Dev nD) : (V m c main_v34 : S16.Idx → BitVec 32)
    = subi (V m c main_v33 : S16.Idx → BitVec 32) (V m c main_v32 : S16.Idx → BitVec 32) := by
  simp only [V, V0, pre0Ops, hostOps0, hostOps0_1, hostOps0_2, hostOps0_3, hostOps0_4, hostOps0_5, hostOps0_6, hostOps0_7, TRef.binary, TRef.nullary, TRef.unary, TRef.ternary, TRef.toBuf, TRef.ofBuf, cast_eq]
  after_reads_simp <;> rfl
theorem rd36 (c : Dev nD) : (V m c main_v36 : S_.Idx → BitVec 32)
    = shapeCast S_ (extractStridedSlice S1 ![15] (V m c main_v33 : S16.Idx → BitVec 32) slices_S16_S1_15) shapeCasts_S1_S_ := by
  simp only [V, V0, pre0Ops, hostOps0, hostOps0_1, hostOps0_2, hostOps0_3, hostOps0_4, hostOps0_5, hostOps0_6, hostOps0_7, TRef.binary, TRef.nullary, TRef.unary, TRef.ternary, TRef.toBuf, TRef.ofBuf, cast_eq]
  after_reads_simp <;> rfl
theorem rd40 (c : Dev nD) : (V m c main_v40 : S287.Idx → BitVec 32)
    = minsi (iotaInDim S287 32 0) (broadcastInDim S287 ![] bcast_S_S287 (subi (V m c main_v36 : S_.Idx → BitVec 32) (constantI S_ 32 1#32))) := by
  simp only [V, V0, pre0Ops, hostOps0, hostOps0_1, hostOps0_2, hostOps0_3, hostOps0_4, hostOps0_5, hostOps0_6, hostOps0_7, TRef.binary, TRef.nullary, TRef.unary, TRef.ternary, TRef.toBuf, TRef.ofBuf, cast_eq]
  after_reads_simp <;> rfl
theorem rd49 (c : Dev nD) : (V m c main_v49 : S287.Idx → BitVec 32)
    = minsi (Host.reduce IntOp.addi (extui 32 (cmpi .sle (cols287 (V m c main_v33 : S16.Idx → BitVec 32)) (rows287 (V m c main_v40 : S287.Idx → BitVec 32))) natLt_1_32) (constantI S_ 32 0#32) reducesTo_S287x16_S287_d1 h_S_)
      (broadcastInDim S287 ![] bcast_S_S287 (constantI S_ 32 15#32)) := by
  simp only [V, V0, pre0Ops, hostOps0, hostOps0_1, hostOps0_2, hostOps0_3, hostOps0_4, hostOps0_5, hostOps0_6, hostOps0_7, TRef.binary, TRef.nullary, TRef.unary, TRef.ternary, TRef.toBuf, TRef.ofBuf, cast_eq]
  after_reads_simp <;> rfl
theorem rd63 (c : Dev nD) : (V m c main_v63 : S287.Idx → BitVec 32)
    = subi (addi (pick (V m c main_v49 : S287.Idx → BitVec 32) (V m c main_v21 : S16.Idx → BitVec 32)) (V m c main_v40 : S287.Idx → BitVec 32))
      (pick (V m c main_v49 : S287.Idx → BitVec 32) (V m c main_v34 : S16.Idx → BitVec 32)) := by
  simp only [V, V0, pre0Ops, hostOps0, hostOps0_1, hostOps0_2, hostOps0_3, hostOps0_4, hostOps0_5, hostOps0_6, hostOps0_7, hostOps0_8, hostOps0_9, hostOps0_10, hostOps0_11, TRef.binary, TRef.nullary, TRef.unary, TRef.ternary, TRef.toBuf, TRef.ofBuf, cast_eq]
  after_reads_simp <;> rfl
theorem rd67 (c : Dev nD) : (V m c main_v67 : S287.Idx → BitVec 32) = roll (V m c main_v49 : S287.Idx → BitVec 32) := by
  simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, TRef.binary, TRef.nullary, TRef.unary, TRef.ternary, TRef.toBuf, TRef.ofBuf, cast_eq, behind_eq]
  after_reads_simp <;> rfl
theorem rd70 (c : Dev nD) : (V m c main_v70 : S287.Idx → BitVec 32) = roll (V m c main_v63 : S287.Idx → BitVec 32) := by
  simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, TRef.binary, TRef.nullary, TRef.unary, TRef.ternary, TRef.toBuf, TRef.ofBuf, cast_eq, behind_eq]
  after_reads_simp <;> rfl
theorem rd77 (c : Dev nD) : (V m c main_v77 : S287.Idx → BitVec 32)
    = addi (differs (V m c main_v49 : S287.Idx → BitVec 32) (V m c main_v67 : S287.Idx → BitVec 32))
      (muli (broadcastInDim S287 ![] bcast_S_S287 (constantI S_ 32 2#32)) (differs (V m c main_v63 : S287.Idx → BitVec 32) (V m c main_v70 : S287.Idx → BitVec 32))) := by
  simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, TRef.binary, TRef.nullary, TRef.unary, TRef.ternary, TRef.toBuf, TRef.ofBuf, cast_eq]
  after_reads_simp <;> rfl
theorem rd81 (c : Dev nD) : (V m c main_v81 : S287.Idx → BitVec 32)
    = pick (V m c main_v49 : S287.Idx → BitVec 32) (extractStridedSlice S16 ![0] (V m c main_v19 : S17.Idx → BitVec 32) slices_S17_S16_0) := by
  simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, TRef.binary, TRef.nullary, TRef.unary, TRef.ternary, TRef.toBuf, TRef.ofBuf, cast_eq]
  after_reads_simp <;> rfl
theorem rd85 (c : Dev nD) : (V m c main_v85 : S287.Idx → BitVec 32)
    = pick (V m c main_v49 : S287.Idx → BitVec 32) (extractStridedSlice S16 ![1] (V m c main_v19 : S17.Idx → BitVec 32) slices_S17_S16_1) := by
  simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, TRef.binary, TRef.nullary, TRef.unary, TRef.ternary, TRef.toBuf, TRef.ofBuf, cast_eq]
  after_reads_simp <;> rfl
theorem rd86 (c : Dev nD) : (V m c main_v86 : S1.Idx → BitVec 32) = shapeCast S1 (V m c main_v36 : S_.Idx → BitVec 32) shapeCasts_S_S1 := by
  simp only [V, V0, pre0Ops, hostOps0, hostOps0_1, hostOps0_2, hostOps0_3, hostOps0_4, hostOps0_5, hostOps0_6, hostOps0_7, hostOps0_19, TRef.binary, TRef.nullary, TRef.unary, TRef.ternary, TRef.toBuf, TRef.ofBuf, cast_eq]
  after_reads_simp <;> rfl
theorem rd93 (c : Dev nD) : (V m c main_v93 : S69632x2048.Idx → F .bf16)
    = Host.gather gather_S34816x2048_S69632x1_S69632x2048_1_0_n_n_0_1_12048
        (shapeCast S34816x2048 (m (c, Proc.devRef .tc main_arg0) : S8x4352x2048.Idx → F .bf16) shapeCasts_S8x4352x2048_S34816x2048)
        (broadcastInDim S69632x1 ![0] bcast_S69632_S69632x1_0
          (select (cmpi .sge (V m c main_v10 : S69632.Idx → BitVec 32) (broadcastInDim S69632 ![] bcast_S_S69632 (constantI S_ 32 34816#32)))
            (subi (V m c main_v10 : S69632.Idx → BitVec 32) (broadcastInDim S69632 ![] bcast_S_S69632 (constantI S_ 32 34816#32))) (V m c main_v10 : S69632.Idx → BitVec 32))) := by
  simp only [V, V0, pre0Ops, hostOps0, hostOps0_19, hostOps0_20, hostOps0_21, TRef.binary, TRef.nullary, TRef.unary, TRef.ternary, TRef.toBuf, TRef.ofBuf, cast_eq]
  after_reads_simp <;> rfl

end Cert.KernelIdeal.Moe
end
end
-- ==== Proof.Sched.lean ====
/- The schedule built from a list of experts in ascending order: which tiles each expert's rows touch, the
   items in the order of the experts, and the proof that they are a valid schedule. -/
module

public import proofs.«01_k».proof.Proof.Items
public import Idealize.ShloMosaic.Lib.Routing.Count

@[expose] public section

namespace Cert.Moe

/-- The first row of expert `e`: how many rows go to an earlier one. -/
@[irreducible] def bnd (S : ℕ → ℕ) (e : ℕ) : ℕ := Nat.count (fun p => S p < e) 69632
/-- How many tiles expert `e`'s rows touch. -/
def cnt (S : ℕ → ℕ) (e : ℕ) : ℕ :=
  if bnd S e < bnd S (e + 1) then (bnd S (e + 1) - 1) / 256 - bnd S e / 256 + 1 else 0
/-- The first item of expert `e`. -/
@[irreducible] def st (S : ℕ → ℕ) (e : ℕ) : ℕ := ((List.range e).map (cnt S)).sum
/-- Item `t`, or the last one past the end. -/
def itm (S : ℕ → ℕ) (t : ℕ) : ℕ := min t (st S 16 - 1)
/-- Item `t`'s expert. -/
def ieOf (S : ℕ → ℕ) (t : ℕ) : ℕ := min (Nat.count (fun e => st S (e + 1) ≤ itm S t) 16) 15
/-- Item `t`'s tile. -/
def itOf (S : ℕ → ℕ) (t : ℕ) : ℕ := bnd S (ieOf S t) / 256 + itm S t - st S (ieOf S t)

/-- The schedule of a list of experts. -/
def sched (S : ℕ → ℕ) : Items := ⟨S, bnd S, itOf S, ieOf S, st S 16⟩

section
variable {S : ℕ → ℕ} (hm : ∀ a b, a ≤ b → b < 69632 → S a ≤ S b) (hS : ∀ p, p < 69632 → S p < 16)

theorem bnd_le (e : ℕ) : bnd S e ≤ 69632 := by
  unfold bnd; exact Nat.count_le _

theorem st_succ (e : ℕ) : st S (e + 1) = st S e + cnt S e := by
  simp [st, List.range_succ]

theorem st_mono {a b : ℕ} (h : a ≤ b) : st S a ≤ st S b := by
  induction b, h using Nat.le_induction with
  | base => exact le_refl _
  | succ b _ ih => rw [st_succ]; omega

section
include hm

theorem lt_bnd {p : ℕ} (hp : p < 69632) (e : ℕ) : S p < e ↔ p < bnd S e := by
  unfold bnd
  exact Idealize.ShloMosaic.Routing.lt_count_iff (Q := fun p => S p < e) (fun a b hab hb h => lt_of_le_of_lt (hm a b hab hb) h) hp

theorem bnd_mono (e : ℕ) : bnd S e ≤ bnd S (e + 1) := by
  by_contra h
  have hl : bnd S (e + 1) < bnd S e := by omega
  have h1 : bnd S (e + 1) < 69632 := lt_of_lt_of_le hl (bnd_le e)
  have h2 := (lt_bnd hm h1 e).mpr hl
  have h3 := (lt_bnd hm h1 (e + 1)).not.mpr (lt_irrefl _)
  omega

/-- Experts whose items begin at the same place have no rows between them. -/
theorem bnd_of_st {a b : ℕ} (h : a ≤ b) (hs : st S b ≤ st S a) : bnd S b = bnd S a := by
  induction b, h using Nat.le_induction with
  | base => rfl
  | succ b hb ih =>
    have h1 := st_succ (S := S) b
    have h2 := st_mono (S := S) hb
    have h3 := ih (by omega)
    have h4 : cnt S b = 0 := by omega
    have h5 := bnd_mono hm b
    unfold cnt at h4
    split at h4
    · omega
    · omega

end

theorem bnd_zero : bnd S 0 = 0 := by
  unfold bnd
  simp [Nat.count_eq_card_filter_range]

section
include hS
theorem bnd_last : bnd S 16 = 69632 := by
  unfold bnd; exact Nat.count_iff_forall.mpr fun p hp => hS p hp
end

/-- With its rows in tiles `lo … hi`, expert `e` has `hi - lo + 1` items. -/
theorem cnt_pos {e : ℕ} (h : 0 < cnt S e) :
    bnd S e < bnd S (e + 1) ∧ cnt S e = (bnd S (e + 1) - 1) / 256 - bnd S e / 256 + 1 := by
  unfold cnt at h ⊢
  split at h
  · rename_i hb; exact ⟨hb, by rw [if_pos hb]⟩
  · omega

section
include hm
theorem st_le (e : ℕ) : st S (e + 1) ≤ (bnd S (e + 1) + 255) / 256 + e := by
  induction e with
  | zero =>
    have h0 := bnd_zero (S := S)
    have h1 := st_succ (S := S) 0
    have h2 : st S 0 = 0 := by unfold st; rfl
    rcases Nat.eq_zero_or_pos (cnt S 0) with h | h
    · omega
    · have := cnt_pos h; omega
  | succ e ih =>
    have h1 := st_succ (S := S) (e + 1)
    have h3 := bnd_mono hm (e + 1)
    rcases Nat.eq_zero_or_pos (cnt S (e + 1)) with h | h
    · omega
    · have := cnt_pos h; omega
end

include hm hS

/-- A row's expert has items, and the row's tile is one of them. -/
theorem item_of_row {p : ℕ} (hp : p < 69632) :
    bnd S (S p) ≤ p ∧ p < bnd S (S p + 1) ∧ st S (S p) + (p / 256 - bnd S (S p) / 256) < st S (S p + 1) := by
  have h1 := (lt_bnd hm hp (S p)).not.mp (lt_irrefl _)
  have h2 := (lt_bnd hm hp (S p + 1)).mp (by omega)
  have h3 : cnt S (S p) = _ := if_pos (by omega)
  have h4 := st_succ (S := S) (S p)
  refine ⟨by omega, h2, ?_⟩
  omega

theorem st_pos : 0 < st S 16 := by
  have h := item_of_row hm hS (p := 0) (by omega)
  have h2 := hS 0 (by omega)
  have h3 := st_mono (S := S) (show S 0 + 1 ≤ 16 by omega)
  omega

theorem itm_lt (t : ℕ) : itm S t < st S 16 := by
  have := st_pos hm hS
  unfold itm; omega

theorem ie_lt (t : ℕ) : ieOf S t < 16 := by unfold ieOf; omega

/-- Item `t` is one of its expert's. -/
theorem ie_spec (t : ℕ) : st S (ieOf S t) ≤ itm S t ∧ itm S t < st S (ieOf S t + 1) := by
  have hl := itm_lt hm hS t
  have hq : ∀ e, e < 16 → (st S (e + 1) ≤ itm S t ↔ e < Nat.count (fun e => st S (e + 1) ≤ itm S t) 16) := fun e he =>
    Idealize.ShloMosaic.Routing.lt_count_iff (Q := fun e => st S (e + 1) ≤ itm S t)
      (fun a b hab _ h => le_trans (st_mono (by omega)) h) he
  unfold ieOf
  generalize Nat.count (fun e => st S (e + 1) ≤ itm S t) 16 = c at hq ⊢
  have h15 : ¬ 15 < c := fun h => by
    have h16 : st S 16 ≤ itm S t := (hq 15 (by omega)).mpr h
    omega
  rw [Nat.min_eq_left (by omega)]
  refine ⟨?_, ?_⟩
  · rcases Nat.eq_zero_or_pos c with h | h
    · subst h
      have h0 : st S 0 = 0 := by unfold st; rfl
      rw [h0]; exact Nat.zero_le _
    · have := (hq (c - 1) (by omega)).mpr (by omega)
      rwa [Nat.sub_add_cancel h] at this
  · by_contra hn
    have := (hq c (by omega)).mp (by omega)
    omega

/-- Only one expert has item `t`. -/
theorem ie_unique {t e : ℕ} (h1 : st S e ≤ itm S t) (h2 : itm S t < st S (e + 1)) : ieOf S t = e := by
  obtain ⟨h3, h4⟩ := ie_spec hm hS t
  by_contra hn
  rcases Nat.lt_or_gt_of_ne hn with h | h
  · have := st_mono (S := S) (show ieOf S t + 1 ≤ e by omega); omega
  · have := st_mono (S := S) (show e + 1 ≤ ieOf S t by omega); omega

/-- Item `t`'s tile counts up from its expert's first. -/
theorem it_spec (t : ℕ) : bnd S (ieOf S t) < bnd S (ieOf S t + 1)
    ∧ itOf S t = bnd S (ieOf S t) / 256 + (itm S t - st S (ieOf S t))
    ∧ itOf S t ≤ (bnd S (ieOf S t + 1) - 1) / 256
    ∧ (itOf S t = (bnd S (ieOf S t + 1) - 1) / 256 ↔ itm S t + 1 = st S (ieOf S t + 1)) := by
  obtain ⟨h3, h4⟩ := ie_spec hm hS t
  have h5 := st_succ (S := S) (ieOf S t)
  have h6 := cnt_pos (S := S) (e := ieOf S t) (by omega)
  have h7 : itOf S t = bnd S (ieOf S t) / 256 + itm S t - st S (ieOf S t) := rfl
  refine ⟨h6.1, by omega, by omega, by omega⟩

/-- From one item to the next: the same expert and the next tile, or the next expert that has rows. -/
theorem next_item {t : ℕ} (ht : t + 1 < st S 16) :
    (ieOf S (t + 1) = ieOf S t ∧ itOf S (t + 1) = itOf S t + 1 ∧ itOf S t < (bnd S (ieOf S t + 1) - 1) / 256)
    ∨ (ieOf S t < ieOf S (t + 1) ∧ bnd S (ieOf S (t + 1)) = bnd S (ieOf S t + 1)
        ∧ itOf S t = (bnd S (ieOf S t + 1) - 1) / 256 ∧ itOf S (t + 1) = bnd S (ieOf S (t + 1)) / 256) := by
  have e1 : itm S t = t := by unfold itm; omega
  have e2 : itm S (t + 1) = t + 1 := by unfold itm; omega
  obtain ⟨a1, a2⟩ := ie_spec hm hS t
  obtain ⟨b1, b2⟩ := ie_spec hm hS (t + 1)
  obtain ⟨c1, c2, c3, c4⟩ := it_spec hm hS t
  obtain ⟨d1, d2, d3, d4⟩ := it_spec hm hS (t + 1)
  rw [e1] at a1 a2 c2 c4
  rw [e2] at b1 b2 d2 d4
  by_cases h : t + 1 < st S (ieOf S t + 1)
  · have h1 : ieOf S (t + 1) = ieOf S t := ie_unique hm hS (by rw [e2]; omega) (by rw [e2]; exact h)
    rw [h1] at d1 d2 d3 d4
    exact .inl ⟨h1, by omega, by omega⟩
  · have h2 : ieOf S t < ieOf S (t + 1) := by
      by_contra hn
      have := st_mono (S := S) (show ieOf S (t + 1) + 1 ≤ ieOf S t + 1 by omega); omega
    have h3 := bnd_of_st hm (show ieOf S t + 1 ≤ ieOf S (t + 1) by omega) (by omega)
    have h4 := st_mono (S := S) (show ieOf S t + 1 ≤ ieOf S (t + 1) by omega)
    exact .inr ⟨h2, h3, by omega, by omega⟩

/-- Past the last item nothing changes. -/
theorem idle_item {t : ℕ} (h : st S 16 ≤ t + 1) : itm S t = st S 16 - 1 ∧ bnd S (ieOf S t + 1) = 69632 := by
  have e1 : itm S t = st S 16 - 1 := by unfold itm; omega
  have h1 := (ie_spec hm hS t).2
  have h2 := st_pos hm hS
  have h3 := ie_lt hm hS t
  refine ⟨e1, ?_⟩
  rw [← bnd_last hS]
  exact (bnd_of_st hm (show ieOf S t + 1 ≤ 16 by omega) (by omega)).symm

set_option maxRecDepth 4096 in
/-- The schedule of an ascending list of experts is valid. -/
theorem sched_valid : (sched S).Valid where
  pos := st_pos hm hS
  le := by
    have h := st_le hm 15
    have h1 := bnd_le (S := S) 16
    show st S 16 ≤ 287
    rw [show 15 + 1 = 16 from rfl] at h
    omega
  it_lt t _ := by
    have h := it_spec hm hS t
    have h1 := bnd_le (S := S) (ieOf S t + 1)
    show itOf S t < 272
    omega
  ie_lt t _ := ie_lt hm hS t
  S_lt := hS
  B_le e _ := bnd_le e
  mem t _ p hp := by
    have h1 := lt_bnd hm hp (ieOf S t)
    have h2 := lt_bnd hm hp (ieOf S t + 1)
    show (bnd S (ieOf S t) ≤ p ∧ p < bnd S (ieOf S t + 1)) ↔ S p = ieOf S t
    omega
  idle t h _ := by
    have hp := st_pos hm hS
    have h' : st S 16 ≤ t := h
    have e : itm S t = itm S (t - 1) := by unfold itm; omega
    have e2 : ieOf S t = ieOf S (t - 1) := by unfold ieOf; rw [e]
    exact ⟨show itOf S t = itOf S (t - 1) by unfold itOf; rw [e, e2], e2⟩
  first t ht hf p hp hpt := by
    show ieOf S t ≤ S p
    have hpt' : p / 256 = itOf S t := hpt
    have h1 := lt_bnd hm hp (ieOf S t)
    rcases Nat.eq_zero_or_pos t with h0 | h0
    · subst h0
      have h2 := (ie_spec hm hS 0).1
      have h3 : itm S 0 = 0 := by unfold itm; omega
      have h4 := bnd_of_st hm (show 0 ≤ ieOf S 0 by omega) (by omega)
      rw [bnd_zero] at h4
      omega
    · obtain ⟨s, rfl⟩ : ∃ s, t = s + 1 := ⟨t - 1, by omega⟩
      have hne : itOf S (s + 1) ≠ itOf S s := hf.resolve_left (by omega)
      have hlt : s + 1 < st S 16 := by
        by_contra hn
        have e : itm S (s + 1) = itm S s := by unfold itm; omega
        have e2 : ieOf S (s + 1) = ieOf S s := by unfold ieOf; rw [e]
        exact hne (by unfold itOf; rw [e, e2])
      have hs := it_spec hm hS s
      rcases next_item hm hS hlt with ⟨a, b, c⟩ | ⟨a, b, c, d⟩
      · rw [a] at h1 ⊢; omega
      · omega
  lt t ht he := by
    have he' : itOf S (t + 1) = itOf S t := he
    show ieOf S t < ieOf S (t + 1)
    rcases next_item hm hS ht with ⟨a, b, c⟩ | ⟨a, b, c, d⟩ <;> omega
  cont t ht he p hp _ := by
    have he' : itOf S (t + 1) = itOf S t := he
    show S p ≤ ieOf S t ∨ ieOf S (t + 1) ≤ S p
    have h1 := lt_bnd hm hp (ieOf S t + 1)
    have h2 := lt_bnd hm hp (ieOf S (t + 1))
    rcases next_item hm hS ht with ⟨a, b, c⟩ | ⟨a, b, c, d⟩ <;> omega
  last t ht hl p hp hpt := by
    have hpt' : p / 256 = itOf S t := hpt
    show S p ≤ ieOf S t
    have h1 := lt_bnd hm hp (ieOf S t + 1)
    have hs := it_spec hm hS t
    by_cases hn : t + 1 < st S 16
    · have hne : itOf S (t + 1) ≠ itOf S t := by
        rcases hl with h | h
        · have h3 := st_le hm 15
          have h4 := bnd_le (S := S) 16
          rw [show 15 + 1 = 16 from rfl] at h3
          omega
        · exact h
      rcases next_item hm hS hn with ⟨a, b, c⟩ | ⟨a, b, c, d⟩
      · omega
      · omega
    · have := (idle_item hm hS (t := t) (by omega)).2
      omega
  cover T hT := by
    have hp : T * 256 + 255 < 69632 := by omega
    obtain ⟨h1, h2, h3⟩ := item_of_row hm hS hp
    have h4 := hS _ hp
    generalize S (T * 256 + 255) = e at h1 h2 h3 h4
    have h5 := st_mono (S := S) (show e + 1 ≤ 16 by omega)
    have hT' : (T * 256 + 255) / 256 = T := by omega
    rw [hT'] at h3
    have h287 : st S 16 ≤ 287 := by
      have h3 := st_le hm 15
      have h4 := bnd_le (S := S) 16
      rw [show 15 + 1 = 16 from rfl] at h3
      omega
    have key : ∀ j, itm S j = st S e + (T - bnd S e / 256) → ieOf S j = e ∧ itOf S j = T := fun j hj => by
      have a := ie_unique hm hS (t := j) (e := e) (by omega) (by omega)
      have b := (it_spec hm hS j).2.1
      rw [a] at b
      exact ⟨a, by omega⟩
    by_cases hn : st S e + (T - bnd S e / 256) + 1 < st S 16
    · refine ⟨st S e + (T - bnd S e / 256), by omega, ?_, ?_⟩
      · exact (key _ (by unfold itm; omega)).2
      · obtain ⟨a, b⟩ := key (st S e + (T - bnd S e / 256)) (by unfold itm; omega)
        refine .inr ?_
        show itOf S _ ≠ itOf S _
        rcases next_item hm hS hn with ⟨c, d, f⟩ | ⟨c, d, f, g⟩
        · omega
        · rw [a] at d; omega
    · have hj : itm S 286 = st S e + (T - bnd S e / 256) := by unfold itm; omega
      exact ⟨286, by omega, (key _ hj).2, .inl rfl⟩

end

end Cert.Moe

end
-- ==== Proof.Tables.lean ====
/- The host's schedule arithmetic on words, array by array: each array of words holds the natural numbers of
   the schedule it stands for. Stated at the sizes of this problem over arrays that are arguments, so that it
   does not depend on the program the arrays come from. -/
module

public import proofs.«01_k».proof.Proof.Sched
public import Idealize.ShloMosaic.Lib.Routing.OpsSet
public import Idealize.ShloMosaic.Lib.Routing.SortLink
public import Idealize.ShloMosaic.Lib.Routing.Words
public import Idealize.ShloMosaic.Lib.WordSum
public import Idealize.ShloMosaic.Lib.WordCmp
public import Idealize.ShloMosaic.Lib.Pointwise.SelectCore

@[expose] public section

namespace Cert.Moe

open Idealize.ShloMosaic hiding ix0 ix1 ix2 ix3
open Idealize.ShloMosaic.ValueIdx Idealize.ShloMosaic.Routing

/-! ## Sorting -/

/-- The order a stable sort by natural keys, all different, puts the positions in: a bijection along which
    the keys ascend. -/
theorem sorted_order {n : ℕ} (K : Fin n → ℕ) (hK : Function.Injective K) :
    Function.Bijective (sortedFrom fun a b => decide (K a < K b))
      ∧ ∀ i j, i < j → K (sortedFrom (fun a b => decide (K a < K b)) i) < K (sortedFrom (fun a b => decide (K a < K b)) j) := by
  refine ⟨⟨sortedFrom_injective _, sortedFrom_surjective _⟩, fun i j hij => ?_⟩
  have h := sortedFrom_noInversion (fun a b => decide (K a < K b)) (fun a b => decide (K a < K b))
    (fun a b h => by simp only [decide_eq_true_eq, decide_eq_false_iff_not] at h ⊢; omega) (fun _ _ h => h)
    (fun a b c h₁ h₂ => by simp only [decide_eq_false_iff_not] at h₁ h₂ ⊢; omega) i j hij
  simp only [decide_eq_false_iff_not, Nat.not_lt] at h
  refine Nat.lt_of_le_of_ne h fun e => ?_
  have := sortedFrom_injective _ (hK e)
  omega

theorem slt_one {a b : ℕ} (ha : a < 2 ^ 31) (hb : b < 2 ^ 31) :
    (IntOp.cmpi .slt (BitVec.ofNat 32 a) (BitVec.ofNat 32 b) == 1#1) = decide (a < b) := by
  have h := WordCmp.cmpi_slt_ofNat_eq_one_iff (w := 32) ha hb
  by_cases hc : a < b
  · rw [h.mpr hc]; simp [hc]
  · have := h.not.mpr hc
    simp [hc, this]

/-- A sort of words below `2^31`, all different, in ascending order. -/
theorem sort_words {n : ℕ} (x : IVec (shape1 n) 32) (K : Fin n → ℕ) (hx : ∀ i, x (ix1 i) = BitVec.ofNat 32 (K i))
    (h31 : ∀ i, K i < 2 ^ 31) (cmp : BitVec 32 → BitVec 32 → BitVec 1) (hcmp : cmp = fun l r => IntOp.cmpi .slt l r) (r : Fin n) :
    Host.sort (shape1 n) 0 cmp x (ix1 r) = BitVec.ofNat 32 (K (sortedFrom (fun a b => decide (K a < K b)) r)) := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  have hb : (fun a b : Fin n => cmp (x ((ix1 r).along ⟨0, hd⟩ a)) (x ((ix1 r).along ⟨0, hd⟩ b)) == 1#1)
      = fun a b => decide (K a < K b) := by
    funext a b
    rw [hcmp, congrArg x (e (ix1 r) a), congrArg x (e (ix1 r) b), hx, hx]
    exact slt_one (h31 a) (h31 b)
  unfold Host.sort
  rw [dif_pos hd]
  refine (congrArg x (e _ _)).trans ?_
  refine Eq.trans ?_ (hx _)
  refine congrArg (fun c => x (ix1 c)) ?_
  exact congrArg (fun R => sortedFrom R r) hb

/-- A sort of pairs by their first word, below `2^31` and all different: the second words in that order. -/
theorem sort2_words {n : ℕ} (x y : IVec (shape1 n) 32) (K : Fin n → ℕ) (hx : ∀ i, x (ix1 i) = BitVec.ofNat 32 (K i))
    (h31 : ∀ i, K i < 2 ^ 31) (cmp : BitVec 32 × BitVec 32 → BitVec 32 × BitVec 32 → BitVec 1)
    (hcmp : cmp = fun l r => IntOp.cmpi .slt l.1 r.1) (r : Fin n) :
    (Host.sort2 (shape1 n) 0 cmp x y).2 (ix1 r) = y (ix1 (sortedFrom (fun a b => decide (K a < K b)) r)) := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  have hb : (fun a b : Fin n => cmp (x ((ix1 r).along ⟨0, hd⟩ a), y ((ix1 r).along ⟨0, hd⟩ a)) (x ((ix1 r).along ⟨0, hd⟩ b), y ((ix1 r).along ⟨0, hd⟩ b)) == 1#1)
      = fun a b => decide (K a < K b) := by
    funext a b
    rw [hcmp]
    show (IntOp.cmpi .slt (x ((ix1 r).along ⟨0, hd⟩ a)) (x ((ix1 r).along ⟨0, hd⟩ b)) == 1#1) = _
    rw [congrArg x (e (ix1 r) a), congrArg x (e (ix1 r) b), hx, hx]
    exact slt_one (h31 a) (h31 b)
  unfold Host.sort2
  rw [dif_pos hd]
  refine (congrArg y (e _ _)).trans ?_
  refine congrArg (fun c => y (ix1 c)) ?_
  exact congrArg (fun R => sortedFrom R r) hb

/-- Sorting a bijection's values finds its inverse. -/
theorem sorted_inverse {n : ℕ} (σ : Fin n → Fin n) (hσ : Function.Injective σ) (i : Fin n) :
    σ (sortedFrom (fun a b => decide ((σ a).val < (σ b).val)) i) = i := by
  obtain ⟨hb, hm⟩ := sorted_order (fun a => (σ a).val) (fun a b h => hσ (Fin.ext h))
  generalize sortedFrom (fun a b => decide ((σ a).val < (σ b).val)) = τ at hb hm
  have hs : StrictMono fun i => σ (τ i) := fun i j hij => hm i j hij
  have : (fun i => σ (τ i)) = id := by
    refine (StrictMono.range_inj hs strictMono_id).mp ?_
    rw [Set.range_id]
    exact (Finite.injective_iff_surjective.mp (hσ.comp hb.1)).range_eq
  exact congrFun this i

/-! ## Words -/

theorem minsi_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (Nat.le_of_lt h)]
  · rw [if_neg (fun e => h (of_decide_eq_true e)), Nat.min_eq_right (by omega)]

theorem sub_word {a b : ℕ} (h : b ≤ a) : BitVec.ofNat 32 a - BitVec.ofNat 32 b = BitVec.ofNat 32 (a - b) := by
  have e : BitVec.ofNat 32 a = BitVec.ofNat 32 (a - b) + BitVec.ofNat 32 b := by
    rw [← BitVec.ofNat_add]; congr 1; omega
  rw [e, BitVec.add_sub_cancel]

theorem add_word (a b : ℕ) : BitVec.ofNat 32 a + BitVec.ofNat 32 b = BitVec.ofNat 32 (a + b) := (BitVec.ofNat_add _ _).symm

/-- The sum along a row that has one entry that is not zero is that entry. -/
theorem reduce_single {n m : ℕ} (x : IVec (shape2 n m) 32) (h : (shape2 n m).ReducesTo [1] (shape1 n)) (hu : 0 < shape0.numel)
    (i : Fin n) (k : Fin m) (hx : ∀ q, q ≠ k → x (ix2 i q) = 0#32) :
    Host.reduce IntOp.addi x (constantI shape0 32 0#32) h hu (ix1 i) = x (ix2 i k) := by
  rw [Host.reduce_eq_fold]
  have hdrop : ∀ i' : (shape2 n m).Idx, h.drop i' = ix1 i ↔ i' 0 = i := by
    intro i'
    have hv : (h.drop i' 0 : ℕ) = i' 0 := Shape.ReducesTo.drop_apply_val h i' 0
    constructor
    · intro e; rw [e] at hv; exact Fin.ext hv.symm
    · intro e; funext b; have hb : b = 0 := Subsingleton.elim _ _; subst hb; exact Fin.ext (by rw [hv, e]; rfl)
  have hs : (Finset.univ.filter fun i' : (shape2 n m).Idx => h.drop i' = ix1 i).fold IntOp.addi (0#32 : BitVec 32) x
      = ∑ i' ∈ Finset.univ.filter (fun i' : (shape2 n m).Idx => h.drop i' = ix1 i), x i' := rfl
  refine Eq.trans hs ?_
  refine Finset.sum_eq_single (ix2 i k) (fun i' hi' hne => ?_) (fun hn => absurd (Finset.mem_filter.mpr ⟨Finset.mem_univ (ix2 i k), (hdrop (ix2 i k)).mpr rfl⟩) hn)
  have h0 := (hdrop i').mp (Finset.mem_filter.mp hi').2
  have he : i' = ix2 i (i' 1) := by
    funext b; match b with
    | ⟨0, _⟩ => exact h0
    | ⟨1, _⟩ => rfl
  rw [he]
  refine hx _ fun hk => hne ?_
  exact he.trans (congrArg (ix2 i) hk)

/-! ## The arrays of the schedule -/

section
variable {S : ℕ → ℕ} (hm : ∀ a b, a ≤ b → b < 69632 → S a ≤ S b) (hS : ∀ p, p < 69632 → S p < 16)

section
include hS
/-- The experts' first rows, counted. -/
theorem bnd_word (x : IVec (shape1 69632) 32) (hx : ∀ p : Fin 69632, x (ix1 p) = BitVec.ofNat 32 (S p.val))
    (h1 : (shape1 69632).BroadcastsInDim (shape2 1 69632) (![1] : Fin 1 → Fin (shape2 1 69632).rank))
    (h2 : (shape2 1 69632).BroadcastsInDim (shape2 17 69632) (![0, 1] : Fin 2 → Fin (shape2 17 69632).rank))
    (h3 : (shape1 17).BroadcastsInDim (shape2 17 1) (![0] : Fin 1 → Fin (shape2 17 1).rank))
    (h4 : (shape2 17 1).BroadcastsInDim (shape2 17 69632) (![0, 1] : Fin 2 → Fin (shape2 17 69632).rank))
    (hw : 1 < 32) (h : (shape2 17 69632).ReducesTo [1] (shape1 17)) (hu : 0 < shape0.numel) (e : Fin 17) :
    Host.reduce IntOp.addi (extui 32 (cmpi .slt (broadcastInDim (shape2 17 69632) ![0, 1] h2 (broadcastInDim (shape2 1 69632) ![1] h1 x))
        (broadcastInDim (shape2 17 69632) ![0, 1] h4 (broadcastInDim (shape2 17 1) ![0] h3 (iotaInDim (shape1 17) 32 0)))) hw)
      (constantI shape0 32 0#32) h hu (ix1 e) = BitVec.ofNat 32 (bnd S e.val) := by
  unfold bnd
  refine reduce_count (by decide) _ hw h hu e (fun p => S p < e.val) fun q => ?_
  rw [WordCmp.cmpi_at, bcCols, bcRows, iota1_ap, hx]
  have := hS q.val q.isLt
  have := e.isLt
  exact WordCmp.cmpi_slt_ofNat_eq_one_iff (w := 32) (by omega) (by omega)
end

variable (b : IVec (shape1 17) 32) (hb : ∀ e : Fin 17, b (ix1 e) = BitVec.ofNat 32 (bnd S e.val))

include hb in
theorem bnd_lo (h : (shape1 17).Slices ![0] (shape1 16)) (e : Fin 16) :
    extractStridedSlice (shape1 16) ![0] b h (ix1 e) = BitVec.ofNat 32 (bnd S e.val) := by
  rw [slice1 0 b h e (by omega), hb]
  show BitVec.ofNat 32 (bnd S (0 + e.val)) = _
  rw [Nat.zero_add]
include hb in
theorem bnd_hi (h : (shape1 17).Slices ![1] (shape1 16)) (e : Fin 16) :
    extractStridedSlice (shape1 16) ![1] b h (ix1 e) = BitVec.ofNat 32 (bnd S (e.val + 1)) := by
  rw [slice1 1 b h e (by omega), hb]
  show BitVec.ofNat 32 (bnd S (1 + e.val)) = _
  rw [Nat.add_comm]

include hb in
/-- The experts' first tiles. -/
theorem lo_word (h : (shape1 17).Slices ![0] (shape1 16)) (hc : shape0.BroadcastsInDim (shape1 16) (![] : Fin 0 → Fin (shape1 16).rank)) (e : Fin 16) :
    pyDiv hc (extractStridedSlice (shape1 16) ![0] b h) (constantI shape0 32 256#32) (ix1 e) = BitVec.ofNat 32 (bnd S e.val / 256) := by
  have := bnd_le (S := S) e.val
  exact pyDiv_ap hc _ _ _ (b := 256) (bnd_lo b hb h e) rfl (by omega) (by omega) (by omega)

include hb in
/-- How many items each expert has. -/
theorem cnt_word (h0 : (shape1 17).Slices ![0] (shape1 16)) (h1 : (shape1 17).Slices ![1] (shape1 16))
    (hc : shape0.BroadcastsInDim (shape1 16) (![] : Fin 0 → Fin (shape1 16).rank))
    (lo : IVec (shape1 16) 32) (hlo : ∀ e : Fin 16, lo (ix1 e) = BitVec.ofNat 32 (bnd S e.val / 256)) (e : Fin 16) :
    select (cmpi .sgt (extractStridedSlice (shape1 16) ![1] b h1) (extractStridedSlice (shape1 16) ![0] b h0))
      (addi (subi (pyDiv hc (subi (extractStridedSlice (shape1 16) ![1] b h1) (broadcastInDim (shape1 16) ![] hc (constantI shape0 32 1#32)))
        (constantI shape0 32 256#32)) lo) (broadcastInDim (shape1 16) ![] hc (constantI shape0 32 1#32)))
      (broadcastInDim (shape1 16) ![] hc (constantI shape0 32 0#32)) (ix1 e) = BitVec.ofNat 32 (cnt S e.val) := by
  have l0 := bnd_le (S := S) e.val
  have l1 := bnd_le (S := S) (e.val + 1)
  rw [WordCmp.select_at, WordCmp.cmpi_at, bnd_hi b hb h1 e, bnd_lo b hb h0 e]
  unfold Scalar.select cnt
  have hi : IntOp.cmpi .sgt (BitVec.ofNat 32 (bnd S (e.val + 1))) (BitVec.ofNat 32 (bnd S e.val)) = 1 ↔ bnd S e.val < bnd S (e.val + 1) :=
    WordCmp.cmpi_sgt_ofNat_eq_one_iff (w := 32) (by omega) (by omega)
  by_cases hlt : bnd S e.val < bnd S (e.val + 1)
  · rw [if_pos (hi.mpr hlt), if_pos hlt, addi_ap, subi_ap, hlo, bc0, WordCmp.constantI_at,
      pyDiv_ap hc _ _ (ix1 e) (a := bnd S (e.val + 1) - 1) (b := 256) ?_ rfl (by omega) (by omega) (by omega)]
    · rw [sub_word (by omega), show (1#32 : BitVec 32) = BitVec.ofNat 32 1 from rfl, add_word]
    · rw [subi_ap, bnd_hi b hb h1 e, bc0, WordCmp.constantI_at, show (1#32 : BitVec 32) = BitVec.ofNat 32 1 from rfl]
      exact sub_word (by omega)
  · rw [if_neg (hi.not.mpr hlt), if_neg hlt, bc0, WordCmp.constantI_at]

/-- The items counted up to and with each expert's. -/
theorem end_word (n : IVec (shape1 16) 32) (hn : ∀ e : Fin 16, n (ix1 e) = BitVec.ofNat 32 (cnt S e.val))
    (hc : shape0.BroadcastsInDim shape0 (![] : Fin 0 → Fin shape0.rank))
    (h : (shape1 16).ReduceWindows (![16] : Fin 1 → Nat) ![1] ![15] ![0] (shape1 16)) (hu : 0 < shape0.numel) (e : Fin 16) :
    Host.reduceWindow IntOp.addi ![16] ![1] ![15] ![0] n (broadcastInDim shape0 ![] hc (constantI shape0 32 0#32)) h hu (ix1 e)
      = BitVec.ofNat 32 (st S (e.val + 1)) := by
  unfold st
  exact cumsum1 (by omega) n (cnt S) hn _ rfl h hu e

/-- Each expert's first item. -/
theorem start_word (z n : IVec (shape1 16) 32) (hn : ∀ e : Fin 16, n (ix1 e) = BitVec.ofNat 32 (cnt S e.val))
    (hz : ∀ e : Fin 16, z (ix1 e) = BitVec.ofNat 32 (st S (e.val + 1))) (e : Fin 16) :
    subi z n (ix1 e) = BitVec.ofNat 32 (st S e.val) := by
  rw [subi_ap, hn, hz, st_succ, sub_word (by omega)]
  congr 1; omega

section
include hm hS

theorem st_lt (e : ℕ) (he : e ≤ 16) : st S e ≤ 287 := (st_mono he).trans (sched_valid hm hS).le

/-- The item each grid point stands for. -/
theorem itm_word (z : IVec shape0 32) (hz : z ix0 = BitVec.ofNat 32 (st S 16))
    (hc : shape0.BroadcastsInDim (shape1 287) (![] : Fin 0 → Fin (shape1 287).rank)) (j : Fin 287) :
    minsi (iotaInDim (shape1 287) 32 0) (broadcastInDim (shape1 287) ![] hc (subi z (constantI shape0 32 1#32))) (ix1 j)
      = BitVec.ofNat 32 (itm S j.val) := by
  have h1 := st_pos hm hS
  have h2 := st_lt hm hS 16 le_rfl
  have e : minsi (iotaInDim (shape1 287) 32 0) (broadcastInDim (shape1 287) ![] hc (subi z (constantI shape0 32 1#32))) (ix1 j)
    = IntOp.minsi (iotaInDim (shape1 287) 32 0 (ix1 j)) (broadcastInDim (shape1 287) ![] hc (subi z (constantI shape0 32 1#32)) (ix1 j)) := rfl
  rw [e, iota1_ap, bc0, subi_ap, hz, WordCmp.constantI_at, show (1#32 : BitVec 32) = BitVec.ofNat 32 1 from rfl, sub_word (by omega),
    minsi_word (by omega) (by omega)]
  rfl

/-- Each item's expert. -/
theorem ie_word (z : IVec (shape1 16) 32) (hz : ∀ e : Fin 16, z (ix1 e) = BitVec.ofNat 32 (st S (e.val + 1)))
    (t : IVec (shape1 287) 32) (ht : ∀ j : Fin 287, t (ix1 j) = BitVec.ofNat 32 (itm S j.val))
    (h1 : (shape1 16).BroadcastsInDim (shape2 1 16) (![1] : Fin 1 → Fin (shape2 1 16).rank))
    (h2 : (shape2 1 16).BroadcastsInDim (shape2 287 16) (![0, 1] : Fin 2 → Fin (shape2 287 16).rank))
    (h3 : (shape1 287).BroadcastsInDim (shape2 287 1) (![0] : Fin 1 → Fin (shape2 287 1).rank))
    (h4 : (shape2 287 1).BroadcastsInDim (shape2 287 16) (![0, 1] : Fin 2 → Fin (shape2 287 16).rank))
    (hw : 1 < 32) (h : (shape2 287 16).ReducesTo [1] (shape1 287)) (hu : 0 < shape0.numel)
    (hc : shape0.BroadcastsInDim (shape1 287) (![] : Fin 0 → Fin (shape1 287).rank)) (j : Fin 287) :
    minsi (Host.reduce IntOp.addi (extui 32 (cmpi .sle (broadcastInDim (shape2 287 16) ![0, 1] h2 (broadcastInDim (shape2 1 16) ![1] h1 z))
        (broadcastInDim (shape2 287 16) ![0, 1] h4 (broadcastInDim (shape2 287 1) ![0] h3 t))) hw) (constantI shape0 32 0#32) h hu)
      (broadcastInDim (shape1 287) ![] hc (constantI shape0 32 15#32)) (ix1 j) = BitVec.ofNat 32 (ieOf S j.val) := by
  have hr := reduce_count (n := 287) (m := 16) (by decide) (cmpi .sle (broadcastInDim (shape2 287 16) ![0, 1] h2 (broadcastInDim (shape2 1 16) ![1] h1 z))
        (broadcastInDim (shape2 287 16) ![0, 1] h4 (broadcastInDim (shape2 287 1) ![0] h3 t))) hw h hu j (fun e => st S (e + 1) ≤ itm S j.val) (fun q => by
    rw [WordCmp.cmpi_at, bcCols, bcRows, hz, ht]
    have := st_lt hm hS (q.val + 1) (by omega)
    have := itm_lt hm hS j.val
    have := st_lt hm hS 16 le_rfl
    exact WordCmp.cmpi_sle_ofNat_eq_one_iff (w := 32) (by omega) (by omega))
  refine (congrArg₂ IntOp.minsi hr (bc0 hc _ _)).trans ?_
  have hl : Nat.count (fun e => st S (e + 1) ≤ itm S j.val) 16 ≤ 16 := Nat.count_le _
  exact minsi_word (b := 15) (by omega) (by omega)

end

/-- The row of a one-hot table that reads an array at an item's expert. -/
theorem pick_word (f : ℕ → ℕ) (x : IVec (shape1 16) 32) (hx : ∀ e : Fin 16, x (ix1 e) = BitVec.ofNat 32 (f e.val))
    (ie : IVec (shape1 287) 32) (g : ℕ → ℕ) (hg : ∀ j, g j < 16) (hie : ∀ j : Fin 287, ie (ix1 j) = BitVec.ofNat 32 (g j.val))
    (h1 : (shape1 16).BroadcastsInDim (shape2 1 16) (![1] : Fin 1 → Fin (shape2 1 16).rank))
    (h2 : (shape2 1 16).BroadcastsInDim (shape2 287 16) (![0, 1] : Fin 2 → Fin (shape2 287 16).rank))
    (h3 : (shape1 287).BroadcastsInDim (shape2 287 1) (![0] : Fin 1 → Fin (shape2 287 1).rank))
    (h4 : (shape2 287 1).BroadcastsInDim (shape2 287 16) (![0, 1] : Fin 2 → Fin (shape2 287 16).rank))
    (h5 : shape0.BroadcastsInDim (shape2 287 16) (![] : Fin 0 → Fin (shape2 287 16).rank))
    (h : (shape2 287 16).ReducesTo [1] (shape1 287)) (hu : 0 < shape0.numel) (j : Fin 287) :
    Host.reduce IntOp.addi (select (cmpi .eq (broadcastInDim (shape2 287 16) ![0, 1] h4 (broadcastInDim (shape2 287 1) ![0] h3 ie))
        (broadcastInDim (shape2 287 16) ![0, 1] h2 (broadcastInDim (shape2 1 16) ![1] h1 (iotaInDim (shape1 16) 32 0))))
        (broadcastInDim (shape2 287 16) ![0, 1] h2 (broadcastInDim (shape2 1 16) ![1] h1 x))
        (broadcastInDim (shape2 287 16) ![] h5 (constantI shape0 32 0#32))) (constantI shape0 32 0#32) h hu (ix1 j)
      = BitVec.ofNat 32 (f (g j.val)) := by
  have hsel : ∀ q : Fin 16, select (cmpi .eq (broadcastInDim (shape2 287 16) ![0, 1] h4 (broadcastInDim (shape2 287 1) ![0] h3 ie))
        (broadcastInDim (shape2 287 16) ![0, 1] h2 (broadcastInDim (shape2 1 16) ![1] h1 (iotaInDim (shape1 16) 32 0))))
        (broadcastInDim (shape2 287 16) ![0, 1] h2 (broadcastInDim (shape2 1 16) ![1] h1 x))
        (broadcastInDim (shape2 287 16) ![] h5 (constantI shape0 32 0#32)) (ix2 j q)
      = if g j.val = q.val then BitVec.ofNat 32 (f q.val) else 0#32 := fun q => by
    rw [WordCmp.select_at, WordCmp.cmpi_at, bcRows, bcCols, bcCols, bc0, iota1_ap, hie, hx, WordCmp.constantI_at]
    unfold Scalar.select
    have := hg j.val
    have := q.isLt
    exact if_congr (WordCmp.cmpi_eq_ofNat_eq_one_iff (w := 32) (by omega) (by omega)) rfl rfl
  refine (reduce_single _ h hu j ⟨g j.val, hg j.val⟩ fun q hq => ?_).trans ?_
  · rw [hsel, if_neg fun e => hq (Fin.ext e.symm)]
  · rw [hsel, if_pos rfl]

section
include hm hS
/-- Each item's tile. -/
theorem it_word (lo s t : IVec (shape1 287) 32) (hlo : ∀ j : Fin 287, lo (ix1 j) = BitVec.ofNat 32 (bnd S (ieOf S j.val) / 256))
    (hs : ∀ j : Fin 287, s (ix1 j) = BitVec.ofNat 32 (st S (ieOf S j.val)))
    (ht : ∀ j : Fin 287, t (ix1 j) = BitVec.ofNat 32 (itm S j.val)) (j : Fin 287) :
    subi (addi lo t) s (ix1 j) = BitVec.ofNat 32 (itOf S j.val) := by
  have := (ie_spec hm hS j.val).1
  rw [subi_ap, addi_ap, hlo, hs, ht, add_word, sub_word (by omega)]
  rfl
end

/-- An array of words rolled by one. -/
theorem roll_word (x : IVec (shape1 287) 32) (g : ℕ → ℕ) (hx : ∀ j : Fin 287, x (ix1 j) = BitVec.ofNat 32 (g j.val))
    (h1 : (shape1 287).Slices ![286] (shape1 1)) (h2 : (shape1 287).Slices ![0] (shape1 286))
    (h : Shape.Concatenates [shape1 1, shape1 286] (shape1 287) 0) (j : Fin 287) (hj : j.val ≠ 0) :
    concatenate (shape1 287) 0 [⟨shape1 1, extractStridedSlice (shape1 1) ![286] x h1⟩, ⟨shape1 286, extractStridedSlice (shape1 286) ![0] x h2⟩] h (ix1 j)
      = BitVec.ofNat 32 (g (j.val - 1)) := by
  refine (concatenate_pair_apply 0 _ _ h (ix1 j)).trans ((dif_neg (show ¬ j.val < 1 by omega)).trans ?_)
  refine (congrArg (extractStridedSlice (shape1 286) ![0] x h2) (a₂ := ix1 ⟨j.val - 1, by omega⟩) ?_).trans ?_
  · funext b
    match b with
    | ⟨0, _⟩ => exact Fin.ext rfl
  rw [slice1 0 x h2 _ (by show 0 + (j.val - 1) < 287; omega), hx]
  show BitVec.ofNat 32 (g (0 + (j.val - 1))) = _
  rw [Nat.zero_add]

/-- A bit that says whether a grid point is the first or differs from the one before. -/
theorem diff_word (x y : IVec (shape1 287) 32) (g : ℕ → ℕ) (hg : ∀ j, j < 287 → g j < 2 ^ 32) (hx : ∀ j : Fin 287, x (ix1 j) = BitVec.ofNat 32 (g j.val))
    (hy : ∀ j : Fin 287, j.val ≠ 0 → y (ix1 j) = BitVec.ofNat 32 (g (j.val - 1)))
    (hc : shape0.BroadcastsInDim (shape1 287) (![] : Fin 0 → Fin (shape1 287).rank)) (hw : 1 < 32) (j : Fin 287)
    [Decidable (j.val = 0 ∨ g j.val ≠ g (j.val - 1))] :
    extui 32 (ori (cmpi .eq (iotaInDim (shape1 287) 32 0) (broadcastInDim (shape1 287) ![] hc (constantI shape0 32 0#32))) (cmpi .ne x y)) hw (ix1 j)
      = BitVec.ofNat 32 (if j.val = 0 ∨ g j.val ≠ g (j.val - 1) then 1 else 0) := by
  have hj := j.isLt
  rw [WordCmp.extui_at, WordCmp.ori_at, WordCmp.cmpi_at, WordCmp.cmpi_at, iota1_ap, bc0, WordCmp.constantI_at, hx]
  by_cases h0 : j.val = 0
  · rw [if_pos (Or.inl h0), h0, show (0#32 : BitVec 32) = BitVec.ofNat 32 0 from rfl,
      (WordCmp.cmpi_eq_ofNat_eq_one_iff (w := 32) (by omega) (by omega)).mpr rfl]
    generalize IntOp.cmpi .ne (BitVec.ofNat 32 (g 0)) (y (ix1 j)) = b
    revert b; decide
  · rw [hy j h0, show (0#32 : BitVec 32) = BitVec.ofNat 32 0 from rfl,
      (WordCmp.cmpi_eq_ofNat_eq_zero_iff (w := 32) (by omega) (by omega)).mpr h0]
    by_cases h1 : g j.val = g (j.val - 1)
    · rw [if_neg (by omega), (WordCmp.cmpi_ne_ofNat_eq_zero_iff (w := 32) (hg _ hj) (hg _ (by omega))).mpr (not_not.mpr h1)]
      decide
    · rw [if_pos (Or.inr h1), (WordCmp.cmpi_ne_ofNat_eq_one_iff (w := 32) (hg _ hj) (hg _ (by omega))).mpr h1]
      decide

end

end Cert.Moe

end
-- ==== Proof.Order.lean ====
/- The order of the slots: sorted by expert and, within an expert, by slot. -/
module

public import proofs.«01_k».proof.Proof.Tables

@[expose] public section

namespace Cert.Moe

open Idealize.ShloMosaic hiding ix0 ix1 ix2 ix3
open Idealize.ShloMosaic.ValueIdx Idealize.ShloMosaic.Routing

/-- The sort key of slot `p` when slot `p`'s expert is `ef p`. -/
def key (ef : IVec (shape1 69632) 32) (p : Fin 69632) : ℕ := (ef (ix1 p)).toNat * 131072 + p.val
/-- The slot that sorted row `p` comes from. -/
@[irreducible] def ord (ef : IVec (shape1 69632) 32) : Fin 69632 → Fin 69632 := sortedFrom fun a b => decide (key ef a < key ef b)
/-- The sorted row that slot `i` goes to. -/
@[irreducible] def pos (ef : IVec (shape1 69632) 32) : Fin 69632 → Fin 69632 := sortedFrom fun a b => decide ((ord ef a).val < (ord ef b).val)
/-- The expert of each sorted row. -/
def rowE (ef : IVec (shape1 69632) 32) (p : ℕ) : ℕ := if h : p < 69632 then (ef (ix1 (ord ef ⟨p, h⟩))).toNat else 0

theorem rowE_eq (ef : IVec (shape1 69632) 32) (p : Fin 69632) : rowE ef p.val = (ef (ix1 (ord ef p))).toNat := dif_pos p.isLt

theorem key_inj (ef : IVec (shape1 69632) 32) : Function.Injective (key ef) := fun a b h => by
  unfold key at h
  have := a.isLt; have := b.isLt
  exact Fin.ext (by omega)

theorem ord_inj (ef : IVec (shape1 69632) 32) : Function.Injective (ord ef) := by
  unfold ord; exact (sorted_order (key ef) (key_inj ef)).1.1

/-- A slot's row comes from that slot. -/
theorem ord_pos (ef : IVec (shape1 69632) 32) (i : Fin 69632) : ord ef (pos ef i) = i := by
  unfold pos; exact sorted_inverse (ord ef) (ord_inj ef) i

theorem rowE_pos (ef : IVec (shape1 69632) 32) (i : Fin 69632) : rowE ef (pos ef i).val = (ef (ix1 i)).toNat := by
  rw [rowE_eq, ord_pos]

variable {ef : IVec (shape1 69632) 32} (he : ∀ p, (ef (ix1 p)).toNat < 16)
include he

theorem rowE_lt (p : ℕ) (hp : p < 69632) : rowE ef p < 16 := by rw [rowE, dif_pos hp]; exact he _

theorem rowE_mono (a b : ℕ) (h : a ≤ b) (hb : b < 69632) : rowE ef a ≤ rowE ef b := by
  rcases Nat.eq_or_lt_of_le h with rfl | h
  · exact le_refl _
  have hk : key ef (ord ef ⟨a, by omega⟩) < key ef (ord ef ⟨b, hb⟩) := by
    unfold ord; exact (sorted_order (key ef) (key_inj ef)).2 ⟨a, by omega⟩ ⟨b, hb⟩ h
  rw [rowE, rowE, dif_pos (by omega), dif_pos hb]
  unfold key at hk
  have h1 := (ord ef ⟨a, by omega⟩).isLt
  have h2 := (ord ef ⟨b, hb⟩).isLt
  omega

theorem key_lt (p : Fin 69632) : key ef p < 2 ^ 31 := by
  have := he p; have := p.isLt
  unfold key; omega

/-- The keys as words. -/
theorem key_word (hc : shape0.BroadcastsInDim (shape1 69632) (![] : Fin 0 → Fin (shape1 69632).rank)) (p : Fin 69632) :
    addi (muli ef (broadcastInDim (shape1 69632) ![] hc (constantI shape0 32 131072#32))) (iotaInDim (shape1 69632) 32 0) (ix1 p)
      = BitVec.ofNat 32 (key ef p) := by
  rw [addi_ap, muli_ap, bc0, iota1_ap, WordCmp.constantI_at]
  unfold key
  rw [BitVec.ofNat_add, BitVec.ofNat_mul, BitVec.ofNat_toNat, BitVec.setWidth_eq]

theorem key_div (p : Fin 69632) : key ef p / 131072 = (ef (ix1 p)).toNat := by
  have := p.isLt
  unfold key; omega
theorem key_mod (p : Fin 69632) : key ef p % 131072 = p.val := by
  have := p.isLt
  unfold key; omega

omit he in
theorem shr17 {n : ℕ} (h : n < 2 ^ 31) : IntOp.shrsi .host (BitVec.ofNat 32 n) 17#32 = BitVec.ofNat 32 (n / 131072) := by
  unfold IntOp.shrsi
  rw [if_pos (by decide)]
  have hm : (BitVec.ofNat 32 n).msb = false := by
    rw [BitVec.msb_eq_false_iff_two_mul_lt, BitVec.toNat_ofNat]; omega
  rw [BitVec.sshiftRight', BitVec.sshiftRight_eq_of_msb_false hm]
  apply BitVec.eq_of_toNat_eq
  rw [BitVec.toNat_ushiftRight, BitVec.toNat_ofNat, BitVec.toNat_ofNat, Nat.shiftRight_eq_div_pow]
  show n % 2 ^ 32 / 131072 = n / 131072 % 2 ^ 32
  omega
omit he in
theorem and17 (n : ℕ) (h : n < 2 ^ 31) : IntOp.andi (BitVec.ofNat 32 n) 131071#32 = BitVec.ofNat 32 (n % 131072) := by
  apply BitVec.eq_of_toNat_eq
  show (BitVec.ofNat 32 n &&& 131071#32).toNat = _
  rw [BitVec.toNat_and, show (131071#32 : BitVec 32).toNat = 2 ^ 17 - 1 from rfl, Nat.and_two_pow_sub_one_eq_mod, BitVec.toNat_ofNat, BitVec.toNat_ofNat]
  show n % 2 ^ 32 % 131072 = n % 131072 % 2 ^ 32
  omega

section
variable (x : IVec (shape1 69632) 32) (hx : ∀ p, x (ix1 p) = BitVec.ofNat 32 (key ef (ord ef p)))
include hx

/-- The sorted rows' experts as words. -/
theorem row_word (hc : shape0.BroadcastsInDim (shape1 69632) (![] : Fin 0 → Fin (shape1 69632).rank)) (p : Fin 69632) :
    Host.shrsi x (broadcastInDim (shape1 69632) ![] hc (constantI shape0 32 17#32)) (ix1 p) = BitVec.ofNat 32 (rowE ef p.val) := by
  refine (congrArg₂ (IntOp.shrsi .host) (hx p) (bc0 hc _ _)).trans ((shr17 (key_lt he _)).trans ?_)
  rw [key_div he, rowE_eq]

/-- The sorted rows' slots as words. -/
theorem slot_word (hc : shape0.BroadcastsInDim (shape1 69632) (![] : Fin 0 → Fin (shape1 69632).rank)) (p : Fin 69632) :
    andi x (broadcastInDim (shape1 69632) ![] hc (constantI shape0 32 131071#32)) (ix1 p) = BitVec.ofNat 32 (ord ef p).val := by
  refine (congrArg₂ IntOp.andi (hx p) (bc0 hc _ _)).trans ((and17 _ (key_lt he _)).trans ?_)
  rw [key_mod he]
end

omit he in
/-- The sorted rows' tokens as words. -/
theorem token_word (x : IVec (shape1 69632) 32) (hx : ∀ p, x (ix1 p) = BitVec.ofNat 32 (ord ef p).val)
    (hc : shape0.BroadcastsInDim (shape1 69632) (![] : Fin 0 → Fin (shape1 69632).rank)) (p : Fin 69632) :
    select (cmpi .sge x (broadcastInDim (shape1 69632) ![] hc (constantI shape0 32 34816#32)))
      (subi x (broadcastInDim (shape1 69632) ![] hc (constantI shape0 32 34816#32))) x (ix1 p) = BitVec.ofNat 32 ((ord ef p).val % 34816) := by
  have := (ord ef p).isLt
  rw [WordCmp.select_at, WordCmp.cmpi_at, subi_ap, bc0, WordCmp.constantI_at, hx, show (34816#32 : BitVec 32) = BitVec.ofNat 32 34816 from rfl]
  generalize (ord ef p).val = n at *
  by_cases h : 34816 ≤ n
  · rw [(WordCmp.cmpi_sge_ofNat_eq_one_iff (w := 32) (by omega) (by omega)).mpr h, sub_word h]
    refine (if_pos rfl).trans (congrArg (BitVec.ofNat 32) ?_)
    omega
  · rw [(WordCmp.cmpi_sge_ofNat_eq_zero_iff (w := 32) (by omega) (by omega)).mpr h]
    refine (if_neg (by decide)).trans (congrArg (BitVec.ofNat 32) ?_)
    omega

omit he in
theorem cast10 (x : IVec (shape1 1) 32) (h : (shape1 1).ShapeCasts shape0) : shapeCast shape0 x h ix0 = x (ix1 (0 : Fin 1)) := by
  unfold shapeCast
  refine congrArg x (funext fun a => ?_)
  match a with
  | ⟨0, _⟩ => exact Subsingleton.elim (α := Fin 1) _ _
omit he in
theorem cast01 (x : IVec shape0 32) (h : shape0.ShapeCasts (shape1 1)) : shapeCast (shape1 1) x h (ix1 (0 : Fin 1)) = x ix0 := by
  unfold shapeCast
  exact congrArg x (funext fun a => a.elim0)

end Cert.Moe
end
-- ==== Proof.Prefix.lean ====
/- The schedule the host lines leave in the tables: for expert numbers in range it is the valid one of the
   sorted slots. -/
module

public import proofs.«01_k».proof.Proof.Reads
public import proofs.«01_k».proof.Proof.Order

@[expose] public section

set_option maxRecDepth 4096

noncomputable section

namespace Cert.KernelIdeal.Moe

open Cert.KernelIdeal Cert.KernelIdeal.Gen Cert.Moe
open Idealize.ShloMosaic hiding ix0 ix1 ix2 ix3
open Idealize.ShloMosaic.TcCoe Idealize.ShloMosaic.ValueIdx Idealize.ShloMosaic.Routing

variable {F : FTy → Type} [FloatOps F] {m : (ℓ : Loc nD τ sig) → Buf (Elt F) ℓ} {c : Dev nD}

/-- Every expert number of core `c` is one of the sixteen. -/
def InRange (m : (ℓ : Loc nD τ sig) → Buf (Elt F) ℓ) (c : Dev nD) : Prop := ∀ p : Fin 69632, (eflat m c (ix1 p)).toNat < 16

variable (h : InRange m c)
/-- The experts of core `c`'s sorted rows. -/
abbrev rows (m : (ℓ : Loc nD τ sig) → Buf (Elt F) ℓ) (c : Dev nD) : ℕ → ℕ := rowE (eflat m c)
abbrev schedM (m : (ℓ : Loc nD τ sig) → Buf (Elt F) ℓ) (c : Dev nD) : Items := sched (rows m c)

include h
theorem hmono : ∀ a b, a ≤ b → b < 69632 → rows m c a ≤ rows m c b := rowE_mono h
theorem hrow : ∀ p, p < 69632 → rows m c p < 16 := rowE_lt h

theorem v6 (p : Fin 69632) : (V m c main_v6 : S69632.Idx → BitVec 32) (ix1 p) = BitVec.ofNat 32 (key (eflat m c) (ord (eflat m c) p)) := by
  rw [rd6]
  unfold ord
  exact sort_words _ (key (eflat m c)) (key_word h _) (key_lt h) _ rfl p
theorem v8 (p : Fin 69632) : (V m c main_v8 : S69632.Idx → BitVec 32) (ix1 p) = BitVec.ofNat 32 (rows m c p.val) := by
  rw [rd8]; exact row_word h _ (v6 h) _ p
theorem v10 (p : Fin 69632) : (V m c main_v10 : S69632.Idx → BitVec 32) (ix1 p) = BitVec.ofNat 32 (ord (eflat m c) p).val := by
  rw [rd10]; exact slot_word h _ (v6 h) _ p
/-- The position of each slot among the sorted rows. -/
theorem v11 (i : Fin 69632) : (V m c main_v11_1 : S69632.Idx → BitVec 32) (ix1 i) = BitVec.ofNat 32 (pos (eflat m c) i).val := by
  rw [rd11]
  unfold pos
  exact sort2_words _ _ (fun i => (ord (eflat m c) i).val) (v10 h) (fun i => by have := (ord (eflat m c) i).isLt; omega) _ rfl i
theorem v19 (e : Fin 17) : (V m c main_v19 : S17.Idx → BitVec 32) (ix1 e) = BitVec.ofNat 32 (bnd (rows m c) e.val) := by
  rw [rd19]; exact bnd_word (hrow h) _ (v8 h) _ _ _ _ _ _ _ e
theorem v21 (e : Fin 16) : (V m c main_v21 : S16.Idx → BitVec 32) (ix1 e) = BitVec.ofNat 32 (bnd (rows m c) e.val / 256) := by
  rw [rd21]; exact lo_word _ (v19 h) _ _ e
theorem v32 (e : Fin 16) : (V m c main_v32 : S16.Idx → BitVec 32) (ix1 e) = BitVec.ofNat 32 (cnt (rows m c) e.val) := by
  rw [rd32]; exact cnt_word _ (v19 h) _ _ _ _ (v21 h) e
theorem v33 (e : Fin 16) : (V m c main_v33 : S16.Idx → BitVec 32) (ix1 e) = BitVec.ofNat 32 (st (rows m c) (e.val + 1)) := by
  rw [rd33]; exact end_word _ (v32 h) _ _ _ e
theorem v34 (e : Fin 16) : (V m c main_v34 : S16.Idx → BitVec 32) (ix1 e) = BitVec.ofNat 32 (st (rows m c) e.val) := by
  rw [rd34]; exact start_word _ _ (v32 h) (v33 h) e
theorem v36 : (V m c main_v36 : S_.Idx → BitVec 32) ValueIdx.ix0 = BitVec.ofNat 32 (st (rows m c) 16) := by
  rw [rd36, cast10]
  exact (slice1 15 _ _ (0 : Fin 1) (by decide)).trans (v33 h ⟨15, by decide⟩)
theorem v40 (j : Fin 287) : (V m c main_v40 : S287.Idx → BitVec 32) (ix1 j) = BitVec.ofNat 32 (itm (rows m c) j.val) := by
  rw [rd40]; exact itm_word (hmono h) (hrow h) _ (v36 h) _ j
theorem v49 (j : Fin 287) : (V m c main_v49 : S287.Idx → BitVec 32) (ix1 j) = BitVec.ofNat 32 (ieOf (rows m c) j.val) := by
  rw [rd49]; exact ie_word (hmono h) (hrow h) _ (v33 h) _ (v40 h) _ _ _ _ _ _ _ _ j
theorem pickM (f : ℕ → ℕ) (x : S16.Idx → BitVec 32) (hx : ∀ e : Fin 16, x (ix1 e) = BitVec.ofNat 32 (f e.val)) (j : Fin 287) :
    pick (V m c main_v49 : S287.Idx → BitVec 32) x (ix1 j) = BitVec.ofNat 32 (f (ieOf (rows m c) j.val)) :=
  pick_word f x hx _ (ieOf (rows m c)) (ie_lt (hmono h) (hrow h)) (v49 h) _ _ _ _ _ _ _ j
theorem v63 (j : Fin 287) : (V m c main_v63 : S287.Idx → BitVec 32) (ix1 j) = BitVec.ofNat 32 (itOf (rows m c) j.val) := by
  rw [rd63]
  exact it_word (hmono h) (hrow h) _ _ _ (pickM h (fun e => bnd (rows m c) e / 256) _ (v21 h)) (pickM h (st (rows m c)) _ (v34 h)) (v40 h) j
theorem v81 (j : Fin 287) : (V m c main_v81 : S287.Idx → BitVec 32) (ix1 j) = BitVec.ofNat 32 (bnd (rows m c) (ieOf (rows m c) j.val)) := by
  rw [rd81]; exact pickM h (bnd (rows m c)) _ (bnd_lo _ (v19 h) _) j
theorem v85 (j : Fin 287) : (V m c main_v85 : S287.Idx → BitVec 32) (ix1 j) = BitVec.ofNat 32 (bnd (rows m c) (ieOf (rows m c) j.val + 1)) := by
  rw [rd85]; exact pickM h (fun e => bnd (rows m c) (e + 1)) _ (bnd_hi _ (v19 h) _) j
theorem v86 : (V m c main_v86 : S1.Idx → BitVec 32) (ix1 (0 : Fin 1)) = BitVec.ofNat 32 (st (rows m c) 16) := by
  rw [rd86, cast01]; exact v36 h

open Classical in
/-- The flags: one if the item takes up another expert, two if it starts a tile. -/
theorem v77 (j : Fin 287) : (V m c main_v77 : S287.Idx → BitVec 32) (ix1 j)
    = BitVec.ofNat 32 (if (schedM m c).New j.val then 1 else 0) + 2#32 * BitVec.ofNat 32 (if (schedM m c).First j.val then 1 else 0) := by
  rw [rd77, addi_ap, muli_ap, bc0, WordCmp.constantI_at]
  have hv := sched_valid (hmono h) (hrow h)
  refine congrArg₂ (fun a b => a + 2#32 * b) ?_ ?_
  · refine (diff_word _ (V m c main_v67 : S287.Idx → BitVec 32) (ieOf (rows m c)) (fun j hj => by have := hv.ie_lt j hj; exact lt_trans this (by decide)) (v49 h) (fun j hj => by
      rw [rd67]; exact roll_word _ _ (v49 h) _ _ _ j hj) _ _ j).trans (congrArg (BitVec.ofNat 32) (if_congr Iff.rfl rfl rfl))
  · refine (diff_word _ (V m c main_v70 : S287.Idx → BitVec 32) (itOf (rows m c)) (fun j hj => by have := hv.it_lt j hj; exact lt_trans this (by decide)) (v63 h) (fun j hj => by
      rw [rd70]; exact roll_word _ _ (v63 h) _ _ _ j hj) _ _ j).trans (congrArg (BitVec.ofNat 32) (if_congr Iff.rfl rfl rfl))

omit h in
theorem ent_eq (i : grid0.Coords) : ent i = (ix1 ⟨(i 0).val, coord_lt i⟩ : S287.Idx) := by
  funext a; match a with | ⟨0, _⟩ => rfl
omit h in
theorem ent1_eq : ent1 = (ix1 (0 : Fin 1) : S1.Idx) := by
  funext a; match a with | ⟨0, _⟩ => rfl

omit h in
theorem flag_ld (a b : Prop) [Decidable a] [Decidable b] :
    loadCond (BitVec.ofNat 32 (if a then 1 else 0) + 2#32 * BitVec.ofNat 32 (if b then 1 else 0)) = 1#1 ↔ a := by
  by_cases ha : a <;> by_cases hb : b <;> simp only [ha, hb, if_true, if_false] <;> decide
omit h in
theorem flag_fst (a b : Prop) [Decidable a] [Decidable b] :
    k0_cond3 (BitVec.ofNat 32 (if a then 1 else 0) + 2#32 * BitVec.ofNat 32 (if b then 1 else 0)) = 1#1 ↔ b := by
  by_cases ha : a <;> by_cases hb : b <;> simp only [ha, hb, if_true, if_false] <;> decide
omit h in
theorem flag_cnt (a b : Prop) [Decidable a] [Decidable b] :
    k0_cond4 (BitVec.ofNat 32 (if a then 1 else 0) + 2#32 * BitVec.ofNat 32 (if b then 1 else 0)) = 1#1 ↔ ¬ b := by
  by_cases ha : a <;> by_cases hb : b <;> simp only [ha, hb, if_true, if_false] <;> decide

omit h in
/-- The tables hold the schedule of the sorted slots. -/
theorem entry (h : InRange m (0 : Dev nD)) : Entry m (schedM m (0 : Dev nD)) where
  valid := sched_valid (hmono h) (hrow h)
  tab := by
    classical
    refine ⟨fun i => ?_, fun i => ?_, fun i => ?_, fun i => ?_, ?_, fun i => ?_, fun i => ?_, fun i => ?_⟩
    · rw [ent_eq]; exact v63 h _
    · rw [ent_eq]; exact v49 h _
    · rw [ent_eq]; exact v81 h _
    · rw [ent_eq]; exact v85 h _
    · rw [ent1_eq]; exact v86 h
    · rw [ent_eq]
      have e : (tbl m 2 : S287.Idx → BitVec 32) (ix1 ⟨(i 0).val, coord_lt i⟩) = _ := v77 h ⟨(i 0).val, coord_lt i⟩
      rw [e]; exact flag_ld _ _
    · rw [ent_eq]
      have e : (tbl m 2 : S287.Idx → BitVec 32) (ix1 ⟨(i 0).val, coord_lt i⟩) = _ := v77 h ⟨(i 0).val, coord_lt i⟩
      rw [e]; exact flag_fst _ _
    · rw [ent_eq]
      have e : (tbl m 2 : S287.Idx → BitVec 32) (ix1 ⟨(i 0).val, coord_lt i⟩) = _ := v77 h ⟨(i 0).val, coord_lt i⟩
      rw [e]; exact flag_cnt _ _

/-- The sorted rows: row `p` is the row of its slot's token. -/
theorem v93 (p : Fin 69632) (k : Fin 2048) : (V m c main_v93 : S69632x2048.Idx → F .bf16) (ix2 p k)
    = shapeCast S34816x2048 (m (c, Proc.devRef .tc main_arg0) : S8x4352x2048.Idx → F .bf16) shapeCasts_S8x4352x2048_S34816x2048
        (ix2 ⟨(ord (eflat m c) p).val % 34816, Nat.mod_lt _ (by decide)⟩ k) := by
  rw [rd93]
  refine gather_row _ rfl rfl rfl rfl rfl _ _ p k ⟨(ord (eflat m c) p).val % 34816, Nat.mod_lt _ (by decide)⟩ ?_ (by decide)
  rw [bcCol]
  exact token_word _ (v10 h) _ p

end Cert.KernelIdeal.Moe
end
end
-- ==== Proof.Out.lean ====
/- What the program leaves: the output array row by row, the two results, the arguments unchanged. -/
module

public import proofs.«01_k».proof.Proof.Region
public import proofs.«01_k».proof.Proof.Prefix

@[expose] public section

set_option maxRecDepth 16384
set_option maxHeartbeats 4000000

noncomputable section

namespace Cert.KernelIdeal.Moe

open Cert.KernelIdeal Cert.KernelIdeal.Gen Cert.Moe
open Idealize.ShloMosaic hiding ix0 ix1 ix2 ix3
open Idealize.ShloMosaic.TcCoe Idealize.ShloMosaic.ValueIdx Idealize.ShloMosaic.Routing Idealize.SL.Sem Idealize.ShloMosaic.StableHlo
open Idealize.ShloMosaic.Pipeline (Dat Cfg Window)

variable {F : FTy → Type} [FloatOps F] {m : (ℓ : Loc nD τ sig) → Buf (Elt F) ℓ} {I : Items}

/-- A row's place within its tile. -/
def tileIx (p : ℕ) (q : Fin 2048) : S256x2048.Idx := fun | 0 => ⟨p % 256, Nat.mod_lt _ (by decide)⟩ | 1 => q

/-- The output array: each sorted row through its own expert, as the body computes the row's tile. -/
def outArr (m : (ℓ : Loc nD τ sig) → Buf (Elt F) ℓ) (I : Items) (c : Dev nD) : Vec F S69632x2048 .bf16 := fun i =>
  Y m c ((i 0).val / 256) (I.S (i 0).val) (tileIx (i 0).val (i 1))

theorem emb4 (h : Entry m I) (t : Fin (cfgM h).N) (y : S256x2048.Idx) :
    ((((cfgM h).win 4).blk t).view.emb y : S69632x2048.Idx) = rowIx (256 * I.it t.val + (y 0).val) (y 1) := by
  refine funext fun (x : Fin 2) => Fin.ext ?_
  refine (((cfgM h).win 4).rect_emb_val t y x).trans ?_
  rw [index4]
  have hl := h.valid.it_lt _ (t_lt h t)
  match x with
  | 0 =>
    have hy : (y 0).val < 256 := (y 0).isLt
    show I.it t.val * 256 + (y 0).val = (256 * I.it t.val + (y 0).val) % 69632
    omega
  | 1 => show 0 * 2048 + (y 1).val = (y 1).val; omega

theorem out_block (h : Entry m I) (c : Dev nD) (t : Fin (cfgM h).N) (hl : I.Last t.val) (y : S256x2048.Idx) :
    outC m I c t.val y = outArr m I c (rowIx (256 * I.it t.val + (y 0).val) (y 1)) := by
  have ht := t_lt h t
  have hT := h.valid.it_lt _ ht
  have hy : (y 0).val < 256 := (y 0).isLt
  have hS := h.valid.last _ ht hl (256 * I.it t.val + (y 0).val) (by omega) (by omega)
  unfold outC
  rw [if_pos hS]
  show _ = Y m c ((256 * I.it t.val + (y 0).val) % 69632 / 256) (I.S ((256 * I.it t.val + (y 0).val) % 69632)) (tileIx ((256 * I.it t.val + (y 0).val) % 69632) (y 1))
  rw [Nat.mod_eq_of_lt (show 256 * I.it t.val + (y 0).val < 69632 by omega), show (256 * I.it t.val + (y 0).val) / 256 = I.it t.val by omega]
  refine congrArg _ (funext fun (x : Fin 2) => Fin.ext ?_)
  match x with
  | 0 => show (y 0).val = (256 * I.it t.val + (y 0).val) % 256; omega
  | 1 => rfl

theorem arr_out (h : Entry m I) (c : Dev nD) : (datM h c).arrAt 4 (cfgM h).N = outArr m I c := by
  refine (datM h c).arrAt_eq_of_emb 4 (outArr m I c) (fun t hf (y : S256x2048.Idx) => ?_) (fun (i : S69632x2048.Idx) => ?_)
  · have hl := (flush4 h t).mp hf
    exact (out_block h c t hl y).trans (congrArg (outArr m I c) (emb4 h t y).symm)
  · have hi : (i 0).val < 69632 := (i 0).isLt
    obtain ⟨t, ht, hT, hl⟩ := h.valid.cover ((i 0).val / 256) (by omega)
    refine ⟨⟨t, lt_of_lt_of_eq ht (N_eq h).symm⟩, (flush4 h _).mpr hl, ?_⟩
    have e : ((((cfgM h).win 4).blk ⟨t, lt_of_lt_of_eq ht (N_eq h).symm⟩).view.emb (tileIx (i 0).val (i 1)) : S69632x2048.Idx) = i := by
      rw [emb4]
      refine funext fun (x : Fin 2) => Fin.ext ?_
      match x with
      | 0 => show (256 * I.it t + (i 0).val % 256) % 69632 = (i 0).val; omega
      | 1 => rfl
    exact e ▸ View.emb_mem_set _ _

/-! ## The tail -/

theorem tail97 (W : Valuation τ sig (Elt F)) : (StableHlo.after (List.flatten tailOps) W (Proc.devRef .tc main_v97) : S8x4352x2048.Idx → F .bf16)
    = shapeCast S8x4352x2048 (Host.gather gather_S69632x2048_S34816x1_S34816x2048_1_0_n_n_0_1_12048 (W (Proc.devRef .tc main_v94) : S69632x2048.Idx → F .bf16)
      (broadcastInDim S34816x1 ![0] bcast_S34816_S34816x1_0 (extractStridedSlice S34816 ![0] (W (Proc.devRef .tc main_v11_1) : S69632.Idx → BitVec 32) slices_S69632_S34816_0)))
      shapeCasts_S34816x2048_S8x4352x2048 := by
  simp only [tailOps, hostOps1, hostOps1_1, hostOps1_2, hostOps1_3, hostOps1_4, TRef.binary, TRef.nullary, TRef.unary, TRef.ternary, TRef.toBuf, TRef.ofBuf, cast_eq]
  after_reads_simp <;> rfl
theorem tail100 (W : Valuation τ sig (Elt F)) : (StableHlo.after (List.flatten tailOps) W (Proc.devRef .tc main_v100) : S8x4352x2048.Idx → F .bf16)
    = shapeCast S8x4352x2048 (Host.gather gather_S69632x2048_S34816x1_S34816x2048_1_0_n_n_0_1_12048 (W (Proc.devRef .tc main_v94) : S69632x2048.Idx → F .bf16)
      (broadcastInDim S34816x1 ![0] bcast_S34816_S34816x1_0 (extractStridedSlice S34816 ![34816] (W (Proc.devRef .tc main_v11_1) : S69632.Idx → BitVec 32) slices_S69632_S34816_34816)))
      shapeCasts_S34816x2048_S8x4352x2048 := by
  simp only [tailOps, hostOps1, hostOps1_1, hostOps1_2, hostOps1_3, hostOps1_4, TRef.binary, TRef.nullary, TRef.unary, TRef.ternary, TRef.toBuf, TRef.ofBuf, cast_eq]
  after_reads_simp <;> rfl
theorem tailArg0 (W : Valuation τ sig (Elt F)) : StableHlo.after (List.flatten tailOps) W (Proc.devRef .tc main_arg0) = W (Proc.devRef .tc main_arg0) := by
  simp only [tailOps, hostOps1, hostOps1_1, hostOps1_2, hostOps1_3, hostOps1_4, TRef.binary, TRef.nullary, TRef.unary, TRef.ternary, TRef.toBuf, TRef.ofBuf, cast_eq]
  after_reads_simp
theorem tailArg1 (W : Valuation τ sig (Elt F)) : StableHlo.after (List.flatten tailOps) W (Proc.devRef .tc main_arg1) = W (Proc.devRef .tc main_arg1) := by
  simp only [tailOps, hostOps1, hostOps1_1, hostOps1_2, hostOps1_3, hostOps1_4, TRef.binary, TRef.nullary, TRef.unary, TRef.ternary, TRef.toBuf, TRef.ofBuf, cast_eq]
  after_reads_simp

/-! ## The arguments before the launch -/

theorem preArg (b : Ref sig .tc) (hb : b = main_arg0 ∨ b = main_arg1 ∨ b = main_arg2 ∨ b = main_arg3 ∨ b = main_arg4) (c : Dev nD) :
    V m c b = m (c, Proc.devRef .tc b) := by
  rcases hb with rfl | rfl | rfl | rfl | rfl <;>
  · simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, TRef.binary, TRef.nullary, TRef.unary, TRef.ternary, TRef.toBuf, TRef.ofBuf, cast_eq]
    after_reads_simp

/-! ## The run -/

/-- The first and the second result: the output array's rows at the slots' positions. -/
def res1 (m : (ℓ : Loc nD τ sig) → Buf (Elt F) ℓ) (c : Dev nD) : S8x4352x2048.Idx → F .bf16 :=
  shapeCast S8x4352x2048 (Host.gather gather_S69632x2048_S34816x1_S34816x2048_1_0_n_n_0_1_12048 (outArr m (schedM m c) c)
      (broadcastInDim S34816x1 ![0] bcast_S34816_S34816x1_0 (extractStridedSlice S34816 ![0] (V m c main_v11_1 : S69632.Idx → BitVec 32) slices_S69632_S34816_0)))
      shapeCasts_S34816x2048_S8x4352x2048
def res2 (m : (ℓ : Loc nD τ sig) → Buf (Elt F) ℓ) (c : Dev nD) : S8x4352x2048.Idx → F .bf16 :=
  shapeCast S8x4352x2048 (Host.gather gather_S69632x2048_S34816x1_S34816x2048_1_0_n_n_0_1_12048 (outArr m (schedM m c) c)
      (broadcastInDim S34816x1 ![0] bcast_S34816_S34816x1_0 (extractStridedSlice S34816 ![34816] (V m c main_v11_1 : S69632.Idx → BitVec 32) slices_S69632_S34816_34816)))
      shapeCasts_S34816x2048_S8x4352x2048

/-- The buffers the tail starts from. -/
abbrev exitM (h : Entry m I) (c : Dev nD) : Valuation τ sig (Elt F) :=
  Pipeline.withArrays (Pipeline.pin (pcfgs (F := F)) (fun _ => adm h) 0).spec c (V0 m c) fun w => (dats h 0 c).arrAt w (Pipeline.pin (pcfgs (F := F)) (fun _ => adm h) 0).N
theorem afterTail_eq (h : Entry m I) (c : Dev nD) (b : Ref sig .tc) : Pipeline.afterTail (pcfgs (F := F)) (fun _ => adm h) (dats h) 0 (V0 m) tailOps c b
    = StableHlo.after (List.flatten tailOps) (exitM h c) (Proc.devRef .tc b) := rfl
theorem arr_inj : Function.Injective (Pipeline.arrRef spec0) := fun a b => by revert a b; decide
theorem exit94 (h : Entry m I) (c : Dev nD) : (exitM h c (Proc.devRef .tc main_v94) : S69632x2048.Idx → F .bf16) = outArr m I c :=
  (Pipeline.withArrays_arr spec0 arr_inj c (V0 m c) (fun w => (datM h c).arrAt w (cfgM h).N) 4).trans (arr_out h c)
theorem exit_rest (h : Entry m I) (c : Dev nD) (b : Ref sig .tc) (hb : ∀ w, Pipeline.arrRef spec0 w ≠ b) : exitM h c (Proc.devRef .tc b) = V m c b :=
  Pipeline.withArrays_of_ne spec0 c (V0 m c) (fun w => (datM h c).arrAt w (cfgM h).N) b hb

theorem inp_keep (h : Entry m I) (c : Dev nD) (w : Fin (cfgM h).W) (hw : ((cfgM h).win w).isOut = false) (N : ℕ) :
    (datM h c).arrAt w N = V m c (Pipeline.arrRef spec0 w) := ((datM h c).arrAt_in w hw N).trans (datA h c w)

/-- Every execution of the program ends, its two results the output array's rows at the slots' positions, its arguments
    as they were and no semaphore held. -/
theorem run_out (hR : InRange m (0 : Dev nD)) (ρ : Dev nD → PrngReg) : θ_run defs (onTc (τ := τ) (main (F := F))) ⟨m, fun _ => 0, ρ⟩ (fun r => (∀ c : Dev nD,
      r.2.mem ((c.tc : Thread nD τ).loc main_v97) = res1 m c ∧ r.2.mem ((c.tc : Thread nD τ).loc main_v100) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono ?_ (run_main ρ (entry hR))
  rintro r ⟨hp, hs⟩
  refine ⟨fun c => ?_, hs⟩
  obtain rfl : c = 0 := Subsingleton.elim _ _
  obtain ⟨hw, hb⟩ := hp 0
  have e11 := exit_rest (entry hR) (0 : Dev nD) main_v11_1 (by decide)
  refine ⟨?_, ?_, ?_, ?_, ?_, ?_, ?_⟩
  · refine (hb main_v97 (Pipeline.mem_restRefs_of (win := spec0) main_v97 rfl (by decide))).trans ((afterTail_eq _ _ _).trans ((tail97 _).trans ?_))
    rw [exit94, e11]; rfl
  · refine (hb main_v100 (Pipeline.mem_restRefs_of (win := spec0) main_v100 rfl (by decide))).trans ((afterTail_eq _ _ _).trans ((tail100 _).trans ?_))
    rw [exit94, e11]; rfl
  · exact (hb main_arg0 (Pipeline.mem_restRefs_of (win := spec0) main_arg0 rfl (by decide))).trans ((afterTail_eq _ _ _).trans ((tailArg0 _).trans
      ((exit_rest (entry hR) 0 main_arg0 (by decide)).trans (preArg main_arg0 (by decide) 0))))
  · exact (hb main_arg1 (Pipeline.mem_restRefs_of (win := spec0) main_arg1 rfl (by decide))).trans ((afterTail_eq _ _ _).trans ((tailArg1 _).trans
      ((exit_rest (entry hR) 0 main_arg1 (by decide)).trans (preArg main_arg1 (by decide) 0))))
  · exact (hw 1).trans ((inp_keep (entry hR) 0 1 rfl _).trans (preArg main_arg2 (by decide) 0))
  · exact (hw 2).trans ((inp_keep (entry hR) 0 2 rfl _).trans (preArg main_arg3 (by decide) 0))
  · exact (hw 3).trans ((inp_keep (entry hR) 0 3 rfl _).trans (preArg main_arg4 (by decide) 0))

end Cert.KernelIdeal.Moe
end
end
-- ==== Proof.Bits.Out.lean ====
/- The program as it stands, before any rewriting: every run ends with the arguments unchanged. -/
module

public import proofs.«01_k».proof.Proof.Bits.Region
public import proofs.«01_k».proof.Proof.Bits.Prefix

@[expose] public section

set_option maxRecDepth 16384
set_option maxHeartbeats 4000000

noncomputable section

namespace Cert.Kernel.Moe

open Cert.Kernel Cert.Kernel.Gen Cert.Moe
open Idealize.ShloMosaic hiding ix0 ix1 ix2 ix3
open Idealize.ShloMosaic.TcCoe Idealize.ShloMosaic.ValueIdx Idealize.ShloMosaic.Routing Idealize.SL.Sem Idealize.ShloMosaic.StableHlo
open Idealize.ShloMosaic.Pipeline (Dat Cfg Window)

variable {F : FTy → Type} [FloatOps F] {m : (ℓ : Loc nD τ sig) → Buf (Elt F) ℓ} {I : Items}

/-! ## The tail -/

theorem tailArg0 (W : Valuation τ sig (Elt F)) : StableHlo.after (List.flatten tailOps) W (Proc.devRef .tc main_arg0) = W (Proc.devRef .tc main_arg0) := by
  simp only [tailOps, hostOps1, hostOps1_1, hostOps1_2, hostOps1_3, hostOps1_4, TRef.binary, TRef.nullary, TRef.unary, TRef.ternary, TRef.toBuf, TRef.ofBuf, cast_eq]
  after_reads_simp
theorem tailArg1 (W : Valuation τ sig (Elt F)) : StableHlo.after (List.flatten tailOps) W (Proc.devRef .tc main_arg1) = W (Proc.devRef .tc main_arg1) := by
  simp only [tailOps, hostOps1, hostOps1_1, hostOps1_2, hostOps1_3, hostOps1_4, TRef.binary, TRef.nullary, TRef.unary, TRef.ternary, TRef.toBuf, TRef.ofBuf, cast_eq]
  after_reads_simp

/-! ## The arguments before the launch -/

theorem preArg (b : Ref sig .tc) (hb : b = main_arg0 ∨ b = main_arg1 ∨ b = main_arg2 ∨ b = main_arg3 ∨ b = main_arg4) (c : Dev nD) :
    V m c b = m (c, Proc.devRef .tc b) := by
  rcases hb with rfl | rfl | rfl | rfl | rfl <;>
  · simp only [V, V0, pre0Ops, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, TRef.binary, TRef.nullary, TRef.unary, TRef.ternary, TRef.toBuf, TRef.ofBuf, cast_eq]
    after_reads_simp

/-! ## The run -/

/-- The buffers the tail starts from. -/
abbrev exitM (h : Entry m I) (c : Dev nD) : Valuation τ sig (Elt F) :=
  Pipeline.withArrays (Pipeline.pin (pcfgs (F := F)) (fun _ => adm h) 0).spec c (V0 m c) fun w => (dats h 0 c).arrAt w (Pipeline.pin (pcfgs (F := F)) (fun _ => adm h) 0).N
theorem afterTail_eq (h : Entry m I) (c : Dev nD) (b : Ref sig .tc) : Pipeline.afterTail (pcfgs (F := F)) (fun _ => adm h) (dats h) 0 (V0 m) tailOps c b
    = StableHlo.after (List.flatten tailOps) (exitM h c) (Proc.devRef .tc b) := rfl
theorem exit_rest (h : Entry m I) (c : Dev nD) (b : Ref sig .tc) (hb : ∀ w, Pipeline.arrRef spec0 w ≠ b) : exitM h c (Proc.devRef .tc b) = V m c b :=
  Pipeline.withArrays_of_ne spec0 c (V0 m c) (fun w => (datM h c).arrAt w (cfgM h).N) b hb

theorem inp_keep (h : Entry m I) (c : Dev nD) (w : Fin (cfgM h).W) (hw : ((cfgM h).win w).isOut = false) (N : ℕ) :
    (datM h c).arrAt w N = V m c (Pipeline.arrRef spec0 w) := ((datM h c).arrAt_in w hw N).trans (datA h c w)

/-- Every execution of the program ends, its arguments as they were and no semaphore held. -/
theorem run_out (hR : InRange m (0 : Dev nD)) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono ?_ (run_main ρ (entry hR))
  rintro r ⟨hp, hs⟩
  refine ⟨fun c => ?_, hs⟩
  obtain rfl : c = 0 := Subsingleton.elim _ _
  obtain ⟨hw, hb⟩ := hp 0
  refine ⟨?_, ?_, ?_, ?_, ?_⟩
  · exact (hb main_arg0 (Pipeline.mem_restRefs_of (win := spec0) main_arg0 rfl (by decide))).trans ((afterTail_eq _ _ _).trans ((tailArg0 _).trans
      ((exit_rest (entry hR) 0 main_arg0 (by decide)).trans (preArg main_arg0 (by decide) 0))))
  · exact (hb main_arg1 (Pipeline.mem_restRefs_of (win := spec0) main_arg1 rfl (by decide))).trans ((afterTail_eq _ _ _).trans ((tailArg1 _).trans
      ((exit_rest (entry hR) 0 main_arg1 (by decide)).trans (preArg main_arg1 (by decide) 0))))
  · exact (hw 1).trans ((inp_keep (entry hR) 0 1 rfl _).trans (preArg main_arg2 (by decide) 0))
  · exact (hw 2).trans ((inp_keep (entry hR) 0 2 rfl _).trans (preArg main_arg3 (by decide) 0))
  · exact (hw 3).trans ((inp_keep (entry hR) 0 3 rfl _).trans (preArg main_arg4 (by decide) 0))

end Cert.Kernel.Moe
end
end
-- ==== Proof.Pre.lean ====
/- The precondition read: every expert number is one of the sixteen. -/
module

public import proofs.«01_k».proof.Proof.Gen.Pre_eid_names_experts
public import Idealize.ShloMosaic.Lib.StableHlo.Predicate
public import Idealize.ShloMosaic.Lib.Tactic

@[expose] public section

namespace Cert.Moe

open Idealize.ShloMosaic Cert.Pre_eid_names_experts

/-- A word that passes both signed comparisons is below 16. -/
theorem word_lt (w : BitVec 32) (h : IntOp.andi (IntOp.cmpi .sge w 0#32) (IntOp.cmpi .slt w 16#32) = 1#1) : w.toNat < 16 := by
  have h' : IntOp.cmpi .sge w 0#32 = 1#1 ∧ IntOp.cmpi .slt w 16#32 = 1#1 := by
    rcases BitVec.eq_zero_or_eq_one (IntOp.cmpi .sge w 0#32) with e | e <;>
    rcases BitVec.eq_zero_or_eq_one (IntOp.cmpi .slt w 16#32) with e' | e' <;>
    rw [e, e'] at h <;> first | exact ⟨e, e'⟩ | exact absurd h (by decide)
  obtain ⟨h0, h1⟩ := h'
  simp only [IntOp.cmpi, BitVec.slt, BitVec.sle, StableHlo.Predicate.ofBool_eq_one_iff, decide_eq_true_eq] at h0 h1
  have e0 : (0#32).toInt = 0 := by decide
  have e1 : (16#32).toInt = 16 := by decide
  rw [e0] at h0; rw [e1] at h1
  rw [BitVec.toInt_eq_toNat_cond] at h0 h1
  have := w.isLt
  split at h0 <;> omega

/-- Under the precondition the expert number of every choice is below 16. -/
theorem expert_lt {F : FTy → Type} [FloatOps F] (x : FVec F S8x4352x2048 .bf16) (e : IVec S8x2x4352 32) (g u : FVec F S4x16x2048x1024 .f32) (d : FVec F S4x16x1024x2048 .f32)
    (h : fn x e g u d = fun _ => 1#1) (i : S8x2x4352.Idx) : (e i).toNat < 16 := by
  exact word_lt (e i) (congrFun h i)

end Cert.Moe
end
-- ==== Proof.Formula.lean ====
/- The routed feed-forward layer at exact arithmetic: what both programs compute. -/
module

public import Idealize.ShloMosaic.Lib.Tactic
public import Idealize.ShloMosaic.Lib.Pointwise

@[expose] public section

noncomputable section

namespace Cert.Moe

open Idealize.ShloMosaic

/-- Token `(b, s)` against column `f` of expert `e`'s gate or up matrix, layer 0. -/
def dotK (X : Vec Ideal ⟨3, ![8, 4352, 2048]⟩ .bf16) (G : Vec Ideal ⟨4, ![4, 16, 2048, 1024]⟩ .f32) (e : Fin 16) (b : Fin 8) (s : Fin 4352) (f : Fin 1024) : EReal :=
  ∑ k : Fin 2048, X (ix3 b s k) * G (ix4 0 e k f)

/-- Token `(b, s)` through expert `e`: entry `d` of the down projection of the gated hidden row. -/
def ffn (X : Vec Ideal ⟨3, ![8, 4352, 2048]⟩ .bf16) (G U : Vec Ideal ⟨4, ![4, 16, 2048, 1024]⟩ .f32) (D : Vec Ideal ⟨4, ![4, 16, 1024, 2048]⟩ .f32)
    (e : Fin 16) (b : Fin 8) (s : Fin 4352) (d : Fin 2048) : EReal :=
  ∑ f : Fin 1024, (dotK X G e b s f * Ideal.div 1 (1 + Ideal.exp (-dotK X G e b s f)) * dotK X U e b s f) * D (ix4 0 e f d)

end Cert.Moe
end
-- ==== Proof.Value.lean ====
/- The kernel's two results at exact arithmetic, entry by entry. -/
module

public import proofs.«01_k».proof.Proof.Out
public import proofs.«01_k».proof.Proof.Formula

@[expose] public section

set_option maxRecDepth 16384
set_option maxHeartbeats 4000000

noncomputable section

namespace Cert.KernelIdeal.Moe

open Cert.KernelIdeal Cert.KernelIdeal.Gen Cert.Moe Idealize.ShloMosaic

variable {m : (ℓ : Loc nD τ sig) → Buf (Elt Ideal) ℓ} {c : Dev nD}

/-- An entry of the body's product of a token tile with one expert's three matrices. -/
theorem pay6_apply (x : Vec Ideal S256x2048 .bf16) (wg wu : Vec Ideal S1x1x2048x1024 .f32) (wd : Vec Ideal S1x1x1024x2048 .f32) (r : Fin 256) (d : Fin 2048) :
    k0_pay6 (F := Ideal) x (k0_pay3 wg) (k0_pay4 wu) (k0_pay5 wd) (ix2 r d)
      = ∑ f : Fin 1024, ((∑ k : Fin 2048, x (ix2 r k) * wg (ix4 0 0 k f)) * Ideal.div 1 (1 + Ideal.exp (-∑ k : Fin 2048, x (ix2 r k) * wg (ix4 0 0 k f)))
          * ∑ k : Fin 2048, x (ix2 r k) * wu (ix4 0 0 k f)) * wd (ix4 0 0 f d) := by
  pointwise [k0_pay6, k0_pay3, k0_pay4, k0_pay5]
  simp only [zero_sub]

/-- A sorted row's place within its tile, and the row it is. -/
theorem tile_row (p : Fin 69632) (k : Fin 2048) : rowIx (256 * (p.val / 256) + p.val % 256) k = ix2 p k := by
  refine funext fun (x : Fin 2) => Fin.ext ?_
  match x with
  | 0 => show (256 * (p.val / 256) + p.val % 256) % 69632 = p.val; omega
  | 1 => rfl

/-- A token's entry of the tokens laid out as one list. -/
theorem token_apply (x : S8x4352x2048.Idx → Ideal .bf16) (h : S8x4352x2048.ShapeCasts S34816x2048) (t : Fin 34816) (b : Fin 8) (s : Fin 4352) (ht : t.val = b.val * 4352 + s.val) (k : Fin 2048) :
    shapeCast S34816x2048 x h (ix2 t k) = x (ix3 b s k) := by
  pointwise
  have := s.isLt
  refine congrArg x (congrArg₂ (fun b s => ix3 b s k) (Fin.ext ?_) (Fin.ext ?_))
  · show t.val / 4352 = b.val; omega
  · show t.val % 4352 = s.val; omega

/-- A slot's expert: the token's first or second choice. -/
theorem expert_apply (x : S8x2x4352.Idx → BitVec 32) (h : S2x8x4352.ShapeCasts S69632) (ht : S8x2x4352.Transposes [1, 0, 2] S2x8x4352) (q : Fin 69632) (b : Fin 8) (j : Fin 2) (s : Fin 4352)
    (hq : q.val = j.val * 34816 + (b.val * 4352 + s.val)) : shapeCast S69632 (transpose S2x8x4352 [1, 0, 2] x ht) h (ix1 q) = x (ix3 b j s) := by
  pointwise
  have := b.isLt
  have := s.isLt
  have := j.isLt
  have e0 : q.val / 4352 % 8 = b.val := by omega
  have e1 : q.val / 34816 = j.val := by omega
  have e2 : q.val % 4352 = s.val := by omega
  refine congrArg x (funext fun (a : Fin 3) => Fin.ext ?_)
  match a with
  | 0 => exact e0
  | 1 => exact e1
  | 2 => exact e2

/-- A token's entry of a result. -/
theorem result_apply (x : S34816x2048.Idx → Ideal .bf16) (h : S34816x2048.ShapeCasts S8x4352x2048) (t : Fin 34816) (b : Fin 8) (s : Fin 4352) (ht : t.val = b.val * 4352 + s.val) (d : Fin 2048) :
    shapeCast S8x4352x2048 x h (ix3 b s d) = x (ix2 t d) := by
  pointwise
  exact congrArg (fun t => x (ix2 t d)) (Fin.ext ht.symm)

/-- An entry of the output array: the sorted row's slot's token through the slot's expert. -/
theorem outArr_apply (h : InRange m c) (p : Fin 69632) (d : Fin 2048) (b : Fin 8) (s : Fin 4352) (e : Fin 16)
    (hx : (ord (eflat m c) p).val % 34816 = b.val * 4352 + s.val) (he : rows m c p.val = e.val) :
    outArr m (schedM m c) c (ix2 p d) = ffn (m (c, Proc.devRef .tc main_arg0)) (m (c, Proc.devRef .tc main_arg2)) (m (c, Proc.devRef .tc main_arg3)) (m (c, Proc.devRef .tc main_arg4)) e b s d := by
  have hX : ∀ k : Fin 2048, xB (aX m c) (p.val / 256) (ix2 ⟨p.val % 256, Nat.mod_lt _ (by decide)⟩ k)
      = (m (c, Proc.devRef .tc main_arg0) : Vec Ideal S8x4352x2048 .bf16) (ix3 b s k) := fun k => by
    show aX m c (rowIx (256 * (p.val / 256) + p.val % 256) k) = _
    rw [tile_row]
    rw [ix2_eq_valueIdx]
    refine (v93 h p k).trans ?_
    rw [← ix2_eq_valueIdx]
    exact token_apply _ _ _ b s hx k
  have hW : ∀ (k : Fin 2048) (f : Fin 1024), (wIx (rows m c p.val) k f : S4x16x2048x1024.Idx) = ix4 0 e k f := fun k f => by
    rw [he]
    refine funext fun (x : Fin 4) => Fin.ext ?_
    match x with
    | 0 => rfl
    | 1 => exact Nat.mod_eq_of_lt e.isLt
    | 2 => rfl
    | 3 => rfl
  have hW' : ∀ (f : Fin 1024) (d : Fin 2048), (wIx' (rows m c p.val) f d : S4x16x1024x2048.Idx) = ix4 0 e f d := fun k f => by
    rw [he]
    refine funext fun (x : Fin 4) => Fin.ext ?_
    match x with
    | 0 => rfl
    | 1 => exact Nat.mod_eq_of_lt e.isLt
    | 2 => rfl
    | 3 => rfl
  have hG : ∀ (k : Fin 2048) (f : Fin 1024), wB (aG m c) (rows m c p.val) (ix4 0 0 k f) = (m (c, Proc.devRef .tc main_arg2) : Vec Ideal S4x16x2048x1024 .f32) (ix4 0 e k f) := fun k f => by
    show aG m c (wIx (rows m c p.val) k f) = _
    rw [hW, aG, preArg main_arg2 (by decide) c]
  have hU : ∀ (k : Fin 2048) (f : Fin 1024), wB (aU m c) (rows m c p.val) (ix4 0 0 k f) = (m (c, Proc.devRef .tc main_arg3) : Vec Ideal S4x16x2048x1024 .f32) (ix4 0 e k f) := fun k f => by
    show aU m c (wIx (rows m c p.val) k f) = _
    rw [hW, aU, preArg main_arg3 (by decide) c]
  have hD : ∀ (f : Fin 1024) (d : Fin 2048), wB' (aD m c) (rows m c p.val) (ix4 0 0 f d) = (m (c, Proc.devRef .tc main_arg4) : Vec Ideal S4x16x1024x2048 .f32) (ix4 0 e f d) := fun k f => by
    show aD m c (wIx' (rows m c p.val) k f) = _
    rw [hW', aD, preArg main_arg4 (by decide) c]
  have ht : (tileIx p.val d : S256x2048.Idx) = ix2 ⟨p.val % 256, Nat.mod_lt _ (by decide)⟩ d := by
    refine funext fun (x : Fin 2) => ?_
    match x with
    | 0 => rfl
    | 1 => rfl
  show Y m c (p.val / 256) (rows m c p.val) (tileIx p.val d) = _
  rw [ht, Y, pay6_apply]
  simp only [hX, hG, hU, hD]
  rfl

/-- An entry of the rows gathered at the positions of the slots from `o` on. -/
theorem gather_apply (h : InRange m c) (o : ℕ) (hs : S69632.Slices ![o] S34816) (j : Fin 2) (ho : o = j.val * 34816) (b : Fin 8) (s : Fin 4352) (d : Fin 2048) (e : Fin 16)
    (he : (m (c, Proc.devRef .tc main_arg1) : S8x2x4352.Idx → BitVec 32) (ix3 b j s) = BitVec.ofNat 32 e.val) :
    shapeCast S8x4352x2048 (Host.gather gather_S69632x2048_S34816x1_S34816x2048_1_0_n_n_0_1_12048 (outArr m (schedM m c) c)
      (broadcastInDim S34816x1 ![0] bcast_S34816_S34816x1_0 (extractStridedSlice S34816 ![o] (V m c main_v11_1 : S69632.Idx → BitVec 32) hs)))
      shapeCasts_S34816x2048_S8x4352x2048 (ix3 b s d)
    = ffn (m (c, Proc.devRef .tc main_arg0)) (m (c, Proc.devRef .tc main_arg2)) (m (c, Proc.devRef .tc main_arg3)) (m (c, Proc.devRef .tc main_arg4)) e b s d := by
  have hb := b.isLt
  have hs' := s.isLt
  have hj := j.isLt
  have hq : o + (b.val * 4352 + s.val) < 69632 := by omega
  rw [result_apply _ _ ⟨b.val * 4352 + s.val, by omega⟩ b s rfl d, ix2_eq_valueIdx]
  refine (Routing.gather_row _ rfl rfl rfl rfl rfl _ _ _ d (pos (eflat m c) ⟨o + (b.val * 4352 + s.val), hq⟩) ?_ (by decide)).trans ?_
  · rw [Routing.bcCol, Routing.slice1 o _ _ _ hq]
    exact v11 h ⟨o + (b.val * 4352 + s.val), hq⟩
  · rw [← ix2_eq_valueIdx]
    refine outArr_apply h _ d b s e ?_ ?_
    · rw [ord_pos]
      show (o + (b.val * 4352 + s.val)) % 34816 = _
      omega
    · refine (rowE_pos _ _).trans ?_
      have hE := expert_apply (m (c, Proc.devRef .tc main_arg1) : S8x2x4352.Idx → BitVec 32) shapeCasts_S2x8x4352_S69632 transposes_S8x2x4352_S2x8x4352_1_0_2
        ⟨o + (b.val * 4352 + s.val), hq⟩ b j s (by show o + _ = _; omega)
      rw [ix1_eq_valueIdx] at hE
      refine (congrArg BitVec.toNat (hE.trans he)).trans ?_
      have := e.isLt
      exact (BitVec.toNat_ofNat _ _).trans (Nat.mod_eq_of_lt (by omega))

/-- An entry of the first result: the token through its first expert. -/
theorem res1_apply (h : InRange m c) (b : Fin 8) (s : Fin 4352) (d : Fin 2048) (e : Fin 16)
    (he : (m (c, Proc.devRef .tc main_arg1) : S8x2x4352.Idx → BitVec 32) (ix3 b 0 s) = BitVec.ofNat 32 e.val) :
    res1 m c (ix3 b s d) = ffn (m (c, Proc.devRef .tc main_arg0)) (m (c, Proc.devRef .tc main_arg2)) (m (c, Proc.devRef .tc main_arg3)) (m (c, Proc.devRef .tc main_arg4)) e b s d :=
  gather_apply h 0 _ 0 rfl b s d e he

/-- An entry of the second result: the token through its second expert. -/
theorem res2_apply (h : InRange m c) (b : Fin 8) (s : Fin 4352) (d : Fin 2048) (e : Fin 16)
    (he : (m (c, Proc.devRef .tc main_arg1) : S8x2x4352.Idx → BitVec 32) (ix3 b 1 s) = BitVec.ofNat 32 e.val) :
    res2 m c (ix3 b s d) = ffn (m (c, Proc.devRef .tc main_arg0)) (m (c, Proc.devRef .tc main_arg2)) (m (c, Proc.devRef .tc main_arg3)) (m (c, Proc.devRef .tc main_arg4)) e b s d :=
  gather_apply h 34816 _ 1 rfl b s d e he

end Cert.KernelIdeal.Moe
end
-- ==== Proof.Ref.lean ====
/- The reference's two results at exact arithmetic, entry by entry. -/
module

public import proofs.«01_k».proof.Proof.Gen.ReferenceIdeal.Run
public import Idealize.ShloMosaic.Lib.StableHlo.Predicate
public import proofs.«01_k».proof.Proof.Formula
public import Idealize.ShloMosaic.Lib.Tactic
public import Idealize.ShloMosaic.Lib.Pointwise
public import Idealize.ShloMosaic.Lib.Quiescent

@[expose] public section

set_option maxRecDepth 16384
set_option maxHeartbeats 4000000

noncomputable section

namespace Cert.ReferenceIdeal.Moe

open Cert.Moe Cert.ReferenceIdeal Cert.ReferenceIdeal.Gen Idealize.ShloMosaic Idealize.ShloMosaic.TcCoe Idealize.SL.Sem Idealize.ShloMosaic.StableHlo

variable (X : Vec Ideal S8x4352x2048 .bf16) (E : Vec Ideal S8x2x4352 .i32) (G U : Vec Ideal S4x16x2048x1024 .f32) (D : Vec Ideal S4x16x1024x2048 .f32)

/-- Every token against a gate or up matrix of every expert of layer 0. -/
def proj (X : Vec Ideal S8x4352x2048 .bf16) (G : Vec Ideal S4x16x2048x1024 .f32) : FVec Ideal S8x4352x16x1024 .f32 :=
  Host.dotGeneral (φ₁ := .f32) (φ₂ := .f32) dot_S8x4352x2048_S16x2048x1024_S8x4352x16x1024_2_1_01_02_n_n none (extf .f32 (φ := .bf16) X bitsLt_bf16_f32)
    (shapeCast (α := Ideal .f32) S16x2048x1024 (extractStridedSlice (α := Ideal .f32) S1x16x2048x1024 ![0, 0, 0, 0] G slices_S4x16x2048x1024_S1x16x2048x1024_0_0_0_0) shapeCasts_S1x16x2048x1024_S16x2048x1024)

/-- Every token through every expert. -/
def every : FVec Ideal S8x4352x16x2048 .f32 :=
  transpose S8x4352x16x2048 [2, 3, 0, 1] (Host.dotGeneral (φ₁ := .f32) (φ₂ := .f32) dot_S16x1024x2048_S8x4352x16x1024_S16x2048x8x4352_1_3_2_01_0_2 none
      (shapeCast (α := Ideal .f32) S16x1024x2048 (extractStridedSlice (α := Ideal .f32) S1x16x1024x2048 ![0, 0, 0, 0] D slices_S4x16x1024x2048_S1x16x1024x2048_0_0_0_0) shapeCasts_S1x16x1024x2048_S16x1024x2048)
      (mulf (mulf (proj X G) (Host.divf (broadcastInDim S8x4352x16x1024 ![] bcast_S_S8x4352x16x1024 (constant S_ .f32 0x3F800000#32))
        (addf (broadcastInDim S8x4352x16x1024 ![] bcast_S_S8x4352x16x1024 (constant S_ .f32 0x3F800000#32)) (Host.exp (Host.negf (proj X G)))))) (proj X U)))
    transposes_S16x2048x8x4352_S8x4352x16x2048_2_3_0_1

/-- The one-hot sum over the experts, by the words `e`. -/
def pick (e : IVec S8x4352 32) (y : FVec Ideal S8x4352x16x2048 .f32) : FVec Ideal S8x4352x2048 .bf16 :=
  truncf .bf16 (Host.reduceAdd (mulf (broadcastInDim S8x4352x16x2048 ![0, 1, 2, 3] bcast_S8x4352x16x1_S8x4352x16x2048_0_1_2_3 (broadcastInDim S8x4352x16x1 ![0, 1, 2] bcast_S8x4352x16_S8x4352x16x1_0_1_2
    (uitofp .f32 (cmpi .eq (broadcastInDim S8x4352x16 ![0, 1, 2] bcast_S8x4352x1_S8x4352x16_0_1_2 (broadcastInDim S8x4352x1 ![0, 1] bcast_S8x4352_S8x4352x1_0_1 e))
      (broadcastInDim S8x4352x16 ![0, 1, 2] bcast_S1x1x16_S8x4352x16_0_1_2 (iotaInDim S1x1x16 32 2)))))) y) (constant S_ .f32 0x00000000#32) reducesTo_S8x4352x16x2048_S8x4352x2048_d2 h_S_) bitsLt_bf16_f32

/-- The two results. -/
def out1 : FVec Ideal S8x4352x2048 .bf16 :=
  pick (shapeCast (α := BitVec 32) S8x4352 (extractStridedSlice (α := BitVec 32) S8x1x4352 ![0, 0, 0] E slices_S8x2x4352_S8x1x4352_0_0_0) shapeCasts_S8x1x4352_S8x4352) (every X G U D)
def out2 : FVec Ideal S8x4352x2048 .bf16 :=
  pick (shapeCast (α := BitVec 32) S8x4352 (extractStridedSlice (α := BitVec 32) S8x1x4352 ![0, 1, 0] E slices_S8x2x4352_S8x1x4352_0_1_0) shapeCasts_S8x1x4352_S8x4352) (every X G U D)

/-- An entry of the gate or up projection. -/
theorem proj_apply (b : Fin 8) (s : Fin 4352) (e : Fin 16) (f : Fin 1024) : proj X G (ix4 b s e f) = dotK X G e b s f := by
  pointwise [proj, dotK]

/-- An entry of every token through every expert. -/
theorem every_apply (b : Fin 8) (s : Fin 4352) (e : Fin 16) (d : Fin 2048) : every X G U D (ix4 b s e d) = ffn X G U D e b s d := by
  pointwise [every, proj_apply, ffn]
  exact Finset.sum_congr rfl fun f _ => mul_comm _ _

/-- The one-hot sum is the entry of the expert the word names. -/
theorem pick_apply (e : IVec S8x4352 32) (y : FVec Ideal S8x4352x16x2048 .f32) (b : Fin 8) (s : Fin 4352) (d : Fin 2048) (k : Fin 16)
    (hk : e (ix2 b s) = BitVec.ofNat 32 k.val) : pick e y (ix3 b s d) = y (ix4 b s k d) := by
  pointwise [pick]
  refine (Finset.sum_eq_single k (fun j _ hj => ?_) (fun h => absurd (Finset.mem_univ k) h)).trans ?_
  · have hne : IntOp.cmpi CmpIPredicate.eq (e (ix2 b s)) (BitVec.ofNat 32 j.val) = 0#1 := by
      rcases BitVec.eq_zero_or_eq_one (IntOp.cmpi CmpIPredicate.eq (e (ix2 b s)) (BitVec.ofNat 32 j.val)) with h | h
      · exact h
      · have h1 := Predicate.cmpi_eq_iff.mp h
        rw [hk] at h1
        have h2 := congrArg BitVec.toNat h1
        simp only [BitVec.toNat_ofNat] at h2
        have := j.isLt; have := k.isLt
        exact absurd (Fin.ext (by omega)) hj
    have h0 : (FloatOps.uitofp .f32 (0#1) : Ideal .f32) = 0 := by show (((0#1).toNat : ℝ) : EReal) = 0; simp
    rw [hne, h0, zero_mul]
  · rw [Predicate.cmpi_eq_iff.mpr hk]
    have h1 : (FloatOps.uitofp .f32 (1#1) : Ideal .f32) = 1 := by show (((1#1).toNat : ℝ) : EReal) = 1; simp
    rw [h1, one_mul]

/-- An entry of the first result: the token through its first expert. -/
theorem out1_apply (b : Fin 8) (s : Fin 4352) (d : Fin 2048) (e : Fin 16) (he : E (ix3 b 0 s) = BitVec.ofNat 32 e.val) :
    out1 X E G U D (ix3 b s d) = ffn X G U D e b s d := by
  unfold out1
  rw [pick_apply _ _ b s d e, every_apply]
  pointwise
  exact he

/-- An entry of the second result: the token through its second expert. -/
theorem out2_apply (b : Fin 8) (s : Fin 4352) (d : Fin 2048) (e : Fin 16) (he : E (ix3 b 1 s) = BitVec.ofNat 32 e.val) :
    out2 X E G U D (ix3 b s d) = ffn X G U D e b s d := by
  unfold out2
  rw [pick_apply _ _ b s d e, every_apply]
  pointwise
  exact he

/-- Every execution of the reference ends, its two results these, its arguments as they were and no semaphore held. -/
theorem run (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v20) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v28) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨h, sem_eq_zero_of_no_sems (by decide) _⟩) (Value.run m ρ)

end Cert.ReferenceIdeal.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_eid_names_experts
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Frame
public import proofs.«01_k».proof.Proof.Gen.FinalKernelIdeal.Value
public import proofs.«01_k».proof.Proof.Gen.FinalReferenceIdeal
public import proofs.«01_k».proof.Proof.Gen.FinalReferenceIdeal.Run
public import proofs.«01_k».proof.Proof.Gen.EvenKernel
public import proofs.«01_k».proof.Proof.Gen.EvenKernel.Skeleton
public import proofs.«01_k».proof.Proof.Gen.EvenKernel.Launch
public import proofs.«01_k».proof.Proof.Gen.EvenKernel.Frame
public import proofs.«01_k».proof.Proof.Gen.EvenKernelIdeal
public import proofs.«01_k».proof.Proof.Gen.EvenKernelIdeal.Skeleton
public import proofs.«01_k».proof.Proof.Gen.EvenKernelIdeal.Launch
public import proofs.«01_k».proof.Proof.Gen.EvenKernelIdeal.Frame
public import proofs.«01_k».proof.Proof.Gen.EvenKernelIdeal.Value
public import proofs.«01_k».proof.Proof.Gen.EvenReferenceIdeal
public import proofs.«01_k».proof.Proof.Gen.EvenReferenceIdeal.Run
public import proofs.«01_k».proof.Proof.Gen.OddKernel
public import proofs.«01_k».proof.Proof.Gen.OddKernel.Skeleton
public import proofs.«01_k».proof.Proof.Gen.OddKernel.Launch
public import proofs.«01_k».proof.Proof.Gen.OddKernel.Frame
public import proofs.«01_k».proof.Proof.Gen.OddKernelIdeal
public import proofs.«01_k».proof.Proof.Gen.OddKernelIdeal.Skeleton
public import proofs.«01_k».proof.Proof.Gen.OddKernelIdeal.Launch
public import proofs.«01_k».proof.Proof.Gen.OddKernelIdeal.Frame
public import proofs.«01_k».proof.Proof.Gen.OddKernelIdeal.Value
public import proofs.«01_k».proof.Proof.Gen.OddReferenceIdeal
public import proofs.«01_k».proof.Proof.Gen.OddReferenceIdeal.Run
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Frame
public import proofs.«01_k».proof.Proof.Gen.FirstKernelIdeal.Value
public import proofs.«01_k».proof.Proof.Gen.FirstReferenceIdeal
public import proofs.«01_k».proof.Proof.Gen.FirstReferenceIdeal.Run
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Frame
public import proofs.«01_k».proof.Proof.Gen.OutKernel
public import proofs.«01_k».proof.Proof.Gen.OutKernel.Skeleton
public import proofs.«01_k».proof.Proof.Gen.OutKernel.Launch
public import proofs.«01_k».proof.Proof.Gen.OutKernel.Frame
public import proofs.«01_k».proof.Proof.Gen.OutReferenceIdeal
public import proofs.«01_k».proof.Proof.Gen.OutReferenceIdeal.Run
public import proofs.«01_k».proof.Proof.Gen.RouteKernelIdeal
public import proofs.«01_k».proof.Proof.Gen.RouteKernelIdeal.Skeleton
public import proofs.«01_k».proof.Proof.Gen.RouteKernelIdeal.Launch
public import proofs.«01_k».proof.Proof.Gen.RouteKernelIdeal.Frame
public import proofs.«01_k».proof.Proof.Gen.RouteKernel
public import proofs.«01_k».proof.Proof.Gen.RouteKernel.Skeleton
public import proofs.«01_k».proof.Proof.Gen.RouteKernel.Launch
public import proofs.«01_k».proof.Proof.Gen.RouteKernel.Frame
public import proofs.«01_k».proof.Proof.Gen.RouteReferenceIdeal
public import proofs.«01_k».proof.Proof.Gen.RouteReferenceIdeal.Run
public import proofs.«01_k».proof.Proof.Gen.Pre_bias_not_minus_infinity
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Frame
public import proofs.«01_k».proof.Proof.Gen.ModKernel
public import proofs.«01_k».proof.Proof.Gen.ModKernel.Skeleton
public import proofs.«01_k».proof.Proof.Gen.ModKernel.Launch
public import proofs.«01_k».proof.Proof.Gen.ModKernel.Frame
public import proofs.«01_k».proof.Proof.Gen.ModReferenceIdeal
public import proofs.«01_k».proof.Proof.Gen.ModReferenceIdeal.Run
public import proofs.«01_k».proof.Proof.Stream.Final
public import proofs.«01_k».proof.Proof.Stream.FinalRef
public import proofs.«01_k».proof.Proof.Stream.Even
public import proofs.«01_k».proof.Proof.Stream.EvenRef
public import proofs.«01_k».proof.Proof.Stream.Odd
public import proofs.«01_k».proof.Proof.Stream.OddRef
public import proofs.«01_k».proof.Proof.Stream.First
public import proofs.«01_k».proof.Proof.Stream.FirstRef
public import proofs.«01_k».proof.Proof.Stream.Proj
public import proofs.«01_k».proof.Proof.Stream.ProjRef
public import proofs.«01_k».proof.Proof.Stream.RouteOut
public import proofs.«01_k».proof.Proof.Stream.RouteRef
public import proofs.«01_k».proof.Proof.Stream.Mod
public import proofs.«01_k».proof.Proof.Stream.ModRef
public import proofs.«01_k».proof.Proof.Out
public import proofs.«01_k».proof.Proof.Bits.Out
public import proofs.«01_k».proof.Proof.Pre
public import proofs.«01_k».proof.Proof.Value
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The precondition at the bit-exact program: every slot's expert is one of the sixteen. -/
theorem inRange_bits (m : (ℓ : Loc Cert.Kernel.nD Cert.Kernel.τ Cert.Kernel.sig) → Buf (Elt Bits) ℓ) (h : Cert.Pre_Kernel m) : Cert.Kernel.Moe.InRange m 0 := fun _ =>
  Cert.Moe.expert_lt _ _ _ _ _ (h 0) _

/-- The same at exact arithmetic. -/
theorem inRange_ideal (m : (ℓ : Loc Cert.KernelIdeal.nD Cert.KernelIdeal.τ Cert.KernelIdeal.sig) → Buf (Elt Ideal) ℓ) (h : Cert.Pre_KernelIdeal m) : Cert.KernelIdeal.Moe.InRange m 0 := fun _ =>
  Cert.Moe.expert_lt _ _ _ _ _ (h 0) _

/-- A choice's expert number as one of the sixteen. -/
theorem expert_word (m : (ℓ : Loc Cert.KernelIdeal.nD Cert.KernelIdeal.τ Cert.KernelIdeal.sig) → Buf (Elt Ideal) ℓ) (h : Cert.Pre_KernelIdeal m) (i : Cert.KernelIdeal.S8x2x4352.Idx) :
    ∃ e : Fin 16, (m (0, Proc.devRef .tc Cert.KernelIdeal.main_arg1) : Cert.KernelIdeal.S8x2x4352.Idx → BitVec 32) i = BitVec.ofNat 32 e.val :=
  ⟨⟨_, Cert.Moe.expert_lt _ _ _ _ _ (h 0) i⟩, (BitVec.ofNat_toNat _ _).symm ▸ (BitVec.setWidth_eq _).symm⟩

/-- From equal arguments the kernel's first result is the reference's. -/
theorem res1_eq (m : (ℓ : Loc Cert.KernelIdeal.nD Cert.KernelIdeal.τ Cert.KernelIdeal.sig) → Buf (Elt Ideal) ℓ) (h : Cert.Pre_KernelIdeal m) :
    Cert.KernelIdeal.Moe.res1 m 0 = Cert.ReferenceIdeal.Moe.out1 (m (0, Proc.devRef .tc Cert.KernelIdeal.main_arg0)) (m (0, Proc.devRef .tc Cert.KernelIdeal.main_arg1))
      (m (0, Proc.devRef .tc Cert.KernelIdeal.main_arg2)) (m (0, Proc.devRef .tc Cert.KernelIdeal.main_arg3)) (m (0, Proc.devRef .tc Cert.KernelIdeal.main_arg4)) := by
  refine funext fun (i : Cert.KernelIdeal.S8x4352x2048.Idx) => ?_
  obtain ⟨b, s, d, rfl⟩ : ∃ (b : Fin 8) (s : Fin 4352) (d : Fin 2048), i = ix3 b s d := ⟨i 0, i 1, i 2, eq_ix3 i⟩
  obtain ⟨e, he⟩ := expert_word m h (ix3 b 0 s)
  exact (Cert.KernelIdeal.Moe.res1_apply (inRange_ideal m h) b s d e he).trans (Cert.ReferenceIdeal.Moe.out1_apply _ _ _ _ _ b s d e he).symm

/-- From equal arguments the kernel's second result is the reference's. -/
theorem res2_eq (m : (ℓ : Loc Cert.KernelIdeal.nD Cert.KernelIdeal.τ Cert.KernelIdeal.sig) → Buf (Elt Ideal) ℓ) (h : Cert.Pre_KernelIdeal m) :
    Cert.KernelIdeal.Moe.res2 m 0 = Cert.ReferenceIdeal.Moe.out2 (m (0, Proc.devRef .tc Cert.KernelIdeal.main_arg0)) (m (0, Proc.devRef .tc Cert.KernelIdeal.main_arg1))
      (m (0, Proc.devRef .tc Cert.KernelIdeal.main_arg2)) (m (0, Proc.devRef .tc Cert.KernelIdeal.main_arg3)) (m (0, Proc.devRef .tc Cert.KernelIdeal.main_arg4)) := by
  refine funext fun (i : Cert.KernelIdeal.S8x4352x2048.Idx) => ?_
  obtain ⟨b, s, d, rfl⟩ : ∃ (b : Fin 8) (s : Fin 4352) (d : Fin 2048), i = ix3 b s d := ⟨i 0, i 1, i 2, eq_ix3 i⟩
  obtain ⟨e, he⟩ := expert_word m h (ix3 b 1 s)
  exact (Cert.KernelIdeal.Moe.res2_apply (inRange_ideal m h) b s d e he).trans (Cert.ReferenceIdeal.Moe.out2_apply _ _ _ _ _ b s d e he).symm

/-- At exact arithmetic, from equal arguments, both programs run and end with equal results. -/
theorem algebraic : Cert.algebraic_KernelIdeal_ReferenceIdeal := fun m g m' g' hp hm => by
  refine ⟨fun c => Cert.KernelIdeal.Moe.res1 m c, fun c => Cert.KernelIdeal.Moe.res2 m c,
    (θ_run _ _ _).mono (fun _ h => h.1) (Cert.KernelIdeal.Moe.run_out (inRange_ideal m hp) g),
    (θ_run _ _ _).mono (fun r h c => ?_) (Cert.ReferenceIdeal.Moe.run m' g')⟩
  obtain rfl : c = 0 := Subsingleton.elim _ _
  obtain ⟨h1, h2, hf⟩ := h.1 0
  obtain ⟨a0, a1, a2, a3, a4⟩ := hm 0
  refine ⟨h1.trans ?_, h2.trans ?_, hf⟩
  · rw [a0, a1, a2, a3, a4]; exact (res1_eq m hp).symm
  · rw [a0, a1, a2, a3, a4]; exact (res2_eq m hp).symm

/-- At exact arithmetic, from equal arguments, the last layer's norm and its reference run and end with equal results. -/
theorem algebraicFinal : Cert.algebraic_FinalKernelIdeal_FinalReferenceIdeal := fun m g m' g' _ hm => by
  refine ⟨fun c => Cert.FinalKernelIdeal.Stream.res m c, Cert.FinalKernelIdeal.Stream.run m g,
    (θ_run _ _ _).mono (fun r h c => ?_) (Cert.FinalReferenceIdeal.Stream.run m' g')⟩
  obtain rfl : c = 0 := Subsingleton.elim _ _
  obtain ⟨h1, hf⟩ := h.1 0
  obtain ⟨a0, a1, a2, a3, a4, a5⟩ := hm 0
  refine ⟨h1.trans ?_, hf⟩
  rw [a0, a1, a2, a3, a4, a5]
  refine funext fun (i : Cert.FinalKernelIdeal.S8x4096x2048.Idx) => ?_
  obtain ⟨b, s, d, rfl⟩ : ∃ (b : Fin 8) (s : Fin 4096) (d : Fin 2048), i = ix3 b s d := ⟨i 0, i 1, i 2, eq_ix3 i⟩
  exact Cert.FinalReferenceIdeal.Stream.out_apply _ _ _ _ _ _ b s d

/-- The same for an even layer's input projection. -/
theorem algebraicEven : Cert.algebraic_EvenKernelIdeal_EvenReferenceIdeal := fun m g m' g' _ hm => by
  refine ⟨fun c => Cert.EvenKernelIdeal.Stream.res1 m c, fun c => Cert.EvenKernelIdeal.Stream.res2 m c, Cert.EvenKernelIdeal.Stream.run m g,
    (θ_run _ _ _).mono (fun r h c => ?_) (Cert.EvenReferenceIdeal.Stream.run m' g')⟩
  obtain rfl : c = 0 := Subsingleton.elim _ _
  obtain ⟨h1, h2, hf⟩ := h.1 0
  obtain ⟨a0, a1, a2, a3, a4, a5, a6, a7⟩ := hm 0
  refine ⟨h1.trans ?_, h2.trans ?_, hf⟩
  · rw [a0, a1, a2, a3, a4]
    refine funext fun (i : Cert.EvenKernelIdeal.S8x4352x2048.Idx) => ?_
    obtain ⟨b, s, d, rfl⟩ : ∃ (b : Fin 8) (s : Fin 4352) (d : Fin 2048), i = ix3 b s d := ⟨i 0, i 1, i 2, eq_ix3 i⟩
    exact Cert.EvenReferenceIdeal.Stream.out1_apply _ _ _ _ _ b s d
  · rw [a0, a1, a2, a3, a4, a5, a6, a7]
    refine funext fun (i : Cert.EvenKernelIdeal.S8x4352x5504.Idx) => ?_
    obtain ⟨b, s, n, rfl⟩ : ∃ (b : Fin 8) (s : Fin 4352) (n : Fin 5504), i = ix3 b s n := ⟨i 0, i 1, i 2, eq_ix3 i⟩
    exact Cert.EvenReferenceIdeal.Stream.out2_apply _ _ _ _ _ _ _ _ b s n

/-- The same for an odd layer's input projection with its short convolution. -/
theorem algebraicOdd : Cert.algebraic_OddKernelIdeal_OddReferenceIdeal := fun m g m' g' _ hm => by
  refine ⟨fun c => Cert.OddKernelIdeal.Stream.res1 m c, fun c => Cert.OddKernelIdeal.Stream.res2 m c, Cert.OddKernelIdeal.Stream.run m g,
    (θ_run _ _ _).mono (fun r h c => ?_) (Cert.OddReferenceIdeal.Stream.run m' g')⟩
  obtain rfl : c = 0 := Subsingleton.elim _ _
  obtain ⟨h1, h2, hf⟩ := h.1 0
  obtain ⟨a0, a1, a2, a3, a4, a5, a6, a7, a8⟩ := hm 0
  refine ⟨h1.trans ?_, h2.trans ?_, hf⟩
  · rw [a0, a1, a2, a3, a4]
    refine funext fun (i : Cert.OddKernelIdeal.S8x4352x2048.Idx) => ?_
    obtain ⟨b, s, d, rfl⟩ : ∃ (b : Fin 8) (s : Fin 4352) (d : Fin 2048), i = ix3 b s d := ⟨i 0, i 1, i 2, eq_ix3 i⟩
    exact Cert.OddReferenceIdeal.Stream.out1_apply _ _ _ _ _ b s d
  · rw [a0, a1, a2, a3, a4, a5, a6, a7, a8]
    refine funext fun (i : Cert.OddKernelIdeal.S8x4352x2048.Idx) => ?_
    obtain ⟨b, s, d, rfl⟩ : ∃ (b : Fin 8) (s : Fin 4352) (d : Fin 2048), i = ix3 b s d := ⟨i 0, i 1, i 2, eq_ix3 i⟩
    exact Cert.OddReferenceIdeal.Stream.out2_apply _ _ _ _ _ _ _ _ _ b s d

/-- The same for the first layer's input projection. -/
theorem algebraicFirst : Cert.algebraic_FirstKernelIdeal_FirstReferenceIdeal := fun m g m' g' _ hm => by
  refine ⟨fun c => Cert.FirstKernelIdeal.Stream.res1 m c, fun c => Cert.FirstKernelIdeal.Stream.res2 m c, Cert.FirstKernelIdeal.Stream.run m g,
    (θ_run _ _ _).mono (fun r h c => ?_) (Cert.FirstReferenceIdeal.Stream.run m' g')⟩
  obtain rfl : c = 0 := Subsingleton.elim _ _
  obtain ⟨h1, h2, hf⟩ := h.1 0
  obtain ⟨a0, a1, a2, a3, a4⟩ := hm 0
  refine ⟨h1.trans ?_, h2.trans ?_, hf⟩
  · rw [a0, a1]
    refine funext fun (i : Cert.FirstKernelIdeal.S8x4352x2048.Idx) => ?_
    obtain ⟨b, s, d, rfl⟩ : ∃ (b : Fin 8) (s : Fin 4352) (d : Fin 2048), i = ix3 b s d := ⟨i 0, i 1, i 2, eq_ix3 i⟩
    exact Cert.FirstReferenceIdeal.Stream.out1_apply _ _ b s d
  · rw [a0, a1, a2, a3, a4]
    refine funext fun (i : Cert.FirstKernelIdeal.S8x4352x5504.Idx) => ?_
    obtain ⟨b, s, n, rfl⟩ : ∃ (b : Fin 8) (s : Fin 4352) (n : Fin 5504), i = ix3 b s n := ⟨i 0, i 1, i 2, eq_ix3 i⟩
    exact Cert.FirstReferenceIdeal.Stream.out2_apply _ _ _ _ _ b s n

/-- The same for the output projection: the stream and its modulated norm. -/
theorem algebraicOut : Cert.algebraic_OutKernelIdeal_OutReferenceIdeal := fun m g m' g' _ hm => by
  refine ⟨fun c => Cert.OutKernelIdeal.Stream.res1 m c, fun c => Cert.OutKernelIdeal.Stream.res2 m c, Cert.OutKernelIdeal.Stream.run m g,
    (θ_run _ _ _).mono (fun r h c => ?_) (Cert.OutReferenceIdeal.Stream.run m' g')⟩
  obtain rfl : c = 0 := Subsingleton.elim _ _
  obtain ⟨h1, h2, hf⟩ := h.1 0
  obtain ⟨a0, a1, a2, a3, a4, a5, a6⟩ := hm 0
  refine ⟨h1.trans ?_, h2.trans ?_, hf⟩
  · rw [a0, a1, a2, a4]
    refine funext fun (i : Cert.OutKernelIdeal.S8x4352x2048.Idx) => ?_
    obtain ⟨b, s, d, rfl⟩ : ∃ (b : Fin 8) (s : Fin 4352) (d : Fin 2048), i = ix3 b s d := ⟨i 0, i 1, i 2, eq_ix3 i⟩
    exact Cert.OutReferenceIdeal.Stream.out1_apply _ _ _ _ b s d
  · rw [a0, a1, a2, a3, a4]
    refine funext fun (i : Cert.OutKernelIdeal.S8x4352x2048.Idx) => ?_
    obtain ⟨b, s, d, rfl⟩ : ∃ (b : Fin 8) (s : Fin 4352) (d : Fin 2048), i = ix3 b s d := ⟨i 0, i 1, i 2, eq_ix3 i⟩
    exact Cert.OutReferenceIdeal.Stream.out2_apply _ _ _ _ _ b s d

/-- The precondition of the router: every expert's bias is above minus infinity. -/
theorem bias_gt (m : (ℓ : Loc Cert.RouteKernelIdeal.nD Cert.RouteKernelIdeal.τ Cert.RouteKernelIdeal.sig) → Buf (Elt Ideal) ℓ) (h : Cert.Pre_RouteKernelIdeal_bias_not_minus_infinity m) (e : Fin 16) :
    ⊥ < Cert.RouteKernelIdeal.Stream.aB m 0 (ix1 e) := by
  have h' : Ideal.cmp .ogt (Cert.RouteKernelIdeal.Stream.aB m 0 (ix1 e)) (Ideal.ofBits FTy.f32 4286578688#32) = 1#1 := congrFun (h 0) (ix1 e)
  rw [Cert.Stream.minus_inf] at h'
  by_contra hn
  simp [Ideal.cmp, hn] at h'

/-- The same for the output projection's other two results: the experts' numbers and the gates. -/
theorem algebraicRoute : Cert.algebraic_RouteKernelIdeal_RouteReferenceIdeal_pre_bias_not_minus_infinity := fun m g m' g' hp hm => by
  refine ⟨fun c => Cert.RouteKernelIdeal.Stream.res1 m c, fun c => Cert.RouteKernelIdeal.Stream.res2 m c, Cert.RouteKernelIdeal.Stream.run m g,
    (θ_run _ _ _).mono (fun r h c => ?_) (Cert.RouteReferenceIdeal.Stream.run m' g')⟩
  obtain rfl : c = 0 := Subsingleton.elim _ _
  obtain ⟨h1, h2, hf⟩ := h.1 0
  obtain ⟨a0, a1, a2, a3, a4, a5, a6⟩ := hm 0
  refine ⟨h1.trans ?_, h2.trans ?_, hf⟩
  · rw [a0, a1, a2, a3, a4, a5, a6]
    refine funext fun (i : Cert.RouteKernelIdeal.S8x2x4352.Idx) => ?_
    obtain ⟨b, k, s, rfl⟩ : ∃ (b : Fin 8) (k : Fin 2) (s : Fin 4352), i = ix3 b k s := ⟨i 0, i 1, i 2, eq_ix3 i⟩
    exact Cert.RouteReferenceIdeal.Stream.out1_apply _ _ _ _ _ _ _ (bias_gt m hp) b k s
  · rw [a0, a1, a2, a3, a4, a5, a6]
    refine funext fun (i : Cert.RouteKernelIdeal.S8x2x4352.Idx) => ?_
    obtain ⟨b, k, s, rfl⟩ : ∃ (b : Fin 8) (k : Fin 2) (s : Fin 4352), i = ix3 b k s := ⟨i 0, i 1, i 2, eq_ix3 i⟩
    exact Cert.RouteReferenceIdeal.Stream.out2_apply _ _ _ _ _ _ _ (bias_gt m hp) b k s

/-- The same for the modulation. -/
theorem algebraicMod : Cert.algebraic_ModKernelIdeal_ModReferenceIdeal := fun m g m' g' _ hm => by
  refine ⟨fun c => Cert.ModKernelIdeal.Stream.res m c, Cert.ModKernelIdeal.Stream.run m g,
    (θ_run _ _ _).mono (fun r h c => ?_) (Cert.ModReferenceIdeal.Stream.run m' g')⟩
  obtain rfl : c = 0 := Subsingleton.elim _ _
  obtain ⟨h1, hf⟩ := h.1 0
  obtain ⟨a0, a1, a2⟩ := hm 0
  refine ⟨h1.trans ?_, hf⟩
  rw [a0, a1, a2]
  refine funext fun (i : Cert.ModKernelIdeal.S4x16x12288.Idx) => ?_
  obtain ⟨l, r, n, rfl⟩ : ∃ (l : Fin 4) (r : Fin 16) (n : Fin 12288), i = ix3 l r n := ⟨i 0, i 1, i 2, eq_ix3 i⟩
  exact Cert.ModReferenceIdeal.Stream.out_apply _ _ _ l r n

/-- Everything the certificate claims. -/
theorem claim : Cert.Claim := ⟨Cert.Kernel.Gen.facts, Cert.KernelIdeal.Gen.facts, Cert.ReferenceIdeal.Gen.facts,
  Cert.FinalKernel.Gen.facts, Cert.FinalKernelIdeal.Gen.facts, Cert.FinalReferenceIdeal.Gen.facts,
  Cert.EvenKernel.Gen.facts, Cert.EvenKernelIdeal.Gen.facts, Cert.EvenReferenceIdeal.Gen.facts,
  Cert.OddKernel.Gen.facts, Cert.OddKernelIdeal.Gen.facts, Cert.OddReferenceIdeal.Gen.facts,
  Cert.FirstKernel.Gen.facts, Cert.FirstKernelIdeal.Gen.facts, Cert.FirstReferenceIdeal.Gen.facts,
  Cert.OutKernel.Gen.facts, Cert.OutKernelIdeal.Gen.facts, Cert.OutReferenceIdeal.Gen.facts,
  Cert.RouteKernel.Gen.facts, Cert.RouteKernelIdeal.Gen.facts, Cert.RouteReferenceIdeal.Gen.facts,
  Cert.ModKernel.Gen.facts, Cert.ModKernelIdeal.Gen.facts, Cert.ModReferenceIdeal.Gen.facts, Cert.Pre_eid_names_experts.Gen.facts, Cert.Pre_bias_not_minus_infinity.Gen.facts,
  fun m g hp => Cert.Kernel.Moe.run_out (inRange_bits m hp) g,
  fun m g hp => (θ_run _ _ _).mono (fun _ h => ⟨fun c => (h.1 c).2.2, h.2⟩) (Cert.KernelIdeal.Moe.run_out (inRange_ideal m hp) g),
  fun m g _ => (θ_run _ _ _).mono (fun _ h => ⟨fun c => (h.1 c).2.2, h.2⟩) (Cert.ReferenceIdeal.Moe.run m g),
  fun m g _ => (θ_run _ _ _).mono (fun _ h => ⟨fun c => (h.1 c).2.2, h.2⟩) (Cert.ReferenceIdeal.Moe.run m g),
  fun m g _ => Cert.FinalKernel.Gen.frame m g,
  fun m g _ => Cert.FinalKernelIdeal.Gen.frame m g,
  fun m g _ => (θ_run _ _ _).mono (fun _ h => ⟨fun c => (h.1 c).2, h.2⟩) (Cert.FinalReferenceIdeal.Stream.run m g),
  fun m g _ => Cert.EvenKernel.Gen.frame m g,
  fun m g _ => Cert.EvenKernelIdeal.Gen.frame m g,
  fun m g _ => (θ_run _ _ _).mono (fun _ h => ⟨fun c => (h.1 c).2.2, h.2⟩) (Cert.EvenReferenceIdeal.Stream.run m g),
  fun m g _ => Cert.OddKernel.Gen.frame m g,
  fun m g _ => Cert.OddKernelIdeal.Gen.frame m g,
  fun m g _ => (θ_run _ _ _).mono (fun _ h => ⟨fun c => (h.1 c).2.2, h.2⟩) (Cert.OddReferenceIdeal.Stream.run m g),
  fun m g _ => Cert.FirstKernel.Gen.frame m g,
  fun m g _ => Cert.FirstKernelIdeal.Gen.frame m g,
  fun m g _ => (θ_run _ _ _).mono (fun _ h => ⟨fun c => (h.1 c).2.2, h.2⟩) (Cert.FirstReferenceIdeal.Stream.run m g),
  fun m g _ => Cert.OutKernel.Gen.frame m g,
  fun m g _ => Cert.OutKernelIdeal.Gen.frame m g,
  fun m g _ => (θ_run _ _ _).mono (fun _ h => ⟨fun c => (h.1 c).2.2, h.2⟩) (Cert.OutReferenceIdeal.Stream.run m g),
  fun m g _ => Cert.RouteKernel.Gen.frame m g,
  fun m g _ => Cert.RouteKernelIdeal.Gen.frame m g,
  fun m g _ => Cert.RouteKernelIdeal.Gen.frame m g,
  fun m g _ => (θ_run _ _ _).mono (fun _ h => ⟨fun c => (h.1 c).2.2, h.2⟩) (Cert.RouteReferenceIdeal.Stream.run m g),
  fun m g _ => (θ_run _ _ _).mono (fun _ h => ⟨fun c => (h.1 c).2.2, h.2⟩) (Cert.RouteReferenceIdeal.Stream.run m g),
  fun m g _ => Cert.ModKernel.Gen.frame m g,
  fun m g _ => Cert.ModKernelIdeal.Gen.frame m g,
  fun m g _ => (θ_run _ _ _).mono (fun _ h => ⟨fun c => (h.1 c).2, h.2⟩) (Cert.ModReferenceIdeal.Stream.run m g),
  trivial, algebraic, trivial, algebraicFinal, trivial, algebraicEven, trivial, algebraicOdd,
  trivial, algebraicFirst, trivial, algebraicOut, trivial, algebraicRoute, trivial, algebraicMod⟩

end Cert.Proof

end
